-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_ProjC (m : (ℓ : Loc Cert.ProjC.nD Cert.ProjC.τ Cert.ProjC.sig) → Buf (Elt Bits) ℓ) : Prop :=
  True

def Pre_ProjCIdeal (m : (ℓ : Loc Cert.ProjCIdeal.nD Cert.ProjCIdeal.τ Cert.ProjCIdeal.sig) → Buf (Elt Ideal) ℓ) : Prop :=
  True

def Pre_ProjCRefIdeal (m : (ℓ : Loc Cert.ProjCRefIdeal.nD Cert.ProjCRefIdeal.τ Cert.ProjCRefIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutARefIdeal (m : (ℓ : Loc Cert.OutARefIdeal.nD Cert.OutARefIdeal.τ Cert.OutARefIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBRefIdeal (m : (ℓ : Loc Cert.OutBRefIdeal.nD Cert.OutBRefIdeal.τ Cert.OutBRefIdeal.sig) → Buf (Elt Ideal) ℓ) : Prop :=
  True

def Pre_OutC (m : (ℓ : Loc Cert.OutC.nD Cert.OutC.τ Cert.OutC.sig) → Buf (Elt Bits) ℓ) : Prop :=
  True

def Pre_OutCIdeal (m : (ℓ : Loc Cert.OutCIdeal.nD Cert.OutCIdeal.τ Cert.OutCIdeal.sig) → Buf (Elt Ideal) ℓ) : Prop :=
  True

def Pre_OutCRefIdeal (m : (ℓ : Loc Cert.OutCRefIdeal.nD Cert.OutCRefIdeal.τ Cert.OutCRefIdeal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_NormPRefIdeal (m : (ℓ : Loc Cert.NormPRefIdeal.nD Cert.NormPRefIdeal.τ Cert.NormPRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_KvRows (m : (ℓ : Loc Cert.KvRows.nD Cert.KvRows.τ Cert.KvRows.sig) → Buf (Elt Bits) ℓ) : Prop :=
  True

def Pre_KvRowsIdeal (m : (ℓ : Loc Cert.KvRowsIdeal.nD Cert.KvRowsIdeal.τ Cert.KvRowsIdeal.sig) → Buf (Elt Ideal) ℓ) : Prop :=
  True

def Pre_KvRowsRefIdeal (m : (ℓ : Loc Cert.KvRowsRefIdeal.nD Cert.KvRowsRefIdeal.τ Cert.KvRowsRefIdeal.sig) → Buf (Elt Ideal) ℓ) : Prop :=
  True

def Pre_StateS (m : (ℓ : Loc Cert.StateS.nD Cert.StateS.τ Cert.StateS.sig) → Buf (Elt Bits) ℓ) : Prop :=
  True

def Pre_StateSIdeal (m : (ℓ : Loc Cert.StateSIdeal.nD Cert.StateSIdeal.τ Cert.StateSIdeal.sig) → Buf (Elt Ideal) ℓ) : Prop :=
  True

def Pre_StateSRefIdeal (m : (ℓ : Loc Cert.StateSRefIdeal.nD Cert.StateSRefIdeal.τ Cert.StateSRefIdeal.sig) → Buf (Elt Ideal) ℓ) : Prop :=
  True

def Pre_StateC (m : (ℓ : Loc Cert.StateC.nD Cert.StateC.τ Cert.StateC.sig) → Buf (Elt Bits) ℓ) : Prop :=
  True

def Pre_StateCIdeal (m : (ℓ : Loc Cert.StateCIdeal.nD Cert.StateCIdeal.τ Cert.StateCIdeal.sig) → Buf (Elt Ideal) ℓ) : Prop :=
  True

def Pre_StateCRefIdeal (m : (ℓ : Loc Cert.StateCRefIdeal.nD Cert.StateCRefIdeal.τ Cert.StateCRefIdeal.sig) → Buf (Elt Ideal) ℓ) : Prop :=
  True

def Pre_StateP (m : (ℓ : Loc Cert.StateP.nD Cert.StateP.τ Cert.StateP.sig) → Buf (Elt Bits) ℓ) : Prop :=
  True

def Pre_StatePIdeal (m : (ℓ : Loc Cert.StatePIdeal.nD Cert.StatePIdeal.τ Cert.StatePIdeal.sig) → Buf (Elt Ideal) ℓ) : Prop :=
  True

def Pre_StatePRefIdeal (m : (ℓ : Loc Cert.StatePRefIdeal.nD Cert.StatePRefIdeal.τ Cert.StatePRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1)
      ∧ r.2.mem ((c.tc : Thread Cert.ProjA.nD Cert.ProjA.τ).loc Cert.ProjA.main_arg2) = m ((c.tc : Thread Cert.ProjA.nD Cert.ProjA.τ).loc Cert.ProjA.main_arg2))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
      ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1)
      ∧ r.2.mem ((c.tc : Thread Cert.ProjARefIdeal.nD Cert.ProjARefIdeal.τ).loc Cert.ProjARefIdeal.main_arg2) = m ((c.tc : Thread Cert.ProjARefIdeal.nD Cert.ProjARefIdeal.τ).loc Cert.ProjARefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2))
      ∧ r.2.sem = fun _ => 0)

def quiescent_ProjC [hProjC : Cert.ProjC.Facts] : Prop :=
  ∀ (m : (ℓ : Loc Cert.ProjC.nD Cert.ProjC.τ Cert.ProjC.sig) → Buf (Elt Bits) ℓ) (g : Dev Cert.ProjC.nD → PrngReg), Pre_ProjC m →
    θ_run (Cert.ProjC.defs (F := Bits)) (onTc (τ := Cert.ProjC.τ) (Cert.ProjC.main (F := Bits))) ⟨m, fun _ => 0, g⟩ (fun r => (∀ c : Dev Cert.ProjC.nD,
      r.2.mem ((c.tc : Thread Cert.ProjC.nD Cert.ProjC.τ).loc Cert.ProjC.main_arg0) = m ((c.tc : Thread Cert.ProjC.nD Cert.ProjC.τ).loc Cert.ProjC.main_arg0)
      ∧ r.2.mem ((c.tc : Thread Cert.ProjC.nD Cert.ProjC.τ).loc Cert.ProjC.main_arg1) = m ((c.tc : Thread Cert.ProjC.nD Cert.ProjC.τ).loc Cert.ProjC.main_arg1)
      ∧ r.2.mem ((c.tc : Thread Cert.ProjC.nD Cert.ProjC.τ).loc Cert.ProjC.main_arg2) = m ((c.tc : Thread Cert.ProjC.nD Cert.ProjC.τ).loc Cert.ProjC.main_arg2))
      ∧ r.2.sem = fun _ => 0)

def quiescent_ProjCIdeal [hProjCIdeal : Cert.ProjCIdeal.Facts] : Prop :=
  ∀ (m : (ℓ : Loc Cert.ProjCIdeal.nD Cert.ProjCIdeal.τ Cert.ProjCIdeal.sig) → Buf (Elt Ideal) ℓ) (g : Dev Cert.ProjCIdeal.nD → PrngReg), Pre_ProjCIdeal m →
    θ_run (Cert.ProjCIdeal.defs (F := Ideal)) (onTc (τ := Cert.ProjCIdeal.τ) (Cert.ProjCIdeal.main (F := Ideal))) ⟨m, fun _ => 0, g⟩ (fun r => (∀ c : Dev Cert.ProjCIdeal.nD,
      r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
      ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
      ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ r.2.sem = fun _ => 0)

def quiescent_ProjCRefIdeal [hProjCRefIdeal : Cert.ProjCRefIdeal.Facts] : Prop :=
  ∀ (m : (ℓ : Loc Cert.ProjCRefIdeal.nD Cert.ProjCRefIdeal.τ Cert.ProjCRefIdeal.sig) → Buf (Elt Ideal) ℓ) (g : Dev Cert.ProjCRefIdeal.nD → PrngReg), Pre_ProjCRefIdeal m →
    θ_run (Cert.ProjCRefIdeal.defs (F := Ideal)) (onTc (τ := Cert.ProjCRefIdeal.τ) (Cert.ProjCRefIdeal.main (F := Ideal))) ⟨m, fun _ => 0, g⟩ (fun r => (∀ c : Dev Cert.ProjCRefIdeal.nD,
      r.2.mem ((c.tc : Thread Cert.ProjCRefIdeal.nD Cert.ProjCRefIdeal.τ).loc Cert.ProjCRefIdeal.main_arg0) = m ((c.tc : Thread Cert.ProjCRefIdeal.nD Cert.ProjCRefIdeal.τ).loc Cert.ProjCRefIdeal.main_arg0)
      ∧ r.2.mem ((c.tc : Thread Cert.ProjCRefIdeal.nD Cert.ProjCRefIdeal.τ).loc Cert.ProjCRefIdeal.main_arg1) = m ((c.tc : Thread Cert.ProjCRefIdeal.nD Cert.ProjCRefIdeal.τ).loc Cert.ProjCRefIdeal.main_arg1)
      ∧ r.2.mem ((c.tc : Thread Cert.ProjCRefIdeal.nD Cert.ProjCRefIdeal.τ).loc Cert.ProjCRefIdeal.main_arg2) = m ((c.tc : Thread Cert.ProjCRefIdeal.nD Cert.ProjCRefIdeal.τ).loc Cert.ProjCRefIdeal.main_arg2))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1)
      ∧ r.2.mem ((c.tc : Thread Cert.OutA.nD Cert.OutA.τ).loc Cert.OutA.main_arg2) = m ((c.tc : Thread Cert.OutA.nD Cert.OutA.τ).loc Cert.OutA.main_arg2))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
      ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ r.2.sem = fun _ => 0)

def quiescent_OutARefIdeal [hOutARefIdeal : Cert.OutARefIdeal.Facts] : Prop :=
  ∀ (m : (ℓ : Loc Cert.OutARefIdeal.nD Cert.OutARefIdeal.τ Cert.OutARefIdeal.sig) → Buf (Elt Ideal) ℓ) (g : Dev Cert.OutARefIdeal.nD → PrngReg), Pre_OutARefIdeal m →
    θ_run (Cert.OutARefIdeal.defs (F := Ideal)) (onTc (τ := Cert.OutARefIdeal.τ) (Cert.OutARefIdeal.main (F := Ideal))) ⟨m, fun _ => 0, g⟩ (fun r => (∀ c : Dev Cert.OutARefIdeal.nD,
      r.2.mem ((c.tc : Thread Cert.OutARefIdeal.nD Cert.OutARefIdeal.τ).loc Cert.OutARefIdeal.main_arg0) = m ((c.tc : Thread Cert.OutARefIdeal.nD Cert.OutARefIdeal.τ).loc Cert.OutARefIdeal.main_arg0)
      ∧ r.2.mem ((c.tc : Thread Cert.OutARefIdeal.nD Cert.OutARefIdeal.τ).loc Cert.OutARefIdeal.main_arg1) = m ((c.tc : Thread Cert.OutARefIdeal.nD Cert.OutARefIdeal.τ).loc Cert.OutARefIdeal.main_arg1)
      ∧ r.2.mem ((c.tc : Thread Cert.OutARefIdeal.nD Cert.OutARefIdeal.τ).loc Cert.OutARefIdeal.main_arg2) = m ((c.tc : Thread Cert.OutARefIdeal.nD Cert.OutARefIdeal.τ).loc Cert.OutARefIdeal.main_arg2))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1)
      ∧ r.2.mem ((c.tc : Thread Cert.OutB.nD Cert.OutB.τ).loc Cert.OutB.main_arg2) = m ((c.tc : Thread Cert.OutB.nD Cert.OutB.τ).loc Cert.OutB.main_arg2))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
      ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ r.2.sem = fun _ => 0)

def quiescent_OutBRefIdeal [hOutBRefIdeal : Cert.OutBRefIdeal.Facts] : Prop :=
  ∀ (m : (ℓ : Loc Cert.OutBRefIdeal.nD Cert.OutBRefIdeal.τ Cert.OutBRefIdeal.sig) → Buf (Elt Ideal) ℓ) (g : Dev Cert.OutBRefIdeal.nD → PrngReg), Pre_OutBRefIdeal m →
    θ_run (Cert.OutBRefIdeal.defs (F := Ideal)) (onTc (τ := Cert.OutBRefIdeal.τ) (Cert.OutBRefIdeal.main (F := Ideal))) ⟨m, fun _ => 0, g⟩ (fun r => (∀ c : Dev Cert.OutBRefIdeal.nD,
      r.2.mem ((c.tc : Thread Cert.OutBRefIdeal.nD Cert.OutBRefIdeal.τ).loc Cert.OutBRefIdeal.main_arg0) = m ((c.tc : Thread Cert.OutBRefIdeal.nD Cert.OutBRefIdeal.τ).loc Cert.OutBRefIdeal.main_arg0)
      ∧ r.2.mem ((c.tc : Thread Cert.OutBRefIdeal.nD Cert.OutBRefIdeal.τ).loc Cert.OutBRefIdeal.main_arg1) = m ((c.tc : Thread Cert.OutBRefIdeal.nD Cert.OutBRefIdeal.τ).loc Cert.OutBRefIdeal.main_arg1)
      ∧ r.2.mem ((c.tc : Thread Cert.OutBRefIdeal.nD Cert.OutBRefIdeal.τ).loc Cert.OutBRefIdeal.main_arg2) = m ((c.tc : Thread Cert.OutBRefIdeal.nD Cert.OutBRefIdeal.τ).loc Cert.OutBRefIdeal.main_arg2))
      ∧ r.2.sem = fun _ => 0)

def quiescent_OutC [hOutC : Cert.OutC.Facts] : Prop :=
  ∀ (m : (ℓ : Loc Cert.OutC.nD Cert.OutC.τ Cert.OutC.sig) → Buf (Elt Bits) ℓ) (g : Dev Cert.OutC.nD → PrngReg), Pre_OutC m →
    θ_run (Cert.OutC.defs (F := Bits)) (onTc (τ := Cert.OutC.τ) (Cert.OutC.main (F := Bits))) ⟨m, fun _ => 0, g⟩ (fun r => (∀ c : Dev Cert.OutC.nD,
      r.2.mem ((c.tc : Thread Cert.OutC.nD Cert.OutC.τ).loc Cert.OutC.main_arg0) = m ((c.tc : Thread Cert.OutC.nD Cert.OutC.τ).loc Cert.OutC.main_arg0)
      ∧ r.2.mem ((c.tc : Thread Cert.OutC.nD Cert.OutC.τ).loc Cert.OutC.main_arg1) = m ((c.tc : Thread Cert.OutC.nD Cert.OutC.τ).loc Cert.OutC.main_arg1)
      ∧ r.2.mem ((c.tc : Thread Cert.OutC.nD Cert.OutC.τ).loc Cert.OutC.main_arg2) = m ((c.tc : Thread Cert.OutC.nD Cert.OutC.τ).loc Cert.OutC.main_arg2))
      ∧ r.2.sem = fun _ => 0)

def quiescent_OutCIdeal [hOutCIdeal : Cert.OutCIdeal.Facts] : Prop :=
  ∀ (m : (ℓ : Loc Cert.OutCIdeal.nD Cert.OutCIdeal.τ Cert.OutCIdeal.sig) → Buf (Elt Ideal) ℓ) (g : Dev Cert.OutCIdeal.nD → PrngReg), Pre_OutCIdeal m →
    θ_run (Cert.OutCIdeal.defs (F := Ideal)) (onTc (τ := Cert.OutCIdeal.τ) (Cert.OutCIdeal.main (F := Ideal))) ⟨m, fun _ => 0, g⟩ (fun r => (∀ c : Dev Cert.OutCIdeal.nD,
      r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
      ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
      ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ r.2.sem = fun _ => 0)

def quiescent_OutCRefIdeal [hOutCRefIdeal : Cert.OutCRefIdeal.Facts] : Prop :=
  ∀ (m : (ℓ : Loc Cert.OutCRefIdeal.nD Cert.OutCRefIdeal.τ Cert.OutCRefIdeal.sig) → Buf (Elt Ideal) ℓ) (g : Dev Cert.OutCRefIdeal.nD → PrngReg), Pre_OutCRefIdeal m →
    θ_run (Cert.OutCRefIdeal.defs (F := Ideal)) (onTc (τ := Cert.OutCRefIdeal.τ) (Cert.OutCRefIdeal.main (F := Ideal))) ⟨m, fun _ => 0, g⟩ (fun r => (∀ c : Dev Cert.OutCRefIdeal.nD,
      r.2.mem ((c.tc : Thread Cert.OutCRefIdeal.nD Cert.OutCRefIdeal.τ).loc Cert.OutCRefIdeal.main_arg0) = m ((c.tc : Thread Cert.OutCRefIdeal.nD Cert.OutCRefIdeal.τ).loc Cert.OutCRefIdeal.main_arg0)
      ∧ r.2.mem ((c.tc : Thread Cert.OutCRefIdeal.nD Cert.OutCRefIdeal.τ).loc Cert.OutCRefIdeal.main_arg1) = m ((c.tc : Thread Cert.OutCRefIdeal.nD Cert.OutCRefIdeal.τ).loc Cert.OutCRefIdeal.main_arg1)
      ∧ r.2.mem ((c.tc : Thread Cert.OutCRefIdeal.nD Cert.OutCRefIdeal.τ).loc Cert.OutCRefIdeal.main_arg2) = m ((c.tc : Thread Cert.OutCRefIdeal.nD Cert.OutCRefIdeal.τ).loc Cert.OutCRefIdeal.main_arg2))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ r.2.sem = fun _ => 0)

def quiescent_NormPRefIdeal [hNormPRefIdeal : Cert.NormPRefIdeal.Facts] : Prop :=
  ∀ (m : (ℓ : Loc Cert.NormPRefIdeal.nD Cert.NormPRefIdeal.τ Cert.NormPRefIdeal.sig) → Buf (Elt Ideal) ℓ) (g : Dev Cert.NormPRefIdeal.nD → PrngReg), Pre_NormPRefIdeal m →
    θ_run (Cert.NormPRefIdeal.defs (F := Ideal)) (onTc (τ := Cert.NormPRefIdeal.τ) (Cert.NormPRefIdeal.main (F := Ideal))) ⟨m, fun _ => 0, g⟩ (fun r => (∀ c : Dev Cert.NormPRefIdeal.nD,
      r.2.mem ((c.tc : Thread Cert.NormPRefIdeal.nD Cert.NormPRefIdeal.τ).loc Cert.NormPRefIdeal.main_arg0) = m ((c.tc : Thread Cert.NormPRefIdeal.nD Cert.NormPRefIdeal.τ).loc Cert.NormPRefIdeal.main_arg0)
      ∧ r.2.mem ((c.tc : Thread Cert.NormPRefIdeal.nD Cert.NormPRefIdeal.τ).loc Cert.NormPRefIdeal.main_arg1) = m ((c.tc : Thread Cert.NormPRefIdeal.nD Cert.NormPRefIdeal.τ).loc Cert.NormPRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_KvRows [hKvRows : Cert.KvRows.Facts] : Prop :=
  ∀ (m : (ℓ : Loc Cert.KvRows.nD Cert.KvRows.τ Cert.KvRows.sig) → Buf (Elt Bits) ℓ) (g : Dev Cert.KvRows.nD → PrngReg), Pre_KvRows m →
    θ_run (Cert.KvRows.defs (F := Bits)) (onTc (τ := Cert.KvRows.τ) (Cert.KvRows.main (F := Bits))) ⟨m, fun _ => 0, g⟩ (fun r => (∀ c : Dev Cert.KvRows.nD,
      r.2.mem ((c.tc : Thread Cert.KvRows.nD Cert.KvRows.τ).loc Cert.KvRows.main_arg0) = m ((c.tc : Thread Cert.KvRows.nD Cert.KvRows.τ).loc Cert.KvRows.main_arg0)
      ∧ r.2.mem ((c.tc : Thread Cert.KvRows.nD Cert.KvRows.τ).loc Cert.KvRows.main_arg1) = m ((c.tc : Thread Cert.KvRows.nD Cert.KvRows.τ).loc Cert.KvRows.main_arg1)
      ∧ r.2.mem ((c.tc : Thread Cert.KvRows.nD Cert.KvRows.τ).loc Cert.KvRows.main_arg2) = m ((c.tc : Thread Cert.KvRows.nD Cert.KvRows.τ).loc Cert.KvRows.main_arg2)
      ∧ r.2.mem ((c.tc : Thread Cert.KvRows.nD Cert.KvRows.τ).loc Cert.KvRows.main_arg3) = m ((c.tc : Thread Cert.KvRows.nD Cert.KvRows.τ).loc Cert.KvRows.main_arg3))
      ∧ r.2.sem = fun _ => 0)

def quiescent_KvRowsIdeal [hKvRowsIdeal : Cert.KvRowsIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg), Pre_KvRowsIdeal m →
    θ_run (Cert.KvRowsIdeal.defs (F := Ideal)) (onTc (τ := Cert.KvRowsIdeal.τ) (Cert.KvRowsIdeal.main (F := Ideal))) ⟨m, fun _ => 0, g⟩ (fun r => (∀ c : Dev Cert.KvRowsIdeal.nD,
      r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
      ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
      ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
      ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3))
      ∧ r.2.sem = fun _ => 0)

def quiescent_KvRowsRefIdeal [hKvRowsRefIdeal : Cert.KvRowsRefIdeal.Facts] : Prop :=
  ∀ (m : (ℓ : Loc Cert.KvRowsRefIdeal.nD Cert.KvRowsRefIdeal.τ Cert.KvRowsRefIdeal.sig) → Buf (Elt Ideal) ℓ) (g : Dev Cert.KvRowsRefIdeal.nD → PrngReg), Pre_KvRowsRefIdeal m →
    θ_run (Cert.KvRowsRefIdeal.defs (F := Ideal)) (onTc (τ := Cert.KvRowsRefIdeal.τ) (Cert.KvRowsRefIdeal.main (F := Ideal))) ⟨m, fun _ => 0, g⟩ (fun r => (∀ c : Dev Cert.KvRowsRefIdeal.nD,
      r.2.mem ((c.tc : Thread Cert.KvRowsRefIdeal.nD Cert.KvRowsRefIdeal.τ).loc Cert.KvRowsRefIdeal.main_arg0) = m ((c.tc : Thread Cert.KvRowsRefIdeal.nD Cert.KvRowsRefIdeal.τ).loc Cert.KvRowsRefIdeal.main_arg0)
      ∧ r.2.mem ((c.tc : Thread Cert.KvRowsRefIdeal.nD Cert.KvRowsRefIdeal.τ).loc Cert.KvRowsRefIdeal.main_arg1) = m ((c.tc : Thread Cert.KvRowsRefIdeal.nD Cert.KvRowsRefIdeal.τ).loc Cert.KvRowsRefIdeal.main_arg1)
      ∧ r.2.mem ((c.tc : Thread Cert.KvRowsRefIdeal.nD Cert.KvRowsRefIdeal.τ).loc Cert.KvRowsRefIdeal.main_arg2) = m ((c.tc : Thread Cert.KvRowsRefIdeal.nD Cert.KvRowsRefIdeal.τ).loc Cert.KvRowsRefIdeal.main_arg2)
      ∧ r.2.mem ((c.tc : Thread Cert.KvRowsRefIdeal.nD Cert.KvRowsRefIdeal.τ).loc Cert.KvRowsRefIdeal.main_arg3) = m ((c.tc : Thread Cert.KvRowsRefIdeal.nD Cert.KvRowsRefIdeal.τ).loc Cert.KvRowsRefIdeal.main_arg3))
      ∧ r.2.sem = fun _ => 0)

def quiescent_StateS [hStateS : Cert.StateS.Facts] : Prop :=
  ∀ (m : (ℓ : Loc Cert.StateS.nD Cert.StateS.τ Cert.StateS.sig) → Buf (Elt Bits) ℓ) (g : Dev Cert.StateS.nD → PrngReg), Pre_StateS m →
    θ_run (Cert.StateS.defs (F := Bits)) (onTc (τ := Cert.StateS.τ) (Cert.StateS.main (F := Bits))) ⟨m, fun _ => 0, g⟩ (fun r => (∀ c : Dev Cert.StateS.nD,
      r.2.mem ((c.tc : Thread Cert.StateS.nD Cert.StateS.τ).loc Cert.StateS.main_arg0) = m ((c.tc : Thread Cert.StateS.nD Cert.StateS.τ).loc Cert.StateS.main_arg0)
      ∧ r.2.mem ((c.tc : Thread Cert.StateS.nD Cert.StateS.τ).loc Cert.StateS.main_arg1) = m ((c.tc : Thread Cert.StateS.nD Cert.StateS.τ).loc Cert.StateS.main_arg1)
      ∧ r.2.mem ((c.tc : Thread Cert.StateS.nD Cert.StateS.τ).loc Cert.StateS.main_arg2) = m ((c.tc : Thread Cert.StateS.nD Cert.StateS.τ).loc Cert.StateS.main_arg2))
      ∧ r.2.sem = fun _ => 0)

def quiescent_StateSIdeal [hStateSIdeal : Cert.StateSIdeal.Facts] : Prop :=
  ∀ (m : (ℓ : Loc Cert.StateSIdeal.nD Cert.StateSIdeal.τ Cert.StateSIdeal.sig) → Buf (Elt Ideal) ℓ) (g : Dev Cert.StateSIdeal.nD → PrngReg), Pre_StateSIdeal m →
    θ_run (Cert.StateSIdeal.defs (F := Ideal)) (onTc (τ := Cert.StateSIdeal.τ) (Cert.StateSIdeal.main (F := Ideal))) ⟨m, fun _ => 0, g⟩ (fun r => (∀ c : Dev Cert.StateSIdeal.nD,
      r.2.mem ((c.tc : Thread Cert.StateSIdeal.nD Cert.StateSIdeal.τ).loc Cert.StateSIdeal.main_arg0) = m ((c.tc : Thread Cert.StateSIdeal.nD Cert.StateSIdeal.τ).loc Cert.StateSIdeal.main_arg0)
      ∧ r.2.mem ((c.tc : Thread Cert.StateSIdeal.nD Cert.StateSIdeal.τ).loc Cert.StateSIdeal.main_arg1) = m ((c.tc : Thread Cert.StateSIdeal.nD Cert.StateSIdeal.τ).loc Cert.StateSIdeal.main_arg1)
      ∧ r.2.mem ((c.tc : Thread Cert.StateSIdeal.nD Cert.StateSIdeal.τ).loc Cert.StateSIdeal.main_arg2) = m ((c.tc : Thread Cert.StateSIdeal.nD Cert.StateSIdeal.τ).loc Cert.StateSIdeal.main_arg2))
      ∧ r.2.sem = fun _ => 0)

def quiescent_StateSRefIdeal [hStateSRefIdeal : Cert.StateSRefIdeal.Facts] : Prop :=
  ∀ (m : (ℓ : Loc Cert.StateSRefIdeal.nD Cert.StateSRefIdeal.τ Cert.StateSRefIdeal.sig) → Buf (Elt Ideal) ℓ) (g : Dev Cert.StateSRefIdeal.nD → PrngReg), Pre_StateSRefIdeal m →
    θ_run (Cert.StateSRefIdeal.defs (F := Ideal)) (onTc (τ := Cert.StateSRefIdeal.τ) (Cert.StateSRefIdeal.main (F := Ideal))) ⟨m, fun _ => 0, g⟩ (fun r => (∀ c : Dev Cert.StateSRefIdeal.nD,
      r.2.mem ((c.tc : Thread Cert.StateSRefIdeal.nD Cert.StateSRefIdeal.τ).loc Cert.StateSRefIdeal.main_arg0) = m ((c.tc : Thread Cert.StateSRefIdeal.nD Cert.StateSRefIdeal.τ).loc Cert.StateSRefIdeal.main_arg0)
      ∧ r.2.mem ((c.tc : Thread Cert.StateSRefIdeal.nD Cert.StateSRefIdeal.τ).loc Cert.StateSRefIdeal.main_arg1) = m ((c.tc : Thread Cert.StateSRefIdeal.nD Cert.StateSRefIdeal.τ).loc Cert.StateSRefIdeal.main_arg1)
      ∧ r.2.mem ((c.tc : Thread Cert.StateSRefIdeal.nD Cert.StateSRefIdeal.τ).loc Cert.StateSRefIdeal.main_arg2) = m ((c.tc : Thread Cert.StateSRefIdeal.nD Cert.StateSRefIdeal.τ).loc Cert.StateSRefIdeal.main_arg2))
      ∧ r.2.sem = fun _ => 0)

def quiescent_StateC [hStateC : Cert.StateC.Facts] : Prop :=
  ∀ (m : (ℓ : Loc Cert.StateC.nD Cert.StateC.τ Cert.StateC.sig) → Buf (Elt Bits) ℓ) (g : Dev Cert.StateC.nD → PrngReg), Pre_StateC m →
    θ_run (Cert.StateC.defs (F := Bits)) (onTc (τ := Cert.StateC.τ) (Cert.StateC.main (F := Bits))) ⟨m, fun _ => 0, g⟩ (fun r => (∀ c : Dev Cert.StateC.nD,
      r.2.mem ((c.tc : Thread Cert.StateC.nD Cert.StateC.τ).loc Cert.StateC.main_arg0) = m ((c.tc : Thread Cert.StateC.nD Cert.StateC.τ).loc Cert.StateC.main_arg0)
      ∧ r.2.mem ((c.tc : Thread Cert.StateC.nD Cert.StateC.τ).loc Cert.StateC.main_arg1) = m ((c.tc : Thread Cert.StateC.nD Cert.StateC.τ).loc Cert.StateC.main_arg1)
      ∧ r.2.mem ((c.tc : Thread Cert.StateC.nD Cert.StateC.τ).loc Cert.StateC.main_arg2) = m ((c.tc : Thread Cert.StateC.nD Cert.StateC.τ).loc Cert.StateC.main_arg2)
      ∧ r.2.mem ((c.tc : Thread Cert.StateC.nD Cert.StateC.τ).loc Cert.StateC.main_arg3) = m ((c.tc : Thread Cert.StateC.nD Cert.StateC.τ).loc Cert.StateC.main_arg3)
      ∧ r.2.mem ((c.tc : Thread Cert.StateC.nD Cert.StateC.τ).loc Cert.StateC.main_arg4) = m ((c.tc : Thread Cert.StateC.nD Cert.StateC.τ).loc Cert.StateC.main_arg4)
      ∧ r.2.mem ((c.tc : Thread Cert.StateC.nD Cert.StateC.τ).loc Cert.StateC.main_arg5) = m ((c.tc : Thread Cert.StateC.nD Cert.StateC.τ).loc Cert.StateC.main_arg5))
      ∧ r.2.sem = fun _ => 0)

def quiescent_StateCIdeal [hStateCIdeal : Cert.StateCIdeal.Facts] : Prop :=
  ∀ (m : (ℓ : Loc Cert.StateCIdeal.nD Cert.StateCIdeal.τ Cert.StateCIdeal.sig) → Buf (Elt Ideal) ℓ) (g : Dev Cert.StateCIdeal.nD → PrngReg), Pre_StateCIdeal m →
    θ_run (Cert.StateCIdeal.defs (F := Ideal)) (onTc (τ := Cert.StateCIdeal.τ) (Cert.StateCIdeal.main (F := Ideal))) ⟨m, fun _ => 0, g⟩ (fun r => (∀ c : Dev Cert.StateCIdeal.nD,
      r.2.mem ((c.tc : Thread Cert.StateCIdeal.nD Cert.StateCIdeal.τ).loc Cert.StateCIdeal.main_arg0) = m ((c.tc : Thread Cert.StateCIdeal.nD Cert.StateCIdeal.τ).loc Cert.StateCIdeal.main_arg0)
      ∧ r.2.mem ((c.tc : Thread Cert.StateCIdeal.nD Cert.StateCIdeal.τ).loc Cert.StateCIdeal.main_arg1) = m ((c.tc : Thread Cert.StateCIdeal.nD Cert.StateCIdeal.τ).loc Cert.StateCIdeal.main_arg1)
      ∧ r.2.mem ((c.tc : Thread Cert.StateCIdeal.nD Cert.StateCIdeal.τ).loc Cert.StateCIdeal.main_arg2) = m ((c.tc : Thread Cert.StateCIdeal.nD Cert.StateCIdeal.τ).loc Cert.StateCIdeal.main_arg2)
      ∧ r.2.mem ((c.tc : Thread Cert.StateCIdeal.nD Cert.StateCIdeal.τ).loc Cert.StateCIdeal.main_arg3) = m ((c.tc : Thread Cert.StateCIdeal.nD Cert.StateCIdeal.τ).loc Cert.StateCIdeal.main_arg3)
      ∧ r.2.mem ((c.tc : Thread Cert.StateCIdeal.nD Cert.StateCIdeal.τ).loc Cert.StateCIdeal.main_arg4) = m ((c.tc : Thread Cert.StateCIdeal.nD Cert.StateCIdeal.τ).loc Cert.StateCIdeal.main_arg4)
      ∧ r.2.mem ((c.tc : Thread Cert.StateCIdeal.nD Cert.StateCIdeal.τ).loc Cert.StateCIdeal.main_arg5) = m ((c.tc : Thread Cert.StateCIdeal.nD Cert.StateCIdeal.τ).loc Cert.StateCIdeal.main_arg5))
      ∧ r.2.sem = fun _ => 0)

def quiescent_StateCRefIdeal [hStateCRefIdeal : Cert.StateCRefIdeal.Facts] : Prop :=
  ∀ (m : (ℓ : Loc Cert.StateCRefIdeal.nD Cert.StateCRefIdeal.τ Cert.StateCRefIdeal.sig) → Buf (Elt Ideal) ℓ) (g : Dev Cert.StateCRefIdeal.nD → PrngReg), Pre_StateCRefIdeal m →
    θ_run (Cert.StateCRefIdeal.defs (F := Ideal)) (onTc (τ := Cert.StateCRefIdeal.τ) (Cert.StateCRefIdeal.main (F := Ideal))) ⟨m, fun _ => 0, g⟩ (fun r => (∀ c : Dev Cert.StateCRefIdeal.nD,
      r.2.mem ((c.tc : Thread Cert.StateCRefIdeal.nD Cert.StateCRefIdeal.τ).loc Cert.StateCRefIdeal.main_arg0) = m ((c.tc : Thread Cert.StateCRefIdeal.nD Cert.StateCRefIdeal.τ).loc Cert.StateCRefIdeal.main_arg0)
      ∧ r.2.mem ((c.tc : Thread Cert.StateCRefIdeal.nD Cert.StateCRefIdeal.τ).loc Cert.StateCRefIdeal.main_arg1) = m ((c.tc : Thread Cert.StateCRefIdeal.nD Cert.StateCRefIdeal.τ).loc Cert.StateCRefIdeal.main_arg1)
      ∧ r.2.mem ((c.tc : Thread Cert.StateCRefIdeal.nD Cert.StateCRefIdeal.τ).loc Cert.StateCRefIdeal.main_arg2) = m ((c.tc : Thread Cert.StateCRefIdeal.nD Cert.StateCRefIdeal.τ).loc Cert.StateCRefIdeal.main_arg2)
      ∧ r.2.mem ((c.tc : Thread Cert.StateCRefIdeal.nD Cert.StateCRefIdeal.τ).loc Cert.StateCRefIdeal.main_arg3) = m ((c.tc : Thread Cert.StateCRefIdeal.nD Cert.StateCRefIdeal.τ).loc Cert.StateCRefIdeal.main_arg3)
      ∧ r.2.mem ((c.tc : Thread Cert.StateCRefIdeal.nD Cert.StateCRefIdeal.τ).loc Cert.StateCRefIdeal.main_arg4) = m ((c.tc : Thread Cert.StateCRefIdeal.nD Cert.StateCRefIdeal.τ).loc Cert.StateCRefIdeal.main_arg4)
      ∧ r.2.mem ((c.tc : Thread Cert.StateCRefIdeal.nD Cert.StateCRefIdeal.τ).loc Cert.StateCRefIdeal.main_arg5) = m ((c.tc : Thread Cert.StateCRefIdeal.nD Cert.StateCRefIdeal.τ).loc Cert.StateCRefIdeal.main_arg5))
      ∧ r.2.sem = fun _ => 0)

def quiescent_StateP [hStateP : Cert.StateP.Facts] : Prop :=
  ∀ (m : (ℓ : Loc Cert.StateP.nD Cert.StateP.τ Cert.StateP.sig) → Buf (Elt Bits) ℓ) (g : Dev Cert.StateP.nD → PrngReg), Pre_StateP m →
    θ_run (Cert.StateP.defs (F := Bits)) (onTc (τ := Cert.StateP.τ) (Cert.StateP.main (F := Bits))) ⟨m, fun _ => 0, g⟩ (fun r => (∀ c : Dev Cert.StateP.nD,
      r.2.mem ((c.tc : Thread Cert.StateP.nD Cert.StateP.τ).loc Cert.StateP.main_arg0) = m ((c.tc : Thread Cert.StateP.nD Cert.StateP.τ).loc Cert.StateP.main_arg0)
      ∧ r.2.mem ((c.tc : Thread Cert.StateP.nD Cert.StateP.τ).loc Cert.StateP.main_arg1) = m ((c.tc : Thread Cert.StateP.nD Cert.StateP.τ).loc Cert.StateP.main_arg1)
      ∧ r.2.mem ((c.tc : Thread Cert.StateP.nD Cert.StateP.τ).loc Cert.StateP.main_arg2) = m ((c.tc : Thread Cert.StateP.nD Cert.StateP.τ).loc Cert.StateP.main_arg2)
      ∧ r.2.mem ((c.tc : Thread Cert.StateP.nD Cert.StateP.τ).loc Cert.StateP.main_arg3) = m ((c.tc : Thread Cert.StateP.nD Cert.StateP.τ).loc Cert.StateP.main_arg3)
      ∧ r.2.mem ((c.tc : Thread Cert.StateP.nD Cert.StateP.τ).loc Cert.StateP.main_arg4) = m ((c.tc : Thread Cert.StateP.nD Cert.StateP.τ).loc Cert.StateP.main_arg4))
      ∧ r.2.sem = fun _ => 0)

def quiescent_StatePIdeal [hStatePIdeal : Cert.StatePIdeal.Facts] : Prop :=
  ∀ (m : (ℓ : Loc Cert.StatePIdeal.nD Cert.StatePIdeal.τ Cert.StatePIdeal.sig) → Buf (Elt Ideal) ℓ) (g : Dev Cert.StatePIdeal.nD → PrngReg), Pre_StatePIdeal m →
    θ_run (Cert.StatePIdeal.defs (F := Ideal)) (onTc (τ := Cert.StatePIdeal.τ) (Cert.StatePIdeal.main (F := Ideal))) ⟨m, fun _ => 0, g⟩ (fun r => (∀ c : Dev Cert.StatePIdeal.nD,
      r.2.mem ((c.tc : Thread Cert.StatePIdeal.nD Cert.StatePIdeal.τ).loc Cert.StatePIdeal.main_arg0) = m ((c.tc : Thread Cert.StatePIdeal.nD Cert.StatePIdeal.τ).loc Cert.StatePIdeal.main_arg0)
      ∧ r.2.mem ((c.tc : Thread Cert.StatePIdeal.nD Cert.StatePIdeal.τ).loc Cert.StatePIdeal.main_arg1) = m ((c.tc : Thread Cert.StatePIdeal.nD Cert.StatePIdeal.τ).loc Cert.StatePIdeal.main_arg1)
      ∧ r.2.mem ((c.tc : Thread Cert.StatePIdeal.nD Cert.StatePIdeal.τ).loc Cert.StatePIdeal.main_arg2) = m ((c.tc : Thread Cert.StatePIdeal.nD Cert.StatePIdeal.τ).loc Cert.StatePIdeal.main_arg2)
      ∧ r.2.mem ((c.tc : Thread Cert.StatePIdeal.nD Cert.StatePIdeal.τ).loc Cert.StatePIdeal.main_arg3) = m ((c.tc : Thread Cert.StatePIdeal.nD Cert.StatePIdeal.τ).loc Cert.StatePIdeal.main_arg3)
      ∧ r.2.mem ((c.tc : Thread Cert.StatePIdeal.nD Cert.StatePIdeal.τ).loc Cert.StatePIdeal.main_arg4) = m ((c.tc : Thread Cert.StatePIdeal.nD Cert.StatePIdeal.τ).loc Cert.StatePIdeal.main_arg4))
      ∧ r.2.sem = fun _ => 0)

def quiescent_StatePRefIdeal [hStatePRefIdeal : Cert.StatePRefIdeal.Facts] : Prop :=
  ∀ (m : (ℓ : Loc Cert.StatePRefIdeal.nD Cert.StatePRefIdeal.τ Cert.StatePRefIdeal.sig) → Buf (Elt Ideal) ℓ) (g : Dev Cert.StatePRefIdeal.nD → PrngReg), Pre_StatePRefIdeal m →
    θ_run (Cert.StatePRefIdeal.defs (F := Ideal)) (onTc (τ := Cert.StatePRefIdeal.τ) (Cert.StatePRefIdeal.main (F := Ideal))) ⟨m, fun _ => 0, g⟩ (fun r => (∀ c : Dev Cert.StatePRefIdeal.nD,
      r.2.mem ((c.tc : Thread Cert.StatePRefIdeal.nD Cert.StatePRefIdeal.τ).loc Cert.StatePRefIdeal.main_arg0) = m ((c.tc : Thread Cert.StatePRefIdeal.nD Cert.StatePRefIdeal.τ).loc Cert.StatePRefIdeal.main_arg0)
      ∧ r.2.mem ((c.tc : Thread Cert.StatePRefIdeal.nD Cert.StatePRefIdeal.τ).loc Cert.StatePRefIdeal.main_arg1) = m ((c.tc : Thread Cert.StatePRefIdeal.nD Cert.StatePRefIdeal.τ).loc Cert.StatePRefIdeal.main_arg1)
      ∧ r.2.mem ((c.tc : Thread Cert.StatePRefIdeal.nD Cert.StatePRefIdeal.τ).loc Cert.StatePRefIdeal.main_arg2) = m ((c.tc : Thread Cert.StatePRefIdeal.nD Cert.StatePRefIdeal.τ).loc Cert.StatePRefIdeal.main_arg2)
      ∧ r.2.mem ((c.tc : Thread Cert.StatePRefIdeal.nD Cert.StatePRefIdeal.τ).loc Cert.StatePRefIdeal.main_arg3) = m ((c.tc : Thread Cert.StatePRefIdeal.nD Cert.StatePRefIdeal.τ).loc Cert.StatePRefIdeal.main_arg3)
      ∧ r.2.mem ((c.tc : Thread Cert.StatePRefIdeal.nD Cert.StatePRefIdeal.τ).loc Cert.StatePRefIdeal.main_arg4) = m ((c.tc : Thread Cert.StatePRefIdeal.nD Cert.StatePRefIdeal.τ).loc Cert.StatePRefIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v77_4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)
      ∧ m' ((c.tc : Thread Cert.ProjARefIdeal.nD Cert.ProjARefIdeal.τ).loc Cert.ProjARefIdeal.main_arg2) = m ((c.tc : Thread Cert.ProjAIdeal.nD Cert.ProjAIdeal.τ).loc Cert.ProjAIdeal.main_arg2)) →
    ∃ (v0 : (c : Dev Cert.ProjAIdeal.nD) → Buf (Elt Ideal) ((c.tc : Thread Cert.ProjAIdeal.nD Cert.ProjAIdeal.τ).loc Cert.ProjAIdeal.main_v0)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v0) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1)
          ∧ r.2.mem ((c.tc : Thread Cert.ProjAIdeal.nD Cert.ProjAIdeal.τ).loc Cert.ProjAIdeal.main_arg2) = m ((c.tc : Thread Cert.ProjAIdeal.nD Cert.ProjAIdeal.τ).loc Cert.ProjAIdeal.main_arg2))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v14) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1)
          ∧ r.2.mem ((c.tc : Thread Cert.ProjARefIdeal.nD Cert.ProjARefIdeal.τ).loc Cert.ProjARefIdeal.main_arg2) = m' ((c.tc : Thread Cert.ProjARefIdeal.nD Cert.ProjARefIdeal.τ).loc Cert.ProjARefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v0)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v0) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v13) = v0 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2))

def preserves_ProjC_ProjCIdeal : Prop :=
  True

def algebraic_ProjCIdeal_ProjCRefIdeal [hProjCIdeal : Cert.ProjCIdeal.Facts] [hProjCRefIdeal : Cert.ProjCRefIdeal.Facts] : Prop :=
  ∀ (m : (ℓ : Loc Cert.ProjCIdeal.nD Cert.ProjCIdeal.τ Cert.ProjCIdeal.sig) → Buf (Elt Ideal) ℓ) (g : Dev Cert.ProjCIdeal.nD → PrngReg)
    (m' : (ℓ : Loc Cert.ProjCRefIdeal.nD Cert.ProjCRefIdeal.τ Cert.ProjCRefIdeal.sig) → Buf (Elt Ideal) ℓ) (g' : Dev Cert.ProjCRefIdeal.nD → PrngReg), Pre_ProjCIdeal m →
    (∀ c : Dev Cert.ProjCIdeal.nD,
      m' ((c.tc : Thread Cert.ProjCRefIdeal.nD Cert.ProjCRefIdeal.τ).loc Cert.ProjCRefIdeal.main_arg0) = m ((c.tc : Thread Cert.ProjCIdeal.nD Cert.ProjCIdeal.τ).loc Cert.ProjCIdeal.main_arg0)
      ∧ m' ((c.tc : Thread Cert.ProjCRefIdeal.nD Cert.ProjCRefIdeal.τ).loc Cert.ProjCRefIdeal.main_arg1) = m ((c.tc : Thread Cert.ProjCIdeal.nD Cert.ProjCIdeal.τ).loc Cert.ProjCIdeal.main_arg1)
      ∧ m' ((c.tc : Thread Cert.ProjCRefIdeal.nD Cert.ProjCRefIdeal.τ).loc Cert.ProjCRefIdeal.main_arg2) = m ((c.tc : Thread Cert.ProjCIdeal.nD Cert.ProjCIdeal.τ).loc Cert.ProjCIdeal.main_arg2)) →
    ∃ (v0 : (c : Dev Cert.ProjCIdeal.nD) → Buf (Elt Ideal) ((c.tc : Thread Cert.ProjCIdeal.nD Cert.ProjCIdeal.τ).loc Cert.ProjCIdeal.main_v0)),
      θ_run (Cert.ProjCIdeal.defs (F := Ideal)) (onTc (τ := Cert.ProjCIdeal.τ) (Cert.ProjCIdeal.main (F := Ideal))) ⟨m, fun _ => 0, g⟩ (fun r => ∀ c : Dev Cert.ProjCIdeal.nD,
          r.2.mem ((c.tc : Thread Cert.ProjCIdeal.nD Cert.ProjCIdeal.τ).loc Cert.ProjCIdeal.main_v0) = v0 c
          ∧ r.2.mem ((c.tc : Thread Cert.ProjCIdeal.nD Cert.ProjCIdeal.τ).loc Cert.ProjCIdeal.main_arg0) = m ((c.tc : Thread Cert.ProjCIdeal.nD Cert.ProjCIdeal.τ).loc Cert.ProjCIdeal.main_arg0)
          ∧ r.2.mem ((c.tc : Thread Cert.ProjCIdeal.nD Cert.ProjCIdeal.τ).loc Cert.ProjCIdeal.main_arg1) = m ((c.tc : Thread Cert.ProjCIdeal.nD Cert.ProjCIdeal.τ).loc Cert.ProjCIdeal.main_arg1)
          ∧ r.2.mem ((c.tc : Thread Cert.ProjCIdeal.nD Cert.ProjCIdeal.τ).loc Cert.ProjCIdeal.main_arg2) = m ((c.tc : Thread Cert.ProjCIdeal.nD Cert.ProjCIdeal.τ).loc Cert.ProjCIdeal.main_arg2))
      ∧ θ_run (Cert.ProjCRefIdeal.defs (F := Ideal)) (onTc (τ := Cert.ProjCRefIdeal.τ) (Cert.ProjCRefIdeal.main (F := Ideal))) ⟨m', fun _ => 0, g'⟩ (fun r => ∀ c : Dev Cert.ProjCRefIdeal.nD,
          r.2.mem ((c.tc : Thread Cert.ProjCRefIdeal.nD Cert.ProjCRefIdeal.τ).loc Cert.ProjCRefIdeal.main_v14) = v0 c
          ∧ r.2.mem ((c.tc : Thread Cert.ProjCRefIdeal.nD Cert.ProjCRefIdeal.τ).loc Cert.ProjCRefIdeal.main_arg0) = m' ((c.tc : Thread Cert.ProjCRefIdeal.nD Cert.ProjCRefIdeal.τ).loc Cert.ProjCRefIdeal.main_arg0)
          ∧ r.2.mem ((c.tc : Thread Cert.ProjCRefIdeal.nD Cert.ProjCRefIdeal.τ).loc Cert.ProjCRefIdeal.main_arg1) = m' ((c.tc : Thread Cert.ProjCRefIdeal.nD Cert.ProjCRefIdeal.τ).loc Cert.ProjCRefIdeal.main_arg1)
          ∧ r.2.mem ((c.tc : Thread Cert.ProjCRefIdeal.nD Cert.ProjCRefIdeal.τ).loc Cert.ProjCRefIdeal.main_arg2) = m' ((c.tc : Thread Cert.ProjCRefIdeal.nD Cert.ProjCRefIdeal.τ).loc Cert.ProjCRefIdeal.main_arg2))

def preserves_OutA_OutAIdeal : Prop :=
  True

def algebraic_OutAIdeal_OutARefIdeal [hOutAIdeal : Cert.OutAIdeal.Facts] [hOutARefIdeal : Cert.OutARefIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutARefIdeal.nD Cert.OutARefIdeal.τ Cert.OutARefIdeal.sig) → Buf (Elt Ideal) ℓ) (g' : Dev Cert.OutARefIdeal.nD → PrngReg), Pre_OutAIdeal m →
    (∀ c : Dev Cert.OutAIdeal.nD,
      m' ((c.tc : Thread Cert.OutARefIdeal.nD Cert.OutARefIdeal.τ).loc Cert.OutARefIdeal.main_arg0) = m ((c.tc : Thread Cert.OutAIdeal.nD Cert.OutAIdeal.τ).loc Cert.OutAIdeal.main_arg0)
      ∧ m' ((c.tc : Thread Cert.OutARefIdeal.nD Cert.OutARefIdeal.τ).loc Cert.OutARefIdeal.main_arg1) = m ((c.tc : Thread Cert.OutAIdeal.nD Cert.OutAIdeal.τ).loc Cert.OutAIdeal.main_arg1)
      ∧ m' ((c.tc : Thread Cert.OutARefIdeal.nD Cert.OutARefIdeal.τ).loc Cert.OutARefIdeal.main_arg2) = m ((c.tc : Thread Cert.OutAIdeal.nD Cert.OutAIdeal.τ).loc Cert.OutAIdeal.main_arg2)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1)
          ∧ r.2.mem ((c.tc : Thread Cert.OutAIdeal.nD Cert.OutAIdeal.τ).loc Cert.OutAIdeal.main_arg2) = m ((c.tc : Thread Cert.OutAIdeal.nD Cert.OutAIdeal.τ).loc Cert.OutAIdeal.main_arg2))
      ∧ θ_run (Cert.OutARefIdeal.defs (F := Ideal)) (onTc (τ := Cert.OutARefIdeal.τ) (Cert.OutARefIdeal.main (F := Ideal))) ⟨m', fun _ => 0, g'⟩ (fun r => ∀ c : Dev Cert.OutARefIdeal.nD,
          r.2.mem ((c.tc : Thread Cert.OutARefIdeal.nD Cert.OutARefIdeal.τ).loc Cert.OutARefIdeal.main_v4) = v0 c
          ∧ r.2.mem ((c.tc : Thread Cert.OutARefIdeal.nD Cert.OutARefIdeal.τ).loc Cert.OutARefIdeal.main_arg0) = m' ((c.tc : Thread Cert.OutARefIdeal.nD Cert.OutARefIdeal.τ).loc Cert.OutARefIdeal.main_arg0)
          ∧ r.2.mem ((c.tc : Thread Cert.OutARefIdeal.nD Cert.OutARefIdeal.τ).loc Cert.OutARefIdeal.main_arg1) = m' ((c.tc : Thread Cert.OutARefIdeal.nD Cert.OutARefIdeal.τ).loc Cert.OutARefIdeal.main_arg1)
          ∧ r.2.mem ((c.tc : Thread Cert.OutARefIdeal.nD Cert.OutARefIdeal.τ).loc Cert.OutARefIdeal.main_arg2) = m' ((c.tc : Thread Cert.OutARefIdeal.nD Cert.OutARefIdeal.τ).loc Cert.OutARefIdeal.main_arg2))

def preserves_OutB_OutBIdeal : Prop :=
  True

def algebraic_OutBIdeal_OutBRefIdeal [hOutBIdeal : Cert.OutBIdeal.Facts] [hOutBRefIdeal : Cert.OutBRefIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBRefIdeal.nD Cert.OutBRefIdeal.τ Cert.OutBRefIdeal.sig) → Buf (Elt Ideal) ℓ) (g' : Dev Cert.OutBRefIdeal.nD → PrngReg), Pre_OutBIdeal m →
    (∀ c : Dev Cert.OutBIdeal.nD,
      m' ((c.tc : Thread Cert.OutBRefIdeal.nD Cert.OutBRefIdeal.τ).loc Cert.OutBRefIdeal.main_arg0) = m ((c.tc : Thread Cert.OutBIdeal.nD Cert.OutBIdeal.τ).loc Cert.OutBIdeal.main_arg0)
      ∧ m' ((c.tc : Thread Cert.OutBRefIdeal.nD Cert.OutBRefIdeal.τ).loc Cert.OutBRefIdeal.main_arg1) = m ((c.tc : Thread Cert.OutBIdeal.nD Cert.OutBIdeal.τ).loc Cert.OutBIdeal.main_arg1)
      ∧ m' ((c.tc : Thread Cert.OutBRefIdeal.nD Cert.OutBRefIdeal.τ).loc Cert.OutBRefIdeal.main_arg2) = m ((c.tc : Thread Cert.OutBIdeal.nD Cert.OutBIdeal.τ).loc Cert.OutBIdeal.main_arg2)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1)
          ∧ r.2.mem ((c.tc : Thread Cert.OutBIdeal.nD Cert.OutBIdeal.τ).loc Cert.OutBIdeal.main_arg2) = m ((c.tc : Thread Cert.OutBIdeal.nD Cert.OutBIdeal.τ).loc Cert.OutBIdeal.main_arg2))
      ∧ θ_run (Cert.OutBRefIdeal.defs (F := Ideal)) (onTc (τ := Cert.OutBRefIdeal.τ) (Cert.OutBRefIdeal.main (F := Ideal))) ⟨m', fun _ => 0, g'⟩ (fun r => ∀ c : Dev Cert.OutBRefIdeal.nD,
          r.2.mem ((c.tc : Thread Cert.OutBRefIdeal.nD Cert.OutBRefIdeal.τ).loc Cert.OutBRefIdeal.main_v3) = v0 c
          ∧ r.2.mem ((c.tc : Thread Cert.OutBRefIdeal.nD Cert.OutBRefIdeal.τ).loc Cert.OutBRefIdeal.main_arg0) = m' ((c.tc : Thread Cert.OutBRefIdeal.nD Cert.OutBRefIdeal.τ).loc Cert.OutBRefIdeal.main_arg0)
          ∧ r.2.mem ((c.tc : Thread Cert.OutBRefIdeal.nD Cert.OutBRefIdeal.τ).loc Cert.OutBRefIdeal.main_arg1) = m' ((c.tc : Thread Cert.OutBRefIdeal.nD Cert.OutBRefIdeal.τ).loc Cert.OutBRefIdeal.main_arg1)
          ∧ r.2.mem ((c.tc : Thread Cert.OutBRefIdeal.nD Cert.OutBRefIdeal.τ).loc Cert.OutBRefIdeal.main_arg2) = m' ((c.tc : Thread Cert.OutBRefIdeal.nD Cert.OutBRefIdeal.τ).loc Cert.OutBRefIdeal.main_arg2))

def preserves_OutC_OutCIdeal : Prop :=
  True

def algebraic_OutCIdeal_OutCRefIdeal [hOutCIdeal : Cert.OutCIdeal.Facts] [hOutCRefIdeal : Cert.OutCRefIdeal.Facts] : Prop :=
  ∀ (m : (ℓ : Loc Cert.OutCIdeal.nD Cert.OutCIdeal.τ Cert.OutCIdeal.sig) → Buf (Elt Ideal) ℓ) (g : Dev Cert.OutCIdeal.nD → PrngReg)
    (m' : (ℓ : Loc Cert.OutCRefIdeal.nD Cert.OutCRefIdeal.τ Cert.OutCRefIdeal.sig) → Buf (Elt Ideal) ℓ) (g' : Dev Cert.OutCRefIdeal.nD → PrngReg), Pre_OutCIdeal m →
    (∀ c : Dev Cert.OutCIdeal.nD,
      m' ((c.tc : Thread Cert.OutCRefIdeal.nD Cert.OutCRefIdeal.τ).loc Cert.OutCRefIdeal.main_arg0) = m ((c.tc : Thread Cert.OutCIdeal.nD Cert.OutCIdeal.τ).loc Cert.OutCIdeal.main_arg0)
      ∧ m' ((c.tc : Thread Cert.OutCRefIdeal.nD Cert.OutCRefIdeal.τ).loc Cert.OutCRefIdeal.main_arg1) = m ((c.tc : Thread Cert.OutCIdeal.nD Cert.OutCIdeal.τ).loc Cert.OutCIdeal.main_arg1)
      ∧ m' ((c.tc : Thread Cert.OutCRefIdeal.nD Cert.OutCRefIdeal.τ).loc Cert.OutCRefIdeal.main_arg2) = m ((c.tc : Thread Cert.OutCIdeal.nD Cert.OutCIdeal.τ).loc Cert.OutCIdeal.main_arg2)) →
    ∃ (v0 : (c : Dev Cert.OutCIdeal.nD) → Buf (Elt Ideal) ((c.tc : Thread Cert.OutCIdeal.nD Cert.OutCIdeal.τ).loc Cert.OutCIdeal.main_v0)),
      θ_run (Cert.OutCIdeal.defs (F := Ideal)) (onTc (τ := Cert.OutCIdeal.τ) (Cert.OutCIdeal.main (F := Ideal))) ⟨m, fun _ => 0, g⟩ (fun r => ∀ c : Dev Cert.OutCIdeal.nD,
          r.2.mem ((c.tc : Thread Cert.OutCIdeal.nD Cert.OutCIdeal.τ).loc Cert.OutCIdeal.main_v0) = v0 c
          ∧ r.2.mem ((c.tc : Thread Cert.OutCIdeal.nD Cert.OutCIdeal.τ).loc Cert.OutCIdeal.main_arg0) = m ((c.tc : Thread Cert.OutCIdeal.nD Cert.OutCIdeal.τ).loc Cert.OutCIdeal.main_arg0)
          ∧ r.2.mem ((c.tc : Thread Cert.OutCIdeal.nD Cert.OutCIdeal.τ).loc Cert.OutCIdeal.main_arg1) = m ((c.tc : Thread Cert.OutCIdeal.nD Cert.OutCIdeal.τ).loc Cert.OutCIdeal.main_arg1)
          ∧ r.2.mem ((c.tc : Thread Cert.OutCIdeal.nD Cert.OutCIdeal.τ).loc Cert.OutCIdeal.main_arg2) = m ((c.tc : Thread Cert.OutCIdeal.nD Cert.OutCIdeal.τ).loc Cert.OutCIdeal.main_arg2))
      ∧ θ_run (Cert.OutCRefIdeal.defs (F := Ideal)) (onTc (τ := Cert.OutCRefIdeal.τ) (Cert.OutCRefIdeal.main (F := Ideal))) ⟨m', fun _ => 0, g'⟩ (fun r => ∀ c : Dev Cert.OutCRefIdeal.nD,
          r.2.mem ((c.tc : Thread Cert.OutCRefIdeal.nD Cert.OutCRefIdeal.τ).loc Cert.OutCRefIdeal.main_v3) = v0 c
          ∧ r.2.mem ((c.tc : Thread Cert.OutCRefIdeal.nD Cert.OutCRefIdeal.τ).loc Cert.OutCRefIdeal.main_arg0) = m' ((c.tc : Thread Cert.OutCRefIdeal.nD Cert.OutCRefIdeal.τ).loc Cert.OutCRefIdeal.main_arg0)
          ∧ r.2.mem ((c.tc : Thread Cert.OutCRefIdeal.nD Cert.OutCRefIdeal.τ).loc Cert.OutCRefIdeal.main_arg1) = m' ((c.tc : Thread Cert.OutCRefIdeal.nD Cert.OutCRefIdeal.τ).loc Cert.OutCRefIdeal.main_arg1)
          ∧ r.2.mem ((c.tc : Thread Cert.OutCRefIdeal.nD Cert.OutCRefIdeal.τ).loc Cert.OutCRefIdeal.main_arg2) = m' ((c.tc : Thread Cert.OutCRefIdeal.nD Cert.OutCRefIdeal.τ).loc Cert.OutCRefIdeal.main_arg2))

def preserves_NormP_NormPIdeal : Prop :=
  True

def algebraic_NormPIdeal_NormPRefIdeal [hNormPIdeal : Cert.NormPIdeal.Facts] [hNormPRefIdeal : Cert.NormPRefIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.NormPRefIdeal.nD Cert.NormPRefIdeal.τ Cert.NormPRefIdeal.sig) → Buf (Elt Ideal) ℓ) (g' : Dev Cert.NormPRefIdeal.nD → PrngReg), Pre_NormPIdeal m →
    (∀ c : Dev Cert.NormPIdeal.nD,
      m' ((c.tc : Thread Cert.NormPRefIdeal.nD Cert.NormPRefIdeal.τ).loc Cert.NormPRefIdeal.main_arg0) = m ((c.tc : Thread Cert.NormPIdeal.nD Cert.NormPIdeal.τ).loc Cert.NormPIdeal.main_arg0)
      ∧ m' ((c.tc : Thread Cert.NormPRefIdeal.nD Cert.NormPRefIdeal.τ).loc Cert.NormPRefIdeal.main_arg1) = m ((c.tc : Thread Cert.NormPIdeal.nD Cert.NormPIdeal.τ).loc Cert.NormPIdeal.main_arg1)) →
    ∃ (v0 : (c : Dev Cert.NormPIdeal.nD) → Buf (Elt Ideal) ((c.tc : Thread Cert.NormPIdeal.nD Cert.NormPIdeal.τ).loc Cert.NormPIdeal.main_v1)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v1) = v0 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ θ_run (Cert.NormPRefIdeal.defs (F := Ideal)) (onTc (τ := Cert.NormPRefIdeal.τ) (Cert.NormPRefIdeal.main (F := Ideal))) ⟨m', fun _ => 0, g'⟩ (fun r => ∀ c : Dev Cert.NormPRefIdeal.nD,
          r.2.mem ((c.tc : Thread Cert.NormPRefIdeal.nD Cert.NormPRefIdeal.τ).loc Cert.NormPRefIdeal.main_v12) = v0 c
          ∧ r.2.mem ((c.tc : Thread Cert.NormPRefIdeal.nD Cert.NormPRefIdeal.τ).loc Cert.NormPRefIdeal.main_arg0) = m' ((c.tc : Thread Cert.NormPRefIdeal.nD Cert.NormPRefIdeal.τ).loc Cert.NormPRefIdeal.main_arg0)
          ∧ r.2.mem ((c.tc : Thread Cert.NormPRefIdeal.nD Cert.NormPRefIdeal.τ).loc Cert.NormPRefIdeal.main_arg1) = m' ((c.tc : Thread Cert.NormPRefIdeal.nD Cert.NormPRefIdeal.τ).loc Cert.NormPRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v12) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_KvRows_KvRowsIdeal : Prop :=
  True

def algebraic_KvRowsIdeal_KvRowsRefIdeal [hKvRowsIdeal : Cert.KvRowsIdeal.Facts] [hKvRowsRefIdeal : Cert.KvRowsRefIdeal.Facts] : Prop :=
  ∀ (m : (ℓ : Loc Cert.KvRowsIdeal.nD Cert.KvRowsIdeal.τ Cert.KvRowsIdeal.sig) → Buf (Elt Ideal) ℓ) (g : Dev Cert.KvRowsIdeal.nD → PrngReg)
    (m' : (ℓ : Loc Cert.KvRowsRefIdeal.nD Cert.KvRowsRefIdeal.τ Cert.KvRowsRefIdeal.sig) → Buf (Elt Ideal) ℓ) (g' : Dev Cert.KvRowsRefIdeal.nD → PrngReg), Pre_KvRowsIdeal m →
    (∀ c : Dev Cert.KvRowsIdeal.nD,
      m' ((c.tc : Thread Cert.KvRowsRefIdeal.nD Cert.KvRowsRefIdeal.τ).loc Cert.KvRowsRefIdeal.main_arg0) = m ((c.tc : Thread Cert.KvRowsIdeal.nD Cert.KvRowsIdeal.τ).loc Cert.KvRowsIdeal.main_arg0)
      ∧ m' ((c.tc : Thread Cert.KvRowsRefIdeal.nD Cert.KvRowsRefIdeal.τ).loc Cert.KvRowsRefIdeal.main_arg1) = m ((c.tc : Thread Cert.KvRowsIdeal.nD Cert.KvRowsIdeal.τ).loc Cert.KvRowsIdeal.main_arg1)
      ∧ m' ((c.tc : Thread Cert.KvRowsRefIdeal.nD Cert.KvRowsRefIdeal.τ).loc Cert.KvRowsRefIdeal.main_arg2) = m ((c.tc : Thread Cert.KvRowsIdeal.nD Cert.KvRowsIdeal.τ).loc Cert.KvRowsIdeal.main_arg2)
      ∧ m' ((c.tc : Thread Cert.KvRowsRefIdeal.nD Cert.KvRowsRefIdeal.τ).loc Cert.KvRowsRefIdeal.main_arg3) = m ((c.tc : Thread Cert.KvRowsIdeal.nD Cert.KvRowsIdeal.τ).loc Cert.KvRowsIdeal.main_arg3)) →
    ∃ (v0 : (c : Dev Cert.KvRowsIdeal.nD) → Buf (Elt Ideal) ((c.tc : Thread Cert.KvRowsIdeal.nD Cert.KvRowsIdeal.τ).loc Cert.KvRowsIdeal.main_v31_1)) (v1 : (c : Dev Cert.KvRowsIdeal.nD) → Buf (Elt Ideal) ((c.tc : Thread Cert.KvRowsIdeal.nD Cert.KvRowsIdeal.τ).loc Cert.KvRowsIdeal.main_v31_2)) (v2 : (c : Dev Cert.KvRowsIdeal.nD) → Buf (Elt Ideal) ((c.tc : Thread Cert.KvRowsIdeal.nD Cert.KvRowsIdeal.τ).loc Cert.KvRowsIdeal.main_v31_3)) (v3 : (c : Dev Cert.KvRowsIdeal.nD) → Buf (Elt Ideal) ((c.tc : Thread Cert.KvRowsIdeal.nD Cert.KvRowsIdeal.τ).loc Cert.KvRowsIdeal.main_v3)) (v4 : (c : Dev Cert.KvRowsIdeal.nD) → Buf (Elt Ideal) ((c.tc : Thread Cert.KvRowsIdeal.nD Cert.KvRowsIdeal.τ).loc Cert.KvRowsIdeal.main_v4)) (v5 : (c : Dev Cert.KvRowsIdeal.nD) → Buf (Elt Ideal) ((c.tc : Thread Cert.KvRowsIdeal.nD Cert.KvRowsIdeal.τ).loc Cert.KvRowsIdeal.main_v5)),
      θ_run (Cert.KvRowsIdeal.defs (F := Ideal)) (onTc (τ := Cert.KvRowsIdeal.τ) (Cert.KvRowsIdeal.main (F := Ideal))) ⟨m, fun _ => 0, g⟩ (fun r => ∀ c : Dev Cert.KvRowsIdeal.nD,
          r.2.mem ((c.tc : Thread Cert.KvRowsIdeal.nD Cert.KvRowsIdeal.τ).loc Cert.KvRowsIdeal.main_v31_1) = v0 c
          ∧ r.2.mem ((c.tc : Thread Cert.KvRowsIdeal.nD Cert.KvRowsIdeal.τ).loc Cert.KvRowsIdeal.main_v31_2) = v1 c
          ∧ r.2.mem ((c.tc : Thread Cert.KvRowsIdeal.nD Cert.KvRowsIdeal.τ).loc Cert.KvRowsIdeal.main_v31_3) = v2 c
          ∧ r.2.mem ((c.tc : Thread Cert.KvRowsIdeal.nD Cert.KvRowsIdeal.τ).loc Cert.KvRowsIdeal.main_v3) = v3 c
          ∧ r.2.mem ((c.tc : Thread Cert.KvRowsIdeal.nD Cert.KvRowsIdeal.τ).loc Cert.KvRowsIdeal.main_v4) = v4 c
          ∧ r.2.mem ((c.tc : Thread Cert.KvRowsIdeal.nD Cert.KvRowsIdeal.τ).loc Cert.KvRowsIdeal.main_v5) = v5 c
          ∧ r.2.mem ((c.tc : Thread Cert.KvRowsIdeal.nD Cert.KvRowsIdeal.τ).loc Cert.KvRowsIdeal.main_arg0) = m ((c.tc : Thread Cert.KvRowsIdeal.nD Cert.KvRowsIdeal.τ).loc Cert.KvRowsIdeal.main_arg0)
          ∧ r.2.mem ((c.tc : Thread Cert.KvRowsIdeal.nD Cert.KvRowsIdeal.τ).loc Cert.KvRowsIdeal.main_arg1) = m ((c.tc : Thread Cert.KvRowsIdeal.nD Cert.KvRowsIdeal.τ).loc Cert.KvRowsIdeal.main_arg1)
          ∧ r.2.mem ((c.tc : Thread Cert.KvRowsIdeal.nD Cert.KvRowsIdeal.τ).loc Cert.KvRowsIdeal.main_arg2) = m ((c.tc : Thread Cert.KvRowsIdeal.nD Cert.KvRowsIdeal.τ).loc Cert.KvRowsIdeal.main_arg2)
          ∧ r.2.mem ((c.tc : Thread Cert.KvRowsIdeal.nD Cert.KvRowsIdeal.τ).loc Cert.KvRowsIdeal.main_arg3) = m ((c.tc : Thread Cert.KvRowsIdeal.nD Cert.KvRowsIdeal.τ).loc Cert.KvRowsIdeal.main_arg3))
      ∧ θ_run (Cert.KvRowsRefIdeal.defs (F := Ideal)) (onTc (τ := Cert.KvRowsRefIdeal.τ) (Cert.KvRowsRefIdeal.main (F := Ideal))) ⟨m', fun _ => 0, g'⟩ (fun r => ∀ c : Dev Cert.KvRowsRefIdeal.nD,
          r.2.mem ((c.tc : Thread Cert.KvRowsRefIdeal.nD Cert.KvRowsRefIdeal.τ).loc Cert.KvRowsRefIdeal.main_v37) = v0 c
          ∧ r.2.mem ((c.tc : Thread Cert.KvRowsRefIdeal.nD Cert.KvRowsRefIdeal.τ).loc Cert.KvRowsRefIdeal.main_v70) = v1 c
          ∧ r.2.mem ((c.tc : Thread Cert.KvRowsRefIdeal.nD Cert.KvRowsRefIdeal.τ).loc Cert.KvRowsRefIdeal.main_v103) = v2 c
          ∧ r.2.mem ((c.tc : Thread Cert.KvRowsRefIdeal.nD Cert.KvRowsRefIdeal.τ).loc Cert.KvRowsRefIdeal.main_v106) = v3 c
          ∧ r.2.mem ((c.tc : Thread Cert.KvRowsRefIdeal.nD Cert.KvRowsRefIdeal.τ).loc Cert.KvRowsRefIdeal.main_v109) = v4 c
          ∧ r.2.mem ((c.tc : Thread Cert.KvRowsRefIdeal.nD Cert.KvRowsRefIdeal.τ).loc Cert.KvRowsRefIdeal.main_v112) = v5 c
          ∧ r.2.mem ((c.tc : Thread Cert.KvRowsRefIdeal.nD Cert.KvRowsRefIdeal.τ).loc Cert.KvRowsRefIdeal.main_arg0) = m' ((c.tc : Thread Cert.KvRowsRefIdeal.nD Cert.KvRowsRefIdeal.τ).loc Cert.KvRowsRefIdeal.main_arg0)
          ∧ r.2.mem ((c.tc : Thread Cert.KvRowsRefIdeal.nD Cert.KvRowsRefIdeal.τ).loc Cert.KvRowsRefIdeal.main_arg1) = m' ((c.tc : Thread Cert.KvRowsRefIdeal.nD Cert.KvRowsRefIdeal.τ).loc Cert.KvRowsRefIdeal.main_arg1)
          ∧ r.2.mem ((c.tc : Thread Cert.KvRowsRefIdeal.nD Cert.KvRowsRefIdeal.τ).loc Cert.KvRowsRefIdeal.main_arg2) = m' ((c.tc : Thread Cert.KvRowsRefIdeal.nD Cert.KvRowsRefIdeal.τ).loc Cert.KvRowsRefIdeal.main_arg2)
          ∧ r.2.mem ((c.tc : Thread Cert.KvRowsRefIdeal.nD Cert.KvRowsRefIdeal.τ).loc Cert.KvRowsRefIdeal.main_arg3) = m' ((c.tc : Thread Cert.KvRowsRefIdeal.nD Cert.KvRowsRefIdeal.τ).loc Cert.KvRowsRefIdeal.main_arg3))

def preserves_StateS_StateSIdeal : Prop :=
  True

def algebraic_StateSIdeal_StateSRefIdeal [hStateSIdeal : Cert.StateSIdeal.Facts] [hStateSRefIdeal : Cert.StateSRefIdeal.Facts] : Prop :=
  ∀ (m : (ℓ : Loc Cert.StateSIdeal.nD Cert.StateSIdeal.τ Cert.StateSIdeal.sig) → Buf (Elt Ideal) ℓ) (g : Dev Cert.StateSIdeal.nD → PrngReg)
    (m' : (ℓ : Loc Cert.StateSRefIdeal.nD Cert.StateSRefIdeal.τ Cert.StateSRefIdeal.sig) → Buf (Elt Ideal) ℓ) (g' : Dev Cert.StateSRefIdeal.nD → PrngReg), Pre_StateSIdeal m →
    (∀ c : Dev Cert.StateSIdeal.nD,
      m' ((c.tc : Thread Cert.StateSRefIdeal.nD Cert.StateSRefIdeal.τ).loc Cert.StateSRefIdeal.main_arg0) = m ((c.tc : Thread Cert.StateSIdeal.nD Cert.StateSIdeal.τ).loc Cert.StateSIdeal.main_arg0)
      ∧ m' ((c.tc : Thread Cert.StateSRefIdeal.nD Cert.StateSRefIdeal.τ).loc Cert.StateSRefIdeal.main_arg1) = m ((c.tc : Thread Cert.StateSIdeal.nD Cert.StateSIdeal.τ).loc Cert.StateSIdeal.main_arg1)
      ∧ m' ((c.tc : Thread Cert.StateSRefIdeal.nD Cert.StateSRefIdeal.τ).loc Cert.StateSRefIdeal.main_arg2) = m ((c.tc : Thread Cert.StateSIdeal.nD Cert.StateSIdeal.τ).loc Cert.StateSIdeal.main_arg2)) →
    ∃ (v0 : (c : Dev Cert.StateSIdeal.nD) → Buf (Elt Ideal) ((c.tc : Thread Cert.StateSIdeal.nD Cert.StateSIdeal.τ).loc Cert.StateSIdeal.main_v27_1)),
      θ_run (Cert.StateSIdeal.defs (F := Ideal)) (onTc (τ := Cert.StateSIdeal.τ) (Cert.StateSIdeal.main (F := Ideal))) ⟨m, fun _ => 0, g⟩ (fun r => ∀ c : Dev Cert.StateSIdeal.nD,
          r.2.mem ((c.tc : Thread Cert.StateSIdeal.nD Cert.StateSIdeal.τ).loc Cert.StateSIdeal.main_v27_1) = v0 c
          ∧ r.2.mem ((c.tc : Thread Cert.StateSIdeal.nD Cert.StateSIdeal.τ).loc Cert.StateSIdeal.main_arg0) = m ((c.tc : Thread Cert.StateSIdeal.nD Cert.StateSIdeal.τ).loc Cert.StateSIdeal.main_arg0)
          ∧ r.2.mem ((c.tc : Thread Cert.StateSIdeal.nD Cert.StateSIdeal.τ).loc Cert.StateSIdeal.main_arg1) = m ((c.tc : Thread Cert.StateSIdeal.nD Cert.StateSIdeal.τ).loc Cert.StateSIdeal.main_arg1)
          ∧ r.2.mem ((c.tc : Thread Cert.StateSIdeal.nD Cert.StateSIdeal.τ).loc Cert.StateSIdeal.main_arg2) = m ((c.tc : Thread Cert.StateSIdeal.nD Cert.StateSIdeal.τ).loc Cert.StateSIdeal.main_arg2))
      ∧ θ_run (Cert.StateSRefIdeal.defs (F := Ideal)) (onTc (τ := Cert.StateSRefIdeal.τ) (Cert.StateSRefIdeal.main (F := Ideal))) ⟨m', fun _ => 0, g'⟩ (fun r => ∀ c : Dev Cert.StateSRefIdeal.nD,
          r.2.mem ((c.tc : Thread Cert.StateSRefIdeal.nD Cert.StateSRefIdeal.τ).loc Cert.StateSRefIdeal.main_v133) = v0 c
          ∧ r.2.mem ((c.tc : Thread Cert.StateSRefIdeal.nD Cert.StateSRefIdeal.τ).loc Cert.StateSRefIdeal.main_arg0) = m' ((c.tc : Thread Cert.StateSRefIdeal.nD Cert.StateSRefIdeal.τ).loc Cert.StateSRefIdeal.main_arg0)
          ∧ r.2.mem ((c.tc : Thread Cert.StateSRefIdeal.nD Cert.StateSRefIdeal.τ).loc Cert.StateSRefIdeal.main_arg1) = m' ((c.tc : Thread Cert.StateSRefIdeal.nD Cert.StateSRefIdeal.τ).loc Cert.StateSRefIdeal.main_arg1)
          ∧ r.2.mem ((c.tc : Thread Cert.StateSRefIdeal.nD Cert.StateSRefIdeal.τ).loc Cert.StateSRefIdeal.main_arg2) = m' ((c.tc : Thread Cert.StateSRefIdeal.nD Cert.StateSRefIdeal.τ).loc Cert.StateSRefIdeal.main_arg2))

def preserves_StateC_StateCIdeal : Prop :=
  True

def algebraic_StateCIdeal_StateCRefIdeal [hStateCIdeal : Cert.StateCIdeal.Facts] [hStateCRefIdeal : Cert.StateCRefIdeal.Facts] : Prop :=
  ∀ (m : (ℓ : Loc Cert.StateCIdeal.nD Cert.StateCIdeal.τ Cert.StateCIdeal.sig) → Buf (Elt Ideal) ℓ) (g : Dev Cert.StateCIdeal.nD → PrngReg)
    (m' : (ℓ : Loc Cert.StateCRefIdeal.nD Cert.StateCRefIdeal.τ Cert.StateCRefIdeal.sig) → Buf (Elt Ideal) ℓ) (g' : Dev Cert.StateCRefIdeal.nD → PrngReg), Pre_StateCIdeal m →
    (∀ c : Dev Cert.StateCIdeal.nD,
      m' ((c.tc : Thread Cert.StateCRefIdeal.nD Cert.StateCRefIdeal.τ).loc Cert.StateCRefIdeal.main_arg0) = m ((c.tc : Thread Cert.StateCIdeal.nD Cert.StateCIdeal.τ).loc Cert.StateCIdeal.main_arg0)
      ∧ m' ((c.tc : Thread Cert.StateCRefIdeal.nD Cert.StateCRefIdeal.τ).loc Cert.StateCRefIdeal.main_arg1) = m ((c.tc : Thread Cert.StateCIdeal.nD Cert.StateCIdeal.τ).loc Cert.StateCIdeal.main_arg1)
      ∧ m' ((c.tc : Thread Cert.StateCRefIdeal.nD Cert.StateCRefIdeal.τ).loc Cert.StateCRefIdeal.main_arg2) = m ((c.tc : Thread Cert.StateCIdeal.nD Cert.StateCIdeal.τ).loc Cert.StateCIdeal.main_arg2)
      ∧ m' ((c.tc : Thread Cert.StateCRefIdeal.nD Cert.StateCRefIdeal.τ).loc Cert.StateCRefIdeal.main_arg3) = m ((c.tc : Thread Cert.StateCIdeal.nD Cert.StateCIdeal.τ).loc Cert.StateCIdeal.main_arg3)
      ∧ m' ((c.tc : Thread Cert.StateCRefIdeal.nD Cert.StateCRefIdeal.τ).loc Cert.StateCRefIdeal.main_arg4) = m ((c.tc : Thread Cert.StateCIdeal.nD Cert.StateCIdeal.τ).loc Cert.StateCIdeal.main_arg4)
      ∧ m' ((c.tc : Thread Cert.StateCRefIdeal.nD Cert.StateCRefIdeal.τ).loc Cert.StateCRefIdeal.main_arg5) = m ((c.tc : Thread Cert.StateCIdeal.nD Cert.StateCIdeal.τ).loc Cert.StateCIdeal.main_arg5)) →
    ∃ (v0 : (c : Dev Cert.StateCIdeal.nD) → Buf (Elt Ideal) ((c.tc : Thread Cert.StateCIdeal.nD Cert.StateCIdeal.τ).loc Cert.StateCIdeal.main_v5_1)),
      θ_run (Cert.StateCIdeal.defs (F := Ideal)) (onTc (τ := Cert.StateCIdeal.τ) (Cert.StateCIdeal.main (F := Ideal))) ⟨m, fun _ => 0, g⟩ (fun r => ∀ c : Dev Cert.StateCIdeal.nD,
          r.2.mem ((c.tc : Thread Cert.StateCIdeal.nD Cert.StateCIdeal.τ).loc Cert.StateCIdeal.main_v5_1) = v0 c
          ∧ r.2.mem ((c.tc : Thread Cert.StateCIdeal.nD Cert.StateCIdeal.τ).loc Cert.StateCIdeal.main_arg0) = m ((c.tc : Thread Cert.StateCIdeal.nD Cert.StateCIdeal.τ).loc Cert.StateCIdeal.main_arg0)
          ∧ r.2.mem ((c.tc : Thread Cert.StateCIdeal.nD Cert.StateCIdeal.τ).loc Cert.StateCIdeal.main_arg1) = m ((c.tc : Thread Cert.StateCIdeal.nD Cert.StateCIdeal.τ).loc Cert.StateCIdeal.main_arg1)
          ∧ r.2.mem ((c.tc : Thread Cert.StateCIdeal.nD Cert.StateCIdeal.τ).loc Cert.StateCIdeal.main_arg2) = m ((c.tc : Thread Cert.StateCIdeal.nD Cert.StateCIdeal.τ).loc Cert.StateCIdeal.main_arg2)
          ∧ r.2.mem ((c.tc : Thread Cert.StateCIdeal.nD Cert.StateCIdeal.τ).loc Cert.StateCIdeal.main_arg3) = m ((c.tc : Thread Cert.StateCIdeal.nD Cert.StateCIdeal.τ).loc Cert.StateCIdeal.main_arg3)
          ∧ r.2.mem ((c.tc : Thread Cert.StateCIdeal.nD Cert.StateCIdeal.τ).loc Cert.StateCIdeal.main_arg4) = m ((c.tc : Thread Cert.StateCIdeal.nD Cert.StateCIdeal.τ).loc Cert.StateCIdeal.main_arg4)
          ∧ r.2.mem ((c.tc : Thread Cert.StateCIdeal.nD Cert.StateCIdeal.τ).loc Cert.StateCIdeal.main_arg5) = m ((c.tc : Thread Cert.StateCIdeal.nD Cert.StateCIdeal.τ).loc Cert.StateCIdeal.main_arg5))
      ∧ θ_run (Cert.StateCRefIdeal.defs (F := Ideal)) (onTc (τ := Cert.StateCRefIdeal.τ) (Cert.StateCRefIdeal.main (F := Ideal))) ⟨m', fun _ => 0, g'⟩ (fun r => ∀ c : Dev Cert.StateCRefIdeal.nD,
          r.2.mem ((c.tc : Thread Cert.StateCRefIdeal.nD Cert.StateCRefIdeal.τ).loc Cert.StateCRefIdeal.main_v55) = v0 c
          ∧ r.2.mem ((c.tc : Thread Cert.StateCRefIdeal.nD Cert.StateCRefIdeal.τ).loc Cert.StateCRefIdeal.main_arg0) = m' ((c.tc : Thread Cert.StateCRefIdeal.nD Cert.StateCRefIdeal.τ).loc Cert.StateCRefIdeal.main_arg0)
          ∧ r.2.mem ((c.tc : Thread Cert.StateCRefIdeal.nD Cert.StateCRefIdeal.τ).loc Cert.StateCRefIdeal.main_arg1) = m' ((c.tc : Thread Cert.StateCRefIdeal.nD Cert.StateCRefIdeal.τ).loc Cert.StateCRefIdeal.main_arg1)
          ∧ r.2.mem ((c.tc : Thread Cert.StateCRefIdeal.nD Cert.StateCRefIdeal.τ).loc Cert.StateCRefIdeal.main_arg2) = m' ((c.tc : Thread Cert.StateCRefIdeal.nD Cert.StateCRefIdeal.τ).loc Cert.StateCRefIdeal.main_arg2)
          ∧ r.2.mem ((c.tc : Thread Cert.StateCRefIdeal.nD Cert.StateCRefIdeal.τ).loc Cert.StateCRefIdeal.main_arg3) = m' ((c.tc : Thread Cert.StateCRefIdeal.nD Cert.StateCRefIdeal.τ).loc Cert.StateCRefIdeal.main_arg3)
          ∧ r.2.mem ((c.tc : Thread Cert.StateCRefIdeal.nD Cert.StateCRefIdeal.τ).loc Cert.StateCRefIdeal.main_arg4) = m' ((c.tc : Thread Cert.StateCRefIdeal.nD Cert.StateCRefIdeal.τ).loc Cert.StateCRefIdeal.main_arg4)
          ∧ r.2.mem ((c.tc : Thread Cert.StateCRefIdeal.nD Cert.StateCRefIdeal.τ).loc Cert.StateCRefIdeal.main_arg5) = m' ((c.tc : Thread Cert.StateCRefIdeal.nD Cert.StateCRefIdeal.τ).loc Cert.StateCRefIdeal.main_arg5))

def preserves_StateP_StatePIdeal : Prop :=
  True

def algebraic_StatePIdeal_StatePRefIdeal [hStatePIdeal : Cert.StatePIdeal.Facts] [hStatePRefIdeal : Cert.StatePRefIdeal.Facts] : Prop :=
  ∀ (m : (ℓ : Loc Cert.StatePIdeal.nD Cert.StatePIdeal.τ Cert.StatePIdeal.sig) → Buf (Elt Ideal) ℓ) (g : Dev Cert.StatePIdeal.nD → PrngReg)
    (m' : (ℓ : Loc Cert.StatePRefIdeal.nD Cert.StatePRefIdeal.τ Cert.StatePRefIdeal.sig) → Buf (Elt Ideal) ℓ) (g' : Dev Cert.StatePRefIdeal.nD → PrngReg), Pre_StatePIdeal m →
    (∀ c : Dev Cert.StatePIdeal.nD,
      m' ((c.tc : Thread Cert.StatePRefIdeal.nD Cert.StatePRefIdeal.τ).loc Cert.StatePRefIdeal.main_arg0) = m ((c.tc : Thread Cert.StatePIdeal.nD Cert.StatePIdeal.τ).loc Cert.StatePIdeal.main_arg0)
      ∧ m' ((c.tc : Thread Cert.StatePRefIdeal.nD Cert.StatePRefIdeal.τ).loc Cert.StatePRefIdeal.main_arg1) = m ((c.tc : Thread Cert.StatePIdeal.nD Cert.StatePIdeal.τ).loc Cert.StatePIdeal.main_arg1)
      ∧ m' ((c.tc : Thread Cert.StatePRefIdeal.nD Cert.StatePRefIdeal.τ).loc Cert.StatePRefIdeal.main_arg2) = m ((c.tc : Thread Cert.StatePIdeal.nD Cert.StatePIdeal.τ).loc Cert.StatePIdeal.main_arg2)
      ∧ m' ((c.tc : Thread Cert.StatePRefIdeal.nD Cert.StatePRefIdeal.τ).loc Cert.StatePRefIdeal.main_arg3) = m ((c.tc : Thread Cert.StatePIdeal.nD Cert.StatePIdeal.τ).loc Cert.StatePIdeal.main_arg3)
      ∧ m' ((c.tc : Thread Cert.StatePRefIdeal.nD Cert.StatePRefIdeal.τ).loc Cert.StatePRefIdeal.main_arg4) = m ((c.tc : Thread Cert.StatePIdeal.nD Cert.StatePIdeal.τ).loc Cert.StatePIdeal.main_arg4)) →
    ∃ (v0 : (c : Dev Cert.StatePIdeal.nD) → Buf (Elt Ideal) ((c.tc : Thread Cert.StatePIdeal.nD Cert.StatePIdeal.τ).loc Cert.StatePIdeal.main_v4_1)),
      θ_run (Cert.StatePIdeal.defs (F := Ideal)) (onTc (τ := Cert.StatePIdeal.τ) (Cert.StatePIdeal.main (F := Ideal))) ⟨m, fun _ => 0, g⟩ (fun r => ∀ c : Dev Cert.StatePIdeal.nD,
          r.2.mem ((c.tc : Thread Cert.StatePIdeal.nD Cert.StatePIdeal.τ).loc Cert.StatePIdeal.main_v4_1) = v0 c
          ∧ r.2.mem ((c.tc : Thread Cert.StatePIdeal.nD Cert.StatePIdeal.τ).loc Cert.StatePIdeal.main_arg0) = m ((c.tc : Thread Cert.StatePIdeal.nD Cert.StatePIdeal.τ).loc Cert.StatePIdeal.main_arg0)
          ∧ r.2.mem ((c.tc : Thread Cert.StatePIdeal.nD Cert.StatePIdeal.τ).loc Cert.StatePIdeal.main_arg1) = m ((c.tc : Thread Cert.StatePIdeal.nD Cert.StatePIdeal.τ).loc Cert.StatePIdeal.main_arg1)
          ∧ r.2.mem ((c.tc : Thread Cert.StatePIdeal.nD Cert.StatePIdeal.τ).loc Cert.StatePIdeal.main_arg2) = m ((c.tc : Thread Cert.StatePIdeal.nD Cert.StatePIdeal.τ).loc Cert.StatePIdeal.main_arg2)
          ∧ r.2.mem ((c.tc : Thread Cert.StatePIdeal.nD Cert.StatePIdeal.τ).loc Cert.StatePIdeal.main_arg3) = m ((c.tc : Thread Cert.StatePIdeal.nD Cert.StatePIdeal.τ).loc Cert.StatePIdeal.main_arg3)
          ∧ r.2.mem ((c.tc : Thread Cert.StatePIdeal.nD Cert.StatePIdeal.τ).loc Cert.StatePIdeal.main_arg4) = m ((c.tc : Thread Cert.StatePIdeal.nD Cert.StatePIdeal.τ).loc Cert.StatePIdeal.main_arg4))
      ∧ θ_run (Cert.StatePRefIdeal.defs (F := Ideal)) (onTc (τ := Cert.StatePRefIdeal.τ) (Cert.StatePRefIdeal.main (F := Ideal))) ⟨m', fun _ => 0, g'⟩ (fun r => ∀ c : Dev Cert.StatePRefIdeal.nD,
          r.2.mem ((c.tc : Thread Cert.StatePRefIdeal.nD Cert.StatePRefIdeal.τ).loc Cert.StatePRefIdeal.main_v26_5) = v0 c
          ∧ r.2.mem ((c.tc : Thread Cert.StatePRefIdeal.nD Cert.StatePRefIdeal.τ).loc Cert.StatePRefIdeal.main_arg0) = m' ((c.tc : Thread Cert.StatePRefIdeal.nD Cert.StatePRefIdeal.τ).loc Cert.StatePRefIdeal.main_arg0)
          ∧ r.2.mem ((c.tc : Thread Cert.StatePRefIdeal.nD Cert.StatePRefIdeal.τ).loc Cert.StatePRefIdeal.main_arg1) = m' ((c.tc : Thread Cert.StatePRefIdeal.nD Cert.StatePRefIdeal.τ).loc Cert.StatePRefIdeal.main_arg1)
          ∧ r.2.mem ((c.tc : Thread Cert.StatePRefIdeal.nD Cert.StatePRefIdeal.τ).loc Cert.StatePRefIdeal.main_arg2) = m' ((c.tc : Thread Cert.StatePRefIdeal.nD Cert.StatePRefIdeal.τ).loc Cert.StatePRefIdeal.main_arg2)
          ∧ r.2.mem ((c.tc : Thread Cert.StatePRefIdeal.nD Cert.StatePRefIdeal.τ).loc Cert.StatePRefIdeal.main_arg3) = m' ((c.tc : Thread Cert.StatePRefIdeal.nD Cert.StatePRefIdeal.τ).loc Cert.StatePRefIdeal.main_arg3)
          ∧ r.2.mem ((c.tc : Thread Cert.StatePRefIdeal.nD Cert.StatePRefIdeal.τ).loc Cert.StatePRefIdeal.main_arg4) = m' ((c.tc : Thread Cert.StatePRefIdeal.nD Cert.StatePRefIdeal.τ).loc Cert.StatePRefIdeal.main_arg4))

def Claim : Prop :=
  ∃ (hKernel : Cert.Kernel.Facts) (hKernelIdeal : Cert.KernelIdeal.Facts) (hReferenceIdeal : Cert.ReferenceIdeal.Facts) (hProjA : Cert.ProjA.Facts) (hProjAIdeal : Cert.ProjAIdeal.Facts) (hProjARefIdeal : Cert.ProjARefIdeal.Facts) (hProjB : Cert.ProjB.Facts) (hProjBIdeal : Cert.ProjBIdeal.Facts) (hProjBRefIdeal : Cert.ProjBRefIdeal.Facts) (hProjC : Cert.ProjC.Facts) (hProjCIdeal : Cert.ProjCIdeal.Facts) (hProjCRefIdeal : Cert.ProjCRefIdeal.Facts) (hOutA : Cert.OutA.Facts) (hOutAIdeal : Cert.OutAIdeal.Facts) (hOutARefIdeal : Cert.OutARefIdeal.Facts) (hOutB : Cert.OutB.Facts) (hOutBIdeal : Cert.OutBIdeal.Facts) (hOutBRefIdeal : Cert.OutBRefIdeal.Facts) (hOutC : Cert.OutC.Facts) (hOutCIdeal : Cert.OutCIdeal.Facts) (hOutCRefIdeal : Cert.OutCRefIdeal.Facts) (hNormP : Cert.NormP.Facts) (hNormPIdeal : Cert.NormPIdeal.Facts) (hNormPRefIdeal : Cert.NormPRefIdeal.Facts) (hNormS : Cert.NormS.Facts) (hNormSIdeal : Cert.NormSIdeal.Facts) (hNormSRefIdeal : Cert.NormSRefIdeal.Facts) (hKvRows : Cert.KvRows.Facts) (hKvRowsIdeal : Cert.KvRowsIdeal.Facts) (hKvRowsRefIdeal : Cert.KvRowsRefIdeal.Facts) (hStateS : Cert.StateS.Facts) (hStateSIdeal : Cert.StateSIdeal.Facts) (hStateSRefIdeal : Cert.StateSRefIdeal.Facts) (hStateC : Cert.StateC.Facts) (hStateCIdeal : Cert.StateCIdeal.Facts) (hStateCRefIdeal : Cert.StateCRefIdeal.Facts) (hStateP : Cert.StateP.Facts) (hStatePIdeal : Cert.StatePIdeal.Facts) (hStatePRefIdeal : Cert.StatePRefIdeal.Facts),
    quiescent_Kernel (hKernel := hKernel)
    ∧ quiescent_KernelIdeal (hKernelIdeal := hKernelIdeal)
    ∧ quiescent_ReferenceIdeal (hReferenceIdeal := hReferenceIdeal)
    ∧ quiescent_ProjA (hProjA := hProjA)
    ∧ quiescent_ProjAIdeal (hProjAIdeal := hProjAIdeal)
    ∧ quiescent_ProjARefIdeal (hProjARefIdeal := hProjARefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_ProjC (hProjC := hProjC)
    ∧ quiescent_ProjCIdeal (hProjCIdeal := hProjCIdeal)
    ∧ quiescent_ProjCRefIdeal (hProjCRefIdeal := hProjCRefIdeal)
    ∧ quiescent_OutA (hOutA := hOutA)
    ∧ quiescent_OutAIdeal (hOutAIdeal := hOutAIdeal)
    ∧ quiescent_OutARefIdeal (hOutARefIdeal := hOutARefIdeal)
    ∧ quiescent_OutB (hOutB := hOutB)
    ∧ quiescent_OutBIdeal (hOutBIdeal := hOutBIdeal)
    ∧ quiescent_OutBRefIdeal (hOutBRefIdeal := hOutBRefIdeal)
    ∧ quiescent_OutC (hOutC := hOutC)
    ∧ quiescent_OutCIdeal (hOutCIdeal := hOutCIdeal)
    ∧ quiescent_OutCRefIdeal (hOutCRefIdeal := hOutCRefIdeal)
    ∧ quiescent_NormP (hNormP := hNormP)
    ∧ quiescent_NormPIdeal (hNormPIdeal := hNormPIdeal)
    ∧ quiescent_NormPRefIdeal (hNormPRefIdeal := hNormPRefIdeal)
    ∧ quiescent_NormS (hNormS := hNormS)
    ∧ quiescent_NormSIdeal (hNormSIdeal := hNormSIdeal)
    ∧ quiescent_NormSRefIdeal (hNormSRefIdeal := hNormSRefIdeal)
    ∧ quiescent_KvRows (hKvRows := hKvRows)
    ∧ quiescent_KvRowsIdeal (hKvRowsIdeal := hKvRowsIdeal)
    ∧ quiescent_KvRowsRefIdeal (hKvRowsRefIdeal := hKvRowsRefIdeal)
    ∧ quiescent_StateS (hStateS := hStateS)
    ∧ quiescent_StateSIdeal (hStateSIdeal := hStateSIdeal)
    ∧ quiescent_StateSRefIdeal (hStateSRefIdeal := hStateSRefIdeal)
    ∧ quiescent_StateC (hStateC := hStateC)
    ∧ quiescent_StateCIdeal (hStateCIdeal := hStateCIdeal)
    ∧ quiescent_StateCRefIdeal (hStateCRefIdeal := hStateCRefIdeal)
    ∧ quiescent_StateP (hStateP := hStateP)
    ∧ quiescent_StatePIdeal (hStatePIdeal := hStatePIdeal)
    ∧ quiescent_StatePRefIdeal (hStatePRefIdeal := hStatePRefIdeal)
    ∧ preserves_Kernel_KernelIdeal
    ∧ algebraic_KernelIdeal_ReferenceIdeal (hKernelIdeal := hKernelIdeal) (hReferenceIdeal := hReferenceIdeal)
    ∧ preserves_ProjA_ProjAIdeal
    ∧ algebraic_ProjAIdeal_ProjARefIdeal (hProjAIdeal := hProjAIdeal) (hProjARefIdeal := hProjARefIdeal)
    ∧ preserves_ProjB_ProjBIdeal
    ∧ algebraic_ProjBIdeal_ProjBRefIdeal (hProjBIdeal := hProjBIdeal) (hProjBRefIdeal := hProjBRefIdeal)
    ∧ preserves_ProjC_ProjCIdeal
    ∧ algebraic_ProjCIdeal_ProjCRefIdeal (hProjCIdeal := hProjCIdeal) (hProjCRefIdeal := hProjCRefIdeal)
    ∧ preserves_OutA_OutAIdeal
    ∧ algebraic_OutAIdeal_OutARefIdeal (hOutAIdeal := hOutAIdeal) (hOutARefIdeal := hOutARefIdeal)
    ∧ preserves_OutB_OutBIdeal
    ∧ algebraic_OutBIdeal_OutBRefIdeal (hOutBIdeal := hOutBIdeal) (hOutBRefIdeal := hOutBRefIdeal)
    ∧ preserves_OutC_OutCIdeal
    ∧ algebraic_OutCIdeal_OutCRefIdeal (hOutCIdeal := hOutCIdeal) (hOutCRefIdeal := hOutCRefIdeal)
    ∧ preserves_NormP_NormPIdeal
    ∧ algebraic_NormPIdeal_NormPRefIdeal (hNormPIdeal := hNormPIdeal) (hNormPRefIdeal := hNormPRefIdeal)
    ∧ preserves_NormS_NormSIdeal
    ∧ algebraic_NormSIdeal_NormSRefIdeal (hNormSIdeal := hNormSIdeal) (hNormSRefIdeal := hNormSRefIdeal)
    ∧ preserves_KvRows_KvRowsIdeal
    ∧ algebraic_KvRowsIdeal_KvRowsRefIdeal (hKvRowsIdeal := hKvRowsIdeal) (hKvRowsRefIdeal := hKvRowsRefIdeal)
    ∧ preserves_StateS_StateSIdeal
    ∧ algebraic_StateSIdeal_StateSRefIdeal (hStateSIdeal := hStateSIdeal) (hStateSRefIdeal := hStateSRefIdeal)
    ∧ preserves_StateC_StateCIdeal
    ∧ algebraic_StateCIdeal_StateCRefIdeal (hStateCIdeal := hStateCIdeal) (hStateCRefIdeal := hStateCRefIdeal)
    ∧ preserves_StateP_StatePIdeal
    ∧ algebraic_StatePIdeal_StatePRefIdeal (hStatePIdeal := hStatePIdeal) (hStatePRefIdeal := hStatePRefIdeal)
-- ==== Kernel.lean ====
abbrev S4x2048x12288 : Shape := ⟨3, ![4, 2048, 12288]⟩
abbrev S8x512 : Shape := ⟨2, ![8, 512]⟩
abbrev S2048 : Shape := ⟨1, ![2048]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S8 : Shape := ⟨1, ![8]⟩
abbrev S8x1x512 : Shape := ⟨3, ![8, 1, 512]⟩
abbrev S4x2048x4096 : Shape := ⟨3, ![4, 2048, 4096]⟩
abbrev S4x8x256x512 : Shape := ⟨4, ![4, 8, 256, 512]⟩
abbrev S1x2048x256 : Shape := ⟨3, ![1, 2048, 256]⟩
abbrev S1x2048x512 : Shape := ⟨3, ![1, 2048, 512]⟩
abbrev S1x1x512 : Shape := ⟨3, ![1, 1, 512]⟩
abbrev S1x1x256x512 : Shape := ⟨4, ![1, 1, 256, 512]⟩
abbrev S256x512 : Shape := ⟨2, ![256, 512]⟩
abbrev S1 : Shape := ⟨1, ![1]⟩
abbrev S128x128 : Shape := ⟨2, ![128, 128]⟩
abbrev S128x1 : Shape := ⟨2, ![128, 1]⟩
abbrev S1x1 : Shape := ⟨2, ![1, 1]⟩
abbrev S1x512 : Shape := ⟨2, ![1, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩

abbrev nBuf : Space → Nat
  | .hbm => 33
  | .vmem => 16
  | .smem => 1
  | _ => 0

abbrev bufTy : (tb : Table) → Fin (tcTables nBuf tb) → BufTy
  | .hbm, ⟨0, _⟩ => ⟨S4x2048x12288, .f32⟩
  | .hbm, ⟨1, _⟩ => ⟨S8x512, .f32⟩
  | .hbm, ⟨2, _⟩ => ⟨S2048, .i32⟩
  | .hbm, ⟨3, _⟩ => ⟨S128, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S2048, .f32⟩
  | .hbm, ⟨12, _⟩ => ⟨S2048x1, .f32⟩
  | .hbm, ⟨13, _⟩ => ⟨S1x128, .f32⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S8, .f32⟩
  | .hbm, ⟨30, _⟩ => ⟨S8x1x512, .f32⟩
  | .hbm, ⟨31, _⟩ => ⟨S4x2048x4096, .bf16⟩
  | .hbm, ⟨32, _⟩ => ⟨S4x8x256x512, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S2048x128, .f32⟩
  | .local _ .vmem, ⟨9, _⟩ => ⟨S2048x128, .f32⟩
  | .local _ .vmem, ⟨10, _⟩ => ⟨S1x1x512, .f32⟩
  | .local _ .vmem, ⟨11, _⟩ => ⟨S1x1x512, .f32⟩
  | .local _ .vmem, ⟨12, _⟩ => ⟨S1x2048x512, .bf16⟩
  | .local _ .vmem, ⟨13, _⟩ => ⟨S1x2048x512, .bf16⟩
  | .local _ .vmem, ⟨14, _⟩ => ⟨S1x1x256x512, .f32⟩
  | .local _ .vmem, ⟨15, _⟩ => ⟨S1x1x256x512, .f32⟩
  | .local _ .smem, ⟨0, _⟩ => ⟨S8, .f32⟩
  | _, _ => ⟨S4x2048x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def k0_off1 (i : grid0.Coords) : Fin 1 → Nat :=
  let arg1 : BitVec 32 := BitVec.ofNat 32 (i 1).val
  let v4 : Index := Scalar.indexCast arg1
  ![v4.toNat]
@[reducible] def k0_t1_loop : Scf.Loop 32 :=
  let c0_i32 : BitVec 32 := 0#32
  let c16_i32 : BitVec 32 := 16#32
  let v36 : BitVec 32 := Scalar.addi c0_i32 c16_i32
  let c1_i32 : BitVec 32 := 1#32
  ⟨c0_i32, v36, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v37 : BitVec 32 := Scalar.muli arg12 c128_i32
  v37
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v37 : BitVec 32 := Scalar.muli arg12 c128_i32
  let v38 : BitVec 32 := v37
  let v39 : Index := Scalar.indexCast v38
  let c0_13 : Index := 0#32
  ![v39.toNat, 0]
def k0_off3 (k0_t1 : Fin k0_t1_loop.trips) : Fin 3 → Nat :=
  let c0_15 : Index := 0#32
  let c0_i32 : BitVec 32 := 0#32
  let c1_i32 : BitVec 32 := 1#32
  let arg12 : BitVec 32 := Scf.iv c0_i32 c1_i32 k0_t1
  let c128_i32 : BitVec 32 := 128#32
  let v37 : BitVec 32 := Scalar.muli arg12 c128_i32
  let v38 : BitVec 32 := v37
  let v45 : Index := Scalar.indexCast v38
  let c0_16 : Index := 0#32
  ![0, v45.toNat, 0]
def k0_off4 (k0_t1 : Fin k0_t1_loop.trips) : Fin 3 → Nat :=
  let c0_20 : Index := 0#32
  let c0_i32 : BitVec 32 := 0#32
  let c1_i32 : BitVec 32 := 1#32
  let arg12 : BitVec 32 := Scf.iv c0_i32 c1_i32 k0_t1
  let c128_i32 : BitVec 32 := 128#32
  let v37 : BitVec 32 := Scalar.muli arg12 c128_i32
  let v38 : BitVec 32 := v37
  let v71 : Index := Scalar.indexCast v38
  let c0_21 : Index := 0#32
  ![0, v71.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x12288 : Shape := ⟨3, ![4, 2048, 12288]⟩
abbrev S8x512 : Shape := ⟨2, ![8, 512]⟩
abbrev S2048 : Shape := ⟨1, ![2048]⟩
abbrev S_ : Shape := ⟨0, ![]⟩
abbrev S4x8x256x512 : Shape := ⟨4, ![4, 8, 256, 512]⟩
abbrev S4x2048x2048 : Shape := ⟨3, ![4, 2048, 2048]⟩
abbrev S4x2048x8x256 : Shape := ⟨4, ![4, 2048, 8, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S4x2048x8x0 : Shape := ⟨4, ![4, 2048, 8, 0]⟩
abbrev S4x2048x4096 : Shape := ⟨3, ![4, 2048, 4096]⟩
abbrev S4x2048x8x512 : Shape := ⟨4, ![4, 2048, 8, 512]⟩
abbrev S4x16x128x8x256 : Shape := ⟨5, ![4, 16, 128, 8, 256]⟩
abbrev S16x4x128x8x256 : Shape := ⟨5, ![16, 4, 128, 8, 256]⟩
abbrev S4x16x128x8x512 : Shape := ⟨5, ![4, 16, 128, 8, 512]⟩
abbrev S16x4x128x8x512 : Shape := ⟨5, ![16, 4, 128, 8, 512]⟩
abbrev S1x4x128x8x256 : Shape := ⟨5, ![1, 4, 128, 8, 256]⟩
abbrev S4x128x8x256 : Shape := ⟨4, ![4, 128, 8, 256]⟩
abbrev S1x4x128x8x512 : Shape := ⟨5, ![1, 4, 128, 8, 512]⟩
abbrev S4x128x8x512 : Shape := ⟨4, ![4, 128, 8, 512]⟩
abbrev S8 : Shape := ⟨1, ![8]⟩
abbrev S128x1 : Shape := ⟨2, ![128, 1]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S4x8x128x128 : Shape := ⟨4, ![4, 8, 128, 128]⟩
abbrev S1x8x128x128 : Shape := ⟨4, ![1, 8, 128, 128]⟩
abbrev S4x8x512x128 : Shape := ⟨4, ![4, 8, 512, 128]⟩
abbrev S1x8 : Shape := ⟨2, ![1, 8]⟩
abbrev S128x8 : Shape := ⟨2, ![128, 8]⟩
abbrev S1x128x8x1 : Shape := ⟨4, ![1, 128, 8, 1]⟩
abbrev S1x8x1x1 : Shape := ⟨4, ![1, 8, 1, 1]⟩
abbrev S4x2048x8 : Shape := ⟨3, ![4, 2048, 8]⟩
abbrev S4x2048x8x1 : Shape := ⟨4, ![4, 2048, 8, 1]⟩
abbrev S1x1x8x512 : Shape := ⟨4, ![1, 1, 8, 512]⟩

abbrev nBuf : Space → Nat
  | .hbm => 238
  | .vmem => 0
  | .smem => 0
  | _ => 0

abbrev hbmTy0_0 (i : Nat) : BufTy := match i % 128 with
  | 0 => ⟨S4x2048x12288, .f32⟩
  | 1 => ⟨S8x512, .f32⟩
  | 2 => ⟨S2048, .i32⟩
  | 3 => ⟨S_, .f32⟩
  | 4 => ⟨S4x8x256x512, .f32⟩
  | 5 => ⟨S4x2048x2048, .f32⟩
  | 6 => ⟨S4x2048x8x256, .f32⟩
  | 7 => ⟨S128, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S2048, .f32⟩
  | 16 => ⟨S2048x1, .f32⟩
  | 17 => ⟨S1x128, .f32⟩
  | 18 => ⟨S2048x128, .f32⟩
  | 19 => ⟨S2048x128, .f32⟩
  | 20 => ⟨S2048x128, .f32⟩
  | 21 => ⟨S2048x128, .f32⟩
  | 22 => ⟨S1x2048x1x128, .f32⟩
  | 23 => ⟨S2048x128, .f32⟩
  | 24 => ⟨S1x2048x1x128, .f32⟩
  | 25 => ⟨S4x2048x8x128, .f32⟩
  | 26 => ⟨S4x2048x8x128, .f32⟩
  | 27 => ⟨S4x2048x8x128, .f32⟩
  | 28 => ⟨S4x2048x8x128, .f32⟩
  | 29 => ⟨S4x2048x8x128, .f32⟩
  | 30 => ⟨S4x2048x8x128, .f32⟩
  | 31 => ⟨S4x2048x8x128, .f32⟩
  | 32 => ⟨S4x2048x8x128, .f32⟩
  | 33 => ⟨S4x2048x8x128, .f32⟩
  | 34 => ⟨S4x2048x8x128, .f32⟩
  | 35 => ⟨S4x2048x8x128, .f32⟩
  | 36 => ⟨S4x2048x8x128, .f32⟩
  | 37 => ⟨S4x2048x8x0, .f32⟩
  | 38 => ⟨S4x2048x8x256, .f32⟩
  | 39 => ⟨S4x2048x2048, .f32⟩
  | 40 => ⟨S4x2048x8x256, .f32⟩
  | 41 => ⟨S128, .f32⟩
  | 42 => ⟨S128, .f32⟩
  | 43 => ⟨S_, .f32⟩
  | 44 => ⟨S128, .f32⟩
  | 45 => ⟨S128, .f32⟩
  | 46 => ⟨S_, .f32⟩
  | 47 => ⟨S128, .f32⟩
  | 48 => ⟨S128, .f32⟩
  | 49 => ⟨S2048, .f32⟩
  | 50 => ⟨S2048x1, .f32⟩
  | 51 => ⟨S1x128, .f32⟩
  | 52 => ⟨S2048x128, .f32⟩
  | 53 => ⟨S2048x128, .f32⟩
  | 54 => ⟨S2048x128, .f32⟩
  | 55 => ⟨S2048x128, .f32⟩
  | 56 => ⟨S1x2048x1x128, .f32⟩
  | 57 => ⟨S2048x128, .f32⟩
  | 58 => ⟨S1x2048x1x128, .f32⟩
  | 59 => ⟨S4x2048x8x128, .f32⟩
  | 60 => ⟨S4x2048x8x128, .f32⟩
  | 61 => ⟨S4x2048x8x128, .f32⟩
  | 62 => ⟨S4x2048x8x128, .f32⟩
  | 63 => ⟨S4x2048x8x128, .f32⟩
  | 64 => ⟨S4x2048x8x128, .f32⟩
  | 65 => ⟨S4x2048x8x128, .f32⟩
  | 66 => ⟨S4x2048x8x128, .f32⟩
  | 67 => ⟨S4x2048x8x128, .f32⟩
  | 68 => ⟨S4x2048x8x128, .f32⟩
  | 69 => ⟨S4x2048x8x128, .f32⟩
  | 70 => ⟨S4x2048x8x128, .f32⟩
  | 71 => ⟨S4x2048x8x0, .f32⟩
  | 72 => ⟨S4x2048x8x256, .f32⟩
  | 73 => ⟨S_, .f32⟩
  | 74 => ⟨S4x2048x8x256, .f32⟩
  | 75 => ⟨S4x2048x8x256, .f32⟩
  | 76 => ⟨S4x2048x4096, .f32⟩
  | 77 => ⟨S4x2048x8x512, .f32⟩
  | 78 => ⟨S4x16x128x8x256, .f32⟩
  | 79 => ⟨S16x4x128x8x256, .f32⟩
  | 80 => ⟨S4x16x128x8x256, .f32⟩
  | 81 => ⟨S16x4x128x8x256, .f32⟩
  | 82 => ⟨S4x16x128x8x512, .f32⟩
  | 83 => ⟨S16x4x128x8x512, .f32⟩
  | 84 => ⟨S_, .f32⟩
  | 85 => ⟨S16x4x128x8x512, .f32⟩
  | 86 => ⟨S_, .i32⟩
  | 87 => ⟨S16x4x128x8x256, .f32⟩
  | 88 => ⟨S16x4x128x8x256, .f32⟩
  | 89 => ⟨S16x4x128x8x512, .f32⟩
  | 90 => ⟨S_, .i32⟩
  | 91 => ⟨S4x8x256x512, .f32⟩
  | 92 => ⟨S16x4x128x8x512, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x4x128x8x256, .f32⟩
  | 100 => ⟨S4x128x8x256, .f32⟩
  | 101 => ⟨S_, .i32⟩
  | 102 => ⟨S_, .i32⟩
  | 103 => ⟨S_, .i32⟩
  | 104 => ⟨S_, .i32⟩
  | 105 => ⟨S1x4x128x8x256, .f32⟩
  | 106 => ⟨S4x128x8x256, .f32⟩
  | 107 => ⟨S_, .i32⟩
  | 108 => ⟨S_, .i32⟩
  | 109 => ⟨S_, .i32⟩
  | 110 => ⟨S_, .i32⟩
  | 111 => ⟨S1x4x128x8x512, .f32⟩
  | 112 => ⟨S4x128x8x512, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S_, .f32⟩
  | 121 => ⟨S8, .f32⟩
  | 122 => ⟨S8, .f32⟩
  | 123 => ⟨S8, .f32⟩
  | 124 => ⟨S128, .f32⟩
  | 125 => ⟨S128x1, .f32⟩
  | 126 => ⟨S1x128, .f32⟩
  | 127 => ⟨S128x128, .f32⟩
  | _ => ⟨S4x2048x12288, .f32⟩

abbrev hbmTy0_1 (i : Nat) : BufTy := match i % 128 with
  | 0 => ⟨S128x128, .f32⟩
  | 1 => ⟨S128x128, .f32⟩
  | 2 => ⟨S_, .f32⟩
  | 3 => ⟨S128x128, .f32⟩
  | 4 => ⟨S128x128, .i1⟩
  | 5 => ⟨S8x1x1, .f32⟩
  | 6 => ⟨S_, .f32⟩
  | 7 => ⟨S128x128, .f32⟩
  | 8 => ⟨S128x128, .f32⟩
  | 9 => ⟨S1x128x128, .f32⟩
  | 10 => ⟨S8x128x128, .f32⟩
  | 11 => ⟨S8x128x128, .f32⟩
  | 12 => ⟨S8x128x128, .f32⟩
  | 13 => ⟨S8x128x128, .f32⟩
  | 14 => ⟨S_, .f32⟩
  | 15 => ⟨S_, .f32⟩
  | 16 => ⟨S8x128x128, .i1⟩
  | 17 => ⟨S8x128x128, .f32⟩
  | 18 => ⟨S8x128x128, .f32⟩
  | 19 => ⟨S4x8x128x128, .f32⟩
  | 20 => ⟨S1x8x128x128, .f32⟩
  | 21 => ⟨S4x8x128x128, .f32⟩
  | 22 => ⟨S4x8x128x128, .f32⟩
  | 23 => ⟨S4x8x512x128, .f32⟩
  | 24 => ⟨S4x128x8x512, .f32⟩
  | 25 => ⟨S4x8x512x128, .f32⟩
  | 26 => ⟨S4x128x8x512, .f32⟩
  | 27 => ⟨S1x8, .f32⟩
  | 28 => ⟨S128x1, .f32⟩
  | 29 => ⟨S_, .f32⟩
  | 30 => ⟨S128x1, .f32⟩
  | 31 => ⟨S128x1, .f32⟩
  | 32 => ⟨S128x8, .f32⟩
  | 33 => ⟨S128x8, .f32⟩
  | 34 => ⟨S128x8, .f32⟩
  | 35 => ⟨S128x8, .f32⟩
  | 36 => ⟨S1x128x8x1, .f32⟩
  | 37 => ⟨S4x128x8x512, .f32⟩
  | 38 => ⟨S4x128x8x512, .f32⟩
  | 39 => ⟨S1x8, .f32⟩
  | 40 => ⟨S128x1, .f32⟩
  | 41 => ⟨S_, .f32⟩
  | 42 => ⟨S128x1, .f32⟩
  | 43 => ⟨S128x1, .f32⟩
  | 44 => ⟨S128x8, .f32⟩
  | 45 => ⟨S128x8, .f32⟩
  | 46 => ⟨S128x8, .f32⟩
  | 47 => ⟨S128x8, .f32⟩
  | 48 => ⟨S1x128x8x1, .f32⟩
  | 49 => ⟨S4x128x8x256, .f32⟩
  | 50 => ⟨S4x128x8x256, .f32⟩
  | 51 => ⟨S_, .f32⟩
  | 52 => ⟨S8, .f32⟩
  | 53 => ⟨S8, .f32⟩
  | 54 => ⟨S8, .f32⟩
  | 55 => ⟨S1x8x1x1, .f32⟩
  | 56 => ⟨S4x8x256x512, .f32⟩
  | 57 => ⟨S4x8x256x512, .f32⟩
  | 58 => ⟨S4x8x256x512, .f32⟩
  | 59 => ⟨S4x8x256x512, .f32⟩
  | 60 => ⟨S4x128x8x512, .f32⟩
  | 61 => ⟨S1x4x128x8x512, .f32⟩
  | 62 => ⟨S_, .i32⟩
  | 63 => ⟨S_, .i32⟩
  | 64 => ⟨S_, .i32⟩
  | 65 => ⟨S_, .i32⟩
  | 66 => ⟨S16x4x128x8x512, .f32⟩
  | 67 => ⟨S_, .i32⟩
  | 68 => ⟨S_, .i32⟩
  | 69 => ⟨S4x16x128x8x512, .f32⟩
  | 70 => ⟨S4x2048x8x512, .f32⟩
  | 71 => ⟨S_, .f32⟩
  | 72 => ⟨S4x2048x8, .f32⟩
  | 73 => ⟨S4x2048x8x1, .f32⟩
  | 74 => ⟨S_, .f32⟩
  | 75 => ⟨S4x2048x8x1, .f32⟩
  | 76 => ⟨S4x2048x8x1, .f32⟩
  | 77 => ⟨S4x2048x8x512, .f32⟩
  | 78 => ⟨S4x2048x8x512, .f32⟩
  | 79 => ⟨S4x2048x8x512, .f32⟩
  | 80 => ⟨S_, .f32⟩
  | 81 => ⟨S4x2048x8, .f32⟩
  | 82 => ⟨S4x2048x8x1, .f32⟩
  | 83 => ⟨S_, .f32⟩
  | 84 => ⟨S4x2048x8x1, .f32⟩
  | 85 => ⟨S4x2048x8x1, .f32⟩
  | 86 => ⟨S4x2048x8x512, .f32⟩
  | 87 => ⟨S4x2048x8x512, .f32⟩
  | 88 => ⟨S_, .f32⟩
  | 89 => ⟨S4x2048x8x1, .f32⟩
  | 90 => ⟨S4x2048x8x1, .f32⟩
  | 91 => ⟨S4x2048x8x1, .f32⟩
  | 92 => ⟨S4x2048x8x512, .f32⟩
  | 93 => ⟨S4x2048x8x512, .f32⟩
  | 94 => ⟨S1x1x8x512, .f32⟩
  | 95 => ⟨S4x2048x8x512, .f32⟩
  | 96 => ⟨S4x2048x8x512, .f32⟩
  | 97 => ⟨S4x2048x4096, .f32⟩
  | 98 => ⟨S4x2048x4096, .f32⟩
  | 99 => ⟨S4x2048x4096, .f32⟩
  | 100 => ⟨S4x2048x4096, .f32⟩
  | 101 => ⟨S_, .f32⟩
  | 102 => ⟨S4x2048x4096, .f32⟩
  | 103 => ⟨S4x2048x4096, .f32⟩
  | 104 => ⟨S_, .f32⟩
  | 105 => ⟨S4x2048x4096, .f32⟩
  | 106 => ⟨S4x2048x4096, .f32⟩
  | 107 => ⟨S4x2048x4096, .f32⟩
  | 108 => ⟨S4x2048x4096, .f32⟩
  | 109 => ⟨S4x2048x4096, .bf16⟩
  | _ => ⟨S4x2048x12288, .f32⟩

abbrev hbmTy (i : Nat) : BufTy := match i / 128 with
  | 0 => hbmTy0_0 i
  | 1 => hbmTy0_1 i
  | _ => ⟨S4x2048x12288, .f32⟩

abbrev bufTy : (tb : Table) → Fin (tcTables nBuf tb) → BufTy
  | .hbm, ⟨i, _⟩ => hbmTy i
  | _, _ => ⟨S4x2048x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_cst_4 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_cst_5 : Ref sig .tc := ⟨.hbm, 84, rfl⟩
abbrev main_v76 : Ref sig .tc := ⟨.hbm, 85, rfl⟩
abbrev main_c : Ref sig .tc := ⟨.hbm, 86, rfl⟩
abbrev main_v77_0 : Ref sig .tc := ⟨.hbm, 87, rfl⟩
abbrev main_v77_1 : Ref sig .tc := ⟨.hbm, 88, rfl⟩
abbrev main_v77_2 : Ref sig .tc := ⟨.hbm, 89, rfl⟩
abbrev main_v77_3 : Ref sig .tc := ⟨.hbm, 90, rfl⟩
abbrev main_v77_4 : Ref sig .tc := ⟨.hbm, 91, rfl⟩
abbrev main_v77_5 : Ref sig .tc := ⟨.hbm, 92, rfl⟩
abbrev main_while0c_c_16 : Ref sig .tc := ⟨.hbm, 93, rfl⟩
abbrev main_while0c_v106 : Ref sig .tc := ⟨.hbm, 94, rfl⟩
abbrev main_while0b_call0_c : Ref sig .tc := ⟨.hbm, 95, rfl⟩
abbrev main_while0b_call0_c_0 : Ref sig .tc := ⟨.hbm, 96, rfl⟩
abbrev main_while0b_call0_c_1 : Ref sig .tc := ⟨.hbm, 97, rfl⟩
abbrev main_while0b_call0_c_2 : Ref sig .tc := ⟨.hbm, 98, rfl⟩
abbrev main_while0b_call0_v0 : Ref sig .tc := ⟨.hbm, 99, rfl⟩
abbrev main_while0b_v106 : Ref sig .tc := ⟨.hbm, 100, rfl⟩
abbrev main_while0b_call1_c : Ref sig .tc := ⟨.hbm, 101, rfl⟩
abbrev main_while0b_call1_c_0 : Ref sig .tc := ⟨.hbm, 102, rfl⟩
abbrev main_while0b_call1_c_1 : Ref sig .tc := ⟨.hbm, 103, rfl⟩
abbrev main_while0b_call1_c_2 : Ref sig .tc := ⟨.hbm, 104, rfl⟩
abbrev main_while0b_call1_v0 : Ref sig .tc := ⟨.hbm, 105, rfl⟩
abbrev main_while0b_v107 : Ref sig .tc := ⟨.hbm, 106, rfl⟩
abbrev main_while0b_call2_c : Ref sig .tc := ⟨.hbm, 107, rfl⟩
abbrev main_while0b_call2_c_0 : Ref sig .tc := ⟨.hbm, 108, rfl⟩
abbrev main_while0b_call2_c_1 : Ref sig .tc := ⟨.hbm, 109, rfl⟩
abbrev main_while0b_call2_c_2 : Ref sig .tc := ⟨.hbm, 110, rfl⟩
abbrev main_while0b_call2_v0 : Ref sig .tc := ⟨.hbm, 111, rfl⟩
abbrev main_while0b_v108 : Ref sig .tc := ⟨.hbm, 112, rfl⟩
abbrev main_while0b_v109 : Ref sig .tc := ⟨.hbm, 113, rfl⟩
abbrev main_while0b_cst_16 : Ref sig .tc := ⟨.hbm, 114, rfl⟩
abbrev main_while0b_v110 : Ref sig .tc := ⟨.hbm, 115, rfl⟩
abbrev main_while0b_v111 : Ref sig .tc := ⟨.hbm, 116, rfl⟩
abbrev main_while0b_cst_17 : Ref sig .tc := ⟨.hbm, 117, rfl⟩
abbrev main_while0b_v112 : Ref sig .tc := ⟨.hbm, 118, rfl⟩
abbrev main_while0b_v113 : Ref sig .tc := ⟨.hbm, 119, rfl⟩
abbrev main_while0b_cst_18 : Ref sig .tc := ⟨.hbm, 120, rfl⟩
abbrev main_while0b_v114 : Ref sig .tc := ⟨.hbm, 121, rfl⟩
abbrev main_while0b_v115 : Ref sig .tc := ⟨.hbm, 122, rfl⟩
abbrev main_while0b_v116 : Ref sig .tc := ⟨.hbm, 123, rfl⟩
abbrev main_while0b_v117 : Ref sig .tc := ⟨.hbm, 124, rfl⟩
abbrev main_while0b_v118 : Ref sig .tc := ⟨.hbm, 125, rfl⟩
abbrev main_while0b_v119 : Ref sig .tc := ⟨.hbm, 126, rfl⟩
abbrev main_while0b_v120 : Ref sig .tc := ⟨.hbm, 127, rfl⟩
abbrev main_while0b_v121 : Ref sig .tc := ⟨.hbm, 128, rfl⟩
abbrev main_while0b_v122 : Ref sig .tc := ⟨.hbm, 129, rfl⟩
abbrev main_while0b_cst_19 : Ref sig .tc := ⟨.hbm, 130, rfl⟩
abbrev main_while0b_v123 : Ref sig .tc := ⟨.hbm, 131, rfl⟩
abbrev main_while0b_v124 : Ref sig .tc := ⟨.hbm, 132, rfl⟩
abbrev main_while0b_v125 : Ref sig .tc := ⟨.hbm, 133, rfl⟩
abbrev main_while0b_cst_20 : Ref sig .tc := ⟨.hbm, 134, rfl⟩
abbrev main_while0b_v126 : Ref sig .tc := ⟨.hbm, 135, rfl⟩
abbrev main_while0b_v127 : Ref sig .tc := ⟨.hbm, 136, rfl⟩
abbrev main_while0b_v128 : Ref sig .tc := ⟨.hbm, 137, rfl⟩
abbrev main_while0b_v129 : Ref sig .tc := ⟨.hbm, 138, rfl⟩
abbrev main_while0b_v130 : Ref sig .tc := ⟨.hbm, 139, rfl⟩
abbrev main_while0b_v131 : Ref sig .tc := ⟨.hbm, 140, rfl⟩
abbrev main_while0b_v132 : Ref sig .tc := ⟨.hbm, 141, rfl⟩
abbrev main_while0b_cst_21 : Ref sig .tc := ⟨.hbm, 142, rfl⟩
abbrev main_while0b_call3_v0 : Ref sig .tc := ⟨.hbm, 143, rfl⟩
abbrev main_while0b_call3_v1 : Ref sig .tc := ⟨.hbm, 144, rfl⟩
abbrev main_while0b_call3_v2 : Ref sig .tc := ⟨.hbm, 145, rfl⟩
abbrev main_while0b_v133 : Ref sig .tc := ⟨.hbm, 146, rfl⟩
abbrev main_while0b_v134 : Ref sig .tc := ⟨.hbm, 147, rfl⟩
abbrev main_while0b_v135 : Ref sig .tc := ⟨.hbm, 148, rfl⟩
abbrev main_while0b_v136 : Ref sig .tc := ⟨.hbm, 149, rfl⟩
abbrev main_while0b_v137 : Ref sig .tc := ⟨.hbm, 150, rfl⟩
abbrev main_while0b_v138 : Ref sig .tc := ⟨.hbm, 151, rfl⟩
abbrev main_while0b_v139 : Ref sig .tc := ⟨.hbm, 152, rfl⟩
abbrev main_while0b_v140 : Ref sig .tc := ⟨.hbm, 153, rfl⟩
abbrev main_while0b_v141 : Ref sig .tc := ⟨.hbm, 154, rfl⟩
abbrev main_while0b_v142 : Ref sig .tc := ⟨.hbm, 155, rfl⟩
abbrev main_while0b_v143 : Ref sig .tc := ⟨.hbm, 156, rfl⟩
abbrev main_while0b_cst_22 : Ref sig .tc := ⟨.hbm, 157, rfl⟩
abbrev main_while0b_v144 : Ref sig .tc := ⟨.hbm, 158, rfl⟩
abbrev main_while0b_v145 : Ref sig .tc := ⟨.hbm, 159, rfl⟩
abbrev main_while0b_v146 : Ref sig .tc := ⟨.hbm, 160, rfl⟩
abbrev main_while0b_v147 : Ref sig .tc := ⟨.hbm, 161, rfl⟩
abbrev main_while0b_v148 : Ref sig .tc := ⟨.hbm, 162, rfl⟩
abbrev main_while0b_v149 : Ref sig .tc := ⟨.hbm, 163, rfl⟩
abbrev main_while0b_v150 : Ref sig .tc := ⟨.hbm, 164, rfl⟩
abbrev main_while0b_v151 : Ref sig .tc := ⟨.hbm, 165, rfl⟩
abbrev main_while0b_v152 : Ref sig .tc := ⟨.hbm, 166, rfl⟩
abbrev main_while0b_v153 : Ref sig .tc := ⟨.hbm, 167, rfl⟩
abbrev main_while0b_v154 : Ref sig .tc := ⟨.hbm, 168, rfl⟩
abbrev main_while0b_cst_23 : Ref sig .tc := ⟨.hbm, 169, rfl⟩
abbrev main_while0b_v155 : Ref sig .tc := ⟨.hbm, 170, rfl⟩
abbrev main_while0b_v156 : Ref sig .tc := ⟨.hbm, 171, rfl⟩
abbrev main_while0b_v157 : Ref sig .tc := ⟨.hbm, 172, rfl⟩
abbrev main_while0b_v158 : Ref sig .tc := ⟨.hbm, 173, rfl⟩
abbrev main_while0b_v159 : Ref sig .tc := ⟨.hbm, 174, rfl⟩
abbrev main_while0b_v160 : Ref sig .tc := ⟨.hbm, 175, rfl⟩
abbrev main_while0b_v161 : Ref sig .tc := ⟨.hbm, 176, rfl⟩
abbrev main_while0b_v162 : Ref sig .tc := ⟨.hbm, 177, rfl⟩
abbrev main_while0b_v163 : Ref sig .tc := ⟨.hbm, 178, rfl⟩
abbrev main_while0b_cst_24 : Ref sig .tc := ⟨.hbm, 179, rfl⟩
abbrev main_while0b_v164 : Ref sig .tc := ⟨.hbm, 180, rfl⟩
abbrev main_while0b_v165 : Ref sig .tc := ⟨.hbm, 181, rfl⟩
abbrev main_while0b_v166 : Ref sig .tc := ⟨.hbm, 182, rfl⟩
abbrev main_while0b_v167 : Ref sig .tc := ⟨.hbm, 183, rfl⟩
abbrev main_while0b_v168 : Ref sig .tc := ⟨.hbm, 184, rfl⟩
abbrev main_while0b_v169 : Ref sig .tc := ⟨.hbm, 185, rfl⟩
abbrev main_while0b_v170 : Ref sig .tc := ⟨.hbm, 186, rfl⟩
abbrev main_while0b_v171 : Ref sig .tc := ⟨.hbm, 187, rfl⟩
abbrev main_while0b_v172 : Ref sig .tc := ⟨.hbm, 188, rfl⟩
abbrev main_while0b_call4_v0 : Ref sig .tc := ⟨.hbm, 189, rfl⟩
abbrev main_while0b_call4_c : Ref sig .tc := ⟨.hbm, 190, rfl⟩
abbrev main_while0b_call4_c_0 : Ref sig .tc := ⟨.hbm, 191, rfl⟩
abbrev main_while0b_call4_c_1 : Ref sig .tc := ⟨.hbm, 192, rfl⟩
abbrev main_while0b_call4_c_2 : Ref sig .tc := ⟨.hbm, 193, rfl⟩
abbrev main_while0b_v173 : Ref sig .tc := ⟨.hbm, 194, rfl⟩
abbrev main_while0b_c_25 : Ref sig .tc := ⟨.hbm, 195, rfl⟩
abbrev main_while0b_v174 : Ref sig .tc := ⟨.hbm, 196, rfl⟩
abbrev main_v78 : Ref sig .tc := ⟨.hbm, 197, rfl⟩
abbrev main_v79 : Ref sig .tc := ⟨.hbm, 198, rfl⟩
abbrev main_cst_6 : Ref sig .tc := ⟨.hbm, 199, rfl⟩
abbrev main_v80 : Ref sig .tc := ⟨.hbm, 200, rfl⟩
abbrev main_v81 : Ref sig .tc := ⟨.hbm, 201, rfl⟩
abbrev main_cst_7 : Ref sig .tc := ⟨.hbm, 202, rfl⟩
abbrev main_v82 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_cst_8 : Ref sig .tc := ⟨.hbm, 208, rfl⟩
abbrev main_v87 : Ref sig .tc := ⟨.hbm, 209, rfl⟩
abbrev main_v88 : Ref sig .tc := ⟨.hbm, 210, rfl⟩
abbrev main_cst_9 : Ref sig .tc := ⟨.hbm, 211, rfl⟩
abbrev main_v89 : Ref sig .tc := ⟨.hbm, 212, rfl⟩
abbrev main_v90 : Ref sig .tc := ⟨.hbm, 213, rfl⟩
abbrev main_v91 : Ref sig .tc := ⟨.hbm, 214, rfl⟩
abbrev main_v92 : Ref sig .tc := ⟨.hbm, 215, rfl⟩
abbrev main_cst_10 : Ref sig .tc := ⟨.hbm, 216, rfl⟩
abbrev main_v93 : Ref sig .tc := ⟨.hbm, 217, rfl⟩
abbrev main_v94 : Ref sig .tc := ⟨.hbm, 218, rfl⟩
abbrev main_v95 : Ref sig .tc := ⟨.hbm, 219, rfl⟩
abbrev main_v96 : Ref sig .tc := ⟨.hbm, 220, rfl⟩
abbrev main_v97 : Ref sig .tc := ⟨.hbm, 221, rfl⟩
abbrev main_v98 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_call5_v0 : Ref sig .tc := ⟨.hbm, 227, rfl⟩
abbrev main_call5_v1 : Ref sig .tc := ⟨.hbm, 228, rfl⟩
abbrev main_call5_cst : Ref sig .tc := ⟨.hbm, 229, rfl⟩
abbrev main_call5_v2 : Ref sig .tc := ⟨.hbm, 230, rfl⟩
abbrev main_call5_v3 : Ref sig .tc := ⟨.hbm, 231, rfl⟩
abbrev main_call5_cst_0 : Ref sig .tc := ⟨.hbm, 232, rfl⟩
abbrev main_call5_v4 : Ref sig .tc := ⟨.hbm, 233, rfl⟩
abbrev main_call5_v5 : Ref sig .tc := ⟨.hbm, 234, rfl⟩
abbrev main_v103 : Ref sig .tc := ⟨.hbm, 235, rfl⟩
abbrev main_v104 : Ref sig .tc := ⟨.hbm, 236, rfl⟩
abbrev main_v105 : Ref sig .tc := ⟨.hbm, 237, rfl⟩

abbrev nD : Nat := 1
abbrev τ : Topo := Topo.v7x

variable {F : FTy → Type} [FloatOps F]

abbrev main_while0_count : Scf.Loop 32 := ⟨0#32, 16#32, 1#32⟩
-- ==== ProjA.lean ====
abbrev S8192x2048 : Shape := ⟨2, ![8192, 2048]⟩
abbrev S1x2048 : Shape := ⟨2, ![1, 2048]⟩
abbrev S2x2048x20480 : Shape := ⟨3, ![2, 2048, 20480]⟩
abbrev S8192x20480 : Shape := ⟨2, ![8192, 20480]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x20480, .f32⟩
  | .hbm, ⟨3, _⟩ => ⟨S8192x20480, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 40], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjARefIdeal.lean ====
abbrev S8192x2048 : Shape := ⟨2, ![8192, 2048]⟩
abbrev S1x2048 : Shape := ⟨2, ![1, 2048]⟩
abbrev S2x2048x20480 : Shape := ⟨3, ![2, 2048, 20480]⟩
abbrev S_ : Shape := ⟨0, ![]⟩
abbrev S8192 : Shape := ⟨1, ![8192]⟩
abbrev S8192x1 : Shape := ⟨2, ![8192, 1]⟩
abbrev S1x2048x20480 : Shape := ⟨3, ![1, 2048, 20480]⟩
abbrev S2048x20480 : Shape := ⟨2, ![2048, 20480]⟩
abbrev S8192x20480 : Shape := ⟨2, ![8192, 20480]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2x2048x20480, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S1x2048x20480, .f32⟩
  | .hbm, ⟨19, _⟩ => ⟨S2048x20480, .f32⟩
  | .hbm, ⟨20, _⟩ => ⟨S8192x20480, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== ProjB.lean ====
abbrev S8192x2048 : Shape := ⟨2, ![8192, 2048]⟩
abbrev S1x2048 : Shape := ⟨2, ![1, 2048]⟩
abbrev S1x2048x12288 : Shape := ⟨3, ![1, 2048, 12288]⟩
abbrev S8192x12288 : Shape := ⟨2, ![8192, 12288]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12288, .f32⟩
  | .hbm, ⟨3, _⟩ => ⟨S8192x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjBRefIdeal.lean ====
abbrev S8192x2048 : Shape := ⟨2, ![8192, 2048]⟩
abbrev S1x2048 : Shape := ⟨2, ![1, 2048]⟩
abbrev S1x2048x12288 : Shape := ⟨3, ![1, 2048, 12288]⟩
abbrev S_ : Shape := ⟨0, ![]⟩
abbrev S8192 : Shape := ⟨1, ![8192]⟩
abbrev S8192x1 : Shape := ⟨2, ![8192, 1]⟩
abbrev S2048x12288 : Shape := ⟨2, ![2048, 12288]⟩
abbrev S8192x12288 : Shape := ⟨2, ![8192, 12288]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x12288, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x12288, .f32⟩
  | .hbm, ⟨19, _⟩ => ⟨S8192x12288, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== ProjC.lean ====
abbrev S8192x2048 : Shape := ⟨2, ![8192, 2048]⟩
abbrev S1x2048 : Shape := ⟨2, ![1, 2048]⟩
abbrev S1x2048x6160 : Shape := ⟨3, ![1, 2048, 6160]⟩
abbrev S8192x6144 : Shape := ⟨2, ![8192, 6144]⟩
abbrev S1024x2048 : Shape := ⟨2, ![1024, 2048]⟩
abbrev S1x2048x512 : Shape := ⟨3, ![1, 2048, 512]⟩
abbrev S1024x512 : Shape := ⟨2, ![1024, 512]⟩
abbrev S1024 : Shape := ⟨1, ![1024]⟩
abbrev S1024x1 : Shape := ⟨2, ![1024, 1]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x6160, .f32⟩
  | .hbm, ⟨3, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjCRefIdeal.lean ====
abbrev S8192x2048 : Shape := ⟨2, ![8192, 2048]⟩
abbrev S1x2048 : Shape := ⟨2, ![1, 2048]⟩
abbrev S1x2048x6160 : Shape := ⟨3, ![1, 2048, 6160]⟩
abbrev S_ : Shape := ⟨0, ![]⟩
abbrev S8192 : Shape := ⟨1, ![8192]⟩
abbrev S8192x1 : Shape := ⟨2, ![8192, 1]⟩
abbrev S2048x6160 : Shape := ⟨2, ![2048, 6160]⟩
abbrev S8192x6160 : Shape := ⟨2, ![8192, 6160]⟩
abbrev S8192x6144 : Shape := ⟨2, ![8192, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x6160, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x6160, .f32⟩
  | .hbm, ⟨19, _⟩ => ⟨S8192x6160, .f32⟩
  | .hbm, ⟨20, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== OutA.lean ====
abbrev S8192x2048 : Shape := ⟨2, ![8192, 2048]⟩
abbrev S2x2048x2048 : Shape := ⟨3, ![2, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutAIdeal.lean ====
abbrev S2x2048x2048 : Shape := ⟨3, ![2, 2048, 2048]⟩
  | .hbm, ⟨1, _⟩ => ⟨S2x2048x2048, .f32⟩
-- ==== OutARefIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutB.lean ====
abbrev S8192x4096 : Shape := ⟨2, ![8192, 4096]⟩
abbrev S1x4096x2048 : Shape := ⟨3, ![1, 4096, 2048]⟩
abbrev S8192x2048 : Shape := ⟨2, ![8192, 2048]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutBIdeal.lean ====
abbrev S8192x4096 : Shape := ⟨2, ![8192, 4096]⟩
abbrev S1x4096x2048 : Shape := ⟨3, ![1, 4096, 2048]⟩
abbrev S8192x2048 : Shape := ⟨2, ![8192, 2048]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutBRefIdeal.lean ====
abbrev S8192x4096 : Shape := ⟨2, ![8192, 4096]⟩
abbrev S1x4096x2048 : Shape := ⟨3, ![1, 4096, 2048]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutC.lean ====
abbrev S8192x2048 : Shape := ⟨2, ![8192, 2048]⟩
abbrev S1x2048x2048 : Shape := ⟨3, ![1, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutCRefIdeal.lean ====
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== NormP.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPIdeal.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPRefIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormS.lean ====
abbrev S128x2048 : Shape := ⟨2, ![128, 2048]⟩
abbrev S2048 : Shape := ⟨1, ![2048]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S1x2048, .f32⟩
  | .hbm, ⟨3, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S128x2048 : Shape := ⟨2, ![128, 2048]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S2048, .f32⟩
  | .hbm, ⟨2, _⟩ => ⟨S128x2048, .f32⟩
  | .hbm, ⟨3, _⟩ => ⟨S_, .f32⟩
  | .hbm, ⟨4, _⟩ => ⟨S128, .f32⟩
  | .hbm, ⟨5, _⟩ => ⟨S128x1, .f32⟩
  | .hbm, ⟨6, _⟩ => ⟨S_, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S128x1, .f32⟩
  | .hbm, ⟨11, _⟩ => ⟨S128x1, .f32⟩
  | .hbm, ⟨12, _⟩ => ⟨S128x1, .f32⟩
  | .hbm, ⟨13, _⟩ => ⟨S128x2048, .f32⟩
  | .hbm, ⟨14, _⟩ => ⟨S128x2048, .f32⟩
  | .hbm, ⟨15, _⟩ => ⟨S1x2048, .f32⟩
  | .hbm, ⟨16, _⟩ => ⟨S128x2048, .f32⟩
  | .hbm, ⟨17, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KvRows.lean ====
abbrev S8x16x20480 : Shape := ⟨3, ![8, 16, 20480]⟩
abbrev S2x8x128x2x16x128 : Shape := ⟨6, ![2, 8, 128, 2, 16, 128]⟩
abbrev S2x8x512x2x16x128 : Shape := ⟨6, ![2, 8, 512, 2, 16, 128]⟩
abbrev S2x8x2048x2x16x128 : Shape := ⟨6, ![2, 8, 2048, 2, 16, 128]⟩
abbrev S2x8x128x4096 : Shape := ⟨4, ![2, 8, 128, 4096]⟩
abbrev S2x8x512x4096 : Shape := ⟨4, ![2, 8, 512, 4096]⟩
abbrev S2x8x2048x4096 : Shape := ⟨4, ![2, 8, 2048, 4096]⟩
abbrev S8x16x2048 : Shape := ⟨3, ![8, 16, 2048]⟩
abbrev S16 : Shape := ⟨1, ![16]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S16x96 : Shape := ⟨2, ![16, 96]⟩
abbrev S16x128 : Shape := ⟨2, ![16, 128]⟩
abbrev S16x112 : Shape := ⟨2, ![16, 112]⟩
abbrev S1x16x128 : Shape := ⟨3, ![1, 16, 128]⟩
abbrev S1x1x128x128 : Shape := ⟨4, ![1, 1, 128, 128]⟩
abbrev S1x1x512x128 : Shape := ⟨4, ![1, 1, 512, 128]⟩
abbrev S1x1x2048x128 : Shape := ⟨4, ![1, 1, 2048, 128]⟩
abbrev S128x128 : Shape := ⟨2, ![128, 128]⟩
abbrev S16x512 : Shape := ⟨2, ![16, 512]⟩
abbrev S512x128 : Shape := ⟨2, ![512, 128]⟩
abbrev S16x2048 : Shape := ⟨2, ![16, 2048]⟩
abbrev S2048x128 : Shape := ⟨2, ![2048, 128]⟩

abbrev nBuf : Space → Nat
  | .hbm => 46
  | .vmem => 43
  | .smem => 0
  | _ => 0

abbrev bufTy : (tb : Table) → Fin (tcTables nBuf tb) → BufTy
  | .hbm, ⟨0, _⟩ => ⟨S8x16x20480, .f32⟩
  | .hbm, ⟨1, _⟩ => ⟨S2x8x128x2x16x128, .f32⟩
  | .hbm, ⟨2, _⟩ => ⟨S2x8x512x2x16x128, .f32⟩
  | .hbm, ⟨3, _⟩ => ⟨S2x8x2048x2x16x128, .f32⟩
  | .hbm, ⟨4, _⟩ => ⟨S2x8x128x4096, .f32⟩
  | .hbm, ⟨5, _⟩ => ⟨S2x8x512x4096, .f32⟩
  | .hbm, ⟨6, _⟩ => ⟨S2x8x2048x4096, .f32⟩
  | .hbm, ⟨7, _⟩ => ⟨S8x16x2048, .f32⟩
  | .hbm, ⟨8, _⟩ => ⟨S8x16x2048, .f32⟩
  | .hbm, ⟨9, _⟩ => ⟨S8x16x2048, .f32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S16x1, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S16x16, .f32⟩
  | .hbm, ⟨29, _⟩ => ⟨S16x16, .f32⟩
  | .hbm, ⟨30, _⟩ => ⟨S_, .f32⟩
  | .hbm, ⟨31, _⟩ => ⟨S16x96, .f32⟩
  | .hbm, ⟨32, _⟩ => ⟨S16x128, .f32⟩
  | .hbm, ⟨33, _⟩ => ⟨S_, .f32⟩
  | .hbm, ⟨34, _⟩ => ⟨S16x16, .f32⟩
  | .hbm, ⟨35, _⟩ => ⟨S_, .f32⟩
  | .hbm, ⟨36, _⟩ => ⟨S16x96, .f32⟩
  | .hbm, ⟨37, _⟩ => ⟨S16x128, .f32⟩
  | .hbm, ⟨38, _⟩ => ⟨S16x16, .f32⟩
  | .hbm, ⟨39, _⟩ => ⟨S_, .f32⟩
  | .hbm, ⟨40, _⟩ => ⟨S16x112, .f32⟩
  | .hbm, ⟨41, _⟩ => ⟨S16x128, .f32⟩
  | .hbm, ⟨42, _⟩ => ⟨S8x16x2048, .bf16⟩
  | .hbm, ⟨43, _⟩ => ⟨S8x16x2048, .f32⟩
  | .hbm, ⟨44, _⟩ => ⟨S8x16x2048, .f32⟩
  | .hbm, ⟨45, _⟩ => ⟨S8x16x2048, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | .local _ .vmem, ⟨8, _⟩ => ⟨S1x16x128, .f32⟩
  | .local _ .vmem, ⟨9, _⟩ => ⟨S1x16x128, .f32⟩
  | .local _ .vmem, ⟨10, _⟩ => ⟨S1x16x128, .f32⟩
  | .local _ .vmem, ⟨11, _⟩ => ⟨S1x16x128, .f32⟩
  | .local _ .vmem, ⟨12, _⟩ => ⟨S1x16x128, .f32⟩
  | .local _ .vmem, ⟨13, _⟩ => ⟨S1x16x128, .f32⟩
  | .local _ .vmem, ⟨14, _⟩ => ⟨S1x16x128, .f32⟩
  | .local _ .vmem, ⟨15, _⟩ => ⟨S1x16x128, .f32⟩
  | .local _ .vmem, ⟨16, _⟩ => ⟨S1x16x128, .f32⟩
  | .local _ .vmem, ⟨17, _⟩ => ⟨S1x16x128, .f32⟩
  | .local _ .vmem, ⟨18, _⟩ => ⟨S1x16x128, .f32⟩
  | .local _ .vmem, ⟨19, _⟩ => ⟨S1x16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S1x1x128x128, .f32⟩
  | .local _ .vmem, ⟨24, _⟩ => ⟨S1x1x128x128, .f32⟩
  | .local _ .vmem, ⟨25, _⟩ => ⟨S1x1x128x128, .f32⟩
  | .local _ .vmem, ⟨26, _⟩ => ⟨S1x1x128x128, .f32⟩
  | .local _ .vmem, ⟨27, _⟩ => ⟨S1x1x512x128, .f32⟩
  | .local _ .vmem, ⟨28, _⟩ => ⟨S1x1x512x128, .f32⟩
  | .local _ .vmem, ⟨29, _⟩ => ⟨S1x1x512x128, .f32⟩
  | .local _ .vmem, ⟨30, _⟩ => ⟨S1x1x512x128, .f32⟩
  | .local _ .vmem, ⟨31, _⟩ => ⟨S1x1x2048x128, .f32⟩
  | .local _ .vmem, ⟨32, _⟩ => ⟨S1x1x2048x128, .f32⟩
  | .local _ .vmem, ⟨33, _⟩ => ⟨S1x1x2048x128, .f32⟩
  | .local _ .vmem, ⟨34, _⟩ => ⟨S1x1x2048x128, .f32⟩
  | .local _ .vmem, ⟨35, _⟩ => ⟨S1x16x128, .bf16⟩
  | .local _ .vmem, ⟨36, _⟩ => ⟨S1x16x128, .bf16⟩
  | .local _ .vmem, ⟨37, _⟩ => ⟨S1x16x128, .f32⟩
  | .local _ .vmem, ⟨38, _⟩ => ⟨S1x16x128, .f32⟩
  | .local _ .vmem, ⟨39, _⟩ => ⟨S1x16x128, .f32⟩
  | .local _ .vmem, ⟨40, _⟩ => ⟨S1x16x128, .f32⟩
  | .local _ .vmem, ⟨41, _⟩ => ⟨S1x16x128, .f32⟩
  | .local _ .vmem, ⟨42, _⟩ => ⟨S1x16x128, .f32⟩
  | _, _ => ⟨S8x16x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31_0 : Ref sig .tc := ⟨.hbm, 42, rfl⟩
abbrev main_v31_1 : Ref sig .tc := ⟨.hbm, 43, rfl⟩
abbrev main_v31_2 : Ref sig .tc := ⟨.hbm, 44, rfl⟩
abbrev main_v31_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let c0_i32_0 : BitVec 32 := 0#32
  ![arg0.toNat, c0_i32.toNat, v0.toNat]

def cc0_transform_9 (i : grid0.Coords) : Fin 3 → Nat :=
  let arg0 : BitVec 32 := BitVec.ofNat 32 (i 0).val
  let arg1 : BitVec 32 := BitVec.ofNat 32 (i 1).val
  let c144_i32 : BitVec 32 := 144#32
  let v0 : BitVec 32 := Scalar.addi c144_i32 arg1
  let c0_i32 : BitVec 32 := 0#32
  let c0_i32_0 : BitVec 32 := 0#32
  ![arg0.toNat, c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_16 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_18 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x2048x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x2048x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x16x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x16x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x16x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KvRowsRefIdeal.lean ====
abbrev S8x16x20480 : Shape := ⟨3, ![8, 16, 20480]⟩
abbrev S2x8x128x2x16x128 : Shape := ⟨6, ![2, 8, 128, 2, 16, 128]⟩
abbrev S2x8x512x2x16x128 : Shape := ⟨6, ![2, 8, 512, 2, 16, 128]⟩
abbrev S2x8x2048x2x16x128 : Shape := ⟨6, ![2, 8, 2048, 2, 16, 128]⟩
abbrev S8x16x18432 : Shape := ⟨3, ![8, 16, 18432]⟩
abbrev S8x16x3x3x16x128 : Shape := ⟨6, ![8, 16, 3, 3, 16, 128]⟩
abbrev S16 : Shape := ⟨1, ![16]⟩
abbrev S_ : Shape := ⟨0, ![]⟩
abbrev S8x16x1x1x16x128 : Shape := ⟨6, ![8, 16, 1, 1, 16, 128]⟩
abbrev S8x16x16x128 : Shape := ⟨4, ![8, 16, 16, 128]⟩
abbrev S16x1 : Shape := ⟨2, ![16, 1]⟩
abbrev S1x16 : Shape := ⟨2, ![1, 16]⟩
abbrev S16x16 : Shape := ⟨2, ![16, 16]⟩
abbrev S1x16x1x16 : Shape := ⟨4, ![1, 16, 1, 16]⟩
abbrev S8x16x16x16 : Shape := ⟨4, ![8, 16, 16, 16]⟩
abbrev S8x16x16x96 : Shape := ⟨4, ![8, 16, 16, 96]⟩
abbrev S8x16x2048 : Shape := ⟨3, ![8, 16, 2048]⟩

abbrev nBuf : Space → Nat
  | .hbm => 124
  | .vmem => 0
  | .smem => 0
  | _ => 0

abbrev bufTy : (tb : Table) → Fin (tcTables nBuf tb) → BufTy
  | .hbm, ⟨0, _⟩ => ⟨S8x16x20480, .f32⟩
  | .hbm, ⟨1, _⟩ => ⟨S2x8x128x2x16x128, .f32⟩
  | .hbm, ⟨2, _⟩ => ⟨S2x8x512x2x16x128, .f32⟩
  | .hbm, ⟨3, _⟩ => ⟨S2x8x2048x2x16x128, .f32⟩
  | .hbm, ⟨4, _⟩ => ⟨S8x16x18432, .f32⟩
  | .hbm, ⟨5, _⟩ => ⟨S8x16x3x3x16x128, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S8x16x1x1x16x128, .f32⟩
  | .hbm, ⟨11, _⟩ => ⟨S8x16x16x128, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S16x1, .f32⟩
  | .hbm, ⟨22, _⟩ => ⟨S1x16, .f32⟩
  | .hbm, ⟨23, _⟩ => ⟨S16x16, .f32⟩
  | .hbm, ⟨24, _⟩ => ⟨S16x16, .f32⟩
  | .hbm, ⟨25, _⟩ => ⟨S16x16, .f32⟩
  | .hbm, ⟨26, _⟩ => ⟨S16x16, .f32⟩
  | .hbm, ⟨27, _⟩ => ⟨S1x16x1x16, .f32⟩
  | .hbm, ⟨28, _⟩ => ⟨S16x16, .f32⟩
  | .hbm, ⟨29, _⟩ => ⟨S1x16x1x16, .f32⟩
  | .hbm, ⟨30, _⟩ => ⟨S8x16x16x16, .f32⟩
  | .hbm, ⟨31, _⟩ => ⟨S8x16x16x16, .f32⟩
  | .hbm, ⟨32, _⟩ => ⟨S8x16x16x16, .f32⟩
  | .hbm, ⟨33, _⟩ => ⟨S8x16x16x16, .f32⟩
  | .hbm, ⟨34, _⟩ => ⟨S8x16x16x16, .f32⟩
  | .hbm, ⟨35, _⟩ => ⟨S8x16x16x16, .f32⟩
  | .hbm, ⟨36, _⟩ => ⟨S8x16x16x16, .f32⟩
  | .hbm, ⟨37, _⟩ => ⟨S8x16x16x16, .f32⟩
  | .hbm, ⟨38, _⟩ => ⟨S8x16x16x16, .f32⟩
  | .hbm, ⟨39, _⟩ => ⟨S8x16x16x16, .f32⟩
  | .hbm, ⟨40, _⟩ => ⟨S8x16x16x16, .f32⟩
  | .hbm, ⟨41, _⟩ => ⟨S8x16x16x16, .f32⟩
  | .hbm, ⟨42, _⟩ => ⟨S8x16x16x96, .f32⟩
  | .hbm, ⟨43, _⟩ => ⟨S8x16x16x128, .f32⟩
  | .hbm, ⟨44, _⟩ => ⟨S8x16x2048, .f32⟩
  | .hbm, ⟨45, _⟩ => ⟨S8x16x1x1x16x128, .f32⟩
  | .hbm, ⟨46, _⟩ => ⟨S8x16x16x128, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16, .f32⟩
  | .hbm, ⟨56, _⟩ => ⟨S16x1, .f32⟩
  | .hbm, ⟨57, _⟩ => ⟨S1x16, .f32⟩
  | .hbm, ⟨58, _⟩ => ⟨S16x16, .f32⟩
  | .hbm, ⟨59, _⟩ => ⟨S16x16, .f32⟩
  | .hbm, ⟨60, _⟩ => ⟨S16x16, .f32⟩
  | .hbm, ⟨61, _⟩ => ⟨S16x16, .f32⟩
  | .hbm, ⟨62, _⟩ => ⟨S1x16x1x16, .f32⟩
  | .hbm, ⟨63, _⟩ => ⟨S16x16, .f32⟩
  | .hbm, ⟨64, _⟩ => ⟨S1x16x1x16, .f32⟩
  | .hbm, ⟨65, _⟩ => ⟨S8x16x16x16, .f32⟩
  | .hbm, ⟨66, _⟩ => ⟨S8x16x16x16, .f32⟩
  | .hbm, ⟨67, _⟩ => ⟨S8x16x16x16, .f32⟩
  | .hbm, ⟨68, _⟩ => ⟨S8x16x16x16, .f32⟩
  | .hbm, ⟨69, _⟩ => ⟨S8x16x16x16, .f32⟩
  | .hbm, ⟨70, _⟩ => ⟨S8x16x16x16, .f32⟩
  | .hbm, ⟨71, _⟩ => ⟨S8x16x16x16, .f32⟩
  | .hbm, ⟨72, _⟩ => ⟨S8x16x16x16, .f32⟩
  | .hbm, ⟨73, _⟩ => ⟨S8x16x16x16, .f32⟩
  | .hbm, ⟨74, _⟩ => ⟨S8x16x16x16, .f32⟩
  | .hbm, ⟨75, _⟩ => ⟨S8x16x16x16, .f32⟩
  | .hbm, ⟨76, _⟩ => ⟨S8x16x16x16, .f32⟩
  | .hbm, ⟨77, _⟩ => ⟨S8x16x16x96, .f32⟩
  | .hbm, ⟨78, _⟩ => ⟨S8x16x16x128, .f32⟩
  | .hbm, ⟨79, _⟩ => ⟨S8x16x2048, .f32⟩
  | .hbm, ⟨80, _⟩ => ⟨S8x16x1x1x16x128, .f32⟩
  | .hbm, ⟨81, _⟩ => ⟨S8x16x16x128, .f32⟩
  | .hbm, ⟨82, _⟩ => ⟨S16, .f32⟩
  | .hbm, ⟨83, _⟩ => ⟨S16, .f32⟩
  | .hbm, ⟨84, _⟩ => ⟨S_, .f32⟩
  | .hbm, ⟨85, _⟩ => ⟨S16, .f32⟩
  | .hbm, ⟨86, _⟩ => ⟨S16, .f32⟩
  | .hbm, ⟨87, _⟩ => ⟨S_, .f32⟩
  | .hbm, ⟨88, _⟩ => ⟨S16, .f32⟩
  | .hbm, ⟨89, _⟩ => ⟨S16, .f32⟩
  | .hbm, ⟨90, _⟩ => ⟨S16, .f32⟩
  | .hbm, ⟨91, _⟩ => ⟨S16x1, .f32⟩
  | .hbm, ⟨92, _⟩ => ⟨S1x16, .f32⟩
  | .hbm, ⟨93, _⟩ => ⟨S16x16, .f32⟩
  | .hbm, ⟨94, _⟩ => ⟨S16x16, .f32⟩
  | .hbm, ⟨95, _⟩ => ⟨S16x16, .f32⟩
  | .hbm, ⟨96, _⟩ => ⟨S16x16, .f32⟩
  | .hbm, ⟨97, _⟩ => ⟨S1x16x1x16, .f32⟩
  | .hbm, ⟨98, _⟩ => ⟨S16x16, .f32⟩
  | .hbm, ⟨99, _⟩ => ⟨S1x16x1x16, .f32⟩
  | .hbm, ⟨100, _⟩ => ⟨S8x16x16x16, .f32⟩
  | .hbm, ⟨101, _⟩ => ⟨S8x16x16x16, .f32⟩
  | .hbm, ⟨102, _⟩ => ⟨S8x16x16x16, .f32⟩
  | .hbm, ⟨103, _⟩ => ⟨S8x16x16x16, .f32⟩
  | .hbm, ⟨104, _⟩ => ⟨S8x16x16x16, .f32⟩
  | .hbm, ⟨105, _⟩ => ⟨S8x16x16x16, .f32⟩
  | .hbm, ⟨106, _⟩ => ⟨S8x16x16x16, .f32⟩
  | .hbm, ⟨107, _⟩ => ⟨S8x16x16x16, .f32⟩
  | .hbm, ⟨108, _⟩ => ⟨S8x16x16x16, .f32⟩
  | .hbm, ⟨109, _⟩ => ⟨S8x16x16x16, .f32⟩
  | .hbm, ⟨110, _⟩ => ⟨S8x16x16x16, .f32⟩
  | .hbm, ⟨111, _⟩ => ⟨S8x16x16x16, .f32⟩
  | .hbm, ⟨112, _⟩ => ⟨S8x16x16x96, .f32⟩
  | .hbm, ⟨113, _⟩ => ⟨S8x16x16x128, .f32⟩
  | .hbm, ⟨114, _⟩ => ⟨S8x16x2048, .f32⟩
  | .hbm, ⟨115, _⟩ => ⟨S8x16x1x1x16x128, .f32⟩
  | .hbm, ⟨116, _⟩ => ⟨S8x16x16x128, .f32⟩
  | .hbm, ⟨117, _⟩ => ⟨S8x16x2048, .f32⟩
  | .hbm, ⟨118, _⟩ => ⟨S8x16x1x1x16x128, .f32⟩
  | .hbm, ⟨119, _⟩ => ⟨S8x16x16x128, .f32⟩
  | .hbm, ⟨120, _⟩ => ⟨S8x16x2048, .f32⟩
  | .hbm, ⟨121, _⟩ => ⟨S8x16x1x1x16x128, .f32⟩
  | .hbm, ⟨122, _⟩ => ⟨S8x16x16x128, .f32⟩
  | .hbm, ⟨123, _⟩ => ⟨S8x16x2048, .f32⟩
  | _, _ => ⟨S8x16x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_v43 : Ref sig .tc := ⟨.hbm, 51, rfl⟩
abbrev main_cst_2 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_3 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩

abbrev nD : Nat := 1
abbrev τ : Topo := Topo.v7x

variable {F : FTy → Type} [FloatOps F]
-- ==== StateS.lean ====
abbrev S8x4x12288 : Shape := ⟨3, ![8, 4, 12288]⟩
abbrev S8x512 : Shape := ⟨2, ![8, 512]⟩
abbrev S8x8x256x512 : Shape := ⟨4, ![8, 8, 256, 512]⟩
abbrev S_ : Shape := ⟨0, ![]⟩
abbrev S8x16x12288 : Shape := ⟨3, ![8, 16, 12288]⟩
abbrev S16 : Shape := ⟨1, ![16]⟩
abbrev S128 : Shape := ⟨1, ![128]⟩
abbrev S16x1 : Shape := ⟨2, ![16, 1]⟩
abbrev S1x128 : Shape := ⟨2, ![1, 128]⟩
abbrev S16x128 : Shape := ⟨2, ![16, 128]⟩
abbrev S8 : Shape := ⟨1, ![8]⟩
abbrev S8x1x512 : Shape := ⟨3, ![8, 1, 512]⟩
abbrev S8x16x4096 : Shape := ⟨3, ![8, 16, 4096]⟩
abbrev S1x16x256 : Shape := ⟨3, ![1, 16, 256]⟩
abbrev S1x16x512 : Shape := ⟨3, ![1, 16, 512]⟩
abbrev S1x1x512 : Shape := ⟨3, ![1, 1, 512]⟩
abbrev S1x1x256x512 : Shape := ⟨4, ![1, 1, 256, 512]⟩
abbrev S256x512 : Shape := ⟨2, ![256, 512]⟩
abbrev S1 : Shape := ⟨1, ![1]⟩
abbrev S16x16 : Shape := ⟨2, ![16, 16]⟩
abbrev S1x1 : Shape := ⟨2, ![1, 1]⟩
abbrev S1x512 : Shape := ⟨2, ![1, 512]⟩
abbrev S16x256 : Shape := ⟨2, ![16, 256]⟩
abbrev S16x512 : Shape := ⟨2, ![16, 512]⟩

abbrev nBuf : Space → Nat
  | .hbm => 40
  | .vmem => 18
  | .smem => 1
  | _ => 0

abbrev bufTy : (tb : Table) → Fin (tcTables nBuf tb) → BufTy
  | .hbm, ⟨0, _⟩ => ⟨S8x4x12288, .f32⟩
  | .hbm, ⟨1, _⟩ => ⟨S8x512, .f32⟩
  | .hbm, ⟨2, _⟩ => ⟨S8x8x256x512, .f32⟩
  | .hbm, ⟨3, _⟩ => ⟨S_, .i32⟩
  | .hbm, ⟨4, _⟩ => ⟨S_, .f32⟩
  | .hbm, ⟨5, _⟩ => ⟨S8x16x12288, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S16, .f32⟩
  | .hbm, ⟨19, _⟩ => ⟨S16x1, .f32⟩
  | .hbm, ⟨20, _⟩ => ⟨S1x128, .f32⟩
  | .hbm, ⟨21, _⟩ => ⟨S16x128, .f32⟩
  | .hbm, ⟨22, _⟩ => ⟨S16x128, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8, .f32⟩
  | .hbm, ⟨37, _⟩ => ⟨S8x1x512, .f32⟩
  | .hbm, ⟨38, _⟩ => ⟨S8x16x4096, .bf16⟩
  | .hbm, ⟨39, _⟩ => ⟨S8x8x256x512, .f32⟩
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S16x128, .f32⟩
  | .local _ .vmem, ⟨9, _⟩ => ⟨S16x128, .f32⟩
  | .local _ .vmem, ⟨10, _⟩ => ⟨S1x1x512, .f32⟩
  | .local _ .vmem, ⟨11, _⟩ => ⟨S1x1x512, .f32⟩
  | .local _ .vmem, ⟨12, _⟩ => ⟨S1x1x256x512, .f32⟩
  | .local _ .vmem, ⟨13, _⟩ => ⟨S1x1x256x512, .f32⟩
  | .local _ .vmem, ⟨14, _⟩ => ⟨S1x16x512, .bf16⟩
  | .local _ .vmem, ⟨15, _⟩ => ⟨S1x16x512, .bf16⟩
  | .local _ .vmem, ⟨16, _⟩ => ⟨S1x1x256x512, .f32⟩
  | .local _ .vmem, ⟨17, _⟩ => ⟨S1x1x256x512, .f32⟩
  | .local _ .smem, ⟨0, _⟩ => ⟨S8, .f32⟩
  | _, _ => ⟨S8x4x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg1 : BitVec 32 := BitVec.ofNat 32 (i 1).val
  let v5 : Index := Scalar.indexCast arg1
  ![v5.toNat]
def k0_mult1 : BitVec 32 :=
  let c0_i32 : BitVec 32 := 0#32
  let c16_i32 : BitVec 32 := 16#32
  let v37 : BitVec 32 := Scalar.muli c0_i32 c16_i32
  v37
def k0_off2 : Fin 2 → Nat :=
  let c0_i32 : BitVec 32 := 0#32
  let c16_i32 : BitVec 32 := 16#32
  let v37 : BitVec 32 := Scalar.muli c0_i32 c16_i32
  let v38 : BitVec 32 := v37
  let v39 : Index := Scalar.indexCast v38
  let c0_15 : Index := 0#32
  ![v39.toNat, 0]
def k0_off3 : Fin 3 → Nat :=
  let c0_17 : Index := 0#32
  let c0_i32 : BitVec 32 := 0#32
  let c16_i32 : BitVec 32 := 16#32
  let v37 : BitVec 32 := Scalar.muli c0_i32 c16_i32
  let v38 : BitVec 32 := v37
  let v45 : Index := Scalar.indexCast v38
  let c0_18 : Index := 0#32
  ![0, v45.toNat, 0]
def k0_off4 : Fin 3 → Nat :=
  let c0_22 : Index := 0#32
  let c0_i32 : BitVec 32 := 0#32
  let c16_i32 : BitVec 32 := 16#32
  let v37 : BitVec 32 := Scalar.muli c0_i32 c16_i32
  let v38 : BitVec 32 := v37
  let v71 : Index := Scalar.indexCast v38
  let c0_23 : Index := 0#32
  ![0, v71.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StateSRefIdeal.lean ====
abbrev S8x4x12288 : Shape := ⟨3, ![8, 4, 12288]⟩
abbrev S8x512 : Shape := ⟨2, ![8, 512]⟩
abbrev S8x8x256x512 : Shape := ⟨4, ![8, 8, 256, 512]⟩
abbrev S4 : Shape := ⟨1, ![4]⟩
abbrev S_ : Shape := ⟨0, ![]⟩
abbrev S8x4x2048 : Shape := ⟨3, ![8, 4, 2048]⟩
abbrev S8x4x8x256 : Shape := ⟨4, ![8, 4, 8, 256]⟩
abbrev S128 : Shape := ⟨1, ![128]⟩
abbrev S4x1 : Shape := ⟨2, ![4, 1]⟩
abbrev S1x128 : Shape := ⟨2, ![1, 128]⟩
abbrev S4x128 : Shape := ⟨2, ![4, 128]⟩
abbrev S1x4x1x128 : Shape := ⟨4, ![1, 4, 1, 128]⟩
abbrev S8x4x8x128 : Shape := ⟨4, ![8, 4, 8, 128]⟩
abbrev S8x4x8x0 : Shape := ⟨4, ![8, 4, 8, 0]⟩
abbrev S8x4x4096 : Shape := ⟨3, ![8, 4, 4096]⟩
abbrev S8x4x8x512 : Shape := ⟨4, ![8, 4, 8, 512]⟩
abbrev S8 : Shape := ⟨1, ![8]⟩
abbrev S1x4 : Shape := ⟨2, ![1, 4]⟩
abbrev S4x4 : Shape := ⟨2, ![4, 4]⟩
abbrev S8x1x1 : Shape := ⟨3, ![8, 1, 1]⟩
abbrev S1x4x4 : Shape := ⟨3, ![1, 4, 4]⟩
abbrev S8x4x4 : Shape := ⟨3, ![8, 4, 4]⟩
abbrev S8x8x4x4 : Shape := ⟨4, ![8, 8, 4, 4]⟩
abbrev S1x8x4x4 : Shape := ⟨4, ![1, 8, 4, 4]⟩
abbrev S8x8x512x4 : Shape := ⟨4, ![8, 8, 512, 4]⟩
abbrev S1x8 : Shape := ⟨2, ![1, 8]⟩
abbrev S4x8 : Shape := ⟨2, ![4, 8]⟩
abbrev S1x4x8x1 : Shape := ⟨4, ![1, 4, 8, 1]⟩
abbrev S1x8x1x1 : Shape := ⟨4, ![1, 8, 1, 1]⟩

abbrev nBuf : Space → Nat
  | .hbm => 156
  | .vmem => 0
  | .smem => 0
  | _ => 0

abbrev hbmTy0_0 (i : Nat) : BufTy := match i % 128 with
  | 0 => ⟨S8x4x12288, .f32⟩
  | 1 => ⟨S8x512, .f32⟩
  | 2 => ⟨S8x8x256x512, .f32⟩
  | 3 => ⟨S4, .i32⟩
  | 4 => ⟨S_, .i32⟩
  | 5 => ⟨S4, .i32⟩
  | 6 => ⟨S4, .i32⟩
  | 7 => ⟨S8x4x2048, .f32⟩
  | 8 => ⟨S8x4x8x256, .f32⟩
  | 9 => ⟨S128, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S4, .f32⟩
  | 18 => ⟨S4x1, .f32⟩
  | 19 => ⟨S1x128, .f32⟩
  | 20 => ⟨S4x128, .f32⟩
  | 21 => ⟨S4x128, .f32⟩
  | 22 => ⟨S4x128, .f32⟩
  | 23 => ⟨S4x128, .f32⟩
  | 24 => ⟨S1x4x1x128, .f32⟩
  | 25 => ⟨S4x128, .f32⟩
  | 26 => ⟨S1x4x1x128, .f32⟩
  | 27 => ⟨S8x4x8x128, .f32⟩
  | 28 => ⟨S8x4x8x128, .f32⟩
  | 29 => ⟨S8x4x8x128, .f32⟩
  | 30 => ⟨S8x4x8x128, .f32⟩
  | 31 => ⟨S8x4x8x128, .f32⟩
  | 32 => ⟨S8x4x8x128, .f32⟩
  | 33 => ⟨S8x4x8x128, .f32⟩
  | 34 => ⟨S8x4x8x128, .f32⟩
  | 35 => ⟨S8x4x8x128, .f32⟩
  | 36 => ⟨S8x4x8x128, .f32⟩
  | 37 => ⟨S8x4x8x128, .f32⟩
  | 38 => ⟨S8x4x8x128, .f32⟩
  | 39 => ⟨S8x4x8x0, .f32⟩
  | 40 => ⟨S8x4x8x256, .f32⟩
  | 41 => ⟨S8x4x2048, .f32⟩
  | 42 => ⟨S8x4x8x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S4, .f32⟩
  | 52 => ⟨S4x1, .f32⟩
  | 53 => ⟨S1x128, .f32⟩
  | 54 => ⟨S4x128, .f32⟩
  | 55 => ⟨S4x128, .f32⟩
  | 56 => ⟨S4x128, .f32⟩
  | 57 => ⟨S4x128, .f32⟩
  | 58 => ⟨S1x4x1x128, .f32⟩
  | 59 => ⟨S4x128, .f32⟩
  | 60 => ⟨S1x4x1x128, .f32⟩
  | 61 => ⟨S8x4x8x128, .f32⟩
  | 62 => ⟨S8x4x8x128, .f32⟩
  | 63 => ⟨S8x4x8x128, .f32⟩
  | 64 => ⟨S8x4x8x128, .f32⟩
  | 65 => ⟨S8x4x8x128, .f32⟩
  | 66 => ⟨S8x4x8x128, .f32⟩
  | 67 => ⟨S8x4x8x128, .f32⟩
  | 68 => ⟨S8x4x8x128, .f32⟩
  | 69 => ⟨S8x4x8x128, .f32⟩
  | 70 => ⟨S8x4x8x128, .f32⟩
  | 71 => ⟨S8x4x8x128, .f32⟩
  | 72 => ⟨S8x4x8x128, .f32⟩
  | 73 => ⟨S8x4x8x0, .f32⟩
  | 74 => ⟨S8x4x8x256, .f32⟩
  | 75 => ⟨S_, .f32⟩
  | 76 => ⟨S8x4x8x256, .f32⟩
  | 77 => ⟨S8x4x8x256, .f32⟩
  | 78 => ⟨S8x4x4096, .f32⟩
  | 79 => ⟨S8x4x8x512, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S4, .f32⟩
  | 92 => ⟨S4x1, .f32⟩
  | 93 => ⟨S1x4, .f32⟩
  | 94 => ⟨S4x4, .f32⟩
  | 95 => ⟨S4x4, .f32⟩
  | 96 => ⟨S4x4, .f32⟩
  | 97 => ⟨S_, .f32⟩
  | 98 => ⟨S4x4, .f32⟩
  | 99 => ⟨S4x4, .i1⟩
  | 100 => ⟨S8x1x1, .f32⟩
  | 101 => ⟨S_, .f32⟩
  | 102 => ⟨S4x4, .f32⟩
  | 103 => ⟨S4x4, .f32⟩
  | 104 => ⟨S1x4x4, .f32⟩
  | 105 => ⟨S8x4x4, .f32⟩
  | 106 => ⟨S8x4x4, .f32⟩
  | 107 => ⟨S8x4x4, .f32⟩
  | 108 => ⟨S8x4x4, .f32⟩
  | 109 => ⟨S_, .f32⟩
  | 110 => ⟨S_, .f32⟩
  | 111 => ⟨S8x4x4, .i1⟩
  | 112 => ⟨S8x4x4, .f32⟩
  | 113 => ⟨S8x4x4, .f32⟩
  | 114 => ⟨S8x8x4x4, .f32⟩
  | 115 => ⟨S1x8x4x4, .f32⟩
  | 116 => ⟨S8x8x4x4, .f32⟩
  | 117 => ⟨S8x8x4x4, .f32⟩
  | 118 => ⟨S8x8x512x4, .f32⟩
  | 119 => ⟨S8x4x8x512, .f32⟩
  | 120 => ⟨S8x8x512x4, .f32⟩
  | 121 => ⟨S8x4x8x512, .f32⟩
  | 122 => ⟨S1x8, .f32⟩
  | 123 => ⟨S4x1, .f32⟩
  | 124 => ⟨S_, .f32⟩
  | 125 => ⟨S4x1, .f32⟩
  | 126 => ⟨S4x1, .f32⟩
  | 127 => ⟨S4x8, .f32⟩
  | _ => ⟨S8x4x12288, .f32⟩

abbrev hbmTy0_1 (i : Nat) : BufTy := match i % 128 with
  | 0 => ⟨S4x8, .f32⟩
  | 1 => ⟨S4x8, .f32⟩
  | 2 => ⟨S4x8, .f32⟩
  | 3 => ⟨S1x4x8x1, .f32⟩
  | 4 => ⟨S8x4x8x512, .f32⟩
  | 5 => ⟨S8x4x8x512, .f32⟩
  | 6 => ⟨S1x8, .f32⟩
  | 7 => ⟨S4x1, .f32⟩
  | 8 => ⟨S_, .f32⟩
  | 9 => ⟨S4x1, .f32⟩
  | 10 => ⟨S4x1, .f32⟩
  | 11 => ⟨S4x8, .f32⟩
  | 12 => ⟨S4x8, .f32⟩
  | 13 => ⟨S4x8, .f32⟩
  | 14 => ⟨S4x8, .f32⟩
  | 15 => ⟨S1x4x8x1, .f32⟩
  | 16 => ⟨S8x4x8x256, .f32⟩
  | 17 => ⟨S8x4x8x256, .f32⟩
  | 18 => ⟨S_, .f32⟩
  | 19 => ⟨S8, .f32⟩
  | 20 => ⟨S8, .f32⟩
  | 21 => ⟨S8, .f32⟩
  | 22 => ⟨S1x8x1x1, .f32⟩
  | 23 => ⟨S8x8x256x512, .f32⟩
  | 24 => ⟨S8x8x256x512, .f32⟩
  | 25 => ⟨S8x8x256x512, .f32⟩
  | 26 => ⟨S8x8x256x512, .f32⟩
  | 27 => ⟨S8x4x8x512, .f32⟩
  | _ => ⟨S8x4x12288, .f32⟩

abbrev hbmTy (i : Nat) : BufTy := match i / 128 with
  | 0 => hbmTy0_0 i
  | 1 => hbmTy0_1 i
  | _ => ⟨S8x4x12288, .f32⟩

abbrev bufTy : (tb : Table) → Fin (tcTables nBuf tb) → BufTy
  | .hbm, ⟨i, _⟩ => hbmTy i
  | _, _ => ⟨S8x4x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_1 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_4 : Ref sig .tc := ⟨.hbm, 81, rfl⟩
abbrev main_v72 : Ref sig .tc := ⟨.hbm, 82, rfl⟩
abbrev main_v73 : Ref sig .tc := ⟨.hbm, 83, rfl⟩
abbrev main_cst_5 : Ref sig .tc := ⟨.hbm, 84, rfl⟩
abbrev main_v74 : Ref sig .tc := ⟨.hbm, 85, rfl⟩
abbrev main_v75 : Ref sig .tc := ⟨.hbm, 86, rfl⟩
abbrev main_cst_6 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_cst_7 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_cst_8 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_cst_11 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_12 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩

abbrev nD : Nat := 1
abbrev τ : Topo := Topo.v7x

variable {F : FTy → Type} [FloatOps F]
-- ==== StateC.lean ====
abbrev S8x4x6144 : Shape := ⟨3, ![8, 4, 6144]⟩
abbrev S8x4x16 : Shape := ⟨3, ![8, 4, 16]⟩
abbrev S16x1024 : Shape := ⟨2, ![16, 1024]⟩
abbrev S1024 : Shape := ⟨1, ![1024]⟩
abbrev S4x512 : Shape := ⟨2, ![4, 512]⟩
abbrev S8x4x256x512 : Shape := ⟨4, ![8, 4, 256, 512]⟩
abbrev S_ : Shape := ⟨0, ![]⟩
abbrev S8x16x6144 : Shape := ⟨3, ![8, 16, 6144]⟩
abbrev S8x16x128 : Shape := ⟨3, ![8, 16, 128]⟩
abbrev S128x1024 : Shape := ⟨2, ![128, 1024]⟩
abbrev S1x1024 : Shape := ⟨2, ![1, 1024]⟩
abbrev S4x1x512 : Shape := ⟨3, ![4, 1, 512]⟩
abbrev S8x16x2048 : Shape := ⟨3, ![8, 16, 2048]⟩
abbrev S1x16x256 : Shape := ⟨3, ![1, 16, 256]⟩
abbrev S1x16x512 : Shape := ⟨3, ![1, 16, 512]⟩
abbrev S1x16x128 : Shape := ⟨3, ![1, 16, 128]⟩
abbrev S128x256 : Shape := ⟨2, ![128, 256]⟩
abbrev S1x256 : Shape := ⟨2, ![1, 256]⟩
abbrev S1x1x512 : Shape := ⟨3, ![1, 1, 512]⟩
abbrev S1x1x256x512 : Shape := ⟨4, ![1, 1, 256, 512]⟩
abbrev S256x512 : Shape := ⟨2, ![256, 512]⟩
abbrev S16x16 : Shape := ⟨2, ![16, 16]⟩
abbrev S16x128 : Shape := ⟨2, ![16, 128]⟩
abbrev S16x1 : Shape := ⟨2, ![16, 1]⟩
abbrev S1x512 : Shape := ⟨2, ![1, 512]⟩
abbrev S16x256 : Shape := ⟨2, ![16, 256]⟩
abbrev S16x512 : Shape := ⟨2, ![16, 512]⟩
abbrev S16 : Shape := ⟨1, ![16]⟩
abbrev S256x128 : Shape := ⟨2, ![256, 128]⟩

abbrev nBuf : Space → Nat
  | .hbm => 19
  | .vmem => 22
  | .smem => 0
  | _ => 0

abbrev bufTy : (tb : Table) → Fin (tcTables nBuf tb) → BufTy
  | .hbm, ⟨0, _⟩ => ⟨S8x4x6144, .f32⟩
  | .hbm, ⟨1, _⟩ => ⟨S8x4x16, .f32⟩
  | .hbm, ⟨2, _⟩ => ⟨S16x1024, .f32⟩
  | .hbm, ⟨3, _⟩ => ⟨S1024, .f32⟩
  | .hbm, ⟨4, _⟩ => ⟨S4x512, .f32⟩
  | .hbm, ⟨5, _⟩ => ⟨S8x4x256x512, .f32⟩
  | .hbm, ⟨6, _⟩ => ⟨S_, .i32⟩
  | .hbm, ⟨7, _⟩ => ⟨S_, .f32⟩
  | .hbm, ⟨8, _⟩ => ⟨S8x16x6144, .f32⟩
  | .hbm, ⟨9, _⟩ => ⟨S_, .i32⟩
  | .hbm, ⟨10, _⟩ => ⟨S_, .f32⟩
  | .hbm, ⟨11, _⟩ => ⟨S8x16x128, .f32⟩
  | .hbm, ⟨12, _⟩ => ⟨S_, .i32⟩
  | .hbm, ⟨13, _⟩ => ⟨S_, .f32⟩
  | .hbm, ⟨14, _⟩ => ⟨S128x1024, .f32⟩
  | .hbm, ⟨15, _⟩ => ⟨S1x1024, .f32⟩
  | .hbm, ⟨16, _⟩ => ⟨S4x1x512, .f32⟩
  | .hbm, ⟨17, _⟩ => ⟨S8x16x2048, .bf16⟩
  | .hbm, ⟨18, _⟩ => ⟨S8x4x256x512, .f32⟩
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x16x512, .f32⟩
  | .local _ .vmem, ⟨5, _⟩ => ⟨S1x16x512, .f32⟩
  | .local _ .vmem, ⟨6, _⟩ => ⟨S1x16x512, .f32⟩
  | .local _ .vmem, ⟨7, _⟩ => ⟨S1x16x512, .f32⟩
  | .local _ .vmem, ⟨8, _⟩ => ⟨S1x16x128, .f32⟩
  | .local _ .vmem, ⟨9, _⟩ => ⟨S1x16x128, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x1x512, .f32⟩
  | .local _ .vmem, ⟨15, _⟩ => ⟨S1x1x512, .f32⟩
  | .local _ .vmem, ⟨16, _⟩ => ⟨S1x1x256x512, .f32⟩
  | .local _ .vmem, ⟨17, _⟩ => ⟨S1x1x256x512, .f32⟩
  | .local _ .vmem, ⟨18, _⟩ => ⟨S1x16x512, .bf16⟩
  | .local _ .vmem, ⟨19, _⟩ => ⟨S1x16x512, .bf16⟩
  | .local _ .vmem, ⟨20, _⟩ => ⟨S1x1x256x512, .f32⟩
  | .local _ .vmem, ⟨21, _⟩ => ⟨S1x1x256x512, .f32⟩
  | _, _ => ⟨S8x4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def k0_mult1 : BitVec 32 :=
  let c0_i32 : BitVec 32 := 0#32
  let c16_i32 : BitVec 32 := 16#32
  let v20 : BitVec 32 := Scalar.muli c0_i32 c16_i32
  v20
def k0_off1 : Fin 3 → Nat :=
  let c0_14 : Index := 0#32
  let c0_i32 : BitVec 32 := 0#32
  let c16_i32 : BitVec 32 := 16#32
  let v20 : BitVec 32 := Scalar.muli c0_i32 c16_i32
  let v21 : BitVec 32 := v20
  let v22 : Index := Scalar.indexCast v21
  let c0_15 : Index := 0#32
  ![0, v22.toNat, 0]
def k0_off2 : Fin 3 → Nat :=
  let c0_24 : Index := 0#32
  let c0_i32 : BitVec 32 := 0#32
  let c16_i32 : BitVec 32 := 16#32
  let v20 : BitVec 32 := Scalar.muli c0_i32 c16_i32
  let v21 : BitVec 32 := v20
  let v51 : Index := Scalar.indexCast v21
  let c0_25 : Index := 0#32
  ![0, v51.toNat, 0]
def k0_off3 : Fin 3 → Nat :=
  let c0_29 : Index := 0#32
  let c0_i32 : BitVec 32 := 0#32
  let c16_i32 : BitVec 32 := 16#32
  let v20 : BitVec 32 := Scalar.muli c0_i32 c16_i32
  let v21 : BitVec 32 := v20
  let v59 : Index := Scalar.indexCast v21
  let c0_30 : Index := 0#32
  ![0, v59.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== StateCRefIdeal.lean ====
abbrev S8x4x6144 : Shape := ⟨3, ![8, 4, 6144]⟩
abbrev S8x4x16 : Shape := ⟨3, ![8, 4, 16]⟩
abbrev S16x1024 : Shape := ⟨2, ![16, 1024]⟩
abbrev S1024 : Shape := ⟨1, ![1024]⟩
abbrev S4x512 : Shape := ⟨2, ![4, 512]⟩
abbrev S8x4x256x512 : Shape := ⟨4, ![8, 4, 256, 512]⟩
abbrev S8x4x1024 : Shape := ⟨3, ![8, 4, 1024]⟩
abbrev S8x4x4x256 : Shape := ⟨4, ![8, 4, 4, 256]⟩
abbrev S_ : Shape := ⟨0, ![]⟩
abbrev S8x4x2048 : Shape := ⟨3, ![8, 4, 2048]⟩
abbrev S8x4x4x512 : Shape := ⟨4, ![8, 4, 4, 512]⟩
abbrev S1x1x1024 : Shape := ⟨3, ![1, 1, 1024]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S1x4x4x1x1 : Shape := ⟨5, ![1, 4, 4, 1, 1]⟩
abbrev S8x4x1x4x256 : Shape := ⟨5, ![8, 4, 1, 4, 256]⟩
abbrev S8x1x4x4x256 : Shape := ⟨5, ![8, 1, 4, 4, 256]⟩
abbrev S8x4x4x4x256 : Shape := ⟨5, ![8, 4, 4, 4, 256]⟩
abbrev S8x4x4x4 : Shape := ⟨4, ![8, 4, 4, 4]⟩
abbrev S8x4x512x4 : Shape := ⟨4, ![8, 4, 512, 4]⟩
abbrev S8x1x4x256 : Shape := ⟨4, ![8, 1, 4, 256]⟩
abbrev S8x4x256 : Shape := ⟨3, ![8, 4, 256]⟩
abbrev S8x4x256x1 : Shape := ⟨4, ![8, 4, 256, 1]⟩

abbrev nBuf : Space → Nat
  | .hbm => 90
  | .vmem => 0
  | .smem => 0
  | _ => 0

abbrev bufTy : (tb : Table) → Fin (tcTables nBuf tb) → BufTy
  | .hbm, ⟨0, _⟩ => ⟨S8x4x6144, .f32⟩
  | .hbm, ⟨1, _⟩ => ⟨S8x4x16, .f32⟩
  | .hbm, ⟨2, _⟩ => ⟨S16x1024, .f32⟩
  | .hbm, ⟨3, _⟩ => ⟨S1024, .f32⟩
  | .hbm, ⟨4, _⟩ => ⟨S4x512, .f32⟩
  | .hbm, ⟨5, _⟩ => ⟨S8x4x256x512, .f32⟩
  | .hbm, ⟨6, _⟩ => ⟨S8x4x1024, .f32⟩
  | .hbm, ⟨7, _⟩ => ⟨S8x4x4x256, .f32⟩
  | .hbm, ⟨8, _⟩ => ⟨S_, .f32⟩
  | .hbm, ⟨9, _⟩ => ⟨S8x4x4x256, .f32⟩
  | .hbm, ⟨10, _⟩ => ⟨S8x4x4x256, .f32⟩
  | .hbm, ⟨11, _⟩ => ⟨S8x4x1024, .f32⟩
  | .hbm, ⟨12, _⟩ => ⟨S8x4x4x256, .f32⟩
  | .hbm, ⟨13, _⟩ => ⟨S8x4x2048, .f32⟩
  | .hbm, ⟨14, _⟩ => ⟨S8x4x4x512, .f32⟩
  | .hbm, ⟨15, _⟩ => ⟨S8x4x1024, .f32⟩
  | .hbm, ⟨16, _⟩ => ⟨S1x1x1024, .f32⟩
  | .hbm, ⟨17, _⟩ => ⟨S8x4x1024, .f32⟩
  | .hbm, ⟨18, _⟩ => ⟨S8x4x1024, .f32⟩
  | .hbm, ⟨19, _⟩ => ⟨S8x4x1024, .f32⟩
  | .hbm, ⟨20, _⟩ => ⟨S_, .f32⟩
  | .hbm, ⟨21, _⟩ => ⟨S8x4x1024, .f32⟩
  | .hbm, ⟨22, _⟩ => ⟨S8x4x1024, .f32⟩
  | .hbm, ⟨23, _⟩ => ⟨S8x4x1024, .f32⟩
  | .hbm, ⟨24, _⟩ => ⟨S8x4x1024, .f32⟩
  | .hbm, ⟨25, _⟩ => ⟨S8x4x1024, .i1⟩
  | .hbm, ⟨26, _⟩ => ⟨S8x4x1024, .f32⟩
  | .hbm, ⟨27, _⟩ => ⟨S8x4x1024, .f32⟩
  | .hbm, ⟨28, _⟩ => ⟨S8x4x1024, .f32⟩
  | .hbm, ⟨29, _⟩ => ⟨S8x4x1024, .f32⟩
  | .hbm, ⟨30, _⟩ => ⟨S8x4x1024, .f32⟩
  | .hbm, ⟨31, _⟩ => ⟨S8x4x1024, .f32⟩
  | .hbm, ⟨32, _⟩ => ⟨S8x4x1024, .f32⟩
  | .hbm, ⟨33, _⟩ => ⟨S8x4x1024, .f32⟩
  | .hbm, ⟨34, _⟩ => ⟨S8x4x1024, .f32⟩
  | .hbm, ⟨35, _⟩ => ⟨S_, .f32⟩
  | .hbm, ⟨36, _⟩ => ⟨S8x4x1024, .f32⟩
  | .hbm, ⟨37, _⟩ => ⟨S8x4x1024, .f32⟩
  | .hbm, ⟨38, _⟩ => ⟨S8x4x4x256, .f32⟩
  | .hbm, ⟨39, _⟩ => ⟨S_, .f32⟩
  | .hbm, ⟨40, _⟩ => ⟨S_, .f32⟩
  | .hbm, ⟨41, _⟩ => ⟨S8x4x4x256, .f32⟩
  | .hbm, ⟨42, _⟩ => ⟨S4, .i32⟩
  | .hbm, ⟨43, _⟩ => ⟨S4x1, .i32⟩
  | .hbm, ⟨44, _⟩ => ⟨S1x4, .i32⟩
  | .hbm, ⟨45, _⟩ => ⟨S4x4, .i32⟩
  | .hbm, ⟨46, _⟩ => ⟨S4x4, .i32⟩
  | .hbm, ⟨47, _⟩ => ⟨S4x4, .i1⟩
  | .hbm, ⟨48, _⟩ => ⟨S1x4x4x1x1, .i1⟩
  | .hbm, ⟨49, _⟩ => ⟨S8x4x1x4x256, .f32⟩
  | .hbm, ⟨50, _⟩ => ⟨S8x1x4x4x256, .f32⟩
  | .hbm, ⟨51, _⟩ => ⟨S8x4x4x4x256, .f32⟩
  | .hbm, ⟨52, _⟩ => ⟨S8x4x4x4x256, .f32⟩
  | .hbm, ⟨53, _⟩ => ⟨S8x4x4x4x256, .f32⟩
  | .hbm, ⟨54, _⟩ => ⟨S_, .f32⟩
  | .hbm, ⟨55, _⟩ => ⟨S_, .f32⟩
  | .hbm, ⟨56, _⟩ => ⟨S8x4x4x4x256, .i1⟩
  | .hbm, ⟨57, _⟩ => ⟨S8x4x4x4x256, .f32⟩
  | .hbm, ⟨58, _⟩ => ⟨S8x4x4x4x256, .f32⟩
  | .hbm, ⟨59, _⟩ => ⟨S8x4x4x4x256, .f32⟩
  | .hbm, ⟨60, _⟩ => ⟨S_, .f32⟩
  | .hbm, ⟨61, _⟩ => ⟨S_, .f32⟩
  | .hbm, ⟨62, _⟩ => ⟨S8x4x4x4x256, .i1⟩
  | .hbm, ⟨63, _⟩ => ⟨S8x4x4x4x256, .f32⟩
  | .hbm, ⟨64, _⟩ => ⟨S8x4x4x4x256, .f32⟩
  | .hbm, ⟨65, _⟩ => ⟨S8x4x1x4x256, .f32⟩
  | .hbm, ⟨66, _⟩ => ⟨S8x4x4x4x256, .f32⟩
  | .hbm, ⟨67, _⟩ => ⟨S8x4x4x4x256, .f32⟩
  | .hbm, ⟨68, _⟩ => ⟨S8x4x4x4, .f32⟩
  | .hbm, ⟨69, _⟩ => ⟨S8x4x4x4, .f32⟩
  | .hbm, ⟨70, _⟩ => ⟨S8x4x512x4, .f32⟩
  | .hbm, ⟨71, _⟩ => ⟨S8x4x4x512, .f32⟩
  | .hbm, ⟨72, _⟩ => ⟨S8x4x4x256, .f32⟩
  | .hbm, ⟨73, _⟩ => ⟨S8x4x4x256, .f32⟩
  | .hbm, ⟨74, _⟩ => ⟨S8x4x512x4, .f32⟩
  | .hbm, ⟨75, _⟩ => ⟨S8x4x4x512, .f32⟩
  | .hbm, ⟨76, _⟩ => ⟨S8x1x4x256, .f32⟩
  | .hbm, ⟨77, _⟩ => ⟨S8x4x256, .f32⟩
  | .hbm, ⟨78, _⟩ => ⟨S8x4x256, .f32⟩
  | .hbm, ⟨79, _⟩ => ⟨S8x4x256x1, .f32⟩
  | .hbm, ⟨80, _⟩ => ⟨S8x4x256x512, .f32⟩
  | .hbm, ⟨81, _⟩ => ⟨S8x4x256x512, .f32⟩
  | .hbm, ⟨82, _⟩ => ⟨S8x1x4x256, .f32⟩
  | .hbm, ⟨83, _⟩ => ⟨S8x4x4x256, .f32⟩
  | .hbm, ⟨84, _⟩ => ⟨S8x4x4x256, .f32⟩
  | .hbm, ⟨85, _⟩ => ⟨S8x4x4x256, .f32⟩
  | .hbm, ⟨86, _⟩ => ⟨S8x4x4x256, .f32⟩
  | .hbm, ⟨87, _⟩ => ⟨S8x4x256x512, .f32⟩
  | .hbm, ⟨88, _⟩ => ⟨S8x4x256x512, .f32⟩
  | .hbm, ⟨89, _⟩ => ⟨S8x4x4x512, .f32⟩
  | _, _ => ⟨S8x4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call1_call0_cst : Ref sig .tc := ⟨.hbm, 39, rfl⟩
abbrev main_call1_call0_v0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_1 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v29 : Ref sig .tc := ⟨.hbm, 58, rfl⟩
abbrev main_v30 : Ref sig .tc := ⟨.hbm, 59, rfl⟩
abbrev main_cst_2 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== StateP.lean ====
abbrev S4x2048x6144 : Shape := ⟨3, ![4, 2048, 6144]⟩
abbrev S4x2048x16 : Shape := ⟨3, ![4, 2048, 16]⟩
abbrev S16x1024 : Shape := ⟨2, ![16, 1024]⟩
abbrev S1024 : Shape := ⟨1, ![1024]⟩
abbrev S4x512 : Shape := ⟨2, ![4, 512]⟩
abbrev S_ : Shape := ⟨0, ![]⟩
abbrev S4x2048x128 : Shape := ⟨3, ![4, 2048, 128]⟩
abbrev S128x1024 : Shape := ⟨2, ![128, 1024]⟩
abbrev S1x1024 : Shape := ⟨2, ![1, 1024]⟩
abbrev S4x1x512 : Shape := ⟨3, ![4, 1, 512]⟩
abbrev S4x2048x2048 : Shape := ⟨3, ![4, 2048, 2048]⟩
abbrev S4x4x256x512 : Shape := ⟨4, ![4, 4, 256, 512]⟩
abbrev S1x2048x256 : Shape := ⟨3, ![1, 2048, 256]⟩
abbrev S1x2048x512 : Shape := ⟨3, ![1, 2048, 512]⟩
abbrev S1x2048x128 : Shape := ⟨3, ![1, 2048, 128]⟩
abbrev S128x256 : Shape := ⟨2, ![128, 256]⟩
abbrev S1x256 : Shape := ⟨2, ![1, 256]⟩
abbrev S1x1x512 : Shape := ⟨3, ![1, 1, 512]⟩
abbrev S1x1x256x512 : Shape := ⟨4, ![1, 1, 256, 512]⟩
abbrev S256x512 : Shape := ⟨2, ![256, 512]⟩
abbrev S64x64 : Shape := ⟨2, ![64, 64]⟩
abbrev S64x128 : Shape := ⟨2, ![64, 128]⟩
abbrev S16x64 : Shape := ⟨2, ![16, 64]⟩
abbrev S16x1 : Shape := ⟨2, ![16, 1]⟩
abbrev S16x16 : Shape := ⟨2, ![16, 16]⟩
abbrev S1x512 : Shape := ⟨2, ![1, 512]⟩
abbrev S1x64x128 : Shape := ⟨3, ![1, 64, 128]⟩
abbrev S64x256 : Shape := ⟨2, ![64, 256]⟩
abbrev S1x64x256 : Shape := ⟨3, ![1, 64, 256]⟩
abbrev S1x64x512 : Shape := ⟨3, ![1, 64, 512]⟩
abbrev S64x512 : Shape := ⟨2, ![64, 512]⟩
abbrev S16x256 : Shape := ⟨2, ![16, 256]⟩
abbrev S16 : Shape := ⟨1, ![16]⟩
abbrev S64x16 : Shape := ⟨2, ![64, 16]⟩
abbrev S256x128 : Shape := ⟨2, ![256, 128]⟩
abbrev S64 : Shape := ⟨1, ![64]⟩
abbrev S64x1 : Shape := ⟨2, ![64, 1]⟩

abbrev nBuf : Space → Nat
  | .hbm => 15
  | .vmem => 20
  | .smem => 0
  | _ => 0

abbrev bufTy : (tb : Table) → Fin (tcTables nBuf tb) → BufTy
  | .hbm, ⟨0, _⟩ => ⟨S4x2048x6144, .f32⟩
  | .hbm, ⟨1, _⟩ => ⟨S4x2048x16, .f32⟩
  | .hbm, ⟨2, _⟩ => ⟨S16x1024, .f32⟩
  | .hbm, ⟨3, _⟩ => ⟨S1024, .f32⟩
  | .hbm, ⟨4, _⟩ => ⟨S4x512, .f32⟩
  | .hbm, ⟨5, _⟩ => ⟨S_, .i32⟩
  | .hbm, ⟨6, _⟩ => ⟨S_, .f32⟩
  | .hbm, ⟨7, _⟩ => ⟨S4x2048x128, .f32⟩
  | .hbm, ⟨8, _⟩ => ⟨S_, .i32⟩
  | .hbm, ⟨9, _⟩ => ⟨S_, .f32⟩
  | .hbm, ⟨10, _⟩ => ⟨S128x1024, .f32⟩
  | .hbm, ⟨11, _⟩ => ⟨S1x1024, .f32⟩
  | .hbm, ⟨12, _⟩ => ⟨S4x1x512, .f32⟩
  | .hbm, ⟨13, _⟩ => ⟨S4x2048x2048, .bf16⟩
  | .hbm, ⟨14, _⟩ => ⟨S4x4x256x512, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x512, .f32⟩
  | .local _ .vmem, ⟨5, _⟩ => ⟨S1x2048x512, .f32⟩
  | .local _ .vmem, ⟨6, _⟩ => ⟨S1x2048x512, .f32⟩
  | .local _ .vmem, ⟨7, _⟩ => ⟨S1x2048x512, .f32⟩
  | .local _ .vmem, ⟨8, _⟩ => ⟨S1x2048x128, .f32⟩
  | .local _ .vmem, ⟨9, _⟩ => ⟨S1x2048x128, .f32⟩
  | .local _ .vmem, ⟨10, _⟩ => ⟨S128x256, .f32⟩
  | .local _ .vmem, ⟨11, _⟩ => ⟨S128x256, .f32⟩
  | .local _ .vmem, ⟨12, _⟩ => ⟨S1x256, .f32⟩
  | .local _ .vmem, ⟨13, _⟩ => ⟨S1x256, .f32⟩
  | .local _ .vmem, ⟨14, _⟩ => ⟨S1x1x512, .f32⟩
  | .local _ .vmem, ⟨15, _⟩ => ⟨S1x1x512, .f32⟩
  | .local _ .vmem, ⟨16, _⟩ => ⟨S1x2048x512, .bf16⟩
  | .local _ .vmem, ⟨17, _⟩ => ⟨S1x2048x512, .bf16⟩
  | .local _ .vmem, ⟨18, _⟩ => ⟨S1x1x256x512, .f32⟩
  | .local _ .vmem, ⟨19, _⟩ => ⟨S1x1x256x512, .f32⟩
  | _, _ => ⟨S4x2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_28 : BitVec 32 := 0#32
  let c32_i32 : BitVec 32 := 32#32
  let v88 : BitVec 32 := Scalar.addi c0_i32_28 c32_i32
  let c1_i32_29 : BitVec 32 := 1#32
  ⟨c0_i32_28, v88, c1_i32_29⟩
def k0_mult1 (k0_t1 : Fin k0_t1_loop.trips) : BitVec 32 :=
  let c0_i32_28 : BitVec 32 := 0#32
  let c1_i32_29 : BitVec 32 := 1#32
  let arg12 : BitVec 32 := Scf.iv c0_i32_28 c1_i32_29 k0_t1
  let c64_i32 : BitVec 32 := 64#32
  let v89 : BitVec 32 := Scalar.muli arg12 c64_i32
  v89
def k0_off1 (k0_t1 : Fin k0_t1_loop.trips) : Fin 3 → Nat :=
  let c0_31 : Index := 0#32
  let c0_i32_28 : BitVec 32 := 0#32
  let c1_i32_29 : BitVec 32 := 1#32
  let arg12 : BitVec 32 := Scf.iv c0_i32_28 c1_i32_29 k0_t1
  let c64_i32 : BitVec 32 := 64#32
  let v89 : BitVec 32 := Scalar.muli arg12 c64_i32
  let v90 : BitVec 32 := v89
  let v91 : Index := Scalar.indexCast v90
  let c0_32 : Index := 0#32
  ![0, v91.toNat, 0]
def k0_off2 (k0_t1 : Fin k0_t1_loop.trips) : Fin 3 → Nat :=
  let c0_40 : Index := 0#32
  let c0_i32_28 : BitVec 32 := 0#32
  let c1_i32_29 : BitVec 32 := 1#32
  let arg12 : BitVec 32 := Scf.iv c0_i32_28 c1_i32_29 k0_t1
  let c64_i32 : BitVec 32 := 64#32
  let v89 : BitVec 32 := Scalar.muli arg12 c64_i32
  let v90 : BitVec 32 := v89
  let v114 : Index := Scalar.indexCast v90
  let c0_41 : Index := 0#32
  ![0, v114.toNat, 0]
def k0_off3 (k0_t1 : Fin k0_t1_loop.trips) : Fin 3 → Nat :=
  let c0_45 : Index := 0#32
  let c0_i32_28 : BitVec 32 := 0#32
  let c1_i32_29 : BitVec 32 := 1#32
  let arg12 : BitVec 32 := Scf.iv c0_i32_28 c1_i32_29 k0_t1
  let c64_i32 : BitVec 32 := 64#32
  let v89 : BitVec 32 := Scalar.muli arg12 c64_i32
  let v90 : BitVec 32 := v89
  let v122 : Index := Scalar.indexCast v90
  let c0_46 : Index := 0#32
  ![0, v122.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== StatePRefIdeal.lean ====
abbrev S4x2048x6144 : Shape := ⟨3, ![4, 2048, 6144]⟩
abbrev S4x2048x16 : Shape := ⟨3, ![4, 2048, 16]⟩
abbrev S16x1024 : Shape := ⟨2, ![16, 1024]⟩
abbrev S1024 : Shape := ⟨1, ![1024]⟩
abbrev S4x512 : Shape := ⟨2, ![4, 512]⟩
abbrev S_ : Shape := ⟨0, ![]⟩
abbrev S4x4x256x512 : Shape := ⟨4, ![4, 4, 256, 512]⟩
abbrev S4x2048x1024 : Shape := ⟨3, ![4, 2048, 1024]⟩
abbrev S4x2048x4x256 : Shape := ⟨4, ![4, 2048, 4, 256]⟩
abbrev S4x2048x2048 : Shape := ⟨3, ![4, 2048, 2048]⟩
abbrev S4x2048x4x512 : Shape := ⟨4, ![4, 2048, 4, 512]⟩
abbrev S1x1x1024 : Shape := ⟨3, ![1, 1, 1024]⟩
abbrev S4x32x64x4x256 : Shape := ⟨5, ![4, 32, 64, 4, 256]⟩
abbrev S32x4x64x4x256 : Shape := ⟨5, ![32, 4, 64, 4, 256]⟩
abbrev S4x32x64x4x512 : Shape := ⟨5, ![4, 32, 64, 4, 512]⟩
abbrev S32x4x64x4x512 : Shape := ⟨5, ![32, 4, 64, 4, 512]⟩
abbrev S1x4x64x4x256 : Shape := ⟨5, ![1, 4, 64, 4, 256]⟩
abbrev S4x64x4x256 : Shape := ⟨4, ![4, 64, 4, 256]⟩
abbrev S1x4x64x4x512 : Shape := ⟨5, ![1, 4, 64, 4, 512]⟩
abbrev S4x64x4x512 : Shape := ⟨4, ![4, 64, 4, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64x1x1 : Shape := ⟨5, ![1, 64, 64, 1, 1]⟩
abbrev S4x64x1x4x256 : Shape := ⟨5, ![4, 64, 1, 4, 256]⟩
abbrev S4x1x64x4x256 : Shape := ⟨5, ![4, 1, 64, 4, 256]⟩
abbrev S4x64x64x4x256 : Shape := ⟨5, ![4, 64, 64, 4, 256]⟩
abbrev S4x4x64x64 : Shape := ⟨4, ![4, 4, 64, 64]⟩
abbrev S4x4x512x64 : Shape := ⟨4, ![4, 4, 512, 64]⟩
abbrev S4x1x4x256 : Shape := ⟨4, ![4, 1, 4, 256]⟩
abbrev S4x4x256 : Shape := ⟨3, ![4, 4, 256]⟩
abbrev S4x4x256x1 : Shape := ⟨4, ![4, 4, 256, 1]⟩

abbrev nBuf : Space → Nat
  | .hbm => 145
  | .vmem => 0
  | .smem => 0
  | _ => 0

abbrev hbmTy0_0 (i : Nat) : BufTy := match i % 128 with
  | 0 => ⟨S4x2048x6144, .f32⟩
  | 1 => ⟨S4x2048x16, .f32⟩
  | 2 => ⟨S16x1024, .f32⟩
  | 3 => ⟨S1024, .f32⟩
  | 4 => ⟨S4x512, .f32⟩
  | 5 => ⟨S_, .f32⟩
  | 6 => ⟨S4x4x256x512, .f32⟩
  | 7 => ⟨S4x2048x1024, .f32⟩
  | 8 => ⟨S4x2048x4x256, .f32⟩
  | 9 => ⟨S_, .f32⟩
  | 10 => ⟨S4x2048x4x256, .f32⟩
  | 11 => ⟨S4x2048x4x256, .f32⟩
  | 12 => ⟨S4x2048x1024, .f32⟩
  | 13 => ⟨S4x2048x4x256, .f32⟩
  | 14 => ⟨S4x2048x2048, .f32⟩
  | 15 => ⟨S4x2048x4x512, .f32⟩
  | 16 => ⟨S4x2048x1024, .f32⟩
  | 17 => ⟨S1x1x1024, .f32⟩
  | 18 => ⟨S4x2048x1024, .f32⟩
  | 19 => ⟨S4x2048x1024, .f32⟩
  | 20 => ⟨S4x2048x1024, .f32⟩
  | 21 => ⟨S_, .f32⟩
  | 22 => ⟨S4x2048x1024, .f32⟩
  | 23 => ⟨S4x2048x1024, .f32⟩
  | 24 => ⟨S4x2048x1024, .f32⟩
  | 25 => ⟨S4x2048x1024, .f32⟩
  | 26 => ⟨S4x2048x1024, .i1⟩
  | 27 => ⟨S4x2048x1024, .f32⟩
  | 28 => ⟨S4x2048x1024, .f32⟩
  | 29 => ⟨S4x2048x1024, .f32⟩
  | 30 => ⟨S4x2048x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S_, .f32⟩
  | 37 => ⟨S4x2048x1024, .f32⟩
  | 38 => ⟨S4x2048x1024, .f32⟩
  | 39 => ⟨S4x2048x4x256, .f32⟩
  | 40 => ⟨S4x32x64x4x256, .f32⟩
  | 41 => ⟨S32x4x64x4x256, .f32⟩
  | 42 => ⟨S4x32x64x4x256, .f32⟩
  | 43 => ⟨S32x4x64x4x256, .f32⟩
  | 44 => ⟨S4x32x64x4x512, .f32⟩
  | 45 => ⟨S32x4x64x4x512, .f32⟩
  | 46 => ⟨S4x32x64x4x256, .f32⟩
  | 47 => ⟨S32x4x64x4x256, .f32⟩
  | 48 => ⟨S_, .f32⟩
  | 49 => ⟨S32x4x64x4x512, .f32⟩
  | 50 => ⟨S_, .i32⟩
  | 51 => ⟨S32x4x64x4x256, .f32⟩
  | 52 => ⟨S32x4x64x4x256, .f32⟩
  | 53 => ⟨S32x4x64x4x512, .f32⟩
  | 54 => ⟨S32x4x64x4x256, .f32⟩
  | 55 => ⟨S_, .i32⟩
  | 56 => ⟨S4x4x256x512, .f32⟩
  | 57 => ⟨S32x4x64x4x512, .f32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S1x4x64x4x256, .f32⟩
  | 65 => ⟨S4x64x4x256, .f32⟩
  | 66 => ⟨S_, .i32⟩
  | 67 => ⟨S_, .i32⟩
  | 68 => ⟨S_, .i32⟩
  | 69 => ⟨S_, .i32⟩
  | 70 => ⟨S1x4x64x4x256, .f32⟩
  | 71 => ⟨S4x64x4x256, .f32⟩
  | 72 => ⟨S_, .i32⟩
  | 73 => ⟨S_, .i32⟩
  | 74 => ⟨S_, .i32⟩
  | 75 => ⟨S_, .i32⟩
  | 76 => ⟨S1x4x64x4x512, .f32⟩
  | 77 => ⟨S4x64x4x512, .f32⟩
  | 78 => ⟨S_, .i32⟩
  | 79 => ⟨S_, .i32⟩
  | 80 => ⟨S_, .i32⟩
  | 81 => ⟨S_, .i32⟩
  | 82 => ⟨S1x4x64x4x256, .f32⟩
  | 83 => ⟨S4x64x4x256, .f32⟩
  | 84 => ⟨S_, .f32⟩
  | 85 => ⟨S_, .f32⟩
  | 86 => ⟨S4x64x4x256, .f32⟩
  | 87 => ⟨S64, .i32⟩
  | 88 => ⟨S64x1, .i32⟩
  | 89 => ⟨S1x64, .i32⟩
  | 90 => ⟨S64x64, .i32⟩
  | 91 => ⟨S64x64, .i32⟩
  | 92 => ⟨S64x64, .i1⟩
  | 93 => ⟨S1x64x64x1x1, .i1⟩
  | 94 => ⟨S4x64x1x4x256, .f32⟩
  | 95 => ⟨S4x1x64x4x256, .f32⟩
  | 96 => ⟨S4x64x64x4x256, .f32⟩
  | 97 => ⟨S4x64x64x4x256, .f32⟩
  | 98 => ⟨S4x64x64x4x256, .f32⟩
  | 99 => ⟨S_, .f32⟩
  | 100 => ⟨S_, .f32⟩
  | 101 => ⟨S4x64x64x4x256, .i1⟩
  | 102 => ⟨S4x64x64x4x256, .f32⟩
  | 103 => ⟨S4x64x64x4x256, .f32⟩
  | 104 => ⟨S4x64x64x4x256, .f32⟩
  | 105 => ⟨S_, .f32⟩
  | 106 => ⟨S_, .f32⟩
  | 107 => ⟨S4x64x64x4x256, .i1⟩
  | 108 => ⟨S4x64x64x4x256, .f32⟩
  | 109 => ⟨S4x64x64x4x256, .f32⟩
  | 110 => ⟨S4x64x1x4x256, .f32⟩
  | 111 => ⟨S4x64x64x4x256, .f32⟩
  | 112 => ⟨S4x64x64x4x256, .f32⟩
  | 113 => ⟨S4x4x64x64, .f32⟩
  | 114 => ⟨S4x4x64x64, .f32⟩
  | 115 => ⟨S4x4x512x64, .f32⟩
  | 116 => ⟨S4x64x4x512, .f32⟩
  | 117 => ⟨S4x64x4x256, .f32⟩
  | 118 => ⟨S4x64x4x256, .f32⟩
  | 119 => ⟨S4x4x512x64, .f32⟩
  | 120 => ⟨S4x64x4x512, .f32⟩
  | 121 => ⟨S4x1x4x256, .f32⟩
  | 122 => ⟨S4x4x256, .f32⟩
  | 123 => ⟨S4x4x256, .f32⟩
  | 124 => ⟨S4x4x256x1, .f32⟩
  | 125 => ⟨S4x4x256x512, .f32⟩
  | 126 => ⟨S4x4x256x512, .f32⟩
  | 127 => ⟨S4x1x4x256, .f32⟩
  | _ => ⟨S4x2048x6144, .f32⟩

abbrev hbmTy0_1 (i : Nat) : BufTy := match i % 128 with
  | 0 => ⟨S4x64x4x256, .f32⟩
  | 1 => ⟨S4x64x4x256, .f32⟩
  | 2 => ⟨S4x64x4x256, .f32⟩
  | 3 => ⟨S4x64x4x256, .f32⟩
  | 4 => ⟨S4x4x256x512, .f32⟩
  | 5 => ⟨S4x4x256x512, .f32⟩
  | 6 => ⟨S4x64x4x512, .f32⟩
  | 7 => ⟨S1x4x64x4x512, .f32⟩
  | 8 => ⟨S_, .i32⟩
  | 9 => ⟨S_, .i32⟩
  | 10 => ⟨S_, .i32⟩
  | 11 => ⟨S_, .i32⟩
  | 12 => ⟨S32x4x64x4x512, .f32⟩
  | 13 => ⟨S_, .i32⟩
  | 14 => ⟨S_, .i32⟩
  | 15 => ⟨S4x32x64x4x512, .f32⟩
  | 16 => ⟨S4x2048x4x512, .f32⟩
  | _ => ⟨S4x2048x6144, .f32⟩

abbrev hbmTy (i : Nat) : BufTy := match i / 128 with
  | 0 => hbmTy0_0 i
  | 1 => hbmTy0_1 i
  | _ => ⟨S4x2048x6144, .f32⟩

abbrev bufTy : (tb : Table) → Fin (tcTables nBuf tb) → BufTy
  | .hbm, ⟨i, _⟩ => hbmTy i
  | _, _ => ⟨S4x2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_c : Ref sig .tc := ⟨.hbm, 50, rfl⟩
abbrev main_v26_0 : Ref sig .tc := ⟨.hbm, 51, rfl⟩
abbrev main_v26_1 : Ref sig .tc := ⟨.hbm, 52, rfl⟩
abbrev main_v26_2 : Ref sig .tc := ⟨.hbm, 53, rfl⟩
abbrev main_v26_3 : Ref sig .tc := ⟨.hbm, 54, rfl⟩
abbrev main_v26_4 : Ref sig .tc := ⟨.hbm, 55, rfl⟩
abbrev main_v26_5 : Ref sig .tc := ⟨.hbm, 56, rfl⟩
abbrev main_v26_6 : Ref sig .tc := ⟨.hbm, 57, rfl⟩
abbrev main_while0c_c_9 : Ref sig .tc := ⟨.hbm, 58, rfl⟩
abbrev main_while0c_v29 : Ref sig .tc := ⟨.hbm, 59, rfl⟩
abbrev main_while0b_call1_c : Ref sig .tc := ⟨.hbm, 60, rfl⟩
abbrev main_while0b_call1_c_0 : Ref sig .tc := ⟨.hbm, 61, rfl⟩
abbrev main_while0b_call1_c_1 : Ref sig .tc := ⟨.hbm, 62, rfl⟩
abbrev main_while0b_call1_c_2 : Ref sig .tc := ⟨.hbm, 63, rfl⟩
abbrev main_while0b_call1_v0 : Ref sig .tc := ⟨.hbm, 64, rfl⟩
abbrev main_while0b_v29 : Ref sig .tc := ⟨.hbm, 65, rfl⟩
abbrev main_while0b_call2_c : Ref sig .tc := ⟨.hbm, 66, rfl⟩
abbrev main_while0b_call2_c_0 : Ref sig .tc := ⟨.hbm, 67, rfl⟩
abbrev main_while0b_call2_c_1 : Ref sig .tc := ⟨.hbm, 68, rfl⟩
abbrev main_while0b_call2_c_2 : Ref sig .tc := ⟨.hbm, 69, rfl⟩
abbrev main_while0b_call2_v0 : Ref sig .tc := ⟨.hbm, 70, rfl⟩
abbrev main_while0b_v30 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_call3_v0 : Ref sig .tc := ⟨.hbm, 76, rfl⟩
abbrev main_while0b_v31 : Ref sig .tc := ⟨.hbm, 77, rfl⟩
abbrev main_while0b_call4_c : Ref sig .tc := ⟨.hbm, 78, rfl⟩
abbrev main_while0b_call4_c_0 : Ref sig .tc := ⟨.hbm, 79, rfl⟩
abbrev main_while0b_call4_c_1 : Ref sig .tc := ⟨.hbm, 80, rfl⟩
abbrev main_while0b_call4_c_2 : Ref sig .tc := ⟨.hbm, 81, rfl⟩
abbrev main_while0b_call4_v0 : Ref sig .tc := ⟨.hbm, 82, rfl⟩
abbrev main_while0b_v32 : Ref sig .tc := ⟨.hbm, 83, rfl⟩
abbrev main_while0b_call5_call0_cst : Ref sig .tc := ⟨.hbm, 84, rfl⟩
abbrev main_while0b_call5_call0_v0 : Ref sig .tc := ⟨.hbm, 85, rfl⟩
abbrev main_while0b_v33 : Ref sig .tc := ⟨.hbm, 86, rfl⟩
abbrev main_while0b_v34 : Ref sig .tc := ⟨.hbm, 87, rfl⟩
abbrev main_while0b_v35 : Ref sig .tc := ⟨.hbm, 88, rfl⟩
abbrev main_while0b_v36 : Ref sig .tc := ⟨.hbm, 89, rfl⟩
abbrev main_while0b_v37 : Ref sig .tc := ⟨.hbm, 90, rfl⟩
abbrev main_while0b_v38 : Ref sig .tc := ⟨.hbm, 91, rfl⟩
abbrev main_while0b_v39 : Ref sig .tc := ⟨.hbm, 92, rfl⟩
abbrev main_while0b_v40 : Ref sig .tc := ⟨.hbm, 93, rfl⟩
abbrev main_while0b_v41 : Ref sig .tc := ⟨.hbm, 94, rfl⟩
abbrev main_while0b_v42 : Ref sig .tc := ⟨.hbm, 95, rfl⟩
abbrev main_while0b_v43 : Ref sig .tc := ⟨.hbm, 96, rfl⟩
abbrev main_while0b_v44 : Ref sig .tc := ⟨.hbm, 97, rfl⟩
abbrev main_while0b_v45 : Ref sig .tc := ⟨.hbm, 98, rfl⟩
abbrev main_while0b_cst_9 : Ref sig .tc := ⟨.hbm, 99, rfl⟩
abbrev main_while0b_call6_v0 : Ref sig .tc := ⟨.hbm, 100, rfl⟩
abbrev main_while0b_call6_v1 : Ref sig .tc := ⟨.hbm, 101, rfl⟩
abbrev main_while0b_call6_v2 : Ref sig .tc := ⟨.hbm, 102, rfl⟩
abbrev main_while0b_v46 : Ref sig .tc := ⟨.hbm, 103, rfl⟩
abbrev main_while0b_v47 : Ref sig .tc := ⟨.hbm, 104, rfl⟩
abbrev main_while0b_cst_10 : Ref sig .tc := ⟨.hbm, 105, rfl⟩
abbrev main_while0b_call7_v0 : Ref sig .tc := ⟨.hbm, 106, rfl⟩
abbrev main_while0b_call7_v1 : Ref sig .tc := ⟨.hbm, 107, rfl⟩
abbrev main_while0b_call7_v2 : Ref sig .tc := ⟨.hbm, 108, rfl⟩
abbrev main_while0b_v48 : Ref sig .tc := ⟨.hbm, 109, rfl⟩
abbrev main_while0b_v49 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_call8_c_2 : Ref sig .tc := ⟨.hbm, 139, rfl⟩
abbrev main_while0b_v74 : Ref sig .tc := ⟨.hbm, 140, rfl⟩
abbrev main_while0b_c_11 : Ref sig .tc := ⟨.hbm, 141, rfl⟩
abbrev main_while0b_v75 : Ref sig .tc := ⟨.hbm, 142, rfl⟩
abbrev main_v27 : Ref sig .tc := ⟨.hbm, 143, rfl⟩
abbrev main_v28 : Ref sig .tc := ⟨.hbm, 144, rfl⟩

abbrev nD : Nat := 1
abbrev τ : Topo := Topo.v7x

variable {F : FTy → Type} [FloatOps F]

abbrev main_while0_count : Scf.Loop 32 := ⟨0#32, 32#32, 1#32⟩
-- ==== Proof.ProjA.lean ====
module

public import proofs.«01_k».proof.Proof.Gen.ProjAIdeal.Value
public import proofs.«01_k».proof.Proof.Gen.ProjARefIdeal.Read
public import Idealize.ShloMosaic.Lib.Pipeline.ValueKit
public import Idealize.ShloMosaic.Lib.Pipeline.ValueKit.Held

@[expose] public section

set_option maxRecDepth 16384

noncomputable section

/-! The projection: rows normalised by their root mean square, times a weight matrix. -/

namespace Cert.ProjAIdeal.Own

open Cert.ProjAIdeal Cert.ProjAIdeal.Gen Idealize.ShloMosaic Idealize.ShloMosaic.TcCoe Idealize.SL.Sem

/-- An entry of a row after the normalisation: it over the root of the row's mean square (plus the small constant),
    times the gain. -/
def normed (x g : Fin 2048 → EReal) (k : Fin 2048) : EReal :=
  x k * Ideal.rsqrt (Ideal.div (∑ j : Fin 2048, x j * x j) (Ideal.ofBits FTy.f32 1157627904#32)
    + Ideal.ofBits FTy.f32 897988541#32) * g k

/-- The projection of every row: the normalised row times the first weight matrix. -/
def PROJ (x : Vec Ideal S8192x2048 .f32) (g : Vec Ideal S1x2048 .f32) (w : Vec Ideal S2x2048x20480 .f32) : Vec Ideal S8192x20480 .f32 :=
  fun i => ∑ k : Fin 2048, normed (fun k => x (ix2 (i 0) k)) (fun k => g (ix2 0 k)) k * w (ix3 0 k (i 1))

/-- What one point stores: the scratch's rows times the point's columns. -/
theorem tile_apply (v3 : Vec Ideal S1024x2048 .bf16) (v4 : Vec Ideal S1x2048x512 .f32) (r : Fin 1024) (n : Fin 512) :
    k0_pay2 (F := Ideal) v3 v4 (ix2 r n) = ∑ k : Fin 2048, v3 (ix2 r k) * v4 (ix3 0 k n) := by
  pointwise [k0_pay2]

/-- What the first point of a row block stores into the scratch: the block's rows normalised. -/
theorem norm_apply (x : Vec Ideal S1024x2048 .f32) (g : Vec Ideal S1x2048 .f32) (r : Fin 1024) (k : Fin 2048) :
    k0_pay1 (F := Ideal) x g (ix2 r k) = normed (fun k => x (ix2 r k)) (fun k => g (ix2 0 k)) k := by
  pointwise [k0_pay1, normed]

open Cert.ProjARefIdeal.Read in
/-- The reference's result is the projection. -/
theorem ref_eq (x : Vec Ideal S8192x2048 .f32) (g : Vec Ideal S1x2048 .f32) (w : Vec Ideal S2x2048x20480 .f32) :
    val_main_v14 (F := Ideal) x g w = PROJ x g w := by
  funext i
  idx_vars i
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, PROJ, normed]

/-- The grid's points: `t` is row block `t / 40`, column tile `t % 40`. -/
theorem idx : ∀ t : Fin cfg0.N, win0_0.index t = ![t.val / 40, 0] ∧ win0_1.index t = ![0, 0] ∧ win0_2.index t = ![0, 0, t.val % 40]
    ∧ win0_3.index t = ![t.val / 40, t.val % 40] := (by decide +kernel : ∀ t : Fin grid0.N, _)

variable (m : (ℓ : Loc nD τ sig) → Buf (Elt Ideal) ℓ)

/-- Row `r` of point `t`'s rows is row `1024 (t / 40) + r` of the argument. -/
theorem rows_apply (c : Dev nD) (t : Fin cfg0.N) (r : Fin 1024) (k : Fin 2048) (R : Fin 8192) (h : R.val = t.val / 40 * 1024 + r.val) :
    iblk m c 0 t (ix2 r k) = V m c main_arg0 (ix2 R k) := by
  obtain ⟨e0, e1, e2, e3⟩ := idx t
  obtain ⟨R, hR⟩ := R
  subst h
  blk_point [iblk, e0]

/-- The gains are the same at every point. -/
theorem gain_apply (c : Dev nD) (t : Fin cfg0.N) (k : Fin 2048) :
    iblk m c 1 t (ix2 0 k) = V m c main_arg1 (ix2 0 k) := by
  obtain ⟨e0, e1, e2, e3⟩ := idx t
  blk_point [iblk, e1]

/-- Column `n` of point `t`'s weights is column `512 (t % 40) + n` of the first matrix. -/
theorem cols_apply (c : Dev nD) (t : Fin cfg0.N) (k : Fin 2048) (n : Fin 512) (N : Fin 20480) (h : N.val = t.val % 40 * 512 + n.val) :
    iblk m c 2 t (ix3 0 k n) = V m c main_arg2 (ix3 0 k N) := by
  obtain ⟨e0, e1, e2, e3⟩ := idx t
  obtain ⟨N, hN⟩ := N
  subst h
  blk_point [iblk, e2]

/-- A row block's first point leaves its rows, normalised, in the scratch. -/
theorem scratch_first (c : Dev nD) (t : Fin cfg0.N) (h : t.val % 40 = 0) :
    (outsAt0 m c t.val t.isLt).2 = k0_pay1 (F := Ideal) (iblk m c 0 t) (iblk m c 1 t) := by
  rw [outsAt0_A m c t h]
  frame_out

/-- The other points leave the scratch as it was. -/
theorem scratch_held (c : Dev nD) (t : Fin cfg0.N) (h : ¬t.val % 40 = 0) :
    (outsAt0 m c t.val t.isLt).2 = (outsAt0 m c (t.val - 1) (Nat.lt_of_le_of_lt (Nat.sub_le _ _) t.isLt)).2 := by
  rw [outsAt0_B m c t h]
  rfl

/-- Every point stores its scratch's rows times its columns. -/
theorem tile_eq (c : Dev nD) (t : Fin cfg0.N) :
    (outsAt0 m c t.val t.isLt).1 = k0_pay2 (F := Ideal) (outsAt0 m c t.val t.isLt).2 (iblk m c 2 t) := by
  by_cases h : t.val % 40 = 0
  · rw [outsAt0_A m c t h]
    frame_out
  · rw [outsAt0_B m c t h]
    frame_out
    exact congrArg (fun s => k0_pay2 (F := Ideal) s (iblk m c 2 t)) ((Memref.isWhole_whole _).read_unread _)

/-- At every point the scratch holds the normalised rows of the point's row block. -/
theorem scratch_apply (c : Dev nD) (t : Fin cfg0.N) (r : Fin 1024) (k : Fin 2048) (R : Fin 8192) (h : R.val = t.val / 40 * 1024 + r.val) :
    (outsAt0 m c t.val t.isLt).2 (ix2 r k)
      = normed (fun k => V m c main_arg0 (ix2 R k)) (fun k => V m c main_arg1 (ix2 0 k)) k := by
  rw [Pipeline.eq_of_write_hold (fun n h => (outsAt0 m c n h).2) 40 (fun t => k0_pay1 (F := Ideal) (iblk m c 0 t) (iblk m c 1 t))
    (scratch_first m c) (scratch_held m c) t, norm_apply]
  have e1 := fun k => rows_apply m c ⟨40 * (t.val / 40), Pipeline.run_start_lt t⟩ r k R (by dsimp only; omega)
  have e2 := fun k => gain_apply m c ⟨40 * (t.val / 40), Pipeline.run_start_lt t⟩ k
  simp only [e1, e2]

/-- Entry `(a, b)` of what point `t` stores is the projection's entry at its place in the array. -/
theorem point (c : Dev nD) (t : Fin cfg0.N) (a : Fin 1024) (b : Fin 512) (i : S8192x20480.Idx)
    (h0 : (i 0).val = t.val / 40 * 1024 + a.val) (h1 : (i 1).val = t.val % 40 * 512 + b.val) :
    k0_pay2 (F := Ideal) (outsAt0 m c t.val t.isLt).2 (iblk m c 2 t) (ix2 a b)
      = PROJ (V m c main_arg0) (V m c main_arg1) (V m c main_arg2) i := by
  rw [tile_apply]
  refine Finset.sum_congr rfl fun k _ => ?_
  rw [scratch_apply m c t a k (i 0) h0, cols_apply m c t k b (i 1) h1]

/-- The array the run leaves is the projection of the arguments. -/
theorem final (c : Dev nD) : (dats m 0 c).arrAt 3 cfg0.N
    = PROJ (V m c main_arg0) (V m c main_arg1) (V m c main_arg2) := by
  refine (dats m 0 c).arrAt_eq_of_covers 3 _ (by decide +kernel) fun t _ y => ?_
  blk_simp
  rw [after0_3, tile_eq]
  revert y
  show ∀ y : S1024x512.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 512 + 1 * y1.val := rfl
  rw [e3] at h0 h1
  exact point m c t y0 y1 _ (by rw [h0]; simp) (by rw [h1]; simp)

/-- The kernel's run leaves the projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.ProjAIdeal.Value.run_blocks m ρ)

end Cert.ProjAIdeal.Own

namespace Cert.ProjARefIdeal.Own

open Cert.ProjARefIdeal Cert.ProjARefIdeal.Gen Idealize.ShloMosaic Idealize.ShloMosaic.TcCoe Idealize.SL.Sem

/-- The reference's run leaves the projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = Cert.ProjAIdeal.Own.PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v14_eq _ _ _).trans (Cert.ProjAIdeal.Own.ref_eq _ _ _)), (h c).2⟩)
    (Value.run m ρ)

end Cert.ProjARefIdeal.Own

end
-- ==== Proof.ProjB.lean ====
module

public import proofs.«01_k».proof.Proof.Gen.ProjBIdeal.Value
public import proofs.«01_k».proof.Proof.Gen.ProjBRefIdeal.Read
public import Idealize.ShloMosaic.Lib.Pipeline.ValueKit
public import Idealize.ShloMosaic.Lib.Pipeline.ValueKit.Held

@[expose] public section

set_option maxRecDepth 16384

noncomputable section

/-! The projection: rows normalised by their root mean square, times a weight matrix. -/

namespace Cert.ProjBIdeal.Own

open Cert.ProjBIdeal Cert.ProjBIdeal.Gen Idealize.ShloMosaic Idealize.ShloMosaic.TcCoe Idealize.SL.Sem

/-- An entry of a row after the normalisation: it over the root of the row's mean square (plus the small constant),
    times the gain. -/
def normed (x g : Fin 2048 → EReal) (k : Fin 2048) : EReal :=
  x k * Ideal.rsqrt (Ideal.div (∑ j : Fin 2048, x j * x j) (Ideal.ofBits FTy.f32 1157627904#32)
    + Ideal.ofBits FTy.f32 897988541#32) * g k

/-- The projection of every row: the normalised row times the first weight matrix. -/
def PROJ (x : Vec Ideal S8192x2048 .f32) (g : Vec Ideal S1x2048 .f32) (w : Vec Ideal S1x2048x12288 .f32) : Vec Ideal S8192x12288 .f32 :=
  fun i => ∑ k : Fin 2048, normed (fun k => x (ix2 (i 0) k)) (fun k => g (ix2 0 k)) k * w (ix3 0 k (i 1))

/-- What one point stores: the scratch's rows times the point's columns. -/
theorem tile_apply (v3 : Vec Ideal S1024x2048 .bf16) (v4 : Vec Ideal S1x2048x512 .f32) (r : Fin 1024) (n : Fin 512) :
    k0_pay2 (F := Ideal) v3 v4 (ix2 r n) = ∑ k : Fin 2048, v3 (ix2 r k) * v4 (ix3 0 k n) := by
  pointwise [k0_pay2]

/-- What the first point of a row block stores into the scratch: the block's rows normalised. -/
theorem norm_apply (x : Vec Ideal S1024x2048 .f32) (g : Vec Ideal S1x2048 .f32) (r : Fin 1024) (k : Fin 2048) :
    k0_pay1 (F := Ideal) x g (ix2 r k) = normed (fun k => x (ix2 r k)) (fun k => g (ix2 0 k)) k := by
  pointwise [k0_pay1, normed]

open Cert.ProjBRefIdeal.Read in
/-- The reference's result is the projection. -/
theorem ref_eq (x : Vec Ideal S8192x2048 .f32) (g : Vec Ideal S1x2048 .f32) (w : Vec Ideal S1x2048x12288 .f32) :
    val_main_v13 (F := Ideal) x g w = PROJ x g w := by
  funext i
  idx_vars i
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, PROJ, normed]

/-- The grid's points: `t` is row block `t / 24`, column tile `t % 24`. -/
theorem idx : ∀ t : Fin cfg0.N, win0_0.index t = ![t.val / 24, 0] ∧ win0_1.index t = ![0, 0] ∧ win0_2.index t = ![0, 0, t.val % 24]
    ∧ win0_3.index t = ![t.val / 24, t.val % 24] := (by decide +kernel : ∀ t : Fin grid0.N, _)

variable (m : (ℓ : Loc nD τ sig) → Buf (Elt Ideal) ℓ)

/-- Row `r` of point `t`'s rows is row `1024 (t / 24) + r` of the argument. -/
theorem rows_apply (c : Dev nD) (t : Fin cfg0.N) (r : Fin 1024) (k : Fin 2048) (R : Fin 8192) (h : R.val = t.val / 24 * 1024 + r.val) :
    iblk m c 0 t (ix2 r k) = V m c main_arg0 (ix2 R k) := by
  obtain ⟨e0, e1, e2, e3⟩ := idx t
  obtain ⟨R, hR⟩ := R
  subst h
  blk_point [iblk, e0]

/-- The gains are the same at every point. -/
theorem gain_apply (c : Dev nD) (t : Fin cfg0.N) (k : Fin 2048) :
    iblk m c 1 t (ix2 0 k) = V m c main_arg1 (ix2 0 k) := by
  obtain ⟨e0, e1, e2, e3⟩ := idx t
  blk_point [iblk, e1]

/-- Column `n` of point `t`'s weights is column `512 (t % 24) + n` of the first matrix. -/
theorem cols_apply (c : Dev nD) (t : Fin cfg0.N) (k : Fin 2048) (n : Fin 512) (N : Fin 12288) (h : N.val = t.val % 24 * 512 + n.val) :
    iblk m c 2 t (ix3 0 k n) = V m c main_arg2 (ix3 0 k N) := by
  obtain ⟨e0, e1, e2, e3⟩ := idx t
  obtain ⟨N, hN⟩ := N
  subst h
  blk_point [iblk, e2]

/-- A row block's first point leaves its rows, normalised, in the scratch. -/
theorem scratch_first (c : Dev nD) (t : Fin cfg0.N) (h : t.val % 24 = 0) :
    (outsAt0 m c t.val t.isLt).2 = k0_pay1 (F := Ideal) (iblk m c 0 t) (iblk m c 1 t) := by
  rw [outsAt0_A m c t h]
  frame_out

/-- The other points leave the scratch as it was. -/
theorem scratch_held (c : Dev nD) (t : Fin cfg0.N) (h : ¬t.val % 24 = 0) :
    (outsAt0 m c t.val t.isLt).2 = (outsAt0 m c (t.val - 1) (Nat.lt_of_le_of_lt (Nat.sub_le _ _) t.isLt)).2 := by
  rw [outsAt0_B m c t h]
  rfl

/-- Every point stores its scratch's rows times its columns. -/
theorem tile_eq (c : Dev nD) (t : Fin cfg0.N) :
    (outsAt0 m c t.val t.isLt).1 = k0_pay2 (F := Ideal) (outsAt0 m c t.val t.isLt).2 (iblk m c 2 t) := by
  by_cases h : t.val % 24 = 0
  · rw [outsAt0_A m c t h]
    frame_out
  · rw [outsAt0_B m c t h]
    frame_out
    exact congrArg (fun s => k0_pay2 (F := Ideal) s (iblk m c 2 t)) ((Memref.isWhole_whole _).read_unread _)

/-- At every point the scratch holds the normalised rows of the point's row block. -/
theorem scratch_apply (c : Dev nD) (t : Fin cfg0.N) (r : Fin 1024) (k : Fin 2048) (R : Fin 8192) (h : R.val = t.val / 24 * 1024 + r.val) :
    (outsAt0 m c t.val t.isLt).2 (ix2 r k)
      = normed (fun k => V m c main_arg0 (ix2 R k)) (fun k => V m c main_arg1 (ix2 0 k)) k := by
  rw [Pipeline.eq_of_write_hold (fun n h => (outsAt0 m c n h).2) 24 (fun t => k0_pay1 (F := Ideal) (iblk m c 0 t) (iblk m c 1 t))
    (scratch_first m c) (scratch_held m c) t, norm_apply]
  have e1 := fun k => rows_apply m c ⟨24 * (t.val / 24), Pipeline.run_start_lt t⟩ r k R (by dsimp only; omega)
  have e2 := fun k => gain_apply m c ⟨24 * (t.val / 24), Pipeline.run_start_lt t⟩ k
  simp only [e1, e2]

/-- Entry `(a, b)` of what point `t` stores is the projection's entry at its place in the array. -/
theorem point (c : Dev nD) (t : Fin cfg0.N) (a : Fin 1024) (b : Fin 512) (i : S8192x12288.Idx)
    (h0 : (i 0).val = t.val / 24 * 1024 + a.val) (h1 : (i 1).val = t.val % 24 * 512 + b.val) :
    k0_pay2 (F := Ideal) (outsAt0 m c t.val t.isLt).2 (iblk m c 2 t) (ix2 a b)
      = PROJ (V m c main_arg0) (V m c main_arg1) (V m c main_arg2) i := by
  rw [tile_apply]
  refine Finset.sum_congr rfl fun k _ => ?_
  rw [scratch_apply m c t a k (i 0) h0, cols_apply m c t k b (i 1) h1]

/-- The array the run leaves is the projection of the arguments. -/
theorem final (c : Dev nD) : (dats m 0 c).arrAt 3 cfg0.N
    = PROJ (V m c main_arg0) (V m c main_arg1) (V m c main_arg2) := by
  refine (dats m 0 c).arrAt_eq_of_covers 3 _ (by decide +kernel) fun t _ y => ?_
  blk_simp
  rw [after0_3, tile_eq]
  revert y
  show ∀ y : S1024x512.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 512 + 1 * y1.val := rfl
  rw [e3] at h0 h1
  exact point m c t y0 y1 _ (by rw [h0]; simp) (by rw [h1]; simp)

/-- The kernel's run leaves the projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.ProjBIdeal.Value.run_blocks m ρ)

end Cert.ProjBIdeal.Own

namespace Cert.ProjBRefIdeal.Own

open Cert.ProjBRefIdeal Cert.ProjBRefIdeal.Gen Idealize.ShloMosaic Idealize.ShloMosaic.TcCoe Idealize.SL.Sem

/-- The reference's run leaves the projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
        = Cert.ProjBIdeal.Own.PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v13_eq _ _ _).trans (Cert.ProjBIdeal.Own.ref_eq _ _ _)), (h c).2⟩)
    (Value.run m ρ)

end Cert.ProjBRefIdeal.Own

end
-- ==== Proof.ProjC.lean ====
module

public import proofs.«01_k».proof.Proof.Gen.ProjCIdeal.Value
public import proofs.«01_k».proof.Proof.Gen.ProjCRefIdeal.Read
public import Idealize.ShloMosaic.Lib.Pipeline.ValueKit
public import Idealize.ShloMosaic.Lib.Pipeline.ValueKit.Held

@[expose] public section

set_option maxRecDepth 16384

noncomputable section

/-! The projection: rows normalised by their root mean square, times a weight matrix. -/

namespace Cert.ProjCIdeal.Own

open Cert.ProjCIdeal Cert.ProjCIdeal.Gen Idealize.ShloMosaic Idealize.ShloMosaic.TcCoe Idealize.SL.Sem

/-- An entry of a row after the normalisation: it over the root of the row's mean square (plus the small constant),
    times the gain. -/
def normed (x g : Fin 2048 → EReal) (k : Fin 2048) : EReal :=
  x k * Ideal.rsqrt (Ideal.div (∑ j : Fin 2048, x j * x j) (Ideal.ofBits FTy.f32 1157627904#32)
    + Ideal.ofBits FTy.f32 897988541#32) * g k

/-- The projection of every row: the normalised row times the first weight matrix. -/
def PROJ (x : Vec Ideal S8192x2048 .f32) (g : Vec Ideal S1x2048 .f32) (w : Vec Ideal S1x2048x6160 .f32) : Vec Ideal S8192x6144 .f32 :=
  fun i => ∑ k : Fin 2048, normed (fun k => x (ix2 (i 0) k)) (fun k => g (ix2 0 k)) k * w (ix3 0 k ⟨(i 1).val, lt_trans (i 1).isLt (by decide : 6144 < 6160)⟩)

/-- What one point stores: the scratch's rows times the point's columns. -/
theorem tile_apply (v3 : Vec Ideal S1024x2048 .bf16) (v4 : Vec Ideal S1x2048x512 .f32) (r : Fin 1024) (n : Fin 512) :
    k0_pay2 (F := Ideal) v3 v4 (ix2 r n) = ∑ k : Fin 2048, v3 (ix2 r k) * v4 (ix3 0 k n) := by
  pointwise [k0_pay2]

/-- What the first point of a row block stores into the scratch: the block's rows normalised. -/
theorem norm_apply (x : Vec Ideal S1024x2048 .f32) (g : Vec Ideal S1x2048 .f32) (r : Fin 1024) (k : Fin 2048) :
    k0_pay1 (F := Ideal) x g (ix2 r k) = normed (fun k => x (ix2 r k)) (fun k => g (ix2 0 k)) k := by
  pointwise [k0_pay1, normed]

open Cert.ProjCRefIdeal.Read in
/-- The reference's result is the projection. -/
theorem ref_eq (x : Vec Ideal S8192x2048 .f32) (g : Vec Ideal S1x2048 .f32) (w : Vec Ideal S1x2048x6160 .f32) :
    val_main_v14 (F := Ideal) x g w = PROJ x g w := by
  funext i
  idx_vars i
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, PROJ, normed]

/-- The grid's points: `t` is row block `t / 12`, column tile `t % 12`. -/
theorem idx : ∀ t : Fin cfg0.N, win0_0.index t = ![t.val / 12, 0] ∧ win0_1.index t = ![0, 0] ∧ win0_2.index t = ![0, 0, t.val % 12]
    ∧ win0_3.index t = ![t.val / 12, t.val % 12] := (by decide +kernel : ∀ t : Fin grid0.N, _)

variable (m : (ℓ : Loc nD τ sig) → Buf (Elt Ideal) ℓ)

/-- Row `r` of point `t`'s rows is row `1024 (t / 12) + r` of the argument. -/
theorem rows_apply (c : Dev nD) (t : Fin cfg0.N) (r : Fin 1024) (k : Fin 2048) (R : Fin 8192) (h : R.val = t.val / 12 * 1024 + r.val) :
    iblk m c 0 t (ix2 r k) = V m c main_arg0 (ix2 R k) := by
  obtain ⟨e0, e1, e2, e3⟩ := idx t
  obtain ⟨R, hR⟩ := R
  subst h
  blk_point [iblk, e0]

/-- The gains are the same at every point. -/
theorem gain_apply (c : Dev nD) (t : Fin cfg0.N) (k : Fin 2048) :
    iblk m c 1 t (ix2 0 k) = V m c main_arg1 (ix2 0 k) := by
  obtain ⟨e0, e1, e2, e3⟩ := idx t
  blk_point [iblk, e1]

/-- Column `n` of point `t`'s weights is column `512 (t % 12) + n` of the matrix. -/
theorem cols_apply (c : Dev nD) (t : Fin cfg0.N) (i : ((cfg0.win 2).xblock (cfg0.grid.coords t)).Idx) (k : Fin 2048) (n : Fin 512)
    (N : Fin 6160) (i0 : (i 0).val = 0) (i1 : (i 1).val = k.val) (i2 : (i 2).val = n.val) (h : N.val = t.val % 12 * 512 + n.val) :
    iblk m c 2 t i = V m c main_arg2 (ix3 0 k N) := by
  obtain ⟨e0, e1, e2, e3⟩ := idx t
  refine congrArg (V m c main_arg2) (funext fun a => Fin.ext ?_)
  have h0 : ((win0_2.blk t).view.emb i 0).val = win0_2.index t (0 : Fin 3) * 1 + 1 * (i 0).val := rfl
  have h1 : ((win0_2.blk t).view.emb i 1).val = win0_2.index t (1 : Fin 3) * 2048 + 1 * (i 1).val := rfl
  have h2 : ((win0_2.blk t).view.emb i 2).val = win0_2.index t (2 : Fin 3) * 512 + 1 * (i 2).val := rfl
  rw [e2] at h0 h1 h2
  match a with
  | ⟨0, _⟩ => exact h0.trans (by rw [i0]; rfl)
  | ⟨1, _⟩ => exact h1.trans (by rw [i1]; simp [ix3])
  | ⟨2, _⟩ => exact h2.trans (by rw [i2]; simp [ix3, h])

/-- No point's block of weights is cut: what the point reads there is the block. -/
theorem uncut_apply (c : Dev nD) (t : Fin cfg0.N) (k : Fin 2048) (n : Fin 512) (N : Fin 6160) (h : N.val = t.val % 12 * 512 + n.val) :
    X0_2 m c t (ix3 0 k n) = V m c main_arg2 (ix3 0 k N) := by
  unfold X0_2 Pipeline.Window.fill
  rw [dif_pos (moved0_2 t (ix3 0 k n))]
  exact cols_apply m c t _ k n N rfl rfl rfl h

/-- A row block's first point leaves its rows, normalised, in the scratch. -/
theorem scratch_first (c : Dev nD) (t : Fin cfg0.N) (h : t.val % 12 = 0) :
    (outsAt0 m c t.val t.isLt).2 = k0_pay1 (F := Ideal) (iblk m c 0 t) (iblk m c 1 t) := by
  rw [outsAt0_A m c t h]
  frame_out

/-- The other points leave the scratch as it was. -/
theorem scratch_held (c : Dev nD) (t : Fin cfg0.N) (h : ¬t.val % 12 = 0) :
    (outsAt0 m c t.val t.isLt).2 = (outsAt0 m c (t.val - 1) (Nat.lt_of_le_of_lt (Nat.sub_le _ _) t.isLt)).2 := by
  rw [outsAt0_B m c t h]
  rfl

/-- Every point stores its scratch's rows times its columns. -/
theorem tile_eq (c : Dev nD) (t : Fin cfg0.N) :
    (outsAt0 m c t.val t.isLt).1 = k0_pay2 (F := Ideal) (outsAt0 m c t.val t.isLt).2 (X0_2 m c t) := by
  by_cases h : t.val % 12 = 0
  · rw [outsAt0_A m c t h]
    frame_out
  · rw [outsAt0_B m c t h]
    frame_out
    exact congrArg (fun s => k0_pay2 (F := Ideal) s (X0_2 m c t)) ((Memref.isWhole_whole _).read_unread _)

/-- At every point the scratch holds the normalised rows of the point's row block. -/
theorem scratch_apply (c : Dev nD) (t : Fin cfg0.N) (r : Fin 1024) (k : Fin 2048) (R : Fin 8192) (h : R.val = t.val / 12 * 1024 + r.val) :
    (outsAt0 m c t.val t.isLt).2 (ix2 r k)
      = normed (fun k => V m c main_arg0 (ix2 R k)) (fun k => V m c main_arg1 (ix2 0 k)) k := by
  rw [Pipeline.eq_of_write_hold (fun n h => (outsAt0 m c n h).2) 12 (fun t => k0_pay1 (F := Ideal) (iblk m c 0 t) (iblk m c 1 t))
    (scratch_first m c) (scratch_held m c) t, norm_apply]
  have e1 := fun k => rows_apply m c ⟨12 * (t.val / 12), Pipeline.run_start_lt t⟩ r k R (by dsimp only; omega)
  have e2 := fun k => gain_apply m c ⟨12 * (t.val / 12), Pipeline.run_start_lt t⟩ k
  simp only [e1, e2]

/-- Entry `(a, b)` of what point `t` stores is the projection's entry at its place in the array. -/
theorem point (c : Dev nD) (t : Fin cfg0.N) (a : Fin 1024) (b : Fin 512) (i : S8192x6144.Idx)
    (h0 : (i 0).val = t.val / 12 * 1024 + a.val) (h1 : (i 1).val = t.val % 12 * 512 + b.val) :
    k0_pay2 (F := Ideal) (outsAt0 m c t.val t.isLt).2 (X0_2 m c t) (ix2 a b)
      = PROJ (V m c main_arg0) (V m c main_arg1) (V m c main_arg2) i := by
  rw [tile_apply]
  refine Finset.sum_congr rfl fun k _ => ?_
  rw [scratch_apply m c t a k (i 0) h0, uncut_apply m c t k b ⟨(i 1).val, lt_trans (i 1).isLt (by decide : 6144 < 6160)⟩ h1]

/-- The array the run leaves is the projection of the arguments. -/
theorem final (c : Dev nD) : (dats m 0 c).arrAt 3 cfg0.N
    = PROJ (V m c main_arg0) (V m c main_arg1) (V m c main_arg2) := by
  refine (dats m 0 c).arrAt_eq_of_covers 3 _ (by decide +kernel) fun t _ y => ?_
  blk_simp
  rw [after0_3, tile_eq]
  revert y
  show ∀ y : S1024x512.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 512 + 1 * y1.val := rfl
  rw [e3] at h0 h1
  exact point m c t y0 y1 _ (by rw [h0]; simp) (by rw [h1]; simp)

/-- The kernel's run leaves the projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.ProjCIdeal.Value.run_blocks m ρ)

end Cert.ProjCIdeal.Own

namespace Cert.ProjCRefIdeal.Own

open Cert.ProjCRefIdeal Cert.ProjCRefIdeal.Gen Idealize.ShloMosaic Idealize.ShloMosaic.TcCoe Idealize.SL.Sem

/-- The reference's run leaves the projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14)
        = Cert.ProjCIdeal.Own.PROJ (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v14_eq _ _ _).trans (Cert.ProjCIdeal.Own.ref_eq _ _ _)), (h c).2⟩)
    (Value.run m ρ)

end Cert.ProjCRefIdeal.Own

end
-- ==== Proof.OutA.lean ====
module

public import proofs.«01_k».proof.Proof.Gen.OutAIdeal.Value
public import proofs.«01_k».proof.Proof.Gen.OutARefIdeal.Read
public import Idealize.ShloMosaic.Lib.Pipeline.ValueKit

@[expose] public section

set_option maxRecDepth 16384

noncomputable section

/-! The output projection: rows of the mixed values times a weight matrix, added to the residual stream. -/

namespace Cert.OutAIdeal.Own

open Cert.OutAIdeal Cert.OutAIdeal.Gen Idealize.ShloMosaic Idealize.ShloMosaic.TcCoe Idealize.SL.Sem

/-- The residual stream plus the rows times the first weight matrix. -/
def OUT (y : Vec Ideal S8192x2048 .bf16) (w : Vec Ideal S2x2048x2048 .f32) (x : Vec Ideal S8192x2048 .f32) : Vec Ideal S8192x2048 .f32 :=
  fun i => x (ix2 (i 0) (i 1)) + ∑ k : Fin 2048, y (ix2 (i 0) k) * w (ix3 0 k (i 1))

/-- What one point stores: its block of the residual stream plus its rows times its columns. -/
theorem tile_apply (x : Vec Ideal S1024x512 .f32) (y : Vec Ideal S1024x2048 .bf16) (w : Vec Ideal S1x2048x512 .f32) (r : Fin 1024) (n : Fin 512) :
    k0_pay1 (F := Ideal) x y w (ix2 r n) = x (ix2 r n) + ∑ k : Fin 2048, y (ix2 r k) * w (ix3 0 k n) := by
  pointwise [k0_pay1]

open Cert.OutARefIdeal.Read in
/-- The reference's result. -/
theorem ref_eq (y : Vec Ideal S8192x2048 .bf16) (w : Vec Ideal S2x2048x2048 .f32) (x : Vec Ideal S8192x2048 .f32) :
    val_main_v4 (F := Ideal) y w x = OUT y w x := by
  funext i
  idx_vars i
  pointwise [val_main_v4, val_main_v3, val_main_v2, val_main_v1, val_main_v0, OUT]

/-- The grid's points: `t` is row block `t / 4`, column tile `t % 4`. -/
theorem idx : ∀ t : Fin cfg0.N, win0_0.index t = ![t.val / 4, 0] ∧ win0_1.index t = ![0, 0, t.val % 4]
    ∧ win0_2.index t = ![t.val / 4, t.val % 4] ∧ win0_3.index t = ![t.val / 4, t.val % 4] := (by decide +kernel : ∀ t : Fin grid0.N, _)

variable (m : (ℓ : Loc nD τ sig) → Buf (Elt Ideal) ℓ)

/-- Row `r` of point `t`'s rows is row `1024 (t / 4) + r` of the argument. -/
theorem rows_apply (c : Dev nD) (t : Fin cfg0.N) (r : Fin 1024) (k : Fin 2048) (R : Fin 8192) (h : R.val = t.val / 4 * 1024 + r.val) :
    iblk m c 0 t (ix2 r k) = V m c main_arg0 (ix2 R k) := by
  obtain ⟨e0, e1, e2, e3⟩ := idx t
  obtain ⟨R, hR⟩ := R
  subst h
  blk_point [iblk, e0]

/-- Column `n` of point `t`'s weights is column `512 (t % 4) + n` of the first matrix. -/
theorem cols_apply (c : Dev nD) (t : Fin cfg0.N) (k : Fin 2048) (n : Fin 512) (N : Fin 2048) (h : N.val = t.val % 4 * 512 + n.val) :
    iblk m c 1 t (ix3 0 k n) = V m c main_arg1 (ix3 0 k N) := by
  obtain ⟨e0, e1, e2, e3⟩ := idx t
  obtain ⟨N, hN⟩ := N
  subst h
  blk_point [iblk, e1]

/-- The block of the residual stream at point `t`. -/
theorem residual_apply (c : Dev nD) (t : Fin cfg0.N) (r : Fin 1024) (n : Fin 512) (R : Fin 8192) (N : Fin 2048)
    (h0 : R.val = t.val / 4 * 1024 + r.val) (h1 : N.val = t.val % 4 * 512 + n.val) :
    iblk m c 2 t (ix2 r n) = V m c main_arg2 (ix2 R N) := by
  obtain ⟨e0, e1, e2, e3⟩ := idx t
  obtain ⟨R, hR⟩ := R
  obtain ⟨N, hN⟩ := N
  subst h0 h1
  blk_point [iblk, e2]

/-- Entry `(a, b)` of what point `t` stores is the result's entry at its place in the array. -/
theorem point (c : Dev nD) (t : Fin cfg0.N) (a : Fin 1024) (b : Fin 512) (i : S8192x2048.Idx)
    (h0 : (i 0).val = t.val / 4 * 1024 + a.val) (h1 : (i 1).val = t.val % 4 * 512 + b.val) :
    k0_pay1 (F := Ideal) (iblk m c 2 t) (iblk m c 0 t) (iblk m c 1 t) (ix2 a b)
      = OUT (V m c main_arg0) (V m c main_arg1) (V m c main_arg2) i := by
  rw [tile_apply, residual_apply m c t a b (i 0) (i 1) h0 h1]
  refine congrArg₂ (fun a b : EReal => a + b) rfl (Finset.sum_congr rfl fun k _ => ?_)
  rw [rows_apply m c t a k (i 0) h0, cols_apply m c t k b (i 1) h1]

/-- What a point leaves in the output block, as the one stored value. -/
theorem block_eq (c : Dev nD) (t : Fin cfg0.N) :
    (dats m 0 c).after 3 t = k0_pay1 (F := Ideal) (iblk m c 2 t) (iblk m c 0 t) (iblk m c 1 t) := by
  rw [after0_3]
  frame_out

/-- The array the run leaves. -/
theorem final (c : Dev nD) : (dats m 0 c).arrAt 3 cfg0.N
    = OUT (V m c main_arg0) (V m c main_arg1) (V m c main_arg2) := by
  refine (dats m 0 c).arrAt_eq_of_covers 3 _ (by decide +kernel) fun t _ y => ?_
  blk_simp
  rw [block_eq]
  revert y
  show ∀ y : S1024x512.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 512 + 1 * y1.val := rfl
  rw [e3] at h0 h1
  exact point m c t y0 y1 _ (by rw [h0]; simp) (by rw [h1]; simp)

/-- The kernel's run leaves the output projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.OutAIdeal.Value.run_blocks m ρ)

end Cert.OutAIdeal.Own

namespace Cert.OutARefIdeal.Own

open Cert.OutARefIdeal Cert.OutARefIdeal.Gen Idealize.ShloMosaic Idealize.ShloMosaic.TcCoe Idealize.SL.Sem

/-- The reference's run leaves the output projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = Cert.OutAIdeal.Own.OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v4_eq _ _ _).trans (Cert.OutAIdeal.Own.ref_eq _ _ _)), (h c).2⟩)
    (Value.run m ρ)

end Cert.OutARefIdeal.Own

end
-- ==== Proof.OutB.lean ====
module

public import proofs.«01_k».proof.Proof.Gen.OutBIdeal.Value
public import proofs.«01_k».proof.Proof.Gen.OutBRefIdeal.Read
public import Idealize.ShloMosaic.Lib.Pipeline.ValueKit

@[expose] public section

set_option maxRecDepth 16384

noncomputable section

/-! The output projection: rows of the mixed values times a weight matrix, added to the residual stream. -/

namespace Cert.OutBIdeal.Own

open Cert.OutBIdeal Cert.OutBIdeal.Gen Idealize.ShloMosaic Idealize.ShloMosaic.TcCoe Idealize.SL.Sem

/-- The residual stream plus the rows times the first weight matrix. -/
def OUT (y : Vec Ideal S8192x4096 .bf16) (w : Vec Ideal S1x4096x2048 .f32) (x : Vec Ideal S8192x2048 .f32) : Vec Ideal S8192x2048 .f32 :=
  fun i => x (ix2 (i 0) (i 1)) + ∑ k : Fin 4096, y (ix2 (i 0) k) * w (ix3 0 k (i 1))

/-- What one point stores: its block of the residual stream plus its rows times its columns. -/
theorem tile_apply (x : Vec Ideal S1024x256 .f32) (y : Vec Ideal S1024x4096 .bf16) (w : Vec Ideal S1x4096x256 .f32) (r : Fin 1024) (n : Fin 256) :
    k0_pay1 (F := Ideal) x y w (ix2 r n) = x (ix2 r n) + ∑ k : Fin 4096, y (ix2 r k) * w (ix3 0 k n) := by
  pointwise [k0_pay1]

open Cert.OutBRefIdeal.Read in
/-- The reference's result. -/
theorem ref_eq (y : Vec Ideal S8192x4096 .bf16) (w : Vec Ideal S1x4096x2048 .f32) (x : Vec Ideal S8192x2048 .f32) :
    val_main_v3 (F := Ideal) y w x = OUT y w x := by
  funext i
  idx_vars i
  pointwise [val_main_v3, val_main_v2, val_main_v1, val_main_v0, OUT]

/-- The grid's points: `t` is row block `t / 8`, column tile `t % 8`. -/
theorem idx : ∀ t : Fin cfg0.N, win0_0.index t = ![t.val / 8, 0] ∧ win0_1.index t = ![0, 0, t.val % 8]
    ∧ win0_2.index t = ![t.val / 8, t.val % 8] ∧ win0_3.index t = ![t.val / 8, t.val % 8] := (by decide +kernel : ∀ t : Fin grid0.N, _)

variable (m : (ℓ : Loc nD τ sig) → Buf (Elt Ideal) ℓ)

/-- Row `r` of point `t`'s rows is row `1024 (t / 8) + r` of the argument. -/
theorem rows_apply (c : Dev nD) (t : Fin cfg0.N) (r : Fin 1024) (k : Fin 4096) (R : Fin 8192) (h : R.val = t.val / 8 * 1024 + r.val) :
    iblk m c 0 t (ix2 r k) = V m c main_arg0 (ix2 R k) := by
  obtain ⟨e0, e1, e2, e3⟩ := idx t
  obtain ⟨R, hR⟩ := R
  subst h
  blk_point [iblk, e0]

/-- Column `n` of point `t`'s weights is column `256 (t % 8) + n` of the first matrix. -/
theorem cols_apply (c : Dev nD) (t : Fin cfg0.N) (k : Fin 4096) (n : Fin 256) (N : Fin 2048) (h : N.val = t.val % 8 * 256 + n.val) :
    iblk m c 1 t (ix3 0 k n) = V m c main_arg1 (ix3 0 k N) := by
  obtain ⟨e0, e1, e2, e3⟩ := idx t
  obtain ⟨N, hN⟩ := N
  subst h
  blk_point [iblk, e1]

/-- The block of the residual stream at point `t`. -/
theorem residual_apply (c : Dev nD) (t : Fin cfg0.N) (r : Fin 1024) (n : Fin 256) (R : Fin 8192) (N : Fin 2048)
    (h0 : R.val = t.val / 8 * 1024 + r.val) (h1 : N.val = t.val % 8 * 256 + n.val) :
    iblk m c 2 t (ix2 r n) = V m c main_arg2 (ix2 R N) := by
  obtain ⟨e0, e1, e2, e3⟩ := idx t
  obtain ⟨R, hR⟩ := R
  obtain ⟨N, hN⟩ := N
  subst h0 h1
  blk_point [iblk, e2]

/-- Entry `(a, b)` of what point `t` stores is the result's entry at its place in the array. -/
theorem point (c : Dev nD) (t : Fin cfg0.N) (a : Fin 1024) (b : Fin 256) (i : S8192x2048.Idx)
    (h0 : (i 0).val = t.val / 8 * 1024 + a.val) (h1 : (i 1).val = t.val % 8 * 256 + b.val) :
    k0_pay1 (F := Ideal) (iblk m c 2 t) (iblk m c 0 t) (iblk m c 1 t) (ix2 a b)
      = OUT (V m c main_arg0) (V m c main_arg1) (V m c main_arg2) i := by
  rw [tile_apply, residual_apply m c t a b (i 0) (i 1) h0 h1]
  refine congrArg₂ (fun a b : EReal => a + b) rfl (Finset.sum_congr rfl fun k _ => ?_)
  rw [rows_apply m c t a k (i 0) h0, cols_apply m c t k b (i 1) h1]

/-- What a point leaves in the output block, as the one stored value. -/
theorem block_eq (c : Dev nD) (t : Fin cfg0.N) :
    (dats m 0 c).after 3 t = k0_pay1 (F := Ideal) (iblk m c 2 t) (iblk m c 0 t) (iblk m c 1 t) := by
  rw [after0_3]
  frame_out

/-- The array the run leaves. -/
theorem final (c : Dev nD) : (dats m 0 c).arrAt 3 cfg0.N
    = OUT (V m c main_arg0) (V m c main_arg1) (V m c main_arg2) := by
  refine (dats m 0 c).arrAt_eq_of_covers 3 _ (by decide +kernel) fun t _ y => ?_
  blk_simp
  rw [block_eq]
  revert y
  show ∀ y : S1024x256.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 256 + 1 * y1.val := rfl
  rw [e3] at h0 h1
  exact point m c t y0 y1 _ (by rw [h0]; simp) (by rw [h1]; simp)

/-- The kernel's run leaves the output projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.OutBIdeal.Value.run_blocks m ρ)

end Cert.OutBIdeal.Own

namespace Cert.OutBRefIdeal.Own

open Cert.OutBRefIdeal Cert.OutBRefIdeal.Gen Idealize.ShloMosaic Idealize.ShloMosaic.TcCoe Idealize.SL.Sem

/-- The reference's run leaves the output projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.OutBIdeal.Own.OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v3_eq _ _ _).trans (Cert.OutBIdeal.Own.ref_eq _ _ _)), (h c).2⟩)
    (Value.run m ρ)

end Cert.OutBRefIdeal.Own

end
-- ==== Proof.OutC.lean ====
module

public import proofs.«01_k».proof.Proof.Gen.OutCIdeal.Value
public import proofs.«01_k».proof.Proof.Gen.OutCRefIdeal.Read
public import Idealize.ShloMosaic.Lib.Pipeline.ValueKit

@[expose] public section

set_option maxRecDepth 16384

noncomputable section

/-! The output projection: rows of the mixed values times a weight matrix, added to the residual stream. -/

namespace Cert.OutCIdeal.Own

open Cert.OutCIdeal Cert.OutCIdeal.Gen Idealize.ShloMosaic Idealize.ShloMosaic.TcCoe Idealize.SL.Sem

/-- The residual stream plus the rows times the first weight matrix. -/
def OUT (y : Vec Ideal S8192x2048 .bf16) (w : Vec Ideal S1x2048x2048 .f32) (x : Vec Ideal S8192x2048 .f32) : Vec Ideal S8192x2048 .f32 :=
  fun i => x (ix2 (i 0) (i 1)) + ∑ k : Fin 2048, y (ix2 (i 0) k) * w (ix3 0 k (i 1))

/-- What one point stores: its block of the residual stream plus its rows times its columns. -/
theorem tile_apply (x : Vec Ideal S1024x512 .f32) (y : Vec Ideal S1024x2048 .bf16) (w : Vec Ideal S1x2048x512 .f32) (r : Fin 1024) (n : Fin 512) :
    k0_pay1 (F := Ideal) x y w (ix2 r n) = x (ix2 r n) + ∑ k : Fin 2048, y (ix2 r k) * w (ix3 0 k n) := by
  pointwise [k0_pay1]

open Cert.OutCRefIdeal.Read in
/-- The reference's result. -/
theorem ref_eq (y : Vec Ideal S8192x2048 .bf16) (w : Vec Ideal S1x2048x2048 .f32) (x : Vec Ideal S8192x2048 .f32) :
    val_main_v3 (F := Ideal) y w x = OUT y w x := by
  funext i
  idx_vars i
  pointwise [val_main_v3, val_main_v2, val_main_v1, val_main_v0, OUT]

/-- The grid's points: `t` is row block `t / 4`, column tile `t % 4`. -/
theorem idx : ∀ t : Fin cfg0.N, win0_0.index t = ![t.val / 4, 0] ∧ win0_1.index t = ![0, 0, t.val % 4]
    ∧ win0_2.index t = ![t.val / 4, t.val % 4] ∧ win0_3.index t = ![t.val / 4, t.val % 4] := (by decide +kernel : ∀ t : Fin grid0.N, _)

variable (m : (ℓ : Loc nD τ sig) → Buf (Elt Ideal) ℓ)

/-- Row `r` of point `t`'s rows is row `1024 (t / 4) + r` of the argument. -/
theorem rows_apply (c : Dev nD) (t : Fin cfg0.N) (r : Fin 1024) (k : Fin 2048) (R : Fin 8192) (h : R.val = t.val / 4 * 1024 + r.val) :
    iblk m c 0 t (ix2 r k) = V m c main_arg0 (ix2 R k) := by
  obtain ⟨e0, e1, e2, e3⟩ := idx t
  obtain ⟨R, hR⟩ := R
  subst h
  blk_point [iblk, e0]

/-- Column `n` of point `t`'s weights is column `512 (t % 4) + n` of the first matrix. -/
theorem cols_apply (c : Dev nD) (t : Fin cfg0.N) (k : Fin 2048) (n : Fin 512) (N : Fin 2048) (h : N.val = t.val % 4 * 512 + n.val) :
    iblk m c 1 t (ix3 0 k n) = V m c main_arg1 (ix3 0 k N) := by
  obtain ⟨e0, e1, e2, e3⟩ := idx t
  obtain ⟨N, hN⟩ := N
  subst h
  blk_point [iblk, e1]

/-- The block of the residual stream at point `t`. -/
theorem residual_apply (c : Dev nD) (t : Fin cfg0.N) (r : Fin 1024) (n : Fin 512) (R : Fin 8192) (N : Fin 2048)
    (h0 : R.val = t.val / 4 * 1024 + r.val) (h1 : N.val = t.val % 4 * 512 + n.val) :
    iblk m c 2 t (ix2 r n) = V m c main_arg2 (ix2 R N) := by
  obtain ⟨e0, e1, e2, e3⟩ := idx t
  obtain ⟨R, hR⟩ := R
  obtain ⟨N, hN⟩ := N
  subst h0 h1
  blk_point [iblk, e2]

/-- Entry `(a, b)` of what point `t` stores is the result's entry at its place in the array. -/
theorem point (c : Dev nD) (t : Fin cfg0.N) (a : Fin 1024) (b : Fin 512) (i : S8192x2048.Idx)
    (h0 : (i 0).val = t.val / 4 * 1024 + a.val) (h1 : (i 1).val = t.val % 4 * 512 + b.val) :
    k0_pay1 (F := Ideal) (iblk m c 2 t) (iblk m c 0 t) (iblk m c 1 t) (ix2 a b)
      = OUT (V m c main_arg0) (V m c main_arg1) (V m c main_arg2) i := by
  rw [tile_apply, residual_apply m c t a b (i 0) (i 1) h0 h1]
  refine congrArg₂ (fun a b : EReal => a + b) rfl (Finset.sum_congr rfl fun k _ => ?_)
  rw [rows_apply m c t a k (i 0) h0, cols_apply m c t k b (i 1) h1]

/-- What a point leaves in the output block, as the one stored value. -/
theorem block_eq (c : Dev nD) (t : Fin cfg0.N) :
    (dats m 0 c).after 3 t = k0_pay1 (F := Ideal) (iblk m c 2 t) (iblk m c 0 t) (iblk m c 1 t) := by
  rw [after0_3]
  frame_out

/-- The array the run leaves. -/
theorem final (c : Dev nD) : (dats m 0 c).arrAt 3 cfg0.N
    = OUT (V m c main_arg0) (V m c main_arg1) (V m c main_arg2) := by
  refine (dats m 0 c).arrAt_eq_of_covers 3 _ (by decide +kernel) fun t _ y => ?_
  blk_simp
  rw [block_eq]
  revert y
  show ∀ y : S1024x512.Idx, _
  intro y
  obtain ⟨e0, e1, e2, e3⟩ := idx t
  idx_vars y
  have h0 : ((win0_3.blk t).view.emb (ix2 y0 y1) 0).val = win0_3.index t (0 : Fin 2) * 1024 + 1 * y0.val := rfl
  have h1 : ((win0_3.blk t).view.emb (ix2 y0 y1) 1).val = win0_3.index t (1 : Fin 2) * 512 + 1 * y1.val := rfl
  rw [e3] at h0 h1
  exact point m c t y0 y1 _ (by rw [h0]; simp) (by rw [h1]; simp)

/-- The kernel's run leaves the output projection of its arguments, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0)
        = OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (by rw [final m c, V_main_arg0, V_main_arg1, V_main_arg2]), (h c).2⟩)
    (Cert.OutCIdeal.Value.run_blocks m ρ)

end Cert.OutCIdeal.Own

namespace Cert.OutCRefIdeal.Own

open Cert.OutCRefIdeal Cert.OutCRefIdeal.Gen Idealize.ShloMosaic Idealize.ShloMosaic.TcCoe Idealize.SL.Sem

/-- The reference's run leaves the output projection of its arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3)
        = Cert.OutCIdeal.Own.OUT (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v3_eq _ _ _).trans (Cert.OutCIdeal.Own.ref_eq _ _ _)), (h c).2⟩)
    (Value.run m ρ)

end Cert.OutCRefIdeal.Own

end
-- ==== Proof.NormP.lean ====
module

public import proofs.«01_k».proof.Proof.Gen.NormPIdeal.Value
public import proofs.«01_k».proof.Proof.Gen.NormPRefIdeal.Read
public import Idealize.ShloMosaic.Lib.Pipeline.ValueKit

@[expose] public section

set_option maxRecDepth 16384

noncomputable section

/-! The last normalisation: rows over their root mean square, times a gain. -/

namespace Cert.NormPIdeal.Own

open Cert.NormPIdeal Cert.NormPIdeal.Gen Idealize.ShloMosaic Idealize.ShloMosaic.TcCoe Idealize.SL.Sem

/-- An entry of a row after the normalisation: it over the root of the row's mean square (plus the small constant),
    times the gain. -/
def normed (x g : Fin 2048 → EReal) (k : Fin 2048) : EReal :=
  x k * Ideal.rsqrt (Ideal.div (∑ j : Fin 2048, x j * x j) (Ideal.ofBits FTy.f32 1157627904#32)
    + Ideal.ofBits FTy.f32 897988541#32) * g k

/-- Every row normalised. -/
def NORM (x : Vec Ideal S8192x2048 .f32) (g : Vec Ideal S2048 .f32) : Vec Ideal S8192x2048 .f32 :=
  fun i => normed (fun k => x (ix2 (i 0) k)) (fun k => g (ix1 k)) (i 1)

/-- What one point stores: its rows normalised. -/
theorem norm_apply (x : Vec Ideal S512x2048 .f32) (g : Vec Ideal S1x2048 .f32) (r : Fin 512) (k : Fin 2048) :
    k0_pay1 (F := Ideal) x g (ix2 r k) = normed (fun k => x (ix2 r k)) (fun k => g (ix2 0 k)) k := by
  pointwise [k0_pay1, normed]

open Cert.NormPRefIdeal.Read in
/-- The reference's result. -/
theorem ref_eq (x : Vec Ideal S8192x2048 .f32) (g : Vec Ideal S2048 .f32) :
    val_main_v12 (F := Ideal) x g = NORM x g := by
  funext i
  idx_vars i
  pointwise [val_main_v12, val_main_v11, val_main_v10, val_main_v9, val_main_v8, val_main_v7, val_main_v6,
    val_main_v5, val_main_v4, val_main_v3, val_main_v2, val_main_v1, val_main_v0, val_main_cst, val_main_cst_0, val_main_cst_1, NORM, normed]

/-- The grid's points: `t` is row block `t`. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- Row `r` of point `t`'s rows is row `512 t + r` of the argument. -/
theorem rows_apply (c : Dev nD) (t : Fin cfg0.N) (r : Fin 512) (k : Fin 2048) (R : Fin 8192) (h : R.val = t.val * 512 + r.val) :
    iblk m c 0 t (ix2 r k) = V m c main_arg0 (ix2 R k) := by
  obtain ⟨e0, e1, e2⟩ := idx t
  obtain ⟨R, hR⟩ := R
  subst h
  blk_point [iblk, e0]

/-- The gains, as the program lays them out for the call. -/
theorem gain_row (c : Dev nD) (k : Fin 2048) : V m c main_v0 (ix2 0 k) = V m c main_arg1 (ix1 k) := by
  rw [V_main_arg1]
  entry_read
  pointwise []

/-- The gains are the same at every point. -/
theorem gain_apply (c : Dev nD) (t : Fin cfg0.N) (k : Fin 2048) :
    iblk m c 1 t (ix2 0 k) = V m c main_arg1 (ix1 k) := by
  obtain ⟨e0, e1, e2⟩ := idx t
  rw [← gain_row]
  blk_point [iblk, e1]

/-- Entry `(a, b)` of what point `t` stores is the result's entry at its place in the array. -/
theorem point (c : Dev nD) (t : Fin cfg0.N) (a : Fin 512) (b : Fin 2048) (i : S8192x2048.Idx)
    (h0 : (i 0).val = t.val * 512 + a.val) (h1 : (i 1).val = b.val) :
    k0_pay1 (F := Ideal) (iblk m c 0 t) (iblk m c 1 t) (ix2 a b) = NORM (V m c main_arg0) (V m c main_arg1) i := by
  rw [norm_apply]
  have e : i 1 = b := Fin.ext h1
  have e0 := fun k => rows_apply m c t a k (i 0) h0
  have e1 := fun k => gain_apply m c t k
  unfold NORM
  rw [e]
  simp only [e0, e1]

/-- What a point leaves in the output block, as the one stored value. -/
theorem block_eq (c : Dev nD) (t : Fin cfg0.N) :
    (dats m 0 c).after 2 t = k0_pay1 (F := Ideal) (iblk m c 0 t) (iblk m c 1 t) := by
  rw [after0_2]
  frame_out

/-- The array the run leaves. -/
theorem final (c : Dev nD) : (dats m 0 c).arrAt 2 cfg0.N = NORM (V m c main_arg0) (V m c main_arg1) := by
  refine (dats m 0 c).arrAt_eq_of_covers 2 _ (by decide +kernel) fun t _ y => ?_
  blk_simp
  rw [block_eq]
  revert y
  show ∀ y : S512x2048.Idx, _
  intro y
  obtain ⟨e0, e1, e2⟩ := idx t
  idx_vars y
  have h0 : ((win0_2.blk t).view.emb (ix2 y0 y1) 0).val = win0_2.index t (0 : Fin 2) * 512 + 1 * y0.val := rfl
  have h1 : ((win0_2.blk t).view.emb (ix2 y0 y1) 1).val = win0_2.index t (1 : Fin 2) * 2048 + 1 * y1.val := rfl
  rw [e2] at h0 h1
  exact point m c t y0 y1 _ (by rw [h0]; simp) (by rw [h1]; simp)

/-- The kernel's run leaves its rows normalised, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = NORM (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [final m c, V_main_arg0, V_main_arg1]), (h c).2⟩)
    (Cert.NormPIdeal.Value.run_blocks m ρ)

end Cert.NormPIdeal.Own

namespace Cert.NormPRefIdeal.Own

open Cert.NormPRefIdeal Cert.NormPRefIdeal.Gen Idealize.ShloMosaic Idealize.ShloMosaic.TcCoe Idealize.SL.Sem

/-- The reference's run leaves its rows normalised, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
        = Cert.NormPIdeal.Own.NORM (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((Read.val_main_v12_eq _ _).trans (Cert.NormPIdeal.Own.ref_eq _ _)), (h c).2⟩)
    (Value.run m ρ)

end Cert.NormPRefIdeal.Own

end
-- ==== Proof.NormS.lean ====
module

public import proofs.«01_k».proof.Proof.Gen.NormSIdeal.Value
public import proofs.«01_k».proof.Proof.Gen.NormSRefIdeal.Read
public import Idealize.ShloMosaic.Lib.Pipeline.ValueKit

@[expose] public section

set_option maxRecDepth 16384

noncomputable section

/-! The last normalisation: rows over their root mean square, times a gain. -/

namespace Cert.NormSIdeal.Own

open Cert.NormSIdeal Cert.NormSIdeal.Gen Idealize.ShloMosaic Idealize.ShloMosaic.TcCoe Idealize.SL.Sem

/-- An entry of a row after the normalisation: it over the root of the row's mean square (plus the small constant),
    times the gain. -/
def normed (x g : Fin 2048 → EReal) (k : Fin 2048) : EReal :=
  x k * Ideal.rsqrt (Ideal.div (∑ j : Fin 2048, x j * x j) (Ideal.ofBits FTy.f32 1157627904#32)
    + Ideal.ofBits FTy.f32 897988541#32) * g k

/-- Every row normalised. -/
def NORM (x : Vec Ideal S128x2048 .f32) (g : Vec Ideal S2048 .f32) : Vec Ideal S128x2048 .f32 :=
  fun i => normed (fun k => x (ix2 (i 0) k)) (fun k => g (ix1 k)) (i 1)

/-- What one point stores: its rows normalised. -/
theorem norm_apply (x : Vec Ideal S128x2048 .f32) (g : Vec Ideal S1x2048 .f32) (r : Fin 128) (k : Fin 2048) :
    k0_pay1 (F := Ideal) x g (ix2 r k) = normed (fun k => x (ix2 r k)) (fun k => g (ix2 0 k)) k := by
  pointwise [k0_pay1, normed]

open Cert.NormSRefIdeal.Read in
/-- The reference's result. -/
theorem ref_eq (x : Vec Ideal S128x2048 .f32) (g : Vec Ideal S2048 .f32) :
    val_main_v12 (F := Ideal) x g = NORM x g := by
  funext i
  idx_vars i
  pointwise [val_main_v12, val_main_v11, val_main_v10, val_main_v9, val_main_v8, val_main_v7, val_main_v6,
    val_main_v5, val_main_v4, val_main_v3, val_main_v2, val_main_v1, val_main_v0, val_main_cst, val_main_cst_0, val_main_cst_1, NORM, normed]

/-- The grid's points: `t` is row block `t`. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- Row `r` of point `t`'s rows is row `128 t + r` of the argument. -/
theorem rows_apply (c : Dev nD) (t : Fin cfg0.N) (r : Fin 128) (k : Fin 2048) (R : Fin 128) (h : R.val = t.val * 128 + r.val) :
    iblk m c 0 t (ix2 r k) = V m c main_arg0 (ix2 R k) := by
  obtain ⟨e0, e1, e2⟩ := idx t
  obtain ⟨R, hR⟩ := R
  subst h
  blk_point [iblk, e0]

/-- The gains, as the program lays them out for the call. -/
theorem gain_row (c : Dev nD) (k : Fin 2048) : V m c main_v0 (ix2 0 k) = V m c main_arg1 (ix1 k) := by
  rw [V_main_arg1]
  entry_read
  pointwise []

/-- The gains are the same at every point. -/
theorem gain_apply (c : Dev nD) (t : Fin cfg0.N) (k : Fin 2048) :
    iblk m c 1 t (ix2 0 k) = V m c main_arg1 (ix1 k) := by
  obtain ⟨e0, e1, e2⟩ := idx t
  rw [← gain_row]
  blk_point [iblk, e1]

/-- Entry `(a, b)` of what point `t` stores is the result's entry at its place in the array. -/
theorem point (c : Dev nD) (t : Fin cfg0.N) (a : Fin 128) (b : Fin 2048) (i : S128x2048.Idx)
    (h0 : (i 0).val = t.val * 128 + a.val) (h1 : (i 1).val = b.val) :
    k0_pay1 (F := Ideal) (iblk m c 0 t) (iblk m c 1 t) (ix2 a b) = NORM (V m c main_arg0) (V m c main_arg1) i := by
  rw [norm_apply]
  have e : i 1 = b := Fin.ext h1
  have e0 := fun k => rows_apply m c t a k (i 0) h0
  have e1 := fun k => gain_apply m c t k
  unfold NORM
  rw [e]
  simp only [e0, e1]

/-- What a point leaves in the output block, as the one stored value. -/
theorem block_eq (c : Dev nD) (t : Fin cfg0.N) :
    (dats m 0 c).after 2 t = k0_pay1 (F := Ideal) (iblk m c 0 t) (iblk m c 1 t) := by
  rw [after0_2]
  frame_out

/-- The array the run leaves. -/
theorem final (c : Dev nD) : (dats m 0 c).arrAt 2 cfg0.N = NORM (V m c main_arg0) (V m c main_arg1) := by
  refine (dats m 0 c).arrAt_eq_of_covers 2 _ (by decide +kernel) fun t _ y => ?_
  blk_simp
  rw [block_eq]
  revert y
  show ∀ y : S128x2048.Idx, _
  intro y
  obtain ⟨e0, e1, e2⟩ := idx t
  idx_vars y
  have h0 : ((win0_2.blk t).view.emb (ix2 y0 y1) 0).val = win0_2.index t (0 : Fin 2) * 128 + 1 * y0.val := rfl
  have h1 : ((win0_2.blk t).view.emb (ix2 y0 y1) 1).val = win0_2.index t (1 : Fin 2) * 2048 + 1 * y1.val := rfl
  rw [e2] at h0 h1
  exact point m c t y0 y1 _ (by rw [h0]; simp) (by rw [h1]; simp)

/-- The kernel's run leaves its rows normalised, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = NORM (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [final m c, V_main_arg0, V_main_arg1]), (h c).2⟩)
    (Cert.NormSIdeal.Value.run_blocks m ρ)

end Cert.NormSIdeal.Own

namespace Cert.NormSRefIdeal.Own

open Cert.NormSRefIdeal Cert.NormSRefIdeal.Gen Idealize.ShloMosaic Idealize.ShloMosaic.TcCoe Idealize.SL.Sem

/-- The reference's run leaves its rows normalised, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12)
        = Cert.NormSIdeal.Own.NORM (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((Read.val_main_v12_eq _ _).trans (Cert.NormSIdeal.Own.ref_eq _ _)), (h c).2⟩)
    (Value.run m ρ)

end Cert.NormSRefIdeal.Own

end
-- ==== Proof.KvRef.lean ====
module

public import proofs.«01_k».proof.Proof.Gen.KvRowsIdeal.Value
public import proofs.«01_k».proof.Proof.Gen.KvRowsRefIdeal.Read
public import Idealize.ShloMosaic.Lib.Pointwise
public import Idealize.ShloMosaic.Lib.StableHlo.RunRead
public import Idealize.ShloMosaic.Lib.Pipeline.ValueKit

@[expose] public section

set_option maxRecDepth 16384

noncomputable section

/-! The keys and values of the sampled sequences' new rows: every head's key with its first 32 numbers rotated by the
    angles of its position, the values as they come. -/

namespace Cert.KvRowsRefIdeal.Own

open Cert.KvRowsRefIdeal Cert.KvRowsRefIdeal.Gen Cert.KvRowsRefIdeal.Read
open Idealize.ShloMosaic Idealize.ShloMosaic.TcCoe Idealize.SL.Sem

/-- The cosines of the rotary angles of the rows. -/
def COS (r : Fin 16) (d : Fin 16) : EReal := val_main_v19 (F := Ideal) (ix2 r d)

/-- The sines of the rotary angles of the rows. -/
def SIN (r : Fin 16) (d : Fin 16) : EReal := val_main_v21 (F := Ideal) (ix2 r d)

/-- A head's row `x` with its first 32 numbers rotated by the cosines `c` and sines `s` of its position. -/
def ROT32 (x : Fin 128 → EReal) (c s : Fin 16 → EReal) (e : Fin 128) : EReal :=
  if h : e.val < 16 then x e * c ⟨e.val, h⟩ - x ⟨16 + e.val, by omega⟩ * s ⟨e.val, h⟩
  else if h2 : e.val - 16 < 16 then x ⟨e.val - 16, by omega⟩ * s ⟨e.val - 16, h2⟩ + x ⟨16 + (e.val - 16), by omega⟩ * c ⟨e.val - 16, h2⟩
  else x ⟨32 + (e.val - 16 - 16), by omega⟩

/-- The rotated row's first sixteen numbers. -/
theorem rot_lo (x : Fin 128 → EReal) (c s : Fin 16 → EReal) (e : Fin 128) (h : e.val < 16) :
    ROT32 x c s e = x e * c ⟨e.val, h⟩ - x ⟨16 + e.val, by omega⟩ * s ⟨e.val, h⟩ := dif_pos h

/-- Its next sixteen. -/
theorem rot_hi (x : Fin 128 → EReal) (c s : Fin 16 → EReal) (e : Fin 128) (h : ¬ e.val < 16) (h2 : e.val - 16 < 16) :
    ROT32 x c s e = x ⟨e.val - 16, by omega⟩ * s ⟨e.val - 16, h2⟩ + x ⟨16 + (e.val - 16), by omega⟩ * c ⟨e.val - 16, h2⟩ :=
  (dif_neg h).trans (dif_pos h2)

/-- Its rest. -/
theorem rot_tail (x : Fin 128 → EReal) (c s : Fin 16 → EReal) (e : Fin 128) (h : ¬ e.val < 16) (h2 : ¬ e.val - 16 < 16) :
    ROT32 x c s e = x ⟨32 + (e.val - 16 - 16), by omega⟩ := (dif_neg h).trans (dif_neg h2)

/-- The row of head `h` in the columns that start at `o`. -/
def HEAD (o : ℕ) (ho : o ≤ 18432) (z : FVec Ideal S8x16x20480 .f32) (b : Fin 8) (r h : Fin 16) (x : Fin 128) : EReal :=
  z (ix3 b r ⟨o + h.val * 128 + x.val, by omega⟩)

/-- The keys of a group, whose columns start at `o`: every head's row rotated. -/
def KEYS (o : ℕ) (ho : o ≤ 18432) (z : FVec Ideal S8x16x20480 .f32) : FVec Ideal S8x16x2048 .f32 := fun i =>
  ROT32 (HEAD o ho z (i 0) (i 1) ⟨(i 2).val / 128, by have h : (i 2).val < 2048 := (i 2).isLt; omega⟩) (COS (i 1)) (SIN (i 1))
    ⟨(i 2).val % 128, Nat.mod_lt _ (by decide)⟩

/-- The keys of a group at head `h`'s place `d`. -/
theorem keys_at (o : ℕ) (ho : o ≤ 18432) (z : FVec Ideal S8x16x20480 .f32) (b : Fin 8) (r h : Fin 16) (d : Fin 128) :
    KEYS o ho z (ix3 b r ⟨h.val * 128 + d.val, by omega⟩) = ROT32 (HEAD o ho z b r h) (COS r) (SIN r) d := by
  have e1 : (⟨(h.val * 128 + d.val) / 128, by omega⟩ : Fin 16) = h := Fin.ext (by show (h.val * 128 + d.val) / 128 = h.val; omega)
  have e2 : (⟨(h.val * 128 + d.val) % 128, Nat.mod_lt _ (by decide)⟩ : Fin 128) = d := Fin.ext (by show (h.val * 128 + d.val) % 128 = d.val; omega)
  exact congrArg₂ (fun a e => ROT32 (HEAD o ho z b r a) (COS r) (SIN r) e) e1 e2

/-- An index of the keys is its three coordinates. -/
theorem ix3_ext (i : S8x16x2048.Idx) (a : Fin 8) (b : Fin 16) (c : Fin 2048) (h0 : (i 0).val = a.val) (h1 : (i 1).val = b.val)
    (h2 : (i 2).val = c.val) : i = ix3 a b c := by
  funext x
  match x with
  | ⟨0, _⟩ => exact Fin.ext h0
  | ⟨1, _⟩ => exact Fin.ext h1
  | ⟨2, _⟩ => exact Fin.ext h2

/-- The values of a group, whose columns start at `o`. -/
def VALS (o : ℕ) (ho : o ≤ 18432) (z : FVec Ideal S8x16x20480 .f32) : FVec Ideal S8x16x2048 .f32 := fun i =>
  z (ix3 (i 0) (i 1) ⟨o + (i 2).val, by have h : (i 2).val < 2048 := (i 2).isLt; omega⟩)

/-- The first group's keys: the first sixteen numbers of a head. -/
theorem lo0 (z : FVec Ideal S8x16x20480 .f32) (b : Fin 8) (r h : Fin 16) (e : Fin 16) :
    val_main_v29 (F := Ideal) z (ix4 b r h e) = HEAD 2048 (by decide) z b r h ⟨e.val, by omega⟩ * COS r e - HEAD 2048 (by decide) z b r h ⟨16 + e.val, by omega⟩ * SIN r e := by
  pointwise [val_main_v29, val_main_v28, val_main_v27, val_main_v26, val_main_v25, val_main_v24, val_main_v23, val_main_v22, val_main_v20, val_main_v6, val_main_v5, val_main_v1, val_main_v0, COS, SIN, HEAD]

/-- The next sixteen. -/
theorem hi0 (z : FVec Ideal S8x16x20480 .f32) (b : Fin 8) (r h : Fin 16) (e : Fin 16) :
    val_main_v34 (F := Ideal) z (ix4 b r h e) = HEAD 2048 (by decide) z b r h ⟨e.val, by omega⟩ * SIN r e + HEAD 2048 (by decide) z b r h ⟨16 + e.val, by omega⟩ * COS r e := by
  pointwise [val_main_v34, val_main_v33, val_main_v32, val_main_v31, val_main_v30, val_main_v24, val_main_v23, val_main_v22, val_main_v20, val_main_v6, val_main_v5, val_main_v1, val_main_v0, COS, SIN, HEAD]

/-- The rest. -/
theorem tail0 (z : FVec Ideal S8x16x20480 .f32) (b : Fin 8) (r h : Fin 16) (e : Fin 96) :
    val_main_v35 (F := Ideal) z (ix4 b r h e) = HEAD 2048 (by decide) z b r h ⟨32 + e.val, by omega⟩ := by
  pointwise [val_main_v35, val_main_v6, val_main_v5, val_main_v1, val_main_v0, HEAD]

/-- The first group's keys. -/
theorem keys0 (z : FVec Ideal S8x16x20480 .f32) : val_main_v37 (F := Ideal) z = KEYS 2048 (by decide) z := by
  funext i
  idx_vars i
  pointwise [val_main_v37, val_main_v36]
  by_cases he : i2.val % 128 < 16
  · rw [dif_pos he]
    exact (lo0 z i0 i1 ⟨i2.val / 128, by omega⟩ ⟨i2.val % 128, he⟩).trans (rot_lo _ _ _ ⟨i2.val % 128, Nat.mod_lt _ (by decide)⟩ he).symm
  · rw [dif_neg he]
    by_cases h2 : i2.val % 128 - 16 < 16
    · rw [dif_pos h2]
      exact (hi0 z i0 i1 ⟨i2.val / 128, by omega⟩ ⟨i2.val % 128 - 16, h2⟩).trans (rot_hi _ _ _ ⟨i2.val % 128, Nat.mod_lt _ (by decide)⟩ he h2).symm
    · rw [dif_neg h2]
      exact (tail0 z i0 i1 ⟨i2.val / 128, by omega⟩ ⟨i2.val % 128 - 16 - 16, by omega⟩).trans (rot_tail _ _ _ ⟨i2.val % 128, Nat.mod_lt _ (by decide)⟩ he h2).symm

/-- The first group's values. -/
theorem vals0 (z : FVec Ideal S8x16x20480 .f32) : val_main_v106 (F := Ideal) z = VALS 4096 (by decide) z := by
  funext i
  idx_vars i
  pointwise [val_main_v106, val_main_v105, val_main_v104, val_main_v1, val_main_v0, VALS]
  exact congrArg (fun k => z (ix3 i0 i1 k)) (Fin.ext (by show 4096 + i2.val / 128 * 128 + i2.val % 128 = 4096 + i2.val; omega))

/-- The group's cosines are the first group's. -/
theorem cos1 : val_main_v52 (F := Ideal) = val_main_v19 := rfl
/-- So are its sines. -/
theorem sin1 : val_main_v54 (F := Ideal) = val_main_v21 := rfl

/-- The second group's keys: the first sixteen numbers of a head. -/
theorem lo1 (z : FVec Ideal S8x16x20480 .f32) (b : Fin 8) (r h : Fin 16) (e : Fin 16) :
    val_main_v62 (F := Ideal) z (ix4 b r h e) = HEAD 8192 (by decide) z b r h ⟨e.val, by omega⟩ * COS r e - HEAD 8192 (by decide) z b r h ⟨16 + e.val, by omega⟩ * SIN r e := by
  pointwise [val_main_v62, val_main_v61, val_main_v60, val_main_v59, val_main_v58, val_main_v57, val_main_v56, val_main_v55, val_main_v53, val_main_v39, val_main_v38, val_main_v1, val_main_v0, COS, SIN, HEAD, cos1, sin1]

/-- The next sixteen. -/
theorem hi1 (z : FVec Ideal S8x16x20480 .f32) (b : Fin 8) (r h : Fin 16) (e : Fin 16) :
    val_main_v67 (F := Ideal) z (ix4 b r h e) = HEAD 8192 (by decide) z b r h ⟨e.val, by omega⟩ * SIN r e + HEAD 8192 (by decide) z b r h ⟨16 + e.val, by omega⟩ * COS r e := by
  pointwise [val_main_v67, val_main_v66, val_main_v65, val_main_v64, val_main_v63, val_main_v57, val_main_v56, val_main_v55, val_main_v53, val_main_v39, val_main_v38, val_main_v1, val_main_v0, COS, SIN, HEAD, cos1, sin1]

/-- The rest. -/
theorem tail1 (z : FVec Ideal S8x16x20480 .f32) (b : Fin 8) (r h : Fin 16) (e : Fin 96) :
    val_main_v68 (F := Ideal) z (ix4 b r h e) = HEAD 8192 (by decide) z b r h ⟨32 + e.val, by omega⟩ := by
  pointwise [val_main_v68, val_main_v39, val_main_v38, val_main_v1, val_main_v0, HEAD]

/-- The second group's keys. -/
theorem keys1 (z : FVec Ideal S8x16x20480 .f32) : val_main_v70 (F := Ideal) z = KEYS 8192 (by decide) z := by
  funext i
  idx_vars i
  pointwise [val_main_v70, val_main_v69]
  by_cases he : i2.val % 128 < 16
  · rw [dif_pos he]
    exact (lo1 z i0 i1 ⟨i2.val / 128, by omega⟩ ⟨i2.val % 128, he⟩).trans (rot_lo _ _ _ ⟨i2.val % 128, Nat.mod_lt _ (by decide)⟩ he).symm
  · rw [dif_neg he]
    by_cases h2 : i2.val % 128 - 16 < 16
    · rw [dif_pos h2]
      exact (hi1 z i0 i1 ⟨i2.val / 128, by omega⟩ ⟨i2.val % 128 - 16, h2⟩).trans (rot_hi _ _ _ ⟨i2.val % 128, Nat.mod_lt _ (by decide)⟩ he h2).symm
    · rw [dif_neg h2]
      exact (tail1 z i0 i1 ⟨i2.val / 128, by omega⟩ ⟨i2.val % 128 - 16 - 16, by omega⟩).trans (rot_tail _ _ _ ⟨i2.val % 128, Nat.mod_lt _ (by decide)⟩ he h2).symm

/-- The second group's values. -/
theorem vals1 (z : FVec Ideal S8x16x20480 .f32) : val_main_v109 (F := Ideal) z = VALS 10240 (by decide) z := by
  funext i
  idx_vars i
  pointwise [val_main_v109, val_main_v108, val_main_v107, val_main_v1, val_main_v0, VALS]
  exact congrArg (fun k => z (ix3 i0 i1 k)) (Fin.ext (by show 10240 + i2.val / 128 * 128 + i2.val % 128 = 10240 + i2.val; omega))

/-- The group's cosines are the first group's. -/
theorem cos2 : val_main_v85 (F := Ideal) = val_main_v19 := rfl
/-- So are its sines. -/
theorem sin2 : val_main_v87 (F := Ideal) = val_main_v21 := rfl

/-- The third group's keys: the first sixteen numbers of a head. -/
theorem lo2 (z : FVec Ideal S8x16x20480 .f32) (b : Fin 8) (r h : Fin 16) (e : Fin 16) :
    val_main_v95 (F := Ideal) z (ix4 b r h e) = HEAD 14336 (by decide) z b r h ⟨e.val, by omega⟩ * COS r e - HEAD 14336 (by decide) z b r h ⟨16 + e.val, by omega⟩ * SIN r e := by
  pointwise [val_main_v95, val_main_v94, val_main_v93, val_main_v92, val_main_v91, val_main_v90, val_main_v89, val_main_v88, val_main_v86, val_main_v72, val_main_v71, val_main_v1, val_main_v0, COS, SIN, HEAD, cos2, sin2]

/-- The next sixteen. -/
theorem hi2 (z : FVec Ideal S8x16x20480 .f32) (b : Fin 8) (r h : Fin 16) (e : Fin 16) :
    val_main_v100 (F := Ideal) z (ix4 b r h e) = HEAD 14336 (by decide) z b r h ⟨e.val, by omega⟩ * SIN r e + HEAD 14336 (by decide) z b r h ⟨16 + e.val, by omega⟩ * COS r e := by
  pointwise [val_main_v100, val_main_v99, val_main_v98, val_main_v97, val_main_v96, val_main_v90, val_main_v89, val_main_v88, val_main_v86, val_main_v72, val_main_v71, val_main_v1, val_main_v0, COS, SIN, HEAD, cos2, sin2]

/-- The rest. -/
theorem tail2 (z : FVec Ideal S8x16x20480 .f32) (b : Fin 8) (r h : Fin 16) (e : Fin 96) :
    val_main_v101 (F := Ideal) z (ix4 b r h e) = HEAD 14336 (by decide) z b r h ⟨32 + e.val, by omega⟩ := by
  pointwise [val_main_v101, val_main_v72, val_main_v71, val_main_v1, val_main_v0, HEAD]

/-- The third group's keys. -/
theorem keys2 (z : FVec Ideal S8x16x20480 .f32) : val_main_v103 (F := Ideal) z = KEYS 14336 (by decide) z := by
  funext i
  idx_vars i
  pointwise [val_main_v103, val_main_v102]
  by_cases he : i2.val % 128 < 16
  · rw [dif_pos he]
    exact (lo2 z i0 i1 ⟨i2.val / 128, by omega⟩ ⟨i2.val % 128, he⟩).trans (rot_lo _ _ _ ⟨i2.val % 128, Nat.mod_lt _ (by decide)⟩ he).symm
  · rw [dif_neg he]
    by_cases h2 : i2.val % 128 - 16 < 16
    · rw [dif_pos h2]
      exact (hi2 z i0 i1 ⟨i2.val / 128, by omega⟩ ⟨i2.val % 128 - 16, h2⟩).trans (rot_hi _ _ _ ⟨i2.val % 128, Nat.mod_lt _ (by decide)⟩ he h2).symm
    · rw [dif_neg h2]
      exact (tail2 z i0 i1 ⟨i2.val / 128, by omega⟩ ⟨i2.val % 128 - 16 - 16, by omega⟩).trans (rot_tail _ _ _ ⟨i2.val % 128, Nat.mod_lt _ (by decide)⟩ he h2).symm

/-- The third group's values. -/
theorem vals2 (z : FVec Ideal S8x16x20480 .f32) : val_main_v112 (F := Ideal) z = VALS 16384 (by decide) z := by
  funext i
  idx_vars i
  pointwise [val_main_v112, val_main_v111, val_main_v110, val_main_v1, val_main_v0, VALS]
  exact congrArg (fun k => z (ix3 i0 i1 k)) (Fin.ext (by show 16384 + i2.val / 128 * 128 + i2.val % 128 = 16384 + i2.val; omega))

/-- The reference's run leaves the three groups' keys and values, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = KEYS 2048 (by decide) (m ((c.tc : Thread nD τ).loc main_arg0))
      ∧ r.2.mem ((c.tc : Thread nD τ).loc main_v70) = KEYS 8192 (by decide) (m ((c.tc : Thread nD τ).loc main_arg0))
      ∧ r.2.mem ((c.tc : Thread nD τ).loc main_v103) = KEYS 14336 (by decide) (m ((c.tc : Thread nD τ).loc main_arg0))
      ∧ r.2.mem ((c.tc : Thread nD τ).loc main_v106) = VALS 4096 (by decide) (m ((c.tc : Thread nD τ).loc main_arg0))
      ∧ r.2.mem ((c.tc : Thread nD τ).loc main_v109) = VALS 10240 (by decide) (m ((c.tc : Thread nD τ).loc main_arg0))
      ∧ r.2.mem ((c.tc : Thread nD τ).loc main_v112) = VALS 16384 (by decide) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((val_main_v37_eq m c).trans (keys0 _)), (h c).2.1.trans ((val_main_v70_eq m c).trans (keys1 _)),
      (h c).2.2.1.trans ((val_main_v103_eq m c).trans (keys2 _)), (h c).2.2.2.1.trans ((val_main_v106_eq _).trans (vals0 _)),
      (h c).2.2.2.2.1.trans ((val_main_v109_eq _).trans (vals1 _)), (h c).2.2.2.2.2.1.trans ((val_main_v112_eq _).trans (vals2 _)), (h c).2.2.2.2.2.2⟩)
    (Value.run m ρ)

end Cert.KvRowsRefIdeal.Own

end
-- ==== Proof.KvTab.lean ====
module

public import proofs.«01_k».proof.Proof.Gen.KvRowsIdeal.Value
public import proofs.«01_k».proof.Proof.KvRef
public import proofs.«01_k».proof.Proof.Gen.KvRowsRefIdeal.Read
public import Idealize.ShloMosaic.Lib.Pointwise
public import Idealize.ShloMosaic.Lib.StableHlo.RunRead
public import Idealize.ShloMosaic.Lib.Pipeline.ValueKit

@[expose] public section

set_option maxRecDepth 16384

noncomputable section

/-! The three tables of the rotation, and the rotation as the kernel writes it. -/

namespace Cert.KvRowsIdeal.Own

open Cert.KvRowsIdeal Cert.KvRowsIdeal.Gen Idealize.ShloMosaic Idealize.ShloMosaic.TcCoe Idealize.SL.Sem
open Cert.KvRowsRefIdeal.Own (COS SIN ROT32 HEAD KEYS VALS keys_at ix3_ext)
open Cert.KvRowsRefIdeal.Read

/-- A block of keys as the kernel rotates it: the row, the row turned by 16 places and the row turned by 112, each times
    its table. -/
theorem pay_at (c s1 s2 : FVec Ideal S16x128 .f32) (x : FVec Ideal S1x16x128 .f32) (r : Fin 16) (d : Fin 128) :
    k0_pay7 (F := Ideal) c s1 s2 x (ix3 0 r d) = x (ix3 0 r d) * c (ix2 r d)
      + x (ix3 0 r ⟨(d.val + 128 - 16) % 128, Nat.mod_lt _ (by decide)⟩) * s1 (ix2 r d)
      + x (ix3 0 r ⟨(d.val + 128 - 112) % 128, Nat.mod_lt _ (by decide)⟩) * s2 (ix2 r d) := by
  pointwise [k0_pay7, k0_pay6, k0_pay2, k0_pay3, k0_pay4]

/-- The second group's store is the same function of its blocks. -/
theorem pay24_eq (c s1 s2 : FVec Ideal S16x128 .f32) (x : FVec Ideal S1x16x128 .f32) :
    k0_pay24 (F := Ideal) (k0_pay4 s2) (k0_pay21 (k0_pay2 c) (k0_pay3 s1) x) (k0_pay22 x) = k0_pay7 c s1 s2 x := rfl

/-- So is the third's. -/
theorem pay40_eq (c s1 s2 : FVec Ideal S16x128 .f32) (x : FVec Ideal S1x16x128 .f32) :
    k0_pay40 (F := Ideal) (k0_pay2 c) (k0_pay3 s1) (k0_pay4 s2) x = k0_pay7 c s1 s2 x := rfl

/-- The cosine table. -/
def TC (r : Fin 16) (d : Fin 128) : EReal := if h : d.val < 16 then COS r ⟨d.val, h⟩ else if h2 : d.val - 16 < 16 then COS r ⟨d.val - 16, h2⟩ else 1
/-- The first sine table. -/
def TS1 (r : Fin 16) (d : Fin 128) : EReal := if h : d.val < 16 then 0 else if h2 : d.val - 16 < 16 then SIN r ⟨d.val - 16, h2⟩ else 0
/-- The second sine table. -/
def TS2 (r : Fin 16) (d : Fin 128) : EReal := if h : d.val < 16 then -SIN r ⟨d.val, h⟩ else 0

/-- The row, the row turned by 16 and the row turned by 112, each times its table, is the rotated row. -/
theorem rot_eq (x : Fin 128 → EReal) (r : Fin 16) (d : Fin 128) :
    x d * TC r d + x ⟨(d.val + 128 - 16) % 128, Nat.mod_lt _ (by decide)⟩ * TS1 r d + x ⟨(d.val + 128 - 112) % 128, Nat.mod_lt _ (by decide)⟩ * TS2 r d
      = ROT32 x (COS r) (SIN r) d := by
  unfold TC TS1 TS2 ROT32
  by_cases h : d.val < 16
  · have e : (⟨(d.val + 128 - 112) % 128, Nat.mod_lt _ (by decide)⟩ : Fin 128) = ⟨16 + d.val, by omega⟩ := Fin.ext (by show (d.val + 128 - 112) % 128 = 16 + d.val; omega)
    simp only [dif_pos h]
    rw [e, mul_zero, add_zero, mul_neg, sub_eq_add_neg]
  · simp only [dif_neg h]
    by_cases h2 : d.val - 16 < 16
    · have e : (⟨(d.val + 128 - 16) % 128, Nat.mod_lt _ (by decide)⟩ : Fin 128) = ⟨d.val - 16, by omega⟩ := Fin.ext (by show (d.val + 128 - 16) % 128 = d.val - 16; omega)
      have e2 : (⟨16 + (d.val - 16), by omega⟩ : Fin 128) = d := Fin.ext (by show 16 + (d.val - 16) = d.val; omega)
      simp only [dif_pos h2]
      rw [e, e2, mul_zero, add_zero, add_comm]
    · have e2 : (⟨32 + (d.val - 16 - 16), by omega⟩ : Fin 128) = d := Fin.ext (by show 32 + (d.val - 16 - 16) = d.val; omega)
      simp only [dif_neg h2]
      rw [e2, mul_zero, mul_zero, add_zero, add_zero, mul_one]

/-- The grid's points: `t` is head `t % 16` of sequence `t / 16`. -/
theorem idx : ∀ t : Fin cfg0.N, win0_1.index t = ![t.val / 16, 0, 16 + t.val % 16] ∧ win0_4.index t = ![t.val / 16, 0, 64 + t.val % 16]
    ∧ win0_7.index t = ![t.val / 16, 0, 112 + t.val % 16] ∧ win0_10.index t = ![0, 0] ∧ win0_11.index t = ![0, 0] ∧ win0_12.index t = ![0, 0]
    ∧ win0_20.index t = ![t.val / 16, 0, t.val % 16] ∧ win0_21.index t = ![t.val / 16, 0, t.val % 16] ∧ win0_22.index t = ![t.val / 16, 0, t.val % 16] :=
  (by decide +kernel : ∀ t : Fin grid0.N, _)

/-- There are 128 points. -/
theorem points (t : Fin cfg0.N) : t.val < 128 := t.isLt

/-- Point `t`'s sequence. -/
def bt (t : Fin cfg0.N) : Fin 8 := ⟨t.val / 16, by have := points t; omega⟩

/-- Point `t`'s head. -/
def ht (t : Fin cfg0.N) : Fin 16 := ⟨t.val % 16, by omega⟩

variable (m : (ℓ : Loc nD τ sig) → Buf (Elt Ideal) ℓ)

/-- The cosine table as the program builds it: the cosines twice, then ones. -/
def KC : FVec Ideal S16x128 .f32 :=
  concatenate S16x128 1 [⟨S16x16, val_main_v19 (F := Ideal)⟩, ⟨S16x16, val_main_v19 (F := Ideal)⟩, ⟨S16x96, broadcastInDim S16x96 ![] bcast_S_S16x96 (constant S_ .f32 0x3F800000#32)⟩] concatenates_S16x16_S16x16_S16x96_S16x128_d1

/-- The first sine table: zeros, the sines, zeros. -/
def KS1 : FVec Ideal S16x128 .f32 :=
  concatenate S16x128 1 [⟨S16x16, broadcastInDim S16x16 ![] bcast_S_S16x16 (constant S_ .f32 0x00000000#32)⟩, ⟨S16x16, val_main_v21 (F := Ideal)⟩, ⟨S16x96, broadcastInDim S16x96 ![] bcast_S_S16x96 (constant S_ .f32 0x00000000#32)⟩] concatenates_S16x16_S16x16_S16x96_S16x128_d1

/-- The second sine table: the sines, negated, and zeros. -/
def KS2 : FVec Ideal S16x128 .f32 :=
  concatenate S16x128 1 [⟨S16x16, Host.negf (F := Ideal) (val_main_v21 (F := Ideal))⟩, ⟨S16x112, broadcastInDim S16x112 ![] bcast_S_S16x112 (constant S_ .f32 0x00000000#32)⟩] concatenates_S16x16_S16x112_S16x128_d1

/-- The cosine table, entry by entry. -/
theorem kc_at (r : Fin 16) (d : Fin 128) : KC (ix2 r d) = TC r d := by
  pointwise [KC, TC, COS]

/-- The first sine table, entry by entry. -/
theorem ks1_at (r : Fin 16) (d : Fin 128) : KS1 (ix2 r d) = TS1 r d := by
  pointwise [KS1, TS1, SIN]

/-- The second sine table, entry by entry. -/
theorem ks2_at (r : Fin 16) (d : Fin 128) : KS2 (ix2 r d) = TS2 r d := by
  pointwise [KS2, TS2, SIN]

/-- Three blocks side by side, as the program joins them. -/
def cat3 (x y : FVec Ideal S16x16 .f32) (z : FVec Ideal S16x96 .f32) : FVec Ideal S16x128 .f32 :=
  concatenate S16x128 1 [⟨S16x16, x⟩, ⟨S16x16, y⟩, ⟨S16x96, z⟩] concatenates_S16x16_S16x16_S16x96_S16x128_d1

open Idealize.ShloMosaic.StableHlo in
/-- The cosines when the cosine table is built. -/
theorem up21 (c : Dev nD) : upto (hostOps0 (F := Ideal)) (fun b => m (c, b)) 28 main_v21 = val_main_v19 (F := Ideal) := by
  after_reads_simp
  rfl

open Idealize.ShloMosaic.StableHlo in
/-- The ones when the cosine table is built. -/
theorem up23 (c : Dev nD) : upto (hostOps0 (F := Ideal)) (fun b => m (c, b)) 28 main_v23 = broadcastInDim S16x96 ![] bcast_S_S16x96 (constant (F := Ideal) S_ .f32 0x3F800000#32) := by
  after_reads_simp

open Idealize.ShloMosaic.StableHlo in
/-- The sines when the first sine table is built. -/
theorem up22 (c : Dev nD) : upto (hostOps0 (F := Ideal)) (fun b => m (c, b)) 33 main_v22 = val_main_v21 (F := Ideal) := by
  after_reads_simp
  rfl

open Idealize.ShloMosaic.StableHlo in
/-- The first zeros when the first sine table is built. -/
theorem up25 (c : Dev nD) : upto (hostOps0 (F := Ideal)) (fun b => m (c, b)) 33 main_v25 = broadcastInDim S16x16 ![] bcast_S_S16x16 (constant (F := Ideal) S_ .f32 0x00000000#32) := by
  after_reads_simp

open Idealize.ShloMosaic.StableHlo in
/-- The last zeros when the first sine table is built. -/
theorem up26 (c : Dev nD) : upto (hostOps0 (F := Ideal)) (fun b => m (c, b)) 33 main_v26 = broadcastInDim S16x96 ![] bcast_S_S16x96 (constant (F := Ideal) S_ .f32 0x00000000#32) := by
  after_reads_simp

open Idealize.ShloMosaic.StableHlo in
/-- The kernel reads the cosine table. -/
theorem V_kc (c : Dev nD) : V m c main_v24 = KC := by
  unfold V
  after_reads_simp
  show cat3 (upto (hostOps0 (F := Ideal)) (fun b => m (c, b)) 28 main_v21) (upto (hostOps0 (F := Ideal)) (fun b => m (c, b)) 28 main_v21) (upto (hostOps0 (F := Ideal)) (fun b => m (c, b)) 28 main_v23) = KC
  rw [up21, up23]
  rfl

open Idealize.ShloMosaic.StableHlo in
/-- The kernel reads the first sine table. -/
theorem V_ks1 (c : Dev nD) : V m c main_v27 = KS1 := by
  unfold V
  after_reads_simp
  show cat3 (upto (hostOps0 (F := Ideal)) (fun b => m (c, b)) 33 main_v25) (upto (hostOps0 (F := Ideal)) (fun b => m (c, b)) 33 main_v22) (upto (hostOps0 (F := Ideal)) (fun b => m (c, b)) 33 main_v26) = KS1
  rw [up25, up22, up26]
  rfl

/-- The kernel reads the second sine table. -/
theorem V_ks2 (c : Dev nD) : V m c main_v30 = KS2 := by
  entry_read
  rfl

/-- The cosine table, entry by entry, as the kernel reads it. -/
theorem V_c (c : Dev nD) (r : Fin 16) (d : Fin 128) : V m c main_v24 (ix2 r d) = TC r d :=
  (congrFun (V_kc m c) (ix2 r d)).trans (kc_at r d)

/-- The first sine table, likewise. -/
theorem V_s1 (c : Dev nD) (r : Fin 16) (d : Fin 128) : V m c main_v27 (ix2 r d) = TS1 r d :=
  (congrFun (V_ks1 m c) (ix2 r d)).trans (ks1_at r d)

/-- The second sine table, likewise. -/
theorem V_s2 (c : Dev nD) (r : Fin 16) (d : Fin 128) : V m c main_v30 (ix2 r d) = TS2 r d :=
  (congrFun (V_ks2 m c) (ix2 r d)).trans (ks2_at r d)

/-- The cosine table as a point reads it. -/
theorem tab10 (c : Dev nD) (t : Fin cfg0.N) (r : Fin 16) (d : Fin 128) : iblk m c 10 t (ix2 r d) = TC r d := by
  obtain ⟨_, _, _, e, _⟩ := idx t
  rw [← V_c m c]
  blk_point [iblk, e]

/-- The first sine table as a point reads it. -/
theorem tab11 (c : Dev nD) (t : Fin cfg0.N) (r : Fin 16) (d : Fin 128) : iblk m c 11 t (ix2 r d) = TS1 r d := by
  obtain ⟨_, _, _, _, e, _⟩ := idx t
  rw [← V_s1 m c]
  blk_point [iblk, e]

/-- The second sine table as a point reads it. -/
theorem tab12 (c : Dev nD) (t : Fin cfg0.N) (r : Fin 16) (d : Fin 128) : iblk m c 12 t (ix2 r d) = TS2 r d := by
  obtain ⟨_, _, _, _, _, e, _⟩ := idx t
  rw [← V_s2 m c]
  blk_point [iblk, e]

end Cert.KvRowsIdeal.Own

end
-- ==== Proof.KvRows.lean ====
module

public import proofs.«01_k».proof.Proof.Gen.KvRowsIdeal.Value
public import proofs.«01_k».proof.Proof.KvRef
public import proofs.«01_k».proof.Proof.KvTab
public import proofs.«01_k».proof.Proof.Gen.KvRowsRefIdeal.Read
public import Idealize.ShloMosaic.Lib.Pointwise
public import Idealize.ShloMosaic.Lib.StableHlo.RunRead
public import Idealize.ShloMosaic.Lib.Pipeline.ValueKit

@[expose] public section

set_option maxRecDepth 16384

noncomputable section

/-! The kernel's run of the keys and values. -/

namespace Cert.KvRowsIdeal.Own

open Cert.KvRowsIdeal Cert.KvRowsIdeal.Gen Idealize.ShloMosaic Idealize.ShloMosaic.TcCoe Idealize.SL.Sem
open Cert.KvRowsRefIdeal.Own (COS SIN ROT32 HEAD KEYS VALS keys_at ix3_ext)
open Cert.KvRowsRefIdeal.Read

variable (m : (ℓ : Loc nD τ sig) → Buf (Elt Ideal) ℓ)

/-- The first group's block of keys before the rotation. -/
theorem blk1 (c : Dev nD) (t : Fin cfg0.N) (r : Fin 16) (x : Fin 128) :
    iblk m c 1 t (ix3 0 r x) = HEAD 2048 (by decide) (V m c main_arg0) (bt t) r (ht t) x := by
  obtain ⟨e, _⟩ := idx t
  blk_point [iblk, e, bt, ht, HEAD]

/-- What a point leaves in the first group's block, as the one stored value. -/
theorem block20 (c : Dev nD) (t : Fin cfg0.N) :
    (dats m 0 c).after 20 t = k0_pay7 (F := Ideal) (iblk m c 10 t) (iblk m c 11 t) (iblk m c 12 t) (iblk m c 1 t) := by
  rw [after0_20]
  unfold_out out0_20
  frame_out

/-- The first group's block, entry by entry. -/
theorem point20 (c : Dev nD) (t : Fin cfg0.N) (r : Fin 16) (d : Fin 128) :
    (dats m 0 c).after 20 t (ix3 0 r d) = ROT32 (HEAD 2048 (by decide) (V m c main_arg0) (bt t) r (ht t)) (COS r) (SIN r) d := by
  rw [block20]
  refine (pay_at _ _ _ _ r d).trans ?_
  rw [tab10, tab11, tab12, blk1, blk1, blk1]
  exact rot_eq _ r d

/-- The first group's keys as the run leaves them. -/
theorem final20 (c : Dev nD) : (dats m 0 c).arrAt 20 cfg0.N = KEYS 2048 (by decide) (V m c main_arg0) := by
  refine (dats m 0 c).arrAt_eq_of_covers 20 _ (by decide +kernel) fun t _ y => ?_
  blk_simp
  revert y
  show ∀ y : S1x16x128.Idx, _
  intro y
  obtain ⟨_, _, _, _, _, _, e, _⟩ := idx t
  idx_vars y
  have h0 : ((win0_20.blk t).view.emb (ix3 y0 y1 y2) 0).val = win0_20.index t (0 : Fin 3) * 1 + 1 * y0.val := rfl
  have h1 : ((win0_20.blk t).view.emb (ix3 y0 y1 y2) 1).val = win0_20.index t (1 : Fin 3) * 16 + 1 * y1.val := rfl
  have h2 : ((win0_20.blk t).view.emb (ix3 y0 y1 y2) 2).val = win0_20.index t (2 : Fin 3) * 128 + 1 * y2.val := rfl
  rw [e] at h0 h1 h2
  simp only [Matrix.cons_val_zero, Matrix.cons_val_one, Matrix.cons_val] at h0 h1 h2
  obtain rfl : y0 = 0 := Subsingleton.elim _ _
  refine (point20 m c t y1 y2).trans ?_
  refine (keys_at 2048 (by decide) (V m c main_arg0) (bt t) y1 (ht t) y2).symm.trans (congrArg _ ?_)
  refine (ix3_ext _ _ _ _ ?_ ?_ ?_).symm
  · rw [h0]; show t.val / 16 * 1 + 1 * 0 = t.val / 16; omega
  · rw [h1]; omega
  · rw [h2]; show t.val % 16 * 128 + 1 * y2.val = t.val % 16 * 128 + y2.val; omega

/-- The first group's values, sliced by the program. -/
theorem V_vals0 (c : Dev nD) : V m c main_v3 = VALS 4096 (by decide) (m ((c.tc : Thread nD τ).loc main_arg0)) := by
  funext i
  revert i
  show ∀ i : S8x16x2048.Idx, _
  intro i
  idx_vars i
  entry_read
  pointwise [VALS]

/-- The second group's block of keys before the rotation. -/
theorem blk4 (c : Dev nD) (t : Fin cfg0.N) (r : Fin 16) (x : Fin 128) :
    iblk m c 4 t (ix3 0 r x) = HEAD 8192 (by decide) (V m c main_arg0) (bt t) r (ht t) x := by
  obtain ⟨_, e, _⟩ := idx t
  blk_point [iblk, e, bt, ht, HEAD]

/-- What a point leaves in the second group's block, as the one stored value. -/
theorem block21 (c : Dev nD) (t : Fin cfg0.N) :
    (dats m 0 c).after 21 t = k0_pay7 (F := Ideal) (iblk m c 10 t) (iblk m c 11 t) (iblk m c 12 t) (iblk m c 4 t) := by
  rw [after0_21]
  unfold_out out0_21
  frame_out
  exact pay24_eq _ _ _ _

/-- The second group's block, entry by entry. -/
theorem point21 (c : Dev nD) (t : Fin cfg0.N) (r : Fin 16) (d : Fin 128) :
    (dats m 0 c).after 21 t (ix3 0 r d) = ROT32 (HEAD 8192 (by decide) (V m c main_arg0) (bt t) r (ht t)) (COS r) (SIN r) d := by
  rw [block21]
  refine (pay_at _ _ _ _ r d).trans ?_
  rw [tab10, tab11, tab12, blk4, blk4, blk4]
  exact rot_eq _ r d

/-- The second group's keys as the run leaves them. -/
theorem final21 (c : Dev nD) : (dats m 0 c).arrAt 21 cfg0.N = KEYS 8192 (by decide) (V m c main_arg0) := by
  refine (dats m 0 c).arrAt_eq_of_covers 21 _ (by decide +kernel) fun t _ y => ?_
  blk_simp
  revert y
  show ∀ y : S1x16x128.Idx, _
  intro y
  obtain ⟨_, _, _, _, _, _, _, e, _⟩ := idx t
  idx_vars y
  have h0 : ((win0_21.blk t).view.emb (ix3 y0 y1 y2) 0).val = win0_21.index t (0 : Fin 3) * 1 + 1 * y0.val := rfl
  have h1 : ((win0_21.blk t).view.emb (ix3 y0 y1 y2) 1).val = win0_21.index t (1 : Fin 3) * 16 + 1 * y1.val := rfl
  have h2 : ((win0_21.blk t).view.emb (ix3 y0 y1 y2) 2).val = win0_21.index t (2 : Fin 3) * 128 + 1 * y2.val := rfl
  rw [e] at h0 h1 h2
  simp only [Matrix.cons_val_zero, Matrix.cons_val_one, Matrix.cons_val] at h0 h1 h2
  obtain rfl : y0 = 0 := Subsingleton.elim _ _
  refine (point21 m c t y1 y2).trans ?_
  refine (keys_at 8192 (by decide) (V m c main_arg0) (bt t) y1 (ht t) y2).symm.trans (congrArg _ ?_)
  refine (ix3_ext _ _ _ _ ?_ ?_ ?_).symm
  · rw [h0]; show t.val / 16 * 1 + 1 * 0 = t.val / 16; omega
  · rw [h1]; omega
  · rw [h2]; show t.val % 16 * 128 + 1 * y2.val = t.val % 16 * 128 + y2.val; omega

/-- The second group's values, sliced by the program. -/
theorem V_vals1 (c : Dev nD) : V m c main_v4 = VALS 10240 (by decide) (m ((c.tc : Thread nD τ).loc main_arg0)) := by
  funext i
  revert i
  show ∀ i : S8x16x2048.Idx, _
  intro i
  idx_vars i
  entry_read
  pointwise [VALS]

/-- The third group's block of keys before the rotation. -/
theorem blk7 (c : Dev nD) (t : Fin cfg0.N) (r : Fin 16) (x : Fin 128) :
    iblk m c 7 t (ix3 0 r x) = HEAD 14336 (by decide) (V m c main_arg0) (bt t) r (ht t) x := by
  obtain ⟨_, _, e, _⟩ := idx t
  blk_point [iblk, e, bt, ht, HEAD]

/-- What a point leaves in the third group's block, as the one stored value. -/
theorem block22 (c : Dev nD) (t : Fin cfg0.N) :
    (dats m 0 c).after 22 t = k0_pay7 (F := Ideal) (iblk m c 10 t) (iblk m c 11 t) (iblk m c 12 t) (iblk m c 7 t) := by
  rw [after0_22]
  unfold_out out0_22
  frame_out
  exact pay40_eq _ _ _ _

/-- The third group's block, entry by entry. -/
theorem point22 (c : Dev nD) (t : Fin cfg0.N) (r : Fin 16) (d : Fin 128) :
    (dats m 0 c).after 22 t (ix3 0 r d) = ROT32 (HEAD 14336 (by decide) (V m c main_arg0) (bt t) r (ht t)) (COS r) (SIN r) d := by
  rw [block22]
  refine (pay_at _ _ _ _ r d).trans ?_
  rw [tab10, tab11, tab12, blk7, blk7, blk7]
  exact rot_eq _ r d

/-- The third group's keys as the run leaves them. -/
theorem final22 (c : Dev nD) : (dats m 0 c).arrAt 22 cfg0.N = KEYS 14336 (by decide) (V m c main_arg0) := by
  refine (dats m 0 c).arrAt_eq_of_covers 22 _ (by decide +kernel) fun t _ y => ?_
  blk_simp
  revert y
  show ∀ y : S1x16x128.Idx, _
  intro y
  obtain ⟨_, _, _, _, _, _, _, _, e⟩ := idx t
  idx_vars y
  have h0 : ((win0_22.blk t).view.emb (ix3 y0 y1 y2) 0).val = win0_22.index t (0 : Fin 3) * 1 + 1 * y0.val := rfl
  have h1 : ((win0_22.blk t).view.emb (ix3 y0 y1 y2) 1).val = win0_22.index t (1 : Fin 3) * 16 + 1 * y1.val := rfl
  have h2 : ((win0_22.blk t).view.emb (ix3 y0 y1 y2) 2).val = win0_22.index t (2 : Fin 3) * 128 + 1 * y2.val := rfl
  rw [e] at h0 h1 h2
  simp only [Matrix.cons_val_zero, Matrix.cons_val_one, Matrix.cons_val] at h0 h1 h2
  obtain rfl : y0 = 0 := Subsingleton.elim _ _
  refine (point22 m c t y1 y2).trans ?_
  refine (keys_at 14336 (by decide) (V m c main_arg0) (bt t) y1 (ht t) y2).symm.trans (congrArg _ ?_)
  refine (ix3_ext _ _ _ _ ?_ ?_ ?_).symm
  · rw [h0]; show t.val / 16 * 1 + 1 * 0 = t.val / 16; omega
  · rw [h1]; omega
  · rw [h2]; show t.val % 16 * 128 + 1 * y2.val = t.val % 16 * 128 + y2.val; omega

/-- The third group's values, sliced by the program. -/
theorem V_vals2 (c : Dev nD) : V m c main_v5 = VALS 16384 (by decide) (m ((c.tc : Thread nD τ).loc main_arg0)) := by
  funext i
  revert i
  show ∀ i : S8x16x2048.Idx, _
  intro i
  idx_vars i
  entry_read
  pointwise [VALS]

/-- The kernel's run leaves the three groups' keys and values, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v31_1) = KEYS 2048 (by decide) (m ((c.tc : Thread nD τ).loc main_arg0))
      ∧ r.2.mem ((c.tc : Thread nD τ).loc main_v31_2) = KEYS 8192 (by decide) (m ((c.tc : Thread nD τ).loc main_arg0))
      ∧ r.2.mem ((c.tc : Thread nD τ).loc main_v31_3) = KEYS 14336 (by decide) (m ((c.tc : Thread nD τ).loc main_arg0))
      ∧ r.2.mem ((c.tc : Thread nD τ).loc main_v3) = VALS 4096 (by decide) (m ((c.tc : Thread nD τ).loc main_arg0))
      ∧ r.2.mem ((c.tc : Thread nD τ).loc main_v4) = VALS 10240 (by decide) (m ((c.tc : Thread nD τ).loc main_arg0))
      ∧ r.2.mem ((c.tc : Thread nD τ).loc main_v5) = VALS 16384 (by decide) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(Value.post20 m r h c).trans (by rw [final20 m c, V_main_arg0]),
      (Value.post21 m r h c).trans (by rw [final21 m c, V_main_arg0]), (Value.post22 m r h c).trans (by rw [final22 m c, V_main_arg0]),
      ((h c).2 main_v3 (Pipeline.mem_restRefs_of main_v3 (by decide) (by decide))).trans (V_vals0 m c),
      ((h c).2 main_v4 (Pipeline.mem_restRefs_of main_v4 (by decide) (by decide))).trans (V_vals1 m c),
      ((h c).2 main_v5 (Pipeline.mem_restRefs_of main_v5 (by decide) (by decide))).trans (V_vals2 m c),
      Value.kept_main_arg0 m r h c, Value.kept_main_arg1 m r h c, Value.kept_main_arg2 m r h c, Value.kept_main_arg3 m r h c⟩)
    (run_main m ρ)

end Cert.KvRowsIdeal.Own

end
-- ==== Proof.RetSpec.lean ====
module

public import Idealize.ShloMosaic.Lib.Pointwise

@[expose] public section

set_option maxRecDepth 16384

noncomputable section

/-! The retention over extended reals, one head of one sequence: rotary positions, the state carried from chunk to
    chunk, the outputs of a chunk, the norm of a row and its gate. -/

namespace Cert.RetSpec

open Idealize.ShloMosaic Idealize.ShloMosaic.TcCoe

/-- The position `n` of a row within its chunk, as a number. -/
def NUM (n : ℕ) : EReal := (FloatOps.sitofp .f32 (BitVec.ofNat 32 n) : Ideal .f32)

/-- A row `x` rotated by the cosines `c` and sines `s` of its position. -/
def ROT (x : Fin 256 → EReal) (c s : Fin 128 → EReal) (e : Fin 256) : EReal :=
  if h : e.val < 128 then x e * c ⟨e.val, h⟩ - x ⟨128 + e.val, by omega⟩ * s ⟨e.val, h⟩
  else x ⟨e.val - 128, by omega⟩ * s ⟨e.val - 128, by omega⟩ + x ⟨128 + (e.val - 128), by omega⟩ * c ⟨e.val - 128, by omega⟩

/-- The weight by which row `c` of a chunk counts for row `r`: the decay to the power of their distance, nothing ahead. -/
def DEC (lg : EReal) (r c : Fin 128) : EReal :=
  if 0 ≤ NUM r.val - NUM c.val then Ideal.exp (lg * max (NUM r.val - NUM c.val) 0) else 0

/-- The state after a chunk of keys `K` and values `V`, from the state `S` before it. -/
def STEP (lg : EReal) (K : Fin 128 → Fin 256 → EReal) (V : Fin 128 → Fin 512 → EReal) (S : Fin 256 → Fin 512 → EReal)
    (d : Fin 256) (e : Fin 512) : EReal :=
  Ideal.exp (lg * Ideal.ofBits FTy.f32 0x43000000#32) * S d e
    + ∑ n : Fin 128, K n d * Ideal.exp (lg * (Ideal.ofBits FTy.f32 0x42FE0000#32 - NUM n.val)) * V n e

/-- A chunk's outputs before the norm: its own rows, and the state carried in. -/
def OUT (lg : EReal) (Q K : Fin 128 → Fin 256 → EReal) (V : Fin 128 → Fin 512 → EReal) (S : Fin 256 → Fin 512 → EReal)
    (r : Fin 128) (e : Fin 512) : EReal :=
  (∑ c : Fin 128, (∑ d : Fin 256, Q r d * K c d) * DEC lg r c * V c e)
    + (∑ d : Fin 256, Q r d * S d e) * Ideal.exp (lg * (NUM r.val + 1))

/-- A row normalised to mean 0 and variance 1, times the weights `g`. -/
def NORM (o g : Fin 512 → EReal) (e : Fin 512) : EReal :=
  (o e - Ideal.div (∑ x, o x) (Ideal.ofBits FTy.f32 0x44000000#32))
    * Ideal.rsqrt (Ideal.div (∑ x, (o x - Ideal.div (∑ y, o y) (Ideal.ofBits FTy.f32 0x44000000#32))
        * (o x - Ideal.div (∑ y, o y) (Ideal.ofBits FTy.f32 0x44000000#32))) (Ideal.ofBits FTy.f32 0x44000000#32)
        + Ideal.ofBits FTy.f32 0x358637BD#32)
    * g e

/-- The gate: `g` times the logistic function of `g`. -/
def GATE (g : EReal) : EReal := g * Ideal.div 1 (1 + Ideal.exp (-g))

/-- Row `r` of chunk `k` among the 2048 rows. -/
def row (k : Fin 16) (r : Fin 128) : Fin 2048 := ⟨k.val * 128 + r.val, by omega⟩

/-- The state before chunk `n`. -/
def ST (lg : EReal) (K : Fin 2048 → Fin 256 → EReal) (V : Fin 2048 → Fin 512 → EReal) : ℕ → Fin 256 → Fin 512 → EReal
  | 0 => fun _ _ => 0
  | n + 1 => if h : n < 16 then STEP lg (fun r => K (row ⟨n, h⟩ r)) (fun r => V (row ⟨n, h⟩ r)) (ST lg K V n) else ST lg K V n

/-- The state after chunk `n`. -/
theorem ST_succ (lg : EReal) (K : Fin 2048 → Fin 256 → EReal) (V : Fin 2048 → Fin 512 → EReal) (n : ℕ) (h : n < 16) :
    ST lg K V (n + 1) = STEP lg (fun r => K (row ⟨n, h⟩ r)) (fun r => V (row ⟨n, h⟩ r)) (ST lg K V n) := by
  simp only [ST, h, dite_true]

/-- Row `r` of chunk `k` of the outputs before the norm. -/
def OC (lg : EReal) (Q K : Fin 2048 → Fin 256 → EReal) (V : Fin 2048 → Fin 512 → EReal) (k : Fin 16) (r : Fin 128) : Fin 512 → EReal :=
  OUT lg (fun r => Q (row k r)) (fun r => K (row k r)) (fun r => V (row k r)) (ST lg K V k.val) r

/-- The queries of head `h`, rotated. -/
def Qr (z : Fin 4 → Fin 2048 → Fin 12288 → EReal) (C S : Fin 2048 → Fin 128 → EReal) (b : Fin 4) (h : Fin 8) (r : Fin 2048) : Fin 256 → EReal :=
  ROT (fun x => z b r ⟨h.val * 256 + x.val, by omega⟩) (C r) (S r)

/-- The keys of head `h`, rotated and scaled. -/
def Kr (z : Fin 4 → Fin 2048 → Fin 12288 → EReal) (C S : Fin 2048 → Fin 128 → EReal) (b : Fin 4) (h : Fin 8) (r : Fin 2048) (d : Fin 256) : EReal :=
  ROT (fun x => z b r ⟨2048 + (h.val * 256 + x.val), by omega⟩) (C r) (S r) d * Ideal.ofBits FTy.f32 0x3D800000#32

/-- The values of head `h`. -/
def Vr (z : Fin 4 → Fin 2048 → Fin 12288 → EReal) (b : Fin 4) (h : Fin 8) (r : Fin 2048) (e : Fin 512) : EReal :=
  z b r ⟨4096 + (h.val * 512 + e.val), by omega⟩

/-- The gates of head `h`. -/
def Gr (z : Fin 4 → Fin 2048 → Fin 12288 → EReal) (b : Fin 4) (h : Fin 8) (r : Fin 2048) (e : Fin 512) : EReal :=
  z b r ⟨8192 + (h.val * 512 + e.val), by omega⟩

/-- The layer's output at row `row k r` of head `h`. -/
def YR (z : Fin 4 → Fin 2048 → Fin 12288 → EReal) (C S : Fin 2048 → Fin 128 → EReal) (lg : Fin 8 → EReal) (g : Fin 8 → Fin 512 → EReal)
    (b : Fin 4) (h : Fin 8) (k : Fin 16) (r : Fin 128) (e : Fin 512) : EReal :=
  NORM (OC (lg h) (Qr z C S b h) (Kr z C S b h) (Vr z b h) k r) (g h) e * GATE (Gr z b h (row k r) e)

/-- The state the layer leaves for head `h`. -/
def SR (z : Fin 4 → Fin 2048 → Fin 12288 → EReal) (C S : Fin 2048 → Fin 128 → EReal) (lg : Fin 8 → EReal) (b : Fin 4) (h : Fin 8) :
    Fin 256 → Fin 512 → EReal :=
  ST (lg h) (Kr z C S b h) (Vr z b h) 16

/-- The distance of two rows of a chunk, taken in whole numbers, is their distance in numbers. -/
theorem NUM_sub (r c : Fin 128) :
    (FloatOps.sitofp .f32 (IntOp.subi (BitVec.ofNat 32 r.val) (BitVec.ofNat 32 c.val)) : Ideal .f32) = NUM r.val - NUM c.val := by
  have h0 : ∀ n : Fin 128, (BitVec.ofNat 32 n.val).toInt = (n.val : ℤ) := by decide +kernel
  have h1 : (BitVec.ofNat 32 r.val - BitVec.ofNat 32 c.val).toInt = (r.val : ℤ) - (c.val : ℤ) := by
    rw [BitVec.toInt_sub, h0, h0]
    have := r.isLt
    have := c.isLt
    rw [Int.bmod_def]
    omega
  show (((BitVec.ofNat 32 r.val - BitVec.ofNat 32 c.val).toInt : ℝ) : EReal) = (((BitVec.ofNat 32 r.val).toInt : ℝ) : EReal) - (((BitVec.ofNat 32 c.val).toInt : ℝ) : EReal)
  rw [h1, h0, h0, ← EReal.coe_sub]
  norm_cast

/-- A quotient by `1 + exp` is a product with its reciprocal: the gate in the other spelling. -/
theorem gate_eq (g : EReal) : Ideal.div g (1 + Ideal.exp (0 - g)) = GATE g := by
  have hp : ∀ x : EReal, 0 ≤ Ideal.exp x := fun x => by
    induction x with
    | bot => exact le_refl _
    | top => exact le_top
    | coe r => exact EReal.coe_nonneg.2 (Real.exp_pos r).le
  have hn : (1 + Ideal.exp (-g)) ≠ 0 := by
    have h1 : (0 : EReal) < 1 + Ideal.exp (-g) := lt_of_lt_of_le zero_lt_one (le_add_of_nonneg_right (hp _))
    exact ne_of_gt h1
  rw [zero_sub, GATE, Ideal.div, Ideal.div, if_neg hn, if_neg hn, one_mul]

end Cert.RetSpec

end
-- ==== Proof.StateS.lean ====
module

public import proofs.«01_k».proof.Proof.Gen.StateSIdeal.Value
public import proofs.«01_k».proof.Proof.Gen.StateSRefIdeal.Read
public import proofs.«01_k».proof.Proof.RetSpec
public import Idealize.ShloMosaic.Lib.Pipeline.ValueKit

@[expose] public section

set_option maxRecDepth 16384

noncomputable section

/-! The state of the retention after the four new rows of the eight sampled sequences: the kernel works on rows padded
    with zeros to sixteen, whose last twelve add nothing. -/

namespace Cert.StateSRefIdeal.Own

open Cert.StateSRefIdeal Cert.StateSRefIdeal.Gen Cert.StateSRefIdeal.Read
open Idealize.ShloMosaic Idealize.ShloMosaic.TcCoe Idealize.SL.Sem
open Cert.RetSpec

/-- The cosines of the rotary angles of the four new rows. -/
def COS (r : Fin 4) (d : Fin 128) : EReal := val_main_v49 (F := Ideal) (ix2 r d)

/-- The sines of the rotary angles of the four new rows. -/
def SIN (r : Fin 4) (d : Fin 128) : EReal := val_main_v51 (F := Ideal) (ix2 r d)

/-- A head's log decay. -/
def LG (h : Fin 8) : EReal := val_main_v78 (F := Ideal) (ix1 h)

/-- The keys of head `h`, rotated and scaled. -/
def KS (z : FVec Ideal S8x4x12288 .f32) (b h : Fin 8) (r : Fin 4) (d : Fin 256) : EReal :=
  ROT (fun x => z (ix3 b r ⟨2048 + (h.val * 256 + x.val), by omega⟩)) (COS r) (SIN r) d * Ideal.ofBits FTy.f32 0x3D800000#32

/-- The values of head `h`. -/
def VS (z : FVec Ideal S8x4x12288 .f32) (b h : Fin 8) (r : Fin 4) (e : Fin 512) : EReal :=
  z (ix3 b r ⟨4096 + (h.val * 512 + e.val), by omega⟩)

/-- The new state: the old one decayed by four rows, plus each row's key times its value, decayed by the rows after it. -/
def NEW (z : FVec Ideal S8x4x12288 .f32) (s : FVec Ideal S8x8x256x512 .f32) (b h : Fin 8) (d : Fin 256) (e : Fin 512) : EReal :=
  Ideal.exp (LG h * Ideal.ofBits FTy.f32 0x40800000#32) * s (ix4 b h d e)
    + ∑ n : Fin 4, KS z b h n d * Ideal.exp (LG h * (Ideal.ofBits FTy.f32 0x40400000#32 - NUM n.val)) * VS z b h n e

/-- The new state as an array. -/
def NEWS (z : FVec Ideal S8x4x12288 .f32) (s : FVec Ideal S8x8x256x512 .f32) : FVec Ideal S8x8x256x512 .f32 :=
  fun i => NEW z s (i 0) (i 1) (i 2) (i 3)

/-- The first halves of the rotated keys. -/
theorem klo (z : FVec Ideal S8x4x12288 .f32) (b : Fin 8) (r : Fin 4) (h : Fin 8) (e : Fin 128) :
    val_main_v59 (F := Ideal) z (ix4 b r h e)
      = z (ix3 b r ⟨2048 + (h.val * 256 + e.val), by omega⟩) * COS r e - z (ix3 b r ⟨2048 + (h.val * 256 + (128 + e.val)), by omega⟩) * SIN r e := by
  pointwise [val_main_v59, val_main_v58, val_main_v57, val_main_v56, val_main_v55, val_main_v54, val_main_v53, val_main_v52, val_main_v50, val_main_v36, val_main_v35, COS, SIN]

/-- The second halves of the rotated keys. -/
theorem khi (z : FVec Ideal S8x4x12288 .f32) (b : Fin 8) (r : Fin 4) (h : Fin 8) (e : Fin 128) :
    val_main_v64 (F := Ideal) z (ix4 b r h e)
      = z (ix3 b r ⟨2048 + (h.val * 256 + e.val), by omega⟩) * SIN r e + z (ix3 b r ⟨2048 + (h.val * 256 + (128 + e.val)), by omega⟩) * COS r e := by
  pointwise [val_main_v64, val_main_v63, val_main_v62, val_main_v61, val_main_v60, val_main_v54, val_main_v53, val_main_v52, val_main_v50, val_main_v36, val_main_v35, COS, SIN]

/-- The rotated and scaled keys. -/
theorem k_row (z : FVec Ideal S8x4x12288 .f32) (b : Fin 8) (r : Fin 4) (h : Fin 8) (e : Fin 256) :
    val_main_v68 (F := Ideal) z (ix4 b r h e) = KS z b h r e := by
  pointwise [val_main_v68, val_main_v66, val_main_v67]
  unfold KS ROT
  refine Ideal.mul_congr ?_ rfl
  by_cases he : e.val < 128
  · rw [dif_pos he, dif_pos he]
    exact klo z b r h ⟨e.val, he⟩
  · have h2 : e.val - 128 < 128 := by omega
    rw [dif_neg he, dif_neg he, dif_pos h2]
    exact khi z b r h ⟨e.val - 128, h2⟩

/-- The values by head. -/
theorem v_row (z : FVec Ideal S8x4x12288 .f32) (b : Fin 8) (r : Fin 4) (h : Fin 8) (e : Fin 512) :
    val_main_v70 (F := Ideal) z (ix4 b r h e) = VS z b h r e := by
  pointwise [val_main_v70, val_main_v69, VS]

/-- The reference's result. -/
theorem ref_eq (z : FVec Ideal S8x4x12288 .f32) (s : FVec Ideal S8x8x256x512 .f32) :
    val_main_v133 (F := Ideal) z s = NEWS z s := by
  funext i
  idx_vars i
  pointwise [val_main_v133, val_main_v132, val_main_v131, val_main_v130, val_main_v129, val_main_v128, val_main_v127, val_main_v126, val_main_v125, val_main_v124,
    val_main_v123, val_main_v122, val_main_v121, val_main_v120, val_main_v119, val_main_v118, val_main_v117, val_main_v116, val_main_v115, val_main_v79,
    val_main_cst_11, val_main_cst_12, k_row, v_row, NEWS, NEW, LG, NUM]

/-- The reference's run leaves the new states, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v133) = NEWS (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((Read.val_main_v133_eq _ _).trans (ref_eq _ _)), (h c).2⟩)
    (Value.run m ρ)

end Cert.StateSRefIdeal.Own

namespace Cert.StateSIdeal.Own

open Cert.StateSIdeal Cert.StateSIdeal.Gen Idealize.ShloMosaic Idealize.ShloMosaic.TcCoe Idealize.SL.Sem
open Cert.RetSpec
open Cert.StateSRefIdeal.Own (COS SIN LG KS VS NEW NEWS)
open Cert.StateSRefIdeal.Read

/-- The grid's points: `t` is head `t % 8` of sequence `t / 8`. -/
theorem idx : ∀ t : Fin cfg0.N, win0_0.index t = ![0] ∧ win0_2.index t = ![t.val / 8, 0, 8 + t.val % 8]
    ∧ win0_3.index t = ![t.val / 8, 0, 8 + t.val % 8] ∧ win0_5.index t = ![0, 0] ∧ win0_6.index t = ![0, 0]
    ∧ win0_8.index t = ![t.val / 8, t.val % 8, 0, 0] ∧ win0_10.index t = ![t.val / 8, t.val % 8, 0, 0] :=
  (by decide +kernel : ∀ t : Fin grid0.N, _)

/-- The entry of the log decays a point reads is its head's. -/
theorem off1 : ∀ t : Fin cfg0.N, k0_off1 (grid0.coords t) 0 = t.val % 8 := (by decide +kernel : ∀ t : Fin grid0.N, _)

/-- There are 64 points. -/
theorem points (t : Fin cfg0.N) : t.val < 64 := t.isLt

/-- Point `t`'s sequence. -/
def bt (t : Fin cfg0.N) : Fin 8 := ⟨t.val / 8, by have := points t; omega⟩

/-- Point `t`'s head. -/
def ht (t : Fin cfg0.N) : Fin 8 := ⟨t.val % 8, by omega⟩

variable (m : (ℓ : Loc nD τ sig) → Buf (Elt Ideal) ℓ)

/-- One of the four rows, among the sixteen. -/
def r16 (r : Fin 4) : Fin 16 := ⟨r.val, by omega⟩

/-- The cosines of the four rows' angles among the sixteen the program computes. -/
theorem V_cos (c : Dev nD) (r : Fin 4) (d : Fin 128) : V m c main_v16 (ix2 (r16 r) d) = COS r d := by
  unfold V
  simp only [List.flatten_cons, List.flatten_nil, List.append_nil, List.cons_append, List.nil_append]
  entry_read
  pointwise [COS, val_main_v49, val_main_v48, val_main_v47, val_main_v46, val_main_v45, val_main_v44, val_main_v43, val_main_v42, r16]
  rfl

/-- The sines of the four rows' angles. -/
theorem V_sin (c : Dev nD) (r : Fin 4) (d : Fin 128) : V m c main_v17 (ix2 (r16 r) d) = SIN r d := by
  unfold V
  simp only [List.flatten_cons, List.flatten_nil, List.append_nil, List.cons_append, List.nil_append]
  entry_read
  pointwise [SIN, val_main_v51, val_main_v48, val_main_v47, val_main_v46, val_main_v45, val_main_v44, val_main_v43, val_main_v42, r16]
  rfl

/-- The heads' log decays. -/
theorem V_lg (c : Dev nD) (h : Fin 8) : V m c main_v25 (ix1 h) = LG h := by
  entry_read
  rfl

/-- The rows, padded with twelve rows of zeros. -/
theorem V_z (c : Dev nD) : V m c main_v0 = pad S8x16x12288 ![0, 0, 0] ![0, 12, 0] ![0, 0, 0] (m ((c.tc : Thread nD τ).loc main_arg0)) (sitofp (F := Ideal) .f32 (constantI S_ 32 0#32)) pads_S8x4x12288_S8x16x12288_000_0120_000 h_S_ := by
  unfold V
  simp only [List.flatten_cons, List.flatten_nil, List.append_nil, List.cons_append, List.nil_append]
  entry_read
  rfl

/-- A padded row: the row itself, or zeros. -/
theorem V_row (c : Dev nD) (b : Fin 8) (r : Fin 16) (e : Fin 12288) :
    V m c main_v0 (ix3 b r e) = if h : r.val < 4 then m ((c.tc : Thread nD τ).loc main_arg0) (ix3 b ⟨r.val, h⟩ e) else (0 : EReal) := by
  rw [V_z]
  pointwise []
  by_cases hr : r.val < 4
  · rw [dif_pos hr, dif_pos]
    intro a
    match a with
    | ⟨0, _⟩ => exact ⟨Nat.zero_le _, Nat.mod_one _, by show (b.val - 0) / (0 + 1) < 8; omega⟩
    | ⟨1, _⟩ => exact ⟨Nat.zero_le _, Nat.mod_one _, by show (r.val - 0) / (0 + 1) < 4; omega⟩
    | ⟨2, _⟩ => exact ⟨Nat.zero_le _, Nat.mod_one _, by show (e.val - 0) / (0 + 1) < 12288; omega⟩
  · rw [dif_neg hr, dif_neg]
    · exact congrArg (fun x : ℝ => (x : EReal)) (by norm_num : (((0#32 : BitVec 32).toInt : ℤ) : ℝ) = 0)
    · intro h
      have h1 : (r.val - 0) / (0 + 1) < 4 := (h (1 : Fin 3)).2.2
      omega

/-- The log decay a point reads. -/
theorem lg_at (c : Dev nD) (t : Fin cfg0.N) (h1) (h2) :
    View.ld (iblk m c 0 t) (Rect.unit (s := S8) (k0_off1 (grid0.coords t)) ![1] h1) (Shape.Idx.first h2) = LG (ht t) := by
  rw [← V_lg m c]
  obtain ⟨e0, _⟩ := idx t
  refine (congrArg (iblk m c 0 t) (?_ : _ = ix1 (ht t))).trans ?_
  · funext a
    match a with
    | ⟨0, _⟩ => exact Fin.ext (by show k0_off1 (grid0.coords t) 0 + 1 * 0 = t.val % 8; rw [off1]; rfl)
  blk_point [iblk, e0]

/-- What a point leaves in the block of the new states, as the one stored value. -/
theorem block_eq (c : Dev nD) (t : Fin cfg0.N) :
    (dats m 0 c).after 10 t = k0_pay16 (F := Ideal) (k0_pay6 (F := Ideal) (LG (ht t))) (k0_pay7 (F := Ideal) (LG (ht t))) (k0_pay12 (iblk m c 5 t) (iblk m c 6 t) (iblk m c 2 t)) (k0_pay13 (iblk m c 3 t)) (k0_pay14 (k0_pay2 (iblk m c 8 t))) := by
  rw [after0_10]
  frame_out
  rw [lg_at m c t]

/-- The block of keys. -/
theorem blk2 (c : Dev nD) (t : Fin cfg0.N) (r : Fin 16) (x : Fin 256) :
    iblk m c 2 t (ix3 0 r x) = V m c main_v0 (ix3 (bt t) r ⟨2048 + ((ht t).val * 256 + x.val), by omega⟩) := by
  obtain ⟨_, e2, _⟩ := idx t
  blk_point [iblk, e2, bt, ht]

/-- The block of values. -/
theorem blk3 (c : Dev nD) (t : Fin cfg0.N) (r : Fin 16) (x : Fin 512) :
    iblk m c 3 t (ix3 0 r x) = V m c main_v0 (ix3 (bt t) r ⟨4096 + ((ht t).val * 512 + x.val), by omega⟩) := by
  obtain ⟨_, _, e3, _⟩ := idx t
  blk_point [iblk, e3, bt, ht]

/-- The block of cosines. -/
theorem blk5 (c : Dev nD) (t : Fin cfg0.N) (r : Fin 16) (x : Fin 128) : iblk m c 5 t (ix2 r x) = V m c main_v16 (ix2 r x) := by
  obtain ⟨_, _, _, e5, _⟩ := idx t
  blk_point [iblk, e5]

/-- The block of sines. -/
theorem blk6 (c : Dev nD) (t : Fin cfg0.N) (r : Fin 16) (x : Fin 128) : iblk m c 6 t (ix2 r x) = V m c main_v17 (ix2 r x) := by
  obtain ⟨_, _, _, _, e6, _⟩ := idx t
  blk_point [iblk, e6]

/-- The block of the state before. -/
theorem blk8 (c : Dev nD) (t : Fin cfg0.N) (d : Fin 256) (e : Fin 512) :
    iblk m c 8 t (ix4 0 0 d e) = m ((c.tc : Thread nD τ).loc main_arg2) (ix4 (bt t) (ht t) d e) := by
  obtain ⟨_, _, _, _, _, e8, _⟩ := idx t
  rw [← V_main_arg2 m c]
  blk_point [iblk, e8, bt, ht]

/-- The kernel's rotated keys of the sixteen rows. -/
theorem keys_at (x2 : FVec Ideal S1x16x256 .f32) (x5 x6 : FVec Ideal S16x128 .f32) (r : Fin 16) (d : Fin 256) :
    k0_pay12 (F := Ideal) x5 x6 x2 (ix2 r d)
      = ROT (fun x => x2 (ix3 0 r x)) (fun e => x5 (ix2 r e)) (fun e => x6 (ix2 r e)) d * Ideal.ofBits FTy.f32 0x3D800000#32 := by
  pointwise [k0_pay12, k0_pay9, k0_pay10, ROT]

/-- The block of new states, entry by entry. -/
theorem st_at (v : EReal) (K : FVec Ideal S16x256 .f32) (x3 : FVec Ideal S1x16x512 .f32) (s : FVec Ideal S1x1x256x512 .f32) (d : Fin 256) (e : Fin 512) :
    k0_pay16 (F := Ideal) (k0_pay6 (F := Ideal) v) (k0_pay7 (F := Ideal) v) K (k0_pay13 x3) (k0_pay14 (k0_pay2 (F := Ideal) s)) (ix4 0 0 d e)
      = Ideal.exp (v * Ideal.ofBits FTy.f32 0x40800000#32) * s (ix4 0 0 d e)
        + ∑ n : Fin 16, K (ix2 n d) * Ideal.exp (v * (Ideal.ofBits FTy.f32 0x40400000#32 - NUM n.val)) * x3 (ix3 0 n e) := by
  pointwise [k0_pay16, k0_pay6, k0_pay7, k0_pay4, k0_pay13, k0_pay14, k0_pay2, NUM]

/-- A sum over sixteen rows whose last twelve are zero is the sum over the first four. -/
theorem sum16 (f : Fin 16 → EReal) (h : ∀ n : Fin 16, ¬ n.val < 4 → f n = 0) : ∑ n : Fin 16, f n = ∑ n : Fin 4, f (r16 n) := by
  have e : ∑ n : Fin 16, f n = ∑ n : Fin (4 + 12), f n := rfl
  rw [e, Fin.sum_univ_add]
  rw [Finset.sum_eq_zero (s := Finset.univ) (f := fun i : Fin 12 => f (Fin.natAdd 4 i)) (fun i _ => h _ (by simp [Fin.natAdd])), add_zero]
  rfl

/-- One of the four rows' keys, as the point computes it. -/
theorem key (c : Dev nD) (t : Fin cfg0.N) (n : Fin 4) (d : Fin 256) :
    k0_pay12 (F := Ideal) (iblk m c 5 t) (iblk m c 6 t) (iblk m c 2 t) (ix2 (r16 n) d) = KS (m ((c.tc : Thread nD τ).loc main_arg0)) (bt t) (ht t) n d := by
  have hn : (r16 n).val < 4 := n.isLt
  refine (keys_at _ _ _ _ _).trans ?_
  have e1 : (fun x : Fin 256 => (iblk m c 2 t (ix3 0 (r16 n) x) : EReal)) = fun x => m ((c.tc : Thread nD τ).loc main_arg0) (ix3 (bt t) n ⟨2048 + ((ht t).val * 256 + x.val), by omega⟩) :=
    funext fun x => (blk2 m c t (r16 n) x).trans ((V_row m c (bt t) (r16 n) _).trans (dif_pos hn))
  have e2 : (fun x : Fin 128 => (iblk m c 5 t (ix2 (r16 n) x) : EReal)) = COS n := funext fun x => (blk5 m c t (r16 n) x).trans (V_cos m c n x)
  have e3 : (fun x : Fin 128 => (iblk m c 6 t (ix2 (r16 n) x) : EReal)) = SIN n := funext fun x => (blk6 m c t (r16 n) x).trans (V_sin m c n x)
  rw [e1, e2, e3]
  rfl

/-- One of the four rows' values, as the point reads it. -/
theorem value (c : Dev nD) (t : Fin cfg0.N) (n : Fin 4) (e : Fin 512) :
    iblk m c 3 t (ix3 0 (r16 n) e) = VS (m ((c.tc : Thread nD τ).loc main_arg0)) (bt t) (ht t) n e := by
  have hn : (r16 n).val < 4 := n.isLt
  exact (blk3 m c t (r16 n) e).trans ((V_row m c (bt t) (r16 n) _).trans (dif_pos hn))

/-- Entry `(d, e)` of what point `t` stores. -/
theorem point (c : Dev nD) (t : Fin cfg0.N) (d : Fin 256) (e : Fin 512) :
    (dats m 0 c).after 10 t (ix4 0 0 d e) = NEW (m ((c.tc : Thread nD τ).loc main_arg0)) (m ((c.tc : Thread nD τ).loc main_arg2)) (bt t) (ht t) d e := by
  rw [block_eq]
  refine (st_at _ _ _ _ d e).trans ?_
  unfold NEW
  rw [blk8]
  refine congrArg _ ?_
  rw [sum16]
  · refine Finset.sum_congr rfl fun n _ => ?_
    rw [key m c t n d, value m c t n e]
    rfl
  · intro n hn
    rw [blk3, V_row, dif_neg hn, mul_zero]

/-- The array the run leaves. -/
theorem final (c : Dev nD) : (dats m 0 c).arrAt 10 cfg0.N = NEWS (m ((c.tc : Thread nD τ).loc main_arg0)) (m ((c.tc : Thread nD τ).loc main_arg2)) := by
  refine (dats m 0 c).arrAt_eq_of_covers 10 _ (by decide +kernel) fun t _ y => ?_
  blk_simp
  revert y
  show ∀ y : S1x1x256x512.Idx, _
  intro y
  obtain ⟨_, _, _, _, _, _, e9⟩ := idx t
  idx_vars y
  have h0 : ((win0_10.blk t).view.emb (ix4 y0 y1 y2 y3) 0).val = win0_10.index t (0 : Fin 4) * 1 + 1 * y0.val := rfl
  have h1 : ((win0_10.blk t).view.emb (ix4 y0 y1 y2 y3) 1).val = win0_10.index t (1 : Fin 4) * 1 + 1 * y1.val := rfl
  have h2 : ((win0_10.blk t).view.emb (ix4 y0 y1 y2 y3) 2).val = win0_10.index t (2 : Fin 4) * 256 + 1 * y2.val := rfl
  have h3 : ((win0_10.blk t).view.emb (ix4 y0 y1 y2 y3) 3).val = win0_10.index t (3 : Fin 4) * 512 + 1 * y3.val := rfl
  rw [e9] at h0 h1 h2 h3
  simp only [Matrix.cons_val_zero, Matrix.cons_val_one, Matrix.cons_val] at h0 h1 h2 h3
  obtain rfl : y0 = 0 := Subsingleton.elim _ _
  obtain rfl : y1 = 0 := Subsingleton.elim _ _
  refine (point m c t y2 y3).trans ?_
  unfold NEWS
  congr 1
  · exact Fin.ext (by show t.val / 8 = _; rw [h0]; simp)
  · exact Fin.ext (by show t.val % 8 = _; rw [h1]; simp)
  · exact Fin.ext (by show y2.val = _; rw [h2]; omega)
  · exact Fin.ext (by show y3.val = _; rw [h3]; omega)

/-- The kernel's run leaves the new states, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v27_1) = NEWS (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).2.1.trans (final m c), (h c).2.2⟩)
    (Cert.StateSIdeal.Value.run_blocks m ρ)

end Cert.StateSIdeal.Own

end
-- ==== Proof.StateCRef.lean ====
module

public import proofs.«01_k».proof.Proof.Gen.StateCRefIdeal.Read
public import Idealize.ShloMosaic.Lib.Pipeline.ValueKit

@[expose] public section

set_option maxRecDepth 16384

noncomputable section

namespace Cert.StateCRefIdeal.Own

open Cert.StateCRefIdeal Cert.StateCRefIdeal.Gen Cert.StateCRefIdeal.Read
open Idealize.ShloMosaic Idealize.ShloMosaic.TcCoe Idealize.SL.Sem

/-- A gate's log decay, from the gate's preactivation: a sixteenth of its log-sigmoid. -/
def DEC (x : EReal) : EReal :=
  Ideal.div (-(max (-x) 0 + Ideal.log1p (Ideal.exp (-(max (-x) x))))) (Ideal.ofBits FTy.f32 0x41800000#32)

/-- The preactivation of the gate of row `r` of sequence `b`, column `e`. -/
def PRE (l : FVec Ideal S8x4x16 .f32) (w : FVec Ideal S16x1024 .f32) (g : FVec Ideal S1024 .f32) (b : Fin 8) (r : Fin 4) (e : Fin 1024) : EReal :=
  (∑ j : Fin 16, l (ix3 b r j) * w (ix2 j e)) + g (ix1 e)

/-- The log decay of channel `d` of head `h` at row `r`. -/
def LA (l : FVec Ideal S8x4x16 .f32) (w : FVec Ideal S16x1024 .f32) (g : FVec Ideal S1024 .f32) (b : Fin 8) (h r : Fin 4) (d : Fin 256) : EReal :=
  DEC (PRE l w g b r ⟨h.val * 256 + d.val, by omega⟩)

/-- The reference's log decays. -/
theorem la_row (l : FVec Ideal S8x4x16 .f32) (w : FVec Ideal S16x1024 .f32) (g : FVec Ideal S1024 .f32) (b : Fin 8) (r h : Fin 4) (d : Fin 256) :
    val_main_v15 (F := Ideal) l w g (ix4 b r h d) = LA l w g b h r d := by
  pointwise [val_main_v15, val_main_v14, val_main_v13, val_main_cst_0, val_main_v12, val_main_call0_v1, val_main_call0_call0_v11, val_main_call0_call0_v10,
    val_main_call0_call0_v9, val_main_call0_call0_v8, val_main_call0_call0_v7, val_main_call0_call0_v6, val_main_call0_call0_v5, val_main_call0_call0_v4, val_main_call0_call0_v3,
    val_main_call0_call0_v2, val_main_call0_call0_v1, val_main_call0_call0_v0, val_main_call0_call0_cst, val_main_call0_v0, val_main_v11, val_main_v10, val_main_v9, val_main_v8, LA]
  unfold DEC PRE
  generalize (∑ j : Fin 16, l (ix3 b r j) * w (ix2 j ⟨h.val * 256 + d.val, by omega⟩)) + g (ix1 ⟨h.val * 256 + d.val, by omega⟩) = p
  rw [if_neg (fun hp => hp rfl)]
  show Ideal.div (-(_ + Ideal.log1p (Ideal.exp (-(max (-p) (- -p)))))) _ = _
  rw [neg_neg]

/-- Position `n` of a window four rows high and one wide is row `n`. -/
theorem window_row (n : Fin (⟨4, ![1, 4, 1, 1]⟩ : Shape).numel) (hn : n.val < 4) :
    (⟨4, ![1, 4, 1, 1]⟩ : Shape).rowMajor.symm n = ix4 (0 : Fin 1) (⟨n.val, hn⟩ : Fin 4) (0 : Fin 1) (0 : Fin 1) := by
  rw [Equiv.symm_apply_eq]
  refine Fin.ext ?_
  rw [Shape.rowMajor_val_four]
  show n.val = ((0 * 4 + n.val) * 1 + 0) * 1 + 0
  omega

/-- The term position `n` of the window adds at row `r`: the row it falls on, nothing above the first. -/
def TERM (x : FVec Ideal S8x4x4x256 .f32) (b : Fin 8) (r h : Fin 4) (d : Fin 256) (n : Fin (⟨4, ![1, 4, 1, 1]⟩ : Shape).numel) : EReal :=
  (if hin : ∀ a : Fin 4, (![0, 3, 0, 0] : Fin 4 → Nat) a ≤ (ix4 b r h d a).val * (![1, 1, 1, 1] : Fin 4 → Nat) a + ((⟨4, ![1, 4, 1, 1]⟩ : Shape).rowMajor.symm n a).val
          ∧ (ix4 b r h d a).val * (![1, 1, 1, 1] : Fin 4 → Nat) a + ((⟨4, ![1, 4, 1, 1]⟩ : Shape).rowMajor.symm n a).val - (![0, 3, 0, 0] : Fin 4 → Nat) a < S8x4x4x256.size a
        then x (fun a => ⟨(ix4 b r h d a).val * (![1, 1, 1, 1] : Fin 4 → Nat) a + ((⟨4, ![1, 4, 1, 1]⟩ : Shape).rowMajor.symm n a).val - (![0, 3, 0, 0] : Fin 4 → Nat) a, (hin a).2⟩) else (0 : EReal))

/-- The term position `n` adds to the running sum at row `r`. -/
theorem term (x : FVec Ideal S8x4x4x256 .f32) (b : Fin 8) (r h : Fin 4) (d : Fin 256) (n : Fin (⟨4, ![1, 4, 1, 1]⟩ : Shape).numel) (hn : n.val < 4) :
    TERM x b r h d n
      = if 3 ≤ r.val + n.val then x (ix4 b ⟨r.val + n.val - 3, by omega⟩ h d) else (0 : EReal) := by
    have hr := r.isLt
    unfold TERM
    have w := window_row n hn
    have w0 : ((⟨4, ![1, 4, 1, 1]⟩ : Shape).rowMajor.symm n 0).val = 0 := by rw [w]; rfl
    have w1 : ((⟨4, ![1, 4, 1, 1]⟩ : Shape).rowMajor.symm n 1).val = n.val := by rw [w]; rfl
    have w2 : ((⟨4, ![1, 4, 1, 1]⟩ : Shape).rowMajor.symm n 2).val = 0 := by rw [w]; rfl
    have w3 : ((⟨4, ![1, 4, 1, 1]⟩ : Shape).rowMajor.symm n 3).val = 0 := by rw [w]; rfl
    have hb := b.isLt
    have hh := h.isLt
    have hd := d.isLt
    by_cases h3 : 3 ≤ r.val + n.val
    · rw [if_pos h3, dif_pos]
      · refine congrArg x (funext fun a => Fin.ext ?_)
        match a with
        | ⟨0, _⟩ => show b.val * 1 + ((⟨4, ![1, 4, 1, 1]⟩ : Shape).rowMajor.symm n 0).val - 0 = b.val; rw [w0]; omega
        | ⟨1, _⟩ => show r.val * 1 + ((⟨4, ![1, 4, 1, 1]⟩ : Shape).rowMajor.symm n 1).val - 3 = r.val + n.val - 3; rw [w1]; omega
        | ⟨2, _⟩ => show h.val * 1 + ((⟨4, ![1, 4, 1, 1]⟩ : Shape).rowMajor.symm n 2).val - 0 = h.val; rw [w2]; omega
        | ⟨3, _⟩ => show d.val * 1 + ((⟨4, ![1, 4, 1, 1]⟩ : Shape).rowMajor.symm n 3).val - 0 = d.val; rw [w3]; omega
      · intro a
        match a with
        | ⟨0, _⟩ =>
          show 0 ≤ b.val * 1 + ((⟨4, ![1, 4, 1, 1]⟩ : Shape).rowMajor.symm n 0).val ∧ b.val * 1 + ((⟨4, ![1, 4, 1, 1]⟩ : Shape).rowMajor.symm n 0).val - 0 < 8
          rw [w0]; omega
        | ⟨1, _⟩ =>
          show 3 ≤ r.val * 1 + ((⟨4, ![1, 4, 1, 1]⟩ : Shape).rowMajor.symm n 1).val ∧ r.val * 1 + ((⟨4, ![1, 4, 1, 1]⟩ : Shape).rowMajor.symm n 1).val - 3 < 4
          rw [w1]; omega
        | ⟨2, _⟩ =>
          show 0 ≤ h.val * 1 + ((⟨4, ![1, 4, 1, 1]⟩ : Shape).rowMajor.symm n 2).val ∧ h.val * 1 + ((⟨4, ![1, 4, 1, 1]⟩ : Shape).rowMajor.symm n 2).val - 0 < 4
          rw [w2]; omega
        | ⟨3, _⟩ =>
          show 0 ≤ d.val * 1 + ((⟨4, ![1, 4, 1, 1]⟩ : Shape).rowMajor.symm n 3).val ∧ d.val * 1 + ((⟨4, ![1, 4, 1, 1]⟩ : Shape).rowMajor.symm n 3).val - 0 < 256
          rw [w3]; omega
    · rw [if_neg h3, dif_neg]
      intro hin
      have h1 : 3 ≤ r.val * 1 + ((⟨4, ![1, 4, 1, 1]⟩ : Shape).rowMajor.symm n 1).val := (hin 1).1
      rw [w1] at h1
      omega

/-- A running sum down the rows: row `r` of the result is the sum of the rows up to and including it. -/
theorem running (x : FVec Ideal S8x4x4x256 .f32) (v : FVec Ideal S_ .f32) (hv : ∀ i, v i = (0 : EReal))
    (H : S8x4x4x256.ReduceWindows (![1, 4, 1, 1] : Fin 4 → Nat) ![1, 1, 1, 1] ![0, 3, 0, 0] ![0, 0, 0, 0] S8x4x4x256) (hu : 0 < S_.numel) (b : Fin 8) (r h : Fin 4) (d : Fin 256) :
    Host.reduceWindowAdd (F := Ideal) (φ := .f32) ![1, 4, 1, 1] ![1, 1, 1, 1] ![0, 3, 0, 0] ![0, 0, 0, 0] x v H hu (ix4 b r h d)
      = ∑ i : Fin 4, if i ≤ r then x (ix4 b i h d) else (0 : EReal) := by
  have hv' : v = fun _ => (0 : EReal) := funext hv
  subst hv'
  have e : Host.reduceWindowAdd (F := Ideal) (φ := .f32) ![1, 4, 1, 1] ![1, 1, 1, 1] ![0, 3, 0, 0] ![0, 0, 0, 0] x (fun _ => (0 : EReal)) H hu (ix4 b r h d)
      = (List.finRange (⟨4, ![1, 4, 1, 1]⟩ : Shape).numel).foldl (fun q n => q + TERM x b r h d n) (0 : EReal) := by
    unfold Host.reduceWindowAdd
    show Ideal.hostReduceWindowAdd _ _ _ _ _ _ _ _ = _
    unfold Ideal.hostReduceWindowAdd Host.reduceWindow
    dsimp only
    unfold TERM
    have D : ∀ (P : Prop) (i j : Decidable P) (f : P → EReal) (g : ¬P → EReal), @dite EReal P i f g = @dite EReal P j f g :=
      fun P i j f g => by rw [Subsingleton.elim i j]
    exact congrArg (fun f => List.foldl f (0 : EReal) _) (funext fun q => funext fun n => congrArg (q + ·) (D _ _ _ _ _))
  rw [e]
  have l4 : List.finRange (⟨4, ![1, 4, 1, 1]⟩ : Shape).numel = [⟨0, by decide⟩, ⟨1, by decide⟩, ⟨2, by decide⟩, ⟨3, by decide⟩] := by decide
  rw [l4]
  simp only [List.foldl_cons, List.foldl_nil]
  rw [term x b r h d _ (by decide : (0 : Nat) < 4), term x b r h d _ (by decide : (1 : Nat) < 4), term x b r h d _ (by decide : (2 : Nat) < 4), term x b r h d _ (by decide : (3 : Nat) < 4)]
  rw [Fin.sum_univ_four]
  match r with
  | ⟨0, _⟩ => simp
  | ⟨1, _⟩ => simp [Fin.le_def]; try rfl
  | ⟨2, _⟩ => simp [Fin.le_def]; try rfl
  | ⟨3, _⟩ => simp [Fin.le_def]; try rfl

/-- The keys of head `h`. -/
def KS (z : FVec Ideal S8x4x6144 .f32) (b : Fin 8) (h r : Fin 4) (d : Fin 256) : EReal :=
  z (ix3 b r ⟨1024 + (h.val * 256 + d.val), by omega⟩)

/-- The values of head `h`. -/
def VS (z : FVec Ideal S8x4x6144 .f32) (b : Fin 8) (h r : Fin 4) (e : Fin 512) : EReal :=
  z (ix3 b r ⟨2048 + (h.val * 512 + e.val), by omega⟩)

/-- The log decay from before the first row to after row `r`, of four rows' log decays. -/
def CUM (a : Fin 4 → EReal) (r : Nat) : EReal := ∑ i : Fin 4, if i.val ≤ r then a i else 0

/-- The new state from the four rows' log decays and keys of one channel, and the values: the old one decayed by all four rows,
    plus each row's key times its value, decayed by the rows after it. -/
def NEW (a k v : Fin 4 → EReal) (s : EReal) : EReal :=
  Ideal.exp (∑ i, a i) * s + ∑ n : Fin 4, k n * Ideal.exp ((∑ i, a i) - CUM a n.val) * v n

/-- The new state as an array. -/
def NEWS (z : FVec Ideal S8x4x6144 .f32) (l : FVec Ideal S8x4x16 .f32) (w : FVec Ideal S16x1024 .f32) (g : FVec Ideal S1024 .f32)
    (s : FVec Ideal S8x4x256x512 .f32) : FVec Ideal S8x4x256x512 .f32 :=
  fun i => NEW (fun r => LA l w g (i 0) (i 1) r (i 2)) (fun r => KS z (i 0) (i 1) r (i 2)) (fun r => VS z (i 0) (i 1) r (i 3)) (s i)

/-- The reference's running log decays. -/
theorem cum_row (l : FVec Ideal S8x4x16 .f32) (w : FVec Ideal S16x1024 .f32) (g : FVec Ideal S1024 .f32) (b : Fin 8) (r h : Fin 4) (d : Fin 256) :
    val_main_v16 (F := Ideal) l w g (ix4 b r h d) = CUM (fun i => LA l w g b h i d) r.val := by
  unfold val_main_v16
  refine (running _ _ (fun i => ?_) _ _ b r h d).trans ?_
  · pointwise [val_main_call1_call0_v0, val_main_call1_call0_cst]
  · exact Finset.sum_congr rfl fun i _ => by rw [la_row]; rfl

/-- All four rows' log decays. -/
theorem cum_last (a : Fin 4 → EReal) : CUM a 3 = ∑ i, a i :=
  Finset.sum_congr rfl fun i _ => if_pos (by omega)

/-- The keys by head. -/
theorem k_row (z : FVec Ideal S8x4x6144 .f32) (b : Fin 8) (r h : Fin 4) (d : Fin 256) : val_main_v5 (F := Ideal) z (ix4 b r h d) = KS z b h r d := by
  pointwise [val_main_v5, val_main_v4, KS]

/-- The values by head. -/
theorem v_row (z : FVec Ideal S8x4x6144 .f32) (b : Fin 8) (r h : Fin 4) (e : Fin 512) : val_main_v7 (F := Ideal) z (ix4 b r h e) = VS z b h r e := by
  pointwise [val_main_v7, val_main_v6, VS]

/-- The reference's result. -/
theorem ref_eq (z : FVec Ideal S8x4x6144 .f32) (l : FVec Ideal S8x4x16 .f32) (w : FVec Ideal S16x1024 .f32) (g : FVec Ideal S1024 .f32)
    (s : FVec Ideal S8x4x256x512 .f32) : val_main_v55 (F := Ideal) z l w g s = NEWS z l w g s := by
  funext i
  idx_vars i
  pointwise [val_main_v55, val_main_v54, val_main_v53, val_main_v52, val_main_v51, val_main_v50, val_main_v49, val_main_v48, val_main_v47, val_main_v46,
    val_main_v45, val_main_v44, val_main_v43, k_row, v_row, cum_row, NEWS, NEW]
  rw [cum_last]

/-- The reference's run leaves the new states, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55) = NEWS (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans ((Read.val_main_v55_eq _ _).trans (ref_eq _ _ _ _ _)), (h c).2⟩)
    (Value.run m ρ)

end Cert.StateCRefIdeal.Own

end
-- ==== Proof.StateCKer.lean ====
module

public import proofs.«01_k».proof.Proof.Gen.StateCIdeal.Value
public import proofs.«01_k».proof.Proof.StateCRef

@[expose] public section

set_option maxRecDepth 16384

noncomputable section

namespace Cert.StateCIdeal.Own

open Cert.StateCIdeal Cert.StateCIdeal.Gen Idealize.ShloMosaic Idealize.ShloMosaic.TcCoe Idealize.SL.Sem
open Cert.StateCRefIdeal.Own (DEC PRE LA KS VS CUM NEW NEWS cum_last)

/-- The grid's points: `t` is head `t % 4` of sequence `t / 4`. -/
theorem idx : ∀ t : Fin cfg0.N, win0_1.index t = ![t.val / 4, 0, 4 + t.val % 4]
    ∧ win0_2.index t = ![t.val / 4, 0, 4 + t.val % 4] ∧ win0_4.index t = ![t.val / 4, 0, 0] ∧ win0_5.index t = ![0, t.val % 4]
    ∧ win0_6.index t = ![0, t.val % 4] ∧ win0_8.index t = ![t.val / 4, t.val % 4, 0, 0] ∧ win0_10.index t = ![t.val / 4, t.val % 4, 0, 0] :=
  (by decide +kernel : ∀ t : Fin grid0.N, _)

/-- There are 32 points. -/
theorem points (t : Fin cfg0.N) : t.val < 32 := t.isLt

/-- Point `t`'s sequence. -/
def bt (t : Fin cfg0.N) : Fin 8 := ⟨t.val / 4, by have := points t; omega⟩

/-- Point `t`'s head. -/
def ht (t : Fin cfg0.N) : Fin 4 := ⟨t.val % 4, by omega⟩

variable (m : (ℓ : Loc nD τ sig) → Buf (Elt Ideal) ℓ)

/-- One of the four rows, among the sixteen. -/
def r16 (r : Fin 4) : Fin 16 := ⟨r.val, by omega⟩

/-- The rows' numbers, as a column. -/
def ROWS : IVec S16x1 32 := iota .tc S16x1 32 [0] iota_S16x1_d0_w32

/-- What a point leaves in the block of the new states, as the one stored value. -/
theorem block_eq (c : Dev nD) (t : Fin cfg0.N) :
    (dats m 0 c).after 10 t = k0_pay56 (F := Ideal) (k0_pay3 (F := Ideal))
      (k0_pay7 (F := Ideal) ROWS (k0_pay5 (iblk m c 5 t) (iblk m c 6 t) (iblk m c 4 t)) (k0_pay6 (iblk m c 5 t) (iblk m c 6 t) (iblk m c 4 t)))
      (k0_pay8 (F := Ideal) (k0_pay2 (F := Ideal)) ROWS (k0_pay5 (iblk m c 5 t) (iblk m c 6 t) (iblk m c 4 t)) (k0_pay6 (iblk m c 5 t) (iblk m c 6 t) (iblk m c 4 t)))
      (k0_pay10 (iblk m c 1 t)) (k0_pay11 (iblk m c 2 t)) (k0_pay12 (k0_pay1 (iblk m c 8 t)))
      (k0_pay13 (F := Ideal) (k0_pay2 (F := Ideal)) ROWS (k0_pay5 (iblk m c 5 t) (iblk m c 6 t) (iblk m c 4 t)) (k0_pay6 (iblk m c 5 t) (iblk m c 6 t) (iblk m c 4 t))) := by
  rw [after0_10]
  frame_out
  rfl

/-- The preactivations of the gates, entry by entry. -/
theorem pre_at (x5 : FVec Ideal S128x256 .f32) (x6 : FVec Ideal S1x256 .f32) (x4 : FVec Ideal S1x16x128 .f32) (r : Fin 16) (d : Fin 256) :
    k0_pay5 (F := Ideal) x5 x6 x4 (ix2 r d) = (∑ j : Fin 128, x4 (ix3 0 r j) * x5 (ix2 j d)) + x6 (ix2 0 d) := by
  pointwise [k0_pay5]

/-- The log decays, entry by entry: nothing below the fourth row. -/
theorem la_at (x5 : FVec Ideal S128x256 .f32) (x6 : FVec Ideal S1x256 .f32) (x4 : FVec Ideal S1x16x128 .f32) (r : Fin 16) (d : Fin 256) :
    k0_pay7 (F := Ideal) ROWS (k0_pay5 x5 x6 x4) (k0_pay6 x5 x6 x4) (ix2 r d) = if r.val < 4 then DEC (k0_pay5 (F := Ideal) x5 x6 x4 (ix2 r d)) else 0 := by
  unfold k0_pay6
  generalize k0_pay5 (F := Ideal) x5 x6 x4 = p
  pointwise [k0_pay7, ROWS]
  by_cases hr : r.val < 4
  · rw [if_pos hr, (by decide : ∀ r : Fin 16, r.val < 4 → IntOp.cmpi CmpIPredicate.slt (BitVec.ofNat 32 r.val) 4#32 = 1#1) r hr]
    show Ideal.div (0 - (max (0 - p (ix2 r d)) 0 + Ideal.log1p (Ideal.exp (0 - max (p (ix2 r d)) (-p (ix2 r d)))))) (Ideal.ofBits FTy.f32 1098907648#32) = _
    rw [zero_sub, zero_sub, zero_sub, max_comm (p (ix2 r d))]
    rfl
  · rw [if_neg hr, (by decide : ∀ r : Fin 16, ¬ r.val < 4 → IntOp.cmpi CmpIPredicate.slt (BitVec.ofNat 32 r.val) 4#32 = 0#1) r hr]
    rfl

/-- The running log decays, entry by entry. -/
theorem cum_at (v : IVec S16x1 32) (a b : FVec Ideal S16x256 .f32) (r : Fin 16) (d : Fin 256) :
    k0_pay8 (F := Ideal) (k0_pay2 (F := Ideal)) v a b (ix2 r d) = ∑ n : Fin 16, (if n.val ≤ r.val then k0_pay7 (F := Ideal) v a b (ix2 n d) else 0) := by
  unfold k0_pay8
  generalize k0_pay7 (F := Ideal) v a b = A
  pointwise [k0_pay2]
  refine Finset.sum_congr rfl fun n _ => ?_
  by_cases hr : n.val ≤ r.val
  · rw [if_pos hr, (by decide +kernel : ∀ r n : Fin 16, n.val ≤ r.val → BitVec.setWidth 32 (IntOp.cmpi CmpIPredicate.sge (BitVec.ofNat 32 r.val) (BitVec.ofNat 32 n.val)) = 1#32) r n hr]
    rw [show (FloatOps.sitofp (F := Ideal) FTy.f32 1#32 : EReal) = 1 from congrArg (fun x : ℝ => (x : EReal)) (by norm_num : (((1#32 : BitVec 32).toInt : ℤ) : ℝ) = 1)]
    exact one_mul _
  · rw [if_neg hr, (by decide +kernel : ∀ r n : Fin 16, ¬ n.val ≤ r.val → BitVec.setWidth 32 (IntOp.cmpi CmpIPredicate.sge (BitVec.ofNat 32 r.val) (BitVec.ofNat 32 n.val)) = 0#32) r n hr]
    rw [show (FloatOps.sitofp (F := Ideal) FTy.f32 0#32 : EReal) = 0 from congrArg (fun x : ℝ => (x : EReal)) (by norm_num : (((0#32 : BitVec 32).toInt : ℤ) : ℝ) = 0)]
    exact zero_mul _

/-- The last running log decay. -/
theorem last_at (v : IVec S16x1 32) (a b : FVec Ideal S16x256 .f32) (d : Fin 256) :
    k0_pay13 (F := Ideal) (k0_pay2 (F := Ideal)) v a b (ix2 0 d) = k0_pay8 (F := Ideal) (k0_pay2 (F := Ideal)) v a b (ix2 15 d) := by
  unfold k0_pay13
  generalize k0_pay8 (F := Ideal) (k0_pay2 (F := Ideal)) v a b = B
  pointwise []

/-- The block of new states, entry by entry. -/
theorem st_at (A B : FVec Ideal S16x256 .f32) (L : FVec Ideal S1x256 .f32) (K : FVec Ideal S1x16x256 .f32) (x2 : FVec Ideal S1x16x512 .f32) (s : FVec Ideal S1x1x256x512 .f32) (d : Fin 256) (e : Fin 512) :
    k0_pay56 (F := Ideal) (k0_pay3 (F := Ideal)) A B (k0_pay10 (F := Ideal) K) (k0_pay11 (F := Ideal) x2) (k0_pay12 (F := Ideal) (k0_pay1 (F := Ideal) s)) L (ix4 0 0 d e)
      = Ideal.exp (∑ n : Fin 16, A (ix2 n d)) * s (ix4 0 0 d e)
        + ∑ n : Fin 16, K (ix3 0 n d) * Ideal.exp (L (ix2 0 d) - B (ix2 n d)) * x2 (ix3 0 n e) := by
  pointwise [k0_pay56, k0_pay3, k0_pay10, k0_pay11, k0_pay12, k0_pay1]
  simp only [dite_eq_ite, ite_self]

/-- The rows, padded with twelve rows of zeros. -/
theorem V_z (c : Dev nD) : V m c main_v0 = pad S8x16x6144 ![0, 0, 0] ![0, 12, 0] ![0, 0, 0] (m ((c.tc : Thread nD τ).loc main_arg0)) (sitofp (F := Ideal) .f32 (constantI S_ 32 0#32)) pads_S8x4x6144_S8x16x6144_000_0120_000 h_S_ := by
  unfold V
  simp only [List.flatten_cons, List.flatten_nil, List.append_nil, List.cons_append, List.nil_append]
  entry_read
  rfl

/-- The gates' inputs, padded with zeros to sixteen rows and 128 columns. -/
theorem V_l (c : Dev nD) : V m c main_v1 = pad S8x16x128 ![0, 0, 0] ![0, 12, 112] ![0, 0, 0] (m ((c.tc : Thread nD τ).loc main_arg1)) (sitofp (F := Ideal) .f32 (constantI S_ 32 0#32)) pads_S8x4x16_S8x16x128_000_0120_01120 h_S_ := by
  unfold V
  simp only [List.flatten_cons, List.flatten_nil, List.append_nil, List.cons_append, List.nil_append]
  entry_read
  rfl

/-- The gates' weights, padded with zeros to 128 rows. -/
theorem V_w (c : Dev nD) : V m c main_v2 = pad S128x1024 ![0, 0] ![112, 0] ![0, 0] (m ((c.tc : Thread nD τ).loc main_arg2)) (sitofp (F := Ideal) .f32 (constantI S_ 32 0#32)) pads_S16x1024_S128x1024_01120_000 h_S_ := by
  unfold V
  simp only [List.flatten_cons, List.flatten_nil, List.append_nil, List.cons_append, List.nil_append]
  entry_read
  rfl

/-- The gates' bias. -/
theorem V_g (c : Dev nD) (e : Fin 1024) : V m c main_v3 (ix2 0 e) = m ((c.tc : Thread nD τ).loc main_arg3) (ix1 e) := by
  unfold V
  simp only [List.flatten_cons, List.flatten_nil, List.append_nil, List.cons_append, List.nil_append]
  entry_read
  pointwise []

/-- The padding's value is zero. -/
theorem pad_zero : (((0#32 : BitVec 32).toInt : ℝ) : EReal) = 0 :=
  congrArg (fun x : ℝ => (x : EReal)) (by norm_num : (((0#32 : BitVec 32).toInt : ℤ) : ℝ) = 0)

/-- A padded row: the row itself, or zeros. -/
theorem V_row (c : Dev nD) (b : Fin 8) (r : Fin 16) (e : Fin 6144) :
    V m c main_v0 (ix3 b r e) = if h : r.val < 4 then m ((c.tc : Thread nD τ).loc main_arg0) (ix3 b ⟨r.val, h⟩ e) else (0 : EReal) := by
  rw [V_z]
  pointwise []
  by_cases hr : r.val < 4
  · rw [dif_pos hr, dif_pos]
    intro a
    match a with
    | ⟨0, _⟩ => exact ⟨Nat.zero_le _, Nat.mod_one _, by show (b.val - 0) / (0 + 1) < 8; omega⟩
    | ⟨1, _⟩ => exact ⟨Nat.zero_le _, Nat.mod_one _, by show (r.val - 0) / (0 + 1) < 4; omega⟩
    | ⟨2, _⟩ => exact ⟨Nat.zero_le _, Nat.mod_one _, by show (e.val - 0) / (0 + 1) < 6144; omega⟩
  · rw [dif_neg hr, dif_neg]
    · exact pad_zero
    · intro h
      have h1 : (r.val - 0) / (0 + 1) < 4 := (h (1 : Fin 3)).2.2
      omega

/-- One of the four rows of the gates' inputs, padded: the entry itself, or zero. -/
theorem V_lrow (c : Dev nD) (b : Fin 8) (r : Fin 4) (j : Fin 128) :
    V m c main_v1 (ix3 b (r16 r) j) = if h : j.val < 16 then m ((c.tc : Thread nD τ).loc main_arg1) (ix3 b r ⟨j.val, h⟩) else (0 : EReal) := by
  rw [V_l]
  pointwise [r16]
  by_cases hj : j.val < 16
  · rw [dif_pos hj, dif_pos]
    intro a
    match a with
    | ⟨0, _⟩ => exact ⟨Nat.zero_le _, Nat.mod_one _, by show (b.val - 0) / (0 + 1) < 8; omega⟩
    | ⟨1, _⟩ => exact ⟨Nat.zero_le _, Nat.mod_one _, by show (r.val - 0) / (0 + 1) < 4; omega⟩
    | ⟨2, _⟩ => exact ⟨Nat.zero_le _, Nat.mod_one _, by show (j.val - 0) / (0 + 1) < 16; omega⟩
  · rw [dif_neg hj, dif_neg]
    · exact pad_zero
    · intro h
      have h1 : (j.val - 0) / (0 + 1) < 16 := (h (2 : Fin 3)).2.2
      omega

/-- The padded weights of the gates. -/
theorem V_wrow (c : Dev nD) (j : Fin 128) (e : Fin 1024) :
    V m c main_v2 (ix2 j e) = if h : j.val < 16 then m ((c.tc : Thread nD τ).loc main_arg2) (ix2 ⟨j.val, h⟩ e) else (0 : EReal) := by
  rw [V_w]
  pointwise []
  by_cases hj : j.val < 16
  · rw [dif_pos hj, dif_pos]
    intro a
    match a with
    | ⟨0, _⟩ => exact ⟨Nat.zero_le _, Nat.mod_one _, by show (j.val - 0) / (0 + 1) < 16; omega⟩
    | ⟨1, _⟩ => exact ⟨Nat.zero_le _, Nat.mod_one _, by show (e.val - 0) / (0 + 1) < 1024; omega⟩
  · rw [dif_neg hj, dif_neg]
    · exact pad_zero
    · intro h
      have h1 : (j.val - 0) / (0 + 1) < 16 := (h (0 : Fin 2)).2.2
      omega

/-- The block of keys. -/
theorem blk1 (c : Dev nD) (t : Fin cfg0.N) (r : Fin 16) (x : Fin 256) :
    iblk m c 1 t (ix3 0 r x) = V m c main_v0 (ix3 (bt t) r ⟨1024 + ((ht t).val * 256 + x.val), by omega⟩) := by
  obtain ⟨e1, _⟩ := idx t
  blk_point [iblk, e1, bt, ht]

/-- The block of values. -/
theorem blk2 (c : Dev nD) (t : Fin cfg0.N) (r : Fin 16) (x : Fin 512) :
    iblk m c 2 t (ix3 0 r x) = V m c main_v0 (ix3 (bt t) r ⟨2048 + ((ht t).val * 512 + x.val), by omega⟩) := by
  obtain ⟨_, e2, _⟩ := idx t
  blk_point [iblk, e2, bt, ht]

/-- The block of the gates' inputs. -/
theorem blk4 (c : Dev nD) (t : Fin cfg0.N) (r : Fin 16) (x : Fin 128) : iblk m c 4 t (ix3 0 r x) = V m c main_v1 (ix3 (bt t) r x) := by
  obtain ⟨_, _, e4, _⟩ := idx t
  blk_point [iblk, e4, bt]

/-- The block of the gates' weights. -/
theorem blk5 (c : Dev nD) (t : Fin cfg0.N) (j : Fin 128) (x : Fin 256) :
    iblk m c 5 t (ix2 j x) = V m c main_v2 (ix2 j ⟨(ht t).val * 256 + x.val, by omega⟩) := by
  obtain ⟨_, _, _, e5, _⟩ := idx t
  blk_point [iblk, e5, ht]

/-- The block of the gates' bias. -/
theorem blk6 (c : Dev nD) (t : Fin cfg0.N) (x : Fin 256) :
    iblk m c 6 t (ix2 0 x) = V m c main_v3 (ix2 0 ⟨(ht t).val * 256 + x.val, by omega⟩) := by
  obtain ⟨_, _, _, _, e6, _⟩ := idx t
  blk_point [iblk, e6, ht]

/-- The block of the state before. -/
theorem blk8 (c : Dev nD) (t : Fin cfg0.N) (d : Fin 256) (e : Fin 512) :
    iblk m c 8 t (ix4 0 0 d e) = m ((c.tc : Thread nD τ).loc main_arg5) (ix4 (bt t) (ht t) d e) := by
  obtain ⟨_, _, _, _, _, e8, _⟩ := idx t
  rw [← V_main_arg5 m c]
  blk_point [iblk, e8, bt, ht]

/-- A sum over sixteen rows whose last twelve are zero is the sum over the first four. -/
theorem sum16 (f : Fin 16 → EReal) (h : ∀ n : Fin 16, ¬ n.val < 4 → f n = 0) : ∑ n : Fin 16, f n = ∑ n : Fin 4, f (r16 n) := by
  have e : ∑ n : Fin 16, f n = ∑ n : Fin (4 + 12), f n := rfl
  rw [e, Fin.sum_univ_add]
  rw [Finset.sum_eq_zero (s := Finset.univ) (f := fun i : Fin 12 => f (Fin.natAdd 4 i)) (fun i _ => h _ (by simp [Fin.natAdd])), add_zero]
  rfl

/-- A sum over 128 columns whose last 112 are zero is the sum over the first sixteen. -/
theorem sum128 (f : Fin 128 → EReal) (h : ∀ n : Fin 128, ¬ n.val < 16 → f n = 0) : ∑ n : Fin 128, f n = ∑ n : Fin 16, f ⟨n.val, by omega⟩ := by
  have e : ∑ n : Fin 128, f n = ∑ n : Fin (16 + 112), f n := rfl
  rw [e, Fin.sum_univ_add]
  rw [Finset.sum_eq_zero (s := Finset.univ) (f := fun i : Fin 112 => f (Fin.natAdd 16 i)) (fun i _ => h _ (by simp [Fin.natAdd])), add_zero]
  rfl

/-- A point's log decays. -/
def DECS (c : Dev nD) (t : Fin cfg0.N) : FVec Ideal S16x256 .f32 :=
  k0_pay7 (F := Ideal) ROWS (k0_pay5 (iblk m c 5 t) (iblk m c 6 t) (iblk m c 4 t)) (k0_pay6 (iblk m c 5 t) (iblk m c 6 t) (iblk m c 4 t))

/-- The log decay of one of the four rows, as the point computes it. -/
theorem dec (c : Dev nD) (t : Fin cfg0.N) (r : Fin 4) (d : Fin 256) :
    DECS m c t (ix2 (r16 r) d) = LA (m ((c.tc : Thread nD τ).loc main_arg1)) (m ((c.tc : Thread nD τ).loc main_arg2)) (m ((c.tc : Thread nD τ).loc main_arg3)) (bt t) (ht t) r d := by
  have hn : (r16 r).val < 4 := r.isLt
  refine (la_at _ _ _ _ _).trans ((if_pos hn).trans ?_)
  unfold LA
  refine congrArg DEC ?_
  rw [pre_at]
  unfold PRE
  rw [blk6, V_g, sum128]
  · refine congrArg (· + _) (Finset.sum_congr rfl fun j _ => ?_)
    rw [blk4, blk5, V_lrow, V_wrow, dif_pos j.isLt, dif_pos j.isLt]
  · intro j hj
    rw [blk5, V_wrow, dif_neg hj, mul_zero]

/-- The padding's rows do not decay. -/
theorem dec_pad (c : Dev nD) (t : Fin cfg0.N) (r : Fin 16) (hr : ¬ r.val < 4) (d : Fin 256) : DECS m c t (ix2 r d) = 0 :=
  (la_at _ _ _ _ _).trans (if_neg hr)

/-- The sum of the four rows' log decays, as the point computes it. -/
theorem dec_sum (c : Dev nD) (t : Fin cfg0.N) (d : Fin 256) : ∑ n : Fin 16, DECS m c t (ix2 n d)
    = ∑ r : Fin 4, LA (m ((c.tc : Thread nD τ).loc main_arg1)) (m ((c.tc : Thread nD τ).loc main_arg2)) (m ((c.tc : Thread nD τ).loc main_arg3)) (bt t) (ht t) r d := by
  rw [sum16 _ fun n hn => dec_pad m c t n hn d]
  exact Finset.sum_congr rfl fun r _ => dec m c t r d

/-- The running log decays, as the point computes them. -/
theorem cum (c : Dev nD) (t : Fin cfg0.N) (r : Fin 16) (d : Fin 256) :
    k0_pay8 (F := Ideal) (k0_pay2 (F := Ideal)) ROWS (k0_pay5 (iblk m c 5 t) (iblk m c 6 t) (iblk m c 4 t)) (k0_pay6 (iblk m c 5 t) (iblk m c 6 t) (iblk m c 4 t)) (ix2 r d)
      = CUM (fun r => LA (m ((c.tc : Thread nD τ).loc main_arg1)) (m ((c.tc : Thread nD τ).loc main_arg2)) (m ((c.tc : Thread nD τ).loc main_arg3)) (bt t) (ht t) r d) r.val := by
  refine (cum_at _ _ _ r d).trans ?_
  unfold CUM
  rw [sum16]
  · refine Finset.sum_congr rfl fun n _ => ?_
    exact congrArg (fun x : EReal => if n.val ≤ r.val then x else 0) (dec m c t n d)
  · intro n hn
    exact (congrArg (fun x : EReal => if n.val ≤ r.val then x else 0) (dec_pad m c t n hn d)).trans (ite_self _)

/-- Entry `(d, e)` of what point `t` stores. -/
theorem point (c : Dev nD) (t : Fin cfg0.N) (d : Fin 256) (e : Fin 512) :
    (dats m 0 c).after 10 t (ix4 0 0 d e) = NEWS (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) (ix4 (bt t) (ht t) d e) := by
  rw [block_eq]
  refine (st_at _ _ _ _ _ _ d e).trans ?_
  rw [last_at, cum, blk8]
  refine (congrArg (· + _) (congrArg (fun x : EReal => Ideal.exp x * _) (dec_sum m c t d))).trans ?_
  refine congrArg _ ?_
  have l15 : ∀ a : Fin 4 → EReal, CUM a 15 = ∑ i, a i := fun a => Finset.sum_congr rfl fun i _ => if_pos (by omega)
  rw [show ((15 : Fin 16)).val = 15 from rfl, l15, sum16]
  · refine Finset.sum_congr rfl fun n _ => ?_
    have hn : (r16 n).val < 4 := n.isLt
    rw [cum, blk1, blk2, V_row, V_row, dif_pos hn, dif_pos hn]
    rfl
  · intro n hn
    rw [blk2, V_row, dif_neg hn, mul_zero]

/-- The array the run leaves. -/
theorem final (c : Dev nD) : (dats m 0 c).arrAt 10 cfg0.N = NEWS (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg5)) := by
  refine (dats m 0 c).arrAt_eq_of_covers 10 _ (by decide +kernel) fun t _ y => ?_
  blk_simp
  revert y
  show ∀ y : S1x1x256x512.Idx, _
  intro y
  obtain ⟨_, _, _, _, _, _, e9⟩ := idx t
  idx_vars y
  have h0 : ((win0_10.blk t).view.emb (ix4 y0 y1 y2 y3) 0).val = win0_10.index t (0 : Fin 4) * 1 + 1 * y0.val := rfl
  have h1 : ((win0_10.blk t).view.emb (ix4 y0 y1 y2 y3) 1).val = win0_10.index t (1 : Fin 4) * 1 + 1 * y1.val := rfl
  have h2 : ((win0_10.blk t).view.emb (ix4 y0 y1 y2 y3) 2).val = win0_10.index t (2 : Fin 4) * 256 + 1 * y2.val := rfl
  have h3 : ((win0_10.blk t).view.emb (ix4 y0 y1 y2 y3) 3).val = win0_10.index t (3 : Fin 4) * 512 + 1 * y3.val := rfl
  rw [e9] at h0 h1 h2 h3
  simp only [Matrix.cons_val_zero, Matrix.cons_val_one, Matrix.cons_val] at h0 h1 h2 h3
  obtain rfl : y0 = 0 := Subsingleton.elim _ _
  obtain rfl : y1 = 0 := Subsingleton.elim _ _
  refine (point m c t y2 y3).trans (congrArg (NEWS _ _ _ _ _) (funext fun a => Fin.ext ?_))
  match a with
  | ⟨0, _⟩ => exact (h0.trans (by show t.val / 4 * 1 + 1 * 0 = t.val / 4; omega)).symm
  | ⟨1, _⟩ => exact (h1.trans (by show t.val % 4 * 1 + 1 * 0 = t.val % 4; omega)).symm
  | ⟨2, _⟩ => exact (h2.trans (by show 0 * 256 + 1 * y2.val = y2.val; omega)).symm
  | ⟨3, _⟩ => exact (h3.trans (by show 0 * 512 + 1 * y3.val = y3.val; omega)).symm

/-- The kernel's run leaves the new states, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v5_1) = NEWS (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).2.1.trans (final m c), (h c).2.2⟩)
    (Cert.StateCIdeal.Value.run_blocks m ρ)

end Cert.StateCIdeal.Own

end
-- ==== Proof.StatePRef.lean ====
module

public import proofs.«01_k».proof.Proof.Gen.StatePRefIdeal.Run
public import proofs.«01_k».proof.Proof.StateCRef

@[expose] public section

set_option maxRecDepth 16384

noncomputable section

/-! The state the gated linear attention leaves after the prompt, as the reference computes it: 32 chunks of 64 rows, one after the other. -/

namespace Cert.StatePRefIdeal.Own

open Cert.StatePRefIdeal Cert.StatePRefIdeal.Gen Cert.StatePRefIdeal.Value
open Idealize.ShloMosaic Idealize.ShloMosaic.TcCoe Idealize.SL.Sem Idealize.ShloMosaic.StableHlo
open Cert.StateCRefIdeal.Own (DEC)

/-- The preactivation of the gate of row `r` of sequence `b`, column `e`. -/
def PRE (l : FVec Ideal S4x2048x16 .f32) (w : FVec Ideal S16x1024 .f32) (g : FVec Ideal S1024 .f32) (b : Fin 4) (r : Fin 2048) (e : Fin 1024) : EReal :=
  (∑ j : Fin 16, l (ix3 b r j) * w (ix2 j e)) + g (ix1 e)

/-- The log decay of channel `d` of head `h` at row `r`. -/
def LA (l : FVec Ideal S4x2048x16 .f32) (w : FVec Ideal S16x1024 .f32) (g : FVec Ideal S1024 .f32) (b h : Fin 4) (d : Fin 256) (r : Fin 2048) : EReal :=
  DEC (PRE l w g b r ⟨h.val * 256 + d.val, by omega⟩)

/-- The keys of head `h`. -/
def KP (z : FVec Ideal S4x2048x6144 .f32) (b h : Fin 4) (d : Fin 256) (r : Fin 2048) : EReal :=
  z (ix3 b r ⟨1024 + (h.val * 256 + d.val), by omega⟩)

/-- The values of head `h`. -/
def VP (z : FVec Ideal S4x2048x6144 .f32) (b h : Fin 4) (e : Fin 512) (r : Fin 2048) : EReal :=
  z (ix3 b r ⟨2048 + (h.val * 512 + e.val), by omega⟩)

/-- Row `r` of chunk `k`. -/
def row (k : Fin 32) (r : Fin 64) : Fin 2048 := ⟨k.val * 64 + r.val, by omega⟩

/-- The log decay from before a chunk's first row to after its row `r`, of its rows' log decays. -/
def CUM (a : Fin 64 → EReal) (r : Nat) : EReal := ∑ i : Fin 64, if i.val ≤ r then a i else 0

/-- The state after a chunk, from its rows' log decays and keys of one channel, and the values: the old one decayed by all rows,
    plus each row's key times its value, decayed by the rows after it. -/
def NEW (a k v : Fin 64 → EReal) (s : EReal) : EReal :=
  Ideal.exp (∑ i, a i) * s + ∑ n : Fin 64, k n * Ideal.exp ((∑ i, a i) - CUM a n.val) * v n

/-- The state before chunk `n`, from all rows' log decays, keys and values. -/
def ST (a k v : Fin 2048 → EReal) : ℕ → EReal
  | 0 => 0
  | n + 1 => if h : n < 32 then NEW (fun r => a (row ⟨n, h⟩ r)) (fun r => k (row ⟨n, h⟩ r)) (fun r => v (row ⟨n, h⟩ r)) (ST a k v n) else ST a k v n

/-- The state after chunk `n` comes from the state before it. -/
theorem ST_succ (a k v : Fin 2048 → EReal) (n : Fin 32) :
    ST a k v (n.val + 1) = NEW (fun r => a (row n r)) (fun r => k (row n r)) (fun r => v (row n r)) (ST a k v n.val) := by
  rw [ST]
  simp only [n.isLt, dite_true]

/-- The states before chunk `n`, as an array. -/
def SN (z : FVec Ideal S4x2048x6144 .f32) (l : FVec Ideal S4x2048x16 .f32) (w : FVec Ideal S16x1024 .f32) (g : FVec Ideal S1024 .f32) (n : ℕ) : FVec Ideal S4x4x256x512 .f32 :=
  fun i => ST (LA l w g (i 0) (i 1) (i 2)) (KP z (i 0) (i 1) (i 2)) (VP z (i 0) (i 1) (i 3)) n

/-- All of a chunk's log decays. -/
theorem cum_last (a : Fin 64 → EReal) : CUM a 63 = ∑ i, a i :=
  Finset.sum_congr rfl fun i _ => if_pos (by omega)

/-! ### The running sum of 64 rows -/

/-- Position `n` of a window 64 rows high and one wide is row `n`. -/
theorem window_row (n : Fin (⟨4, ![1, 64, 1, 1]⟩ : Shape).numel) (hn : n.val < 64) :
    (⟨4, ![1, 64, 1, 1]⟩ : Shape).rowMajor.symm n = ix4 (0 : Fin 1) (⟨n.val, hn⟩ : Fin 64) (0 : Fin 1) (0 : Fin 1) := by
  rw [Equiv.symm_apply_eq]
  refine Fin.ext ?_
  rw [Shape.rowMajor_val_four]
  show n.val = ((0 * 64 + n.val) * 1 + 0) * 1 + 0
  omega

/-- The term position `n` of the window adds at row `r`: the row it falls on, nothing above the first. -/
def TERM (x : FVec Ideal S4x64x4x256 .f32) (b : Fin 4) (r : Fin 64) (h : Fin 4) (d : Fin 256) (n : Fin (⟨4, ![1, 64, 1, 1]⟩ : Shape).numel) : EReal :=
  (if hin : ∀ a : Fin 4, (![0, 63, 0, 0] : Fin 4 → Nat) a ≤ (ix4 b r h d a).val * (![1, 1, 1, 1] : Fin 4 → Nat) a + ((⟨4, ![1, 64, 1, 1]⟩ : Shape).rowMajor.symm n a).val
          ∧ (ix4 b r h d a).val * (![1, 1, 1, 1] : Fin 4 → Nat) a + ((⟨4, ![1, 64, 1, 1]⟩ : Shape).rowMajor.symm n a).val - (![0, 63, 0, 0] : Fin 4 → Nat) a < S4x64x4x256.size a
        then x (fun a => ⟨(ix4 b r h d a).val * (![1, 1, 1, 1] : Fin 4 → Nat) a + ((⟨4, ![1, 64, 1, 1]⟩ : Shape).rowMajor.symm n a).val - (![0, 63, 0, 0] : Fin 4 → Nat) a, (hin a).2⟩) else (0 : EReal))

/-- The term position `n` adds to the running sum at row `r`. -/
theorem term (x : FVec Ideal S4x64x4x256 .f32) (b : Fin 4) (r : Fin 64) (h : Fin 4) (d : Fin 256) (n : Fin (⟨4, ![1, 64, 1, 1]⟩ : Shape).numel) (hn : n.val < 64) :
    TERM x b r h d n
      = if 63 ≤ r.val + n.val then x (ix4 b ⟨r.val + n.val - 63, by omega⟩ h d) else (0 : EReal) := by
    have hr := r.isLt
    unfold TERM
    have w := window_row n hn
    have w0 : ((⟨4, ![1, 64, 1, 1]⟩ : Shape).rowMajor.symm n 0).val = 0 := by rw [w]; rfl
    have w1 : ((⟨4, ![1, 64, 1, 1]⟩ : Shape).rowMajor.symm n 1).val = n.val := by rw [w]; rfl
    have w2 : ((⟨4, ![1, 64, 1, 1]⟩ : Shape).rowMajor.symm n 2).val = 0 := by rw [w]; rfl
    have w3 : ((⟨4, ![1, 64, 1, 1]⟩ : Shape).rowMajor.symm n 3).val = 0 := by rw [w]; rfl
    have hb := b.isLt
    have hh := h.isLt
    have hd := d.isLt
    by_cases h3 : 63 ≤ r.val + n.val
    · rw [if_pos h3, dif_pos]
      · refine congrArg x (funext fun a => Fin.ext ?_)
        match a with
        | ⟨0, _⟩ => show b.val * 1 + ((⟨4, ![1, 64, 1, 1]⟩ : Shape).rowMajor.symm n 0).val - 0 = b.val; rw [w0]; omega
        | ⟨1, _⟩ => show r.val * 1 + ((⟨4, ![1, 64, 1, 1]⟩ : Shape).rowMajor.symm n 1).val - 63 = r.val + n.val - 63; rw [w1]; omega
        | ⟨2, _⟩ => show h.val * 1 + ((⟨4, ![1, 64, 1, 1]⟩ : Shape).rowMajor.symm n 2).val - 0 = h.val; rw [w2]; omega
        | ⟨3, _⟩ => show d.val * 1 + ((⟨4, ![1, 64, 1, 1]⟩ : Shape).rowMajor.symm n 3).val - 0 = d.val; rw [w3]; omega
      · intro a
        match a with
        | ⟨0, _⟩ =>
          show 0 ≤ b.val * 1 + ((⟨4, ![1, 64, 1, 1]⟩ : Shape).rowMajor.symm n 0).val ∧ b.val * 1 + ((⟨4, ![1, 64, 1, 1]⟩ : Shape).rowMajor.symm n 0).val - 0 < 4
          rw [w0]; omega
        | ⟨1, _⟩ =>
          show 63 ≤ r.val * 1 + ((⟨4, ![1, 64, 1, 1]⟩ : Shape).rowMajor.symm n 1).val ∧ r.val * 1 + ((⟨4, ![1, 64, 1, 1]⟩ : Shape).rowMajor.symm n 1).val - 63 < 64
          rw [w1]; omega
        | ⟨2, _⟩ =>
          show 0 ≤ h.val * 1 + ((⟨4, ![1, 64, 1, 1]⟩ : Shape).rowMajor.symm n 2).val ∧ h.val * 1 + ((⟨4, ![1, 64, 1, 1]⟩ : Shape).rowMajor.symm n 2).val - 0 < 4
          rw [w2]; omega
        | ⟨3, _⟩ =>
          show 0 ≤ d.val * 1 + ((⟨4, ![1, 64, 1, 1]⟩ : Shape).rowMajor.symm n 3).val ∧ d.val * 1 + ((⟨4, ![1, 64, 1, 1]⟩ : Shape).rowMajor.symm n 3).val - 0 < 256
          rw [w3]; omega
    · rw [if_neg h3, dif_neg]
      intro hin
      have h1 : 63 ≤ r.val * 1 + ((⟨4, ![1, 64, 1, 1]⟩ : Shape).rowMajor.symm n 1).val := (hin 1).1
      rw [w1] at h1
      omega

/-- Adding up the terms of a list of positions, one after the other, is their sum. -/
theorem fold_sum (N : ℕ) (f : Fin N → EReal) : (List.finRange N).foldl (fun q n => q + f n) 0 = ∑ n : Fin N, f n := by
  rw [Fin.sum_univ_def, List.sum_eq_foldl, List.foldl_map]

/-- The terms of a window ending at row `r` are the rows up to and including it. -/
theorem window_sum (x : Fin 64 → EReal) (r : Fin 64) :
    (∑ n : Fin 64, if 63 ≤ r.val + n.val then x ⟨r.val + n.val - 63, by omega⟩ else (0 : EReal)) = ∑ i : Fin 64, if i.val ≤ r.val then x i else 0 := by
  rw [← Finset.sum_filter, ← Finset.sum_filter]
  refine Finset.sum_nbij' (fun n => ⟨r.val + n.val - 63, by omega⟩) (fun i => ⟨(i.val + 63 - r.val) % 64, by omega⟩) ?_ ?_ ?_ ?_ ?_
  · intro n hn
    simp only [Finset.mem_filter, Finset.mem_univ, true_and] at hn ⊢
    omega
  · intro i hi
    simp only [Finset.mem_filter, Finset.mem_univ, true_and] at hi ⊢
    omega
  · intro n hn
    simp only [Finset.mem_filter, Finset.mem_univ, true_and] at hn
    exact Fin.ext (by show (r.val + n.val - 63 + 63 - r.val) % 64 = n.val; omega)
  · intro i hi
    simp only [Finset.mem_filter, Finset.mem_univ, true_and] at hi
    exact Fin.ext (by show r.val + (i.val + 63 - r.val) % 64 - 63 = i.val; omega)
  · intro n hn
    rfl

/-- A running sum down the rows: row `r` of the result is the sum of the rows up to and including it. -/
theorem running (x : FVec Ideal S4x64x4x256 .f32) (v : FVec Ideal S_ .f32) (hv : ∀ i, v i = (0 : EReal))
    (H : S4x64x4x256.ReduceWindows (![1, 64, 1, 1] : Fin 4 → Nat) ![1, 1, 1, 1] ![0, 63, 0, 0] ![0, 0, 0, 0] S4x64x4x256) (hu : 0 < S_.numel) (b : Fin 4) (r : Fin 64) (h : Fin 4) (d : Fin 256) :
    Host.reduceWindowAdd (F := Ideal) (φ := .f32) ![1, 64, 1, 1] ![1, 1, 1, 1] ![0, 63, 0, 0] ![0, 0, 0, 0] x v H hu (ix4 b r h d)
      = CUM (fun i => x (ix4 b i h d)) r.val := by
  have hv' : v = fun _ => (0 : EReal) := funext hv
  subst hv'
  have e : Host.reduceWindowAdd (F := Ideal) (φ := .f32) ![1, 64, 1, 1] ![1, 1, 1, 1] ![0, 63, 0, 0] ![0, 0, 0, 0] x (fun _ => (0 : EReal)) H hu (ix4 b r h d)
      = (List.finRange (⟨4, ![1, 64, 1, 1]⟩ : Shape).numel).foldl (fun q n => q + TERM x b r h d n) (0 : EReal) := by
    unfold Host.reduceWindowAdd
    show Ideal.hostReduceWindowAdd _ _ _ _ _ _ _ _ = _
    unfold Ideal.hostReduceWindowAdd Host.reduceWindow
    dsimp only
    unfold TERM
    have D : ∀ (P : Prop) (i j : Decidable P) (f : P → EReal) (g : ¬P → EReal), @dite EReal P i f g = @dite EReal P j f g :=
      fun P i j f g => by rw [Subsingleton.elim i j]
    exact congrArg (fun f => List.foldl f (0 : EReal) _) (funext fun q => funext fun n => congrArg (q + ·) (D _ _ _ _ _))
  rw [e, fold_sum]
  have n64 : (⟨4, ![1, 64, 1, 1]⟩ : Shape).numel = 64 := by decide
  have c : (∑ n : Fin (⟨4, ![1, 64, 1, 1]⟩ : Shape).numel, TERM x b r h d n) = ∑ n : Fin 64, TERM x b r h d (n.cast n64.symm) :=
    (Equiv.sum_comp (finCongr n64.symm) fun n => TERM x b r h d n).symm
  rw [c]
  refine Eq.trans (Finset.sum_congr rfl fun n _ => term x b r h d (n.cast n64.symm) n.isLt) ?_
  exact window_sum (fun i => x (ix4 b i h d)) r

/-! ### The arrays the loop slices -/

/-- The rows split into chunks, the chunks first: 256 numbers per head. -/
def CH (X : FVec Ideal S4x2048x4x256 .f32) : FVec Ideal S32x4x64x4x256 .f32 :=
  transpose S32x4x64x4x256 [1, 0, 2, 3, 4] (shapeCast S4x32x64x4x256 X shapeCasts_S4x2048x4x256_S4x32x64x4x256) transposes_S4x32x64x4x256_S32x4x64x4x256_1_0_2_3_4

theorem ch_at (X : FVec Ideal S4x2048x4x256 .f32) (k : Fin 32) (b : Fin 4) (r : Fin 64) (h : Fin 4) (e : Fin 256) : CH X (ix5 k b r h e) = X (ix4 b (row k r) h e) := by
  pointwise [CH, row]

/-- The keys, chunk by chunk. -/
def KC (z : FVec Ideal S4x2048x6144 .f32) : FVec Ideal S32x4x64x4x256 .f32 :=
  CH (shapeCast S4x2048x4x256 (extractStridedSlice S4x2048x1024 ![0, 0, 1024] z slices_S4x2048x6144_S4x2048x1024_0_0_1024) shapeCasts_S4x2048x1024_S4x2048x4x256)

/-- The values, chunk by chunk. -/
def VC (z : FVec Ideal S4x2048x6144 .f32) : FVec Ideal S32x4x64x4x512 .f32 :=
  transpose S32x4x64x4x512 [1, 0, 2, 3, 4] (shapeCast S4x32x64x4x512 (shapeCast S4x2048x4x512 (extractStridedSlice S4x2048x2048 ![0, 0, 2048] z slices_S4x2048x6144_S4x2048x2048_0_0_2048) shapeCasts_S4x2048x2048_S4x2048x4x512)
    shapeCasts_S4x2048x4x512_S4x32x64x4x512) transposes_S4x32x64x4x512_S32x4x64x4x512_1_0_2_3_4

/-- The gates' preactivations. -/
def PREV (l : FVec Ideal S4x2048x16 .f32) (w : FVec Ideal S16x1024 .f32) (g : FVec Ideal S1024 .f32) : FVec Ideal S4x2048x1024 .f32 :=
  addf (Host.dotGeneral dot_S4x2048x16_S16x1024_S4x2048x1024_2_0_01_1_n_n none l w)
    (broadcastInDim S4x2048x1024 ![0, 1, 2] bcast_S1x1x1024_S4x2048x1024_0_1_2 (broadcastInDim S1x1x1024 ![2] bcast_S1024_S1x1x1024_2 g))

/-- Zeros. -/
def ZERO : FVec Ideal S4x2048x1024 .f32 := broadcastInDim S4x2048x1024 ![] bcast_S_S4x2048x1024 (constant S_ .f32 0x00000000#32)

/-- The softplus the log-sigmoid is made of. -/
def SOFT (y : FVec Ideal S4x2048x1024 .f32) : FVec Ideal S4x2048x1024 .f32 :=
  select (cmpf .une (subf y ZERO) (subf y ZERO)) (addf y ZERO) (addf (maximumf y ZERO) (Host.log1p (Host.exp (Host.negf (Host.absf (subf y ZERO))))))

/-- The log decays. -/
def LV (l : FVec Ideal S4x2048x16 .f32) (w : FVec Ideal S16x1024 .f32) (g : FVec Ideal S1024 .f32) : FVec Ideal S4x2048x1024 .f32 :=
  Host.divf (Host.negf (SOFT (Host.negf (PREV l w g)))) (broadcastInDim S4x2048x1024 ![] bcast_S_S4x2048x1024 (constant S_ .f32 0x41800000#32))

/-- The log decays, chunk by chunk. -/
def LC (l : FVec Ideal S4x2048x16 .f32) (w : FVec Ideal S16x1024 .f32) (g : FVec Ideal S1024 .f32) : FVec Ideal S32x4x64x4x256 .f32 :=
  CH (shapeCast S4x2048x4x256 (LV l w g) shapeCasts_S4x2048x1024_S4x2048x4x256)

theorem kc_at (z : FVec Ideal S4x2048x6144 .f32) (k : Fin 32) (b : Fin 4) (r : Fin 64) (h : Fin 4) (d : Fin 256) : KC z (ix5 k b r h d) = KP z b h d (row k r) := by
  unfold KC
  rw [ch_at]
  pointwise [KP]

theorem vc_at (z : FVec Ideal S4x2048x6144 .f32) (k : Fin 32) (b : Fin 4) (r : Fin 64) (h : Fin 4) (e : Fin 512) : VC z (ix5 k b r h e) = VP z b h e (row k r) := by
  pointwise [VC, VP, row]

theorem pre_at (l : FVec Ideal S4x2048x16 .f32) (w : FVec Ideal S16x1024 .f32) (g : FVec Ideal S1024 .f32) (b : Fin 4) (r : Fin 2048) (e : Fin 1024) :
    PREV l w g (ix3 b r e) = PRE l w g b r e := by
  pointwise [PREV, PRE]

theorem lv_at (l : FVec Ideal S4x2048x16 .f32) (w : FVec Ideal S16x1024 .f32) (g : FVec Ideal S1024 .f32) (b : Fin 4) (r : Fin 2048) (e : Fin 1024) :
    LV l w g (ix3 b r e) = DEC (PRE l w g b r e) := by
  pointwise [LV, SOFT, ZERO, pre_at]
  unfold DEC
  generalize PRE l w g b r e = p
  rw [if_neg (fun hp => hp rfl)]
  show Ideal.div (-(_ + Ideal.log1p (Ideal.exp (-(max (-p) (- -p)))))) _ = _
  rw [neg_neg]

theorem lc_at (l : FVec Ideal S4x2048x16 .f32) (w : FVec Ideal S16x1024 .f32) (g : FVec Ideal S1024 .f32) (k : Fin 32) (b : Fin 4) (r : Fin 64) (h : Fin 4) (d : Fin 256) :
    LC l w g (ix5 k b r h d) = LA l w g b h d (row k r) := by
  unfold LC
  rw [ch_at]
  pointwise [lv_at, LA]

/-! ### One trip -/

/-- The trip's number read back. -/
theorem ofNat_toInt : ∀ j : Fin 32, (BitVec.ofNat 32 j.val).toInt = (j.val : ℤ) := by decide +kernel

/-- Chunk `j` sliced out of an array of 256 numbers per head. -/
theorem slice256 (x : FVec Ideal S32x4x64x4x256 .f32) (st : Fin 5 → Int) (j : Fin 32) (h0 : st 0 = (j.val : ℤ)) (h1 : st 1 = 0) (h2 : st 2 = 0) (h3 : st 3 = 0) (h4 : st 4 = 0)
    (b : Fin 4) (r : Fin 64) (h : Fin 4) (e : Fin 256) :
    shapeCast S4x64x4x256 (Host.dynamicSlice S1x4x64x4x256 x st sliceFits_S32x4x64x4x256_S1x4x64x4x256) shapeCasts_S1x4x64x4x256_S4x64x4x256 (ix4 b r h e) = x (ix5 j b r h e) := by
  have c0 : ∀ g, Host.clampedStart S32x4x64x4x256 S1x4x64x4x256 g st 0 = j.val := fun g => Host.clampedStart_of_le g _ _ _ h0 (show j.val + 1 ≤ 32 by omega)
  have c1 : ∀ g, Host.clampedStart S32x4x64x4x256 S1x4x64x4x256 g st 1 = 0 := fun g => Host.clampedStart_of_le g _ _ 0 h1 (show 0 + 4 ≤ 4 by omega)
  have c2 : ∀ g, Host.clampedStart S32x4x64x4x256 S1x4x64x4x256 g st 2 = 0 := fun g => Host.clampedStart_of_le g _ _ 0 h2 (show 0 + 64 ≤ 64 by omega)
  have c3 : ∀ g, Host.clampedStart S32x4x64x4x256 S1x4x64x4x256 g st 3 = 0 := fun g => Host.clampedStart_of_le g _ _ 0 h3 (show 0 + 4 ≤ 4 by omega)
  have c4 : ∀ g, Host.clampedStart S32x4x64x4x256 S1x4x64x4x256 g st 4 = 0 := fun g => Host.clampedStart_of_le g _ _ 0 h4 (show 0 + 256 ≤ 256 by omega)
  pointwise [c0, c1, c2, c3, c4]

/-- Chunk `j` sliced out of an array of 512 numbers per head. -/
theorem slice512 (x : FVec Ideal S32x4x64x4x512 .f32) (st : Fin 5 → Int) (j : Fin 32) (h0 : st 0 = (j.val : ℤ)) (h1 : st 1 = 0) (h2 : st 2 = 0) (h3 : st 3 = 0) (h4 : st 4 = 0)
    (b : Fin 4) (r : Fin 64) (h : Fin 4) (e : Fin 512) :
    shapeCast S4x64x4x512 (Host.dynamicSlice S1x4x64x4x512 x st sliceFits_S32x4x64x4x512_S1x4x64x4x512) shapeCasts_S1x4x64x4x512_S4x64x4x512 (ix4 b r h e) = x (ix5 j b r h e) := by
  have c0 : ∀ g, Host.clampedStart S32x4x64x4x512 S1x4x64x4x512 g st 0 = j.val := fun g => Host.clampedStart_of_le g _ _ _ h0 (show j.val + 1 ≤ 32 by omega)
  have c1 : ∀ g, Host.clampedStart S32x4x64x4x512 S1x4x64x4x512 g st 1 = 0 := fun g => Host.clampedStart_of_le g _ _ 0 h1 (show 0 + 4 ≤ 4 by omega)
  have c2 : ∀ g, Host.clampedStart S32x4x64x4x512 S1x4x64x4x512 g st 2 = 0 := fun g => Host.clampedStart_of_le g _ _ 0 h2 (show 0 + 64 ≤ 64 by omega)
  have c3 : ∀ g, Host.clampedStart S32x4x64x4x512 S1x4x64x4x512 g st 3 = 0 := fun g => Host.clampedStart_of_le g _ _ 0 h3 (show 0 + 4 ≤ 4 by omega)
  have c4 : ∀ g, Host.clampedStart S32x4x64x4x512 S1x4x64x4x512 g st 4 = 0 := fun g => Host.clampedStart_of_le g _ _ 0 h4 (show 0 + 512 ≤ 512 by omega)
  pointwise [c0, c1, c2, c3, c4]

/-- The loop's buffers hold the state `s`, the arrays the loop slices, and the trip number `j`. -/
structure Carries (z : FVec Ideal S4x2048x6144 .f32) (l : FVec Ideal S4x2048x16 .f32) (w : FVec Ideal S16x1024 .f32) (g : FVec Ideal S1024 .f32)
    (V0 : Valuation τ sig (Elt Ideal)) (s : FVec Ideal S4x4x256x512 .f32) (j : ℕ) : Prop where
  f_1 : V0 (Proc.devRef .tc main_v26_1) = KC z
  f_2 : V0 (Proc.devRef .tc main_v26_2) = VC z
  f_3 : V0 (Proc.devRef .tc main_v26_3) = LC l w g
  n_4 : V0 (Proc.devRef .tc main_v26_4) = constantI S_ 32 (BitVec.ofNat 32 j)
  f_5 : V0 (Proc.devRef .tc main_v26_5) = s

variable {z : FVec Ideal S4x2048x6144 .f32} {l : FVec Ideal S4x2048x16 .f32} {w : FVec Ideal S16x1024 .f32} {g : FVec Ideal S1024 .f32}
  {V0 : Valuation τ sig (Elt Ideal)} {s : FVec Ideal S4x4x256x512 .f32}

/-- A trip's keys. -/
theorem k_at (j : Fin 32) (H : Carries z l w g V0 s j.val) (b : Fin 4) (r : Fin 64) (h : Fin 4) (d : Fin 256) :
    res_main_while0b_v30 V0 (ix4 b r h d) = KP z b h d (row j r) := by
  unfold res_main_while0b_v30
  rw [H.f_1, H.n_4]
  exact (slice256 (KC z) _ j (ofNat_toInt j) rfl rfl rfl rfl b r h d).trans (kc_at z j b r h d)

/-- A trip's values. -/
theorem v_at (j : Fin 32) (H : Carries z l w g V0 s j.val) (b : Fin 4) (r : Fin 64) (h : Fin 4) (e : Fin 512) :
    res_main_while0b_v31 V0 (ix4 b r h e) = VP z b h e (row j r) := by
  unfold res_main_while0b_v31
  rw [H.f_2, H.n_4]
  exact (slice512 (VC z) _ j (ofNat_toInt j) rfl rfl rfl rfl b r h e).trans (vc_at z j b r h e)

/-- A trip's running log decays. -/
theorem c_at (j : Fin 32) (H : Carries z l w g V0 s j.val) (b : Fin 4) (r : Fin 64) (h : Fin 4) (d : Fin 256) :
    res_main_while0b_v33 V0 (ix4 b r h d) = CUM (fun i => LA l w g b h d (row j i)) r.val := by
  unfold res_main_while0b_v33
  rw [H.f_3, H.n_4]
  refine (running _ _ (fun i => ?_) _ _ b r h d).trans ?_
  · pointwise []
  · exact congrArg (fun f => CUM f r.val) (funext fun i => (slice256 (LC l w g) _ j (ofNat_toInt j) rfl rfl rfl rfl b i h d).trans (lc_at l w g j b i h d))

/-- A trip's whole log decay. -/
theorem t_at (j : Fin 32) (H : Carries z l w g V0 s j.val) (b h : Fin 4) (d : Fin 256) :
    res_main_while0b_v61 V0 (ix3 b h d) = ∑ i, LA l w g b h d (row j i) := by
  unfold res_main_while0b_v61
  have c := c_at j H b 63 h d
  generalize res_main_while0b_v33 V0 = X at c ⊢
  refine Eq.trans ?_ (c.trans (cum_last _))
  pointwise []

/-- A trip's new state. -/
theorem step_at (j : Fin 32) (H : Carries z l w g V0 s j.val) (b h : Fin 4) (d : Fin 256) (e : Fin 512) :
    step_main_v26_5 V0 (ix4 b h d e) = NEW (fun r => LA l w g b h d (row j r)) (fun r => KP z b h d (row j r)) (fun r => VP z b h e (row j r)) (s (ix4 b h d e)) := by
  unfold step_main_v26_5
  rw [H.f_5]
  have hk := k_at j H
  have hv := v_at j H
  have hc := c_at j H
  have ht := t_at j H
  generalize res_main_while0b_v30 V0 = K at hk ⊢
  generalize res_main_while0b_v31 V0 = W at hv ⊢
  generalize res_main_while0b_v33 V0 = C at hc ⊢
  generalize res_main_while0b_v61 V0 = T at ht ⊢
  rw [id]
  pointwise [hk, hv, hc, ht, NEW]

/-- The trip number goes up by one. -/
theorem count_step {j : ℕ} (hn : V0 (Proc.devRef .tc main_v26_4) = constantI S_ 32 (BitVec.ofNat 32 j)) :
    step_main_v26_4 V0 = constantI S_ 32 (BitVec.ofNat 32 (j + 1)) := by
  unfold step_main_v26_4
  rw [hn]
  funext i
  show BitVec.ofNat 32 j + 1#32 = BitVec.ofNat 32 (j + 1)
  rw [BitVec.ofNat_add]

/-- One trip takes the states before a chunk to those after it. -/
theorem carries_step (j : Fin 32) (H : Carries z l w g V0 (SN z l w g j.val) j.val) : Carries z l w g (STEP V0) (SN z l w g (j.val + 1)) (j.val + 1) where
  f_1 := (STEP_main_v26_1 V0).trans H.f_1
  f_2 := (STEP_main_v26_2 V0).trans H.f_2
  f_3 := (STEP_main_v26_3 V0).trans H.f_3
  n_4 := (STEP_main_v26_4 V0).trans (count_step H.n_4)
  f_5 := (STEP_main_v26_5 V0).trans (by
    funext i
    idx_vars i
    refine (step_at j H i0 i1 i2 i3).trans ?_
    exact (ST_succ (LA l w g i0 i1 i2) (KP z i0 i1 i2) (VP z i0 i1 i3) j).symm)

variable (m : (ℓ : Loc nD τ sig) → Buf (Elt Ideal) ℓ) (c : Dev nD)

set_option maxRecDepth 65536 in
set_option maxHeartbeats 4000000 in
/-- The operations before the loop leave the arrays the loop slices, zeros for the states, and the number 0. -/
theorem carries_entry : Carries (m ((c.tc : Thread nD τ).loc main_arg0)) (m ((c.tc : Thread nD τ).loc main_arg1)) (m ((c.tc : Thread nD τ).loc main_arg2)) (m ((c.tc : Thread nD τ).loc main_arg3))
    (entryContents preI m c) (broadcastInDim S4x4x256x512 ![] bcast_S_S4x4x256x512 (constant S_ .f32 0x00000000#32)) 0 where
  f_1 := by
    (simp only [entryContents, afterL_cons, afterL_nil]; after_reads_simp) <;> rfl
  f_2 := by
    (simp only [entryContents, afterL_cons, afterL_nil]; after_reads_simp) <;> rfl
  f_3 := by
    (simp only [entryContents, afterL_cons, afterL_nil]; after_reads_simp) <;> rfl
  n_4 := by
    (simp only [entryContents, afterL_cons, afterL_nil]; after_reads_simp) <;> rfl
  f_5 := by
    (simp only [entryContents, afterL_cons, afterL_nil]; after_reads_simp) <;> rfl

/-- Zeros are the states before the first chunk. -/
theorem zeros (z : FVec Ideal S4x2048x6144 .f32) (l : FVec Ideal S4x2048x16 .f32) (w : FVec Ideal S16x1024 .f32) (g : FVec Ideal S1024 .f32) :
    (broadcastInDim S4x4x256x512 ![] bcast_S_S4x4x256x512 (constant (F := Ideal) S_ .f32 0x00000000#32)) = SN z l w g 0 := by
  funext i
  idx_vars i
  pointwise [SN, ST]

/-- Before the `k`-th condition the loop's buffers hold the states before chunk `k`. -/
theorem carries_iter : ∀ k, k ≤ 32 → Carries (m ((c.tc : Thread nD τ).loc main_arg0)) (m ((c.tc : Thread nD τ).loc main_arg1)) (m ((c.tc : Thread nD τ).loc main_arg2)) (m ((c.tc : Thread nD τ).loc main_arg3))
    (STEP^[k] (entryContents preI m c)) (SN (m ((c.tc : Thread nD τ).loc main_arg0)) (m ((c.tc : Thread nD τ).loc main_arg1)) (m ((c.tc : Thread nD τ).loc main_arg2)) (m ((c.tc : Thread nD τ).loc main_arg3)) k) k
  | 0, _ => by
    rw [← zeros]
    exact carries_entry m c
  | k + 1, h => by
    rw [Function.iterate_succ_apply']
    exact carries_step ⟨k, h⟩ (carries_iter k (Nat.le_of_succ_le h))

/-- The reference's run leaves the states after the last chunk, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v26_5) = SN (m ((c.tc : Thread nD τ).loc main_arg0)) (m ((c.tc : Thread nD τ).loc main_arg1)) (m ((c.tc : Thread nD τ).loc main_arg2)) (m ((c.tc : Thread nD τ).loc main_arg3)) 32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (carries_iter m c 32 (le_refl _)).f_5, (h c).2⟩)
    (Value.run m ρ)

end Cert.StatePRefIdeal.Own

end
-- ==== Proof.StatePBodyI.lean ====
module

public import proofs.«01_k».proof.Proof.Gen.StatePIdeal.Frame.Runs
public import Idealize.ShloMosaic.Lib.VecWindow
public import Idealize.ShloMosaic.Lib.Claim

@[expose] public section

set_option maxRecDepth 16384

open Idealize.ShloMosaic.Pipeline (Dat Cfg Window BodyObligation cellOf)

noncomputable section

/-! What one grid point of the prompt's gated linear attention leaves in its two output blocks, as functions of the blocks it reads. -/

namespace Cert.StatePIdeal.Own

open Cert.StatePIdeal Cert.StatePIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Chunk `k`'s rows of the gates' low-rank input. -/
def lrAt (x : Vec F S1x2048x128 .f32) (k : Fin k0_t1_loop.trips) : Vec F S1x64x128 .f32 :=
  fun j => x ((Rect.unit (s := S1x2048x128) (k0_off1 k) S1x64x128.size (k0_off1_inb k)).emb j)

/-- Chunk `k`'s rows of the keys. -/
def kAt (x : Vec F S1x2048x256 .f32) (k : Fin k0_t1_loop.trips) : Vec F S1x64x256 .f32 :=
  fun j => x ((Rect.unit (s := S1x2048x256) (k0_off2 k) S1x64x256.size (k0_off2_inb k)).emb j)

/-- Chunk `k`'s rows of the values. -/
def vAt (x : Vec F S1x2048x512 .f32) (k : Fin k0_t1_loop.trips) : Vec F S1x64x512 .f32 :=
  fun j => x ((Rect.unit (s := S1x2048x512) (k0_off3 k) S1x64x512.size (k0_off3_inb k)).emb j)

/-- The state after chunk `k`, from the state before it. -/
def stepS (x2 : Vec F S1x2048x256 .f32) (x3 : Vec F S1x2048x256 .f32) (x4 : Vec F S1x2048x512 .f32) (x5 : Vec F S1x2048x512 .f32) (x6 : Vec F S1x2048x128 .f32) (x7 : Vec F S128x256 .f32) (x8 : Vec F S1x256 .f32) (x9 : Vec F S1x1x512 .f32) (k : Fin k0_t1_loop.trips) (s : Vec F S1x1x256x512 .f32) : Vec F S1x1x256x512 .f32 :=
  k0_pay107 (k0_pay117 (F := F)) (k0_pay3 (k0_pay119 x7) (k0_pay120 x8) (lrAt x6 k)) (k0_pay4 (k0_pay112 (F := F)) (k0_pay119 x7) (k0_pay120 x8) (lrAt x6 k)) (k0_pay6 (kAt x3 k)) (k0_pay7 (vAt x4 k)) (k0_pay8 s)
    (k0_pay9 (k0_pay4 (k0_pay112 (F := F)) (k0_pay119 x7) (k0_pay120 x8) (lrAt x6 k)))

/-- The state before chunk `n`. -/
def St (x2 : Vec F S1x2048x256 .f32) (x3 : Vec F S1x2048x256 .f32) (x4 : Vec F S1x2048x512 .f32) (x5 : Vec F S1x2048x512 .f32) (x6 : Vec F S1x2048x128 .f32) (x7 : Vec F S128x256 .f32) (x8 : Vec F S1x256 .f32) (x9 : Vec F S1x1x512 .f32) : ℕ → Vec F S1x1x256x512 .f32
  | 0 => k0_pay111 (F := F)
  | n + 1 => if h : n < k0_t1_loop.trips then stepS x2 x3 x4 x5 x6 x7 x8 x9 ⟨n, h⟩ (St x2 x3 x4 x5 x6 x7 x8 x9 n) else St x2 x3 x4 x5 x6 x7 x8 x9 n

/-- The state after chunk `n` comes from the state before it. -/
theorem St_succ (x2 : Vec F S1x2048x256 .f32) (x3 : Vec F S1x2048x256 .f32) (x4 : Vec F S1x2048x512 .f32) (x5 : Vec F S1x2048x512 .f32) (x6 : Vec F S1x2048x128 .f32) (x7 : Vec F S128x256 .f32) (x8 : Vec F S1x256 .f32) (x9 : Vec F S1x1x512 .f32) (n : ℕ) (h : n < k0_t1_loop.trips) : St x2 x3 x4 x5 x6 x7 x8 x9 (n + 1) = stepS x2 x3 x4 x5 x6 x7 x8 x9 ⟨n, h⟩ (St x2 x3 x4 x5 x6 x7 x8 x9 n) := by
  rw [St]
  simp only [h, dite_true]

/-- There are thirty-two chunks. -/
theorem trips32 : k0_t1_loop.trips = 32 := by decide +kernel

/-- Chunk `k` starts at row `64 k`. -/
theorem off3 : ∀ k : Fin k0_t1_loop.trips, k0_off3 k = ![0, 64 * k.val, 0] := by decide +kernel

variable (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1x512 .f32) (harg9 : arg9.IsWhole) (arg10 : Memref sig .tc .vmem S1x2048x512 .bf16) (harg10 : arg10.IsWhole) (arg11 : Memref sig .tc .vmem S1x1x256x512 .f32) (harg11 : arg11.IsWhole)
  (x2 : Vec F S1x2048x256 .f32) (x3 : Vec F S1x2048x256 .f32) (x4 : Vec F S1x2048x512 .f32) (x5 : Vec F S1x2048x512 .f32) (x6 : Vec F S1x2048x128 .f32) (x7 : Vec F S128x256 .f32) (x8 : Vec F S1x256 .f32) (x9 : Vec F S1x1x512 .f32)

/-- The state block as the loop finds it. -/
def G0 (arg11 : Memref sig .tc .vmem S1x1x256x512 .f32) : BufTy.Contents (Elt F) arg11.view.ty :=
  arg11.view.writes (Elt F) arg11.view.junk [⟨Rect.unit (s := S1x1x256x512) ![0, 0, 0, 0] S1x1x256x512.size inb_S1x1x256x512_S1x1x256x512_0_0_0_0, k0_pay111 (F := F)⟩]

/-- The output block. -/
def OUT_Y : Vec F S1x2048x512 .bf16 :=
  arg10.view.read (Elt F) (arg10.view.writes (Elt F) arg10.view.junk (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) arg10.view.junk (G0 arg11) 32).1)

/-- A trip stores one chunk of rows in the output block, whatever the block holds. -/
theorem trip_Y (k : Fin k0_t1_loop.trips) (g : BufTy.Contents (Elt F) arg11.view.ty) :
    ∃ W, ∀ f : BufTy.Contents (Elt F) arg10.view.ty, (trip_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) k).1 f g
      = [⟨Rect.unit (s := S1x2048x512) (k0_off3 k) S1x64x512.size (k0_off3_inb k), W⟩] := by
  unfold trip_k0_t1
  exact ⟨_, fun f => rfl⟩

/-- What a trip stores in the state block. -/
theorem trip_S (k : Fin k0_t1_loop.trips) (f : BufTy.Contents (Elt F) arg10.view.ty) (g : BufTy.Contents (Elt F) arg11.view.ty) :
    (trip_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) k).2.1 f g
      = [⟨Rect.unit (s := S1x1x256x512) ![0, 0, 0, 0] S1x1x256x512.size inb_S1x1x256x512_S1x1x256x512_0_0_0_0, stepS x2 x3 x4 x5 x6 x7 x8 x9 k (arg11.view.read (Elt F) g)⟩] := by
  have e3 : arg3.view.readAt (Elt F) (Rect.unit (s := S1x2048x256) (k0_off2 k) S1x64x256.size (k0_off2_inb k)).toLoadRect (harg3.unread x3) = kAt x3 k := by
    funext j; exact congrFun (harg3.read_unread x3) _
  have e4 : arg4.view.readAt (Elt F) (Rect.unit (s := S1x2048x512) (k0_off3 k) S1x64x512.size (k0_off3_inb k)).toLoadRect (harg4.unread x4) = vAt x4 k := by
    funext j; exact congrFun (harg4.read_unread x4) _
  have e6 : arg6.view.readAt (Elt F) (Rect.unit (s := S1x2048x128) (k0_off1 k) S1x64x128.size (k0_off1_inb k)).toLoadRect (harg6.unread x6) = lrAt x6 k := by
    funext j; exact congrFun (harg6.read_unread x6) _
  have e11 : arg11.view.readAt (Elt F) (Rect.unit (s := S1x1x256x512) ![0, 0, 0, 0] S1x1x256x512.size inb_S1x1x256x512_S1x1x256x512_0_0_0_0).toLoadRect g
      = arg11.view.read (Elt F) g := View.readAt_full _ _ _
  unfold trip_k0_t1 stepS
  rw [← e3, ← e4, ← e6, ← e11]
  rfl

variable (G10 : BufTy.Contents (Elt F) arg10.view.ty) (G11 : BufTy.Contents (Elt F) arg11.view.ty)

/-- The state block before trip `n` of the loop. -/
theorem pb_S (hG : arg11.view.read (Elt F) G11 = k0_pay111 (F := F)) : ∀ n : ℕ, n ≤ k0_t1_loop.trips →
    arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10 G11 n).2) = St x2 x3 x4 x5 x6 x7 x8 x9 n
  | 0, _ => by rw [pb_k0_t1.eq_1]; exact hG
  | n + 1, h => by
    have ih := pb_S hG n (Nat.le_of_succ_le h)
    rw [pb_k0_t1_succ (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10 G11 ⟨n, h⟩]
    dsimp only [tripL_k0_t1]
    rw [trip_S, List.singleton_append, View.read_writes_full, ih]
    exact (St_succ x2 x3 x4 x5 x6 x7 x8 x9 n h).symm

/-- The pieces stored do not depend on what the output block held, and neither do the rows written. -/
theorem pb_Y (G10' : BufTy.Contents (Elt F) arg10.view.ty) : ∀ n : ℕ, n ≤ k0_t1_loop.trips →
    (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10 G11 n) = (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10' G11 n) ∧ ∀ y : S1x2048x512.Idx, (y 1).val < 64 * n →
      arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10 G11 n).1) y
        = arg10.view.read (Elt F) (arg10.view.writes (Elt F) G10' (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10' G11 n).1) y
  | 0, _ => ⟨by rw [pb_k0_t1.eq_1, pb_k0_t1.eq_1], fun y hy => absurd hy (by omega)⟩
  | n + 1, h => by
    obtain ⟨ih1, ih2⟩ := pb_Y G10' n (Nat.le_of_succ_le h)
    rw [pb_k0_t1_succ (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10 G11 ⟨n, h⟩, pb_k0_t1_succ (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10' G11 ⟨n, h⟩]
    dsimp only [tripL_k0_t1]
    rw [trip_S, trip_S]
    rw [ih1] at ih2 ⊢
    obtain ⟨W, hW⟩ := trip_Y c i arg2 harg2 arg3 harg3 arg4 harg4 arg5 harg5 arg6 harg6 arg7 harg7 arg8 harg8 arg9 harg9 arg10 harg10 arg11 harg11 x2 x3 x4 x5 x6 x7 x8 x9 ⟨n, h⟩ (arg11.view.writes (Elt F) G11 (pb_k0_t1 (F := F) Variants.none c none i arg2 harg2 arg3 harg3 arg4 harg4 arg5 harg5 arg6 harg6 arg7 harg7 arg8 harg8 arg9 harg9 arg10 harg10 arg11 harg11 (iota .tc S64x64 32 [0] iota_S64x64_d0_w32) (iota .tc S64x64 32 [1] iota_S64x64_d1_w32) (k0_pay112 (F := F)) (k0_pay116 (iota .tc S64x64 32 [1] iota_S64x64_d1_w32) k0_pay113 16#32 k0_pay114 k0_pay115) (k0_pay117 (F := F)) (k0_pay118 (F := F)) (iota .tc S16x1 32 [0] iota_S16x1_d0_w32) (iota .tc S16x16 32 [1] iota_S16x16_d1_w32) (k0_pay119 x7) (k0_pay120 x8) x9 (harg2.unread x2) (harg3.unread x3) (harg4.unread x4) (harg5.unread x5) (harg6.unread x6) G10' G11 n).2)
    simp only [hW, List.singleton_append]
    refine ⟨trivial, fun y hy => ?_⟩
    by_cases hn : (y 1).val < 64 * n
    · rw [View.read_writes_cons_miss_of_axis _ _ _ _ y 1 (64 * n) 64 (congrFun (off3 ⟨n, h⟩) 1) rfl rfl (Or.inl hn),
        View.read_writes_cons_miss_of_axis _ _ _ _ y 1 (64 * n) 64 (congrFun (off3 ⟨n, h⟩) 1) rfl rfl (Or.inl hn)]
      exact ih2 y hn
    · have hit : ∀ a, (y a).val = ((Rect.unit (s := S1x2048x512) (k0_off3 ⟨n, h⟩) S1x64x512.size (k0_off3_inb ⟨n, h⟩)).emb
          (fun a => match a with
            | ⟨0, _⟩ => ⟨0, Nat.one_pos⟩
            | ⟨1, _⟩ => ⟨(y 1).val - 64 * n, by show _ < 64; omega⟩
            | ⟨2, _⟩ => y 2) a).val := by
        intro a
        have ho := congrFun (off3 ⟨n, h⟩) a
        show (y a).val = k0_off3 ⟨n, h⟩ a + 1 * _
        rw [ho]
        match a with
        | ⟨0, _⟩ => have : (y 0).val < 1 := (y 0).isLt; show (y 0).val = 0 + 1 * 0; omega
        | ⟨1, _⟩ => show (y 1).val = 64 * n + 1 * ((y 1).val - 64 * n); omega
        | ⟨2, _⟩ => show (y 2).val = 0 + 1 * (y 2).val; omega
      exact (View.read_writes_cons_hit_of_coords _ _ _ _ _ _ y hit).trans (View.read_writes_cons_hit_of_coords _ _ _ _ _ _ y hit).symm

end Cert.StatePIdeal.Own

end
-- ==== Proof.StatePWpI.lean ====
module

public import proofs.«01_k».proof.Proof.StatePBodyI
public import Idealize.ShloMosaic.Lib.Claim

@[expose] public section

set_option maxRecDepth 16384

open Idealize.ShloMosaic.Pipeline (Dat Cfg Window BodyObligation cellOf)

noncomputable section

/-! The run of the prompt's gated linear attention: the body at a grid point, and the launch. -/

namespace Cert.StatePIdeal.Own

open Cert.StatePIdeal Cert.StatePIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at a grid point leaves the output block and the state block at the values stated for them, whatever they held. -/
theorem body_wp (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x2048x128 .f32) (harg6 : arg6.IsWhole) (arg7 : Memref sig .tc .vmem S128x256 .f32) (harg7 : arg7.IsWhole) (arg8 : Memref sig .tc .vmem S1x256 .f32) (harg8 : arg8.IsWhole) (arg9 : Memref sig .tc .vmem S1x1x512 .f32) (harg9 : arg9.IsWhole) (arg10 : Memref sig .tc .vmem S1x2048x512 .bf16) (harg10 : arg10.IsWhole) (arg11 : Memref sig .tc .vmem S1x1x256x512 .f32) (harg11 : arg11.IsWhole)
    (x2 : Vec F S1x2048x256 .f32) (x3 : Vec F S1x2048x256 .f32) (x4 : Vec F S1x2048x512 .f32) (x5 : Vec F S1x2048x512 .f32) (x6 : Vec F S1x2048x128 .f32) (x7 : Vec F S128x256 .f32) (x8 : Vec F S1x256 .f32) (x9 : Vec F S1x1x512 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (OUT_Y c i arg2 harg2 arg3 harg3 arg4 harg4 arg5 harg5 arg6 harg6 arg7 harg7 arg8 harg8 arg9 harg9 arg10 harg10 arg11 harg11 x2 x3 x4 x5 x6 x7 x8 x9)
            ∗ owns (c : Thread nD τ) arg11 fullShare (St x2 x3 x4 x5 x6 x7 x8 x9 32)) -∗ K ⟨⟩))
      ⊢ wp frame (wpE (defs₀ (F := F)) Variants.none c none) E (cc0_gla i arg2 harg2 arg3 harg3 arg4 harg4 arg5 harg5 arg6 harg6 arg7 harg7 arg8 harg8 arg9 harg9 arg10 harg10 arg11 harg11) K := by
  simp only [cc0_gla_eq_skeleton]; unfold cc0_gla_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap
    · iexact H10
    ipureintro
    have e7 : arg7.view.readAt (Elt F) (Rect.unit (s := S128x256) ![0, 0] S128x256.size inb_S128x256_S128x256_0_0).toLoadRect (harg7.unread x7) = x7 :=
      (View.readAt_full _ _ _).trans (harg7.read_unread x7)
    have e8 : arg8.view.readAt (Elt F) (Rect.unit (s := S1x256) ![0, 0] S1x256.size inb_S1x256_S1x256_0_0).toLoadRect (harg8.unread x8) = x8 :=
      (View.readAt_full _ _ _).trans (harg8.read_unread x8)
    have e9 : arg9.view.readAt (Elt F) (Rect.unit (s := S1x1x512) ![0, 0, 0] S1x1x512.size inb_S1x1x512_S1x1x512_0_0_0).toLoadRect (harg9.unread x9) = x9 :=
      (View.readAt_full _ _ _).trans (harg9.read_unread x9)
    have eG : arg11.view.read (Elt F) (G0 (F := F) arg11) = k0_pay111 (F := F) :=
      View.read_writes_full _ _ _ _ _
    have r1 : body_wp.sl.r_1 c arg7 harg7 x7 = k0_pay119 x7 := by unfold body_wp.sl.r_1; exact congrArg k0_pay119 e7
    have r2 : body_wp.sl.r_2 c arg8 harg8 x8 = k0_pay120 x8 := by unfold body_wp.sl.r_2; exact congrArg k0_pay120 e8
    rw [r1, r2, e9]
    funext y
    exact (pb_Y c i arg2 harg2 arg3 harg3 arg4 harg4 arg5 harg5 arg6 harg6 arg7 harg7 arg8 harg8 arg9 harg9 arg10 harg10 arg11 harg11 x2 x3 x4 x5 x6 x7 x8 x9 f10 (G0 arg11) arg10.view.junk 32 (le_of_eq trips32.symm)).2 y (y 1).isLt
  · iexists _; isplitr; swap
    · iexact H11
    ipureintro
    have e7 : arg7.view.readAt (Elt F) (Rect.unit (s := S128x256) ![0, 0] S128x256.size inb_S128x256_S128x256_0_0).toLoadRect (harg7.unread x7) = x7 :=
      (View.readAt_full _ _ _).trans (harg7.read_unread x7)
    have e8 : arg8.view.readAt (Elt F) (Rect.unit (s := S1x256) ![0, 0] S1x256.size inb_S1x256_S1x256_0_0).toLoadRect (harg8.unread x8) = x8 :=
      (View.readAt_full _ _ _).trans (harg8.read_unread x8)
    have e9 : arg9.view.readAt (Elt F) (Rect.unit (s := S1x1x512) ![0, 0, 0] S1x1x512.size inb_S1x1x512_S1x1x512_0_0_0).toLoadRect (harg9.unread x9) = x9 :=
      (View.readAt_full _ _ _).trans (harg9.read_unread x9)
    have eG : arg11.view.read (Elt F) (G0 (F := F) arg11) = k0_pay111 (F := F) :=
      View.read_writes_full _ _ _ _ _
    have r1 : body_wp.sl.r_1 c arg7 harg7 x7 = k0_pay119 x7 := by unfold body_wp.sl.r_1; exact congrArg k0_pay119 e7
    have r2 : body_wp.sl.r_2 c arg8 harg8 x8 = k0_pay120 x8 := by unfold body_wp.sl.r_2; exact congrArg k0_pay120 e8
    rw [r1, r2, e9, View.writes_append]
    exact pb_S c i arg2 harg2 arg3 harg3 arg4 harg4 arg5 harg5 arg6 harg6 arg7 harg7 arg8 harg8 arg9 harg9 arg10 harg10 arg11 harg11 x2 x3 x4 x5 x6 x7 x8 x9 f10 (G0 arg11) eG 32 (le_of_eq trips32.symm)

variable (m : (ℓ : Loc nD τ sig) → Buf (Elt F) ℓ) (ρ : Dev nD → PrngReg)

/-- What the gated linear attention leaves in its output block at grid point `t`. -/
def outY (c : Dev nD) (t : Fin cfg0.N) : Vec F S1x2048x512 .bf16 := OUT_Y c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t)

/-- What the gated linear attention leaves in its state block at grid point `t`. -/
def outS (c : Dev nD) (t : Fin cfg0.N) : Vec F S1x1x256x512 .f32 := St (iblk m c 0 t) (iblk m c 1 t) (iblk m c 2 t) (iblk m c 3 t) (iblk m c 4 t) (iblk m c 5 t) (iblk m c 6 t) (iblk m c 7 t) 32

/-- The pipeline on core `c`: its arrays as the region finds them, the blocks read left in place, the two outputs at the stated values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY m c t
    | ⟨9, _⟩ => outS m c t
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by dsimp only [dats]

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- Window 7 after the body. -/
theorem after0_7 (c : Dev nD) (t : Fin cfg0.N) : (dats m 0 c).after 7 t = iblk m c 7 t := by dsimp only [dats]
/-- Window 8 after the body. -/
theorem after0_8 (c : Dev nD) (t : Fin cfg0.N) : (dats m 0 c).after 8 t = outY m c t := by dsimp only [dats]
/-- Window 9 after the body. -/
theorem after0_9 (c : Dev nD) (t : Fin cfg0.N) : (dats m 0 c).after 9 t = outS m c t := by dsimp only [dats]

/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d
/-- Window 7 before the body. -/
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outY outS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_wp c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the pipeline's data say, and the counters end at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run, with the result array named. -/
theorem run_arrays : θ_run defs (onTc (τ := τ) (main (F := F))) ⟨m, fun _ => 0, ρ⟩ fun r => ∀ c : Dev nD,
      r.2.mem ((c.tc : Thread nD τ).loc main_v4_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 9,
      ((h.1 c).1 3).trans (((dats m 0 c).arrAt_in 3 rfl _).trans ((A_eq m c 3).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩)
    (run_main_quiescent m ρ)

end Cert.StatePIdeal.Own

end
-- ==== Proof.StatePKer.lean ====
module

public import proofs.«01_k».proof.Proof.StatePWpI
public import proofs.«01_k».proof.Proof.StatePRef
public import Idealize.ShloMosaic.Lib.Pipeline.ValueKit

@[expose] public section

set_option maxRecDepth 16384

noncomputable section

/-! The state the kernel of the prompt's gated linear attention leaves, entry by entry, is the reference's. -/

namespace Cert.StatePIdeal.Own

open Cert.StatePIdeal Cert.StatePIdeal.Gen Idealize.ShloMosaic Idealize.ShloMosaic.TcCoe Idealize.SL.Sem
open Cert.StateCRefIdeal.Own (DEC)
open Cert.StatePRefIdeal.Own (PRE LA KP VP row CUM NEW ST_succ SN cum_last)

/-- The grid's points: `t` is head `t % 4` of sequence `t / 4`. -/
theorem idx : ∀ t : Fin cfg0.N, win0_1.index t = ![t.val / 4, 0, 4 + t.val % 4]
    ∧ win0_2.index t = ![t.val / 4, 0, 4 + t.val % 4] ∧ win0_4.index t = ![t.val / 4, 0, 0] ∧ win0_5.index t = ![0, t.val % 4]
    ∧ win0_6.index t = ![0, t.val % 4] ∧ win0_9.index t = ![t.val / 4, t.val % 4, 0, 0] :=
  (by decide +kernel : ∀ t : Fin grid0.N, _)

/-- There are 16 points. -/
theorem points (t : Fin cfg0.N) : t.val < 16 := t.isLt

/-- Point `t`'s sequence. -/
def bt (t : Fin cfg0.N) : Fin 4 := ⟨t.val / 4, by have := points t; omega⟩

/-- Point `t`'s head. -/
def ht (t : Fin cfg0.N) : Fin 4 := ⟨t.val % 4, by omega⟩

/-! ### A chunk's rows -/

/-- A trip's number. -/
def k32 (k : Fin k0_t1_loop.trips) : Fin 32 := ⟨k.val, Nat.lt_of_lt_of_eq k.isLt trips32⟩

/-- A trip reads the gates' inputs from row 64 times its number. -/
theorem off1 : ∀ k : Fin k0_t1_loop.trips, k0_off1 k = ![0, 64 * k.val, 0] := by decide +kernel

/-- A trip reads the keys from row 64 times its number. -/
theorem off2 : ∀ k : Fin k0_t1_loop.trips, k0_off2 k = ![0, 64 * k.val, 0] := by decide +kernel

/-- The rows of the gates' inputs a trip reads. -/
theorem lrAt_at (x : FVec Ideal S1x2048x128 .f32) (k : Fin k0_t1_loop.trips) (r : Fin 64) (e : Fin 128) : lrAt (F := Ideal) x k (ix3 0 r e) = x (ix3 0 (row (k32 k) r) e) := by
  unfold lrAt
  refine congrArg x (funext fun a => Fin.ext ?_)
  match a with
  | ⟨0, _⟩ =>
    show k0_off1 k (0 : Fin 3) + 1 * 0 = 0
    rw [off1]
    rfl
  | ⟨1, _⟩ =>
    show k0_off1 k (1 : Fin 3) + 1 * r.val = k.val * 64 + r.val
    rw [off1]
    show 64 * k.val + 1 * r.val = k.val * 64 + r.val
    omega
  | ⟨2, _⟩ =>
    show k0_off1 k (2 : Fin 3) + 1 * e.val = e.val
    rw [off1]
    show 0 + 1 * e.val = e.val
    omega

/-- The rows of the keys a trip reads. -/
theorem kAt_at (x : FVec Ideal S1x2048x256 .f32) (k : Fin k0_t1_loop.trips) (r : Fin 64) (e : Fin 256) : kAt (F := Ideal) x k (ix3 0 r e) = x (ix3 0 (row (k32 k) r) e) := by
  unfold kAt
  refine congrArg x (funext fun a => Fin.ext ?_)
  match a with
  | ⟨0, _⟩ =>
    show k0_off2 k (0 : Fin 3) + 1 * 0 = 0
    rw [off2]
    rfl
  | ⟨1, _⟩ =>
    show k0_off2 k (1 : Fin 3) + 1 * r.val = k.val * 64 + r.val
    rw [off2]
    show 64 * k.val + 1 * r.val = k.val * 64 + r.val
    omega
  | ⟨2, _⟩ =>
    show k0_off2 k (2 : Fin 3) + 1 * e.val = e.val
    rw [off2]
    show 0 + 1 * e.val = e.val
    omega

/-- The rows of the values a trip reads. -/
theorem vAt_at (x : FVec Ideal S1x2048x512 .f32) (k : Fin k0_t1_loop.trips) (r : Fin 64) (e : Fin 512) : vAt (F := Ideal) x k (ix3 0 r e) = x (ix3 0 (row (k32 k) r) e) := by
  unfold vAt
  refine congrArg x (funext fun a => Fin.ext ?_)
  match a with
  | ⟨0, _⟩ =>
    show k0_off3 k (0 : Fin 3) + 1 * 0 = 0
    rw [off3]
    rfl
  | ⟨1, _⟩ =>
    show k0_off3 k (1 : Fin 3) + 1 * r.val = k.val * 64 + r.val
    rw [off3]
    show 64 * k.val + 1 * r.val = k.val * 64 + r.val
    omega
  | ⟨2, _⟩ =>
    show k0_off3 k (2 : Fin 3) + 1 * e.val = e.val
    rw [off3]
    show 0 + 1 * e.val = e.val
    omega

/-! ### One trip -/

/-- The log decays, entry by entry. -/
theorem la_at (w : FVec Ideal S128x256 .f32) (g : FVec Ideal S1x256 .f32) (l : FVec Ideal S1x64x128 .f32) (r : Fin 64) (d : Fin 256) :
    k0_pay3 (F := Ideal) (k0_pay119 (F := Ideal) w) (k0_pay120 (F := Ideal) g) l (ix2 r d) = DEC ((∑ j : Fin 128, l (ix3 0 r j) * w (ix2 j d)) + g (ix2 0 d)) := by
  pointwise [k0_pay3, k0_pay119, k0_pay120]
  generalize (∑ j : Fin 128, l (ix3 0 r j) * w (ix2 j d)) + g (ix2 0 d) = p
  show Ideal.div (0 - (max (0 - p) 0 + Ideal.log1p (Ideal.exp (0 - max p (-p))))) (Ideal.ofBits FTy.f32 1098907648#32) = _
  rw [zero_sub, zero_sub, zero_sub, max_comm p]
  rfl

/-- The running log decays, entry by entry. -/
theorem cum_at (w : FVec Ideal S128x256 .f32) (g : FVec Ideal S1x256 .f32) (l : FVec Ideal S1x64x128 .f32) (r : Fin 64) (d : Fin 256) :
    k0_pay4 (F := Ideal) (k0_pay112 (F := Ideal)) w g l (ix2 r d) = CUM (fun n => k0_pay3 (F := Ideal) w g l (ix2 n d)) r.val := by
  unfold k0_pay4 CUM
  generalize k0_pay3 (F := Ideal) w g l = A
  pointwise [k0_pay112]
  refine Finset.sum_congr rfl fun n _ => ?_
  by_cases hr : n.val ≤ r.val
  · rw [if_pos hr, (by decide +kernel : ∀ r n : Fin 64, n.val ≤ r.val → BitVec.setWidth 32 (IntOp.cmpi CmpIPredicate.sge (BitVec.ofNat 32 r.val) (BitVec.ofNat 32 n.val)) = 1#32) r n hr]
    rw [show (FloatOps.sitofp (F := Ideal) FTy.f32 1#32 : EReal) = 1 from congrArg (fun x : ℝ => (x : EReal)) (by norm_num : (((1#32 : BitVec 32).toInt : ℤ) : ℝ) = 1)]
    exact one_mul _
  · rw [if_neg hr, (by decide +kernel : ∀ r n : Fin 64, ¬ n.val ≤ r.val → BitVec.setWidth 32 (IntOp.cmpi CmpIPredicate.sge (BitVec.ofNat 32 r.val) (BitVec.ofNat 32 n.val)) = 0#32) r n hr]
    rw [show (FloatOps.sitofp (F := Ideal) FTy.f32 0#32 : EReal) = 0 from congrArg (fun x : ℝ => (x : EReal)) (by norm_num : (((0#32 : BitVec 32).toInt : ℤ) : ℝ) = 0)]
    exact zero_mul _

/-- The last running log decay. -/
theorem last_at (B : FVec Ideal S64x256 .f32) (d : Fin 256) : k0_pay9 (F := Ideal) B (ix2 0 d) = B (ix2 63 d) := by
  pointwise [k0_pay9]

/-- The block of new states, entry by entry. -/
theorem st_at (A B : FVec Ideal S64x256 .f32) (L : FVec Ideal S1x256 .f32) (K : FVec Ideal S1x64x256 .f32) (W : FVec Ideal S1x64x512 .f32) (s : FVec Ideal S1x1x256x512 .f32) (d : Fin 256) (e : Fin 512) :
    k0_pay107 (F := Ideal) (k0_pay117 (F := Ideal)) A B (k0_pay6 (F := Ideal) K) (k0_pay7 (F := Ideal) W) (k0_pay8 (F := Ideal) s) L (ix4 0 0 d e)
      = Ideal.exp (∑ n : Fin 64, A (ix2 n d)) * s (ix4 0 0 d e)
        + ∑ n : Fin 64, K (ix3 0 n d) * Ideal.exp (L (ix2 0 d) - B (ix2 n d)) * W (ix3 0 n e) := by
  pointwise [k0_pay107, k0_pay117, k0_pay6, k0_pay7, k0_pay8]
  simp only [dite_eq_ite, ite_self]

/-- The log decays of a point's rows, from its blocks. -/
def LB (x6 : FVec Ideal S1x2048x128 .f32) (x7 : FVec Ideal S128x256 .f32) (x8 : FVec Ideal S1x256 .f32) (d : Fin 256) (r : Fin 2048) : EReal :=
  DEC ((∑ j : Fin 128, x6 (ix3 0 r j) * x7 (ix2 j d)) + x8 (ix2 0 d))

section
variable (x2 x3 : FVec Ideal S1x2048x256 .f32) (x4 x5 : FVec Ideal S1x2048x512 .f32) (x6 : FVec Ideal S1x2048x128 .f32)
  (x7 : FVec Ideal S128x256 .f32) (x8 : FVec Ideal S1x256 .f32) (x9 : FVec Ideal S1x1x512 .f32)

/-- A trip's new state, entry by entry. -/
theorem stepS_at (k : Fin k0_t1_loop.trips) (s : FVec Ideal S1x1x256x512 .f32) (d : Fin 256) (e : Fin 512) :
    stepS (F := Ideal) x2 x3 x4 x5 x6 x7 x8 x9 k s (ix4 0 0 d e)
      = NEW (fun r => LB x6 x7 x8 d (row (k32 k) r)) (fun r => x3 (ix3 0 (row (k32 k) r) d)) (fun r => x4 (ix3 0 (row (k32 k) r) e)) (s (ix4 0 0 d e)) := by
  unfold stepS
  refine (st_at _ _ _ _ _ _ d e).trans ?_
  have hl : ∀ r : Fin 64, k0_pay3 (F := Ideal) (k0_pay119 (F := Ideal) x7) (k0_pay120 (F := Ideal) x8) (lrAt x6 k) (ix2 r d) = LB x6 x7 x8 d (row (k32 k) r) := fun r => by
    refine (la_at x7 x8 _ r d).trans ?_
    unfold LB
    exact congrArg DEC (congrArg (· + _) (Finset.sum_congr rfl fun j _ => congrArg (· * _) (lrAt_at x6 k r j)))
  have hc : ∀ r : Fin 64, k0_pay4 (F := Ideal) (k0_pay112 (F := Ideal)) (k0_pay119 (F := Ideal) x7) (k0_pay120 (F := Ideal) x8) (lrAt x6 k) (ix2 r d)
      = CUM (fun n => LB x6 x7 x8 d (row (k32 k) n)) r.val := fun r =>
    (cum_at _ _ _ r d).trans (congrArg (fun a => CUM a r.val) (funext hl))
  have ht : k0_pay9 (F := Ideal) (k0_pay4 (F := Ideal) (k0_pay112 (F := Ideal)) (k0_pay119 (F := Ideal) x7) (k0_pay120 (F := Ideal) x8) (lrAt x6 k)) (ix2 0 d)
      = ∑ n, LB x6 x7 x8 d (row (k32 k) n) := (last_at _ d).trans ((hc 63).trans (cum_last _))
  unfold NEW
  rw [ht, Finset.sum_congr rfl fun n _ => hl n]
  refine congrArg (_ + ·) (Finset.sum_congr rfl fun n _ => ?_)
  rw [hc, kAt_at, vAt_at]

/-- The state before trip `n`, entry by entry. -/
theorem St_at : ∀ n : ℕ, n ≤ 32 → ∀ (d : Fin 256) (e : Fin 512), St (F := Ideal) x2 x3 x4 x5 x6 x7 x8 x9 n (ix4 0 0 d e)
    = Cert.StatePRefIdeal.Own.ST (LB x6 x7 x8 d) (fun r => x3 (ix3 0 r d)) (fun r => x4 (ix3 0 r e)) n
  | 0, _, d, e => by
    unfold St Cert.StatePRefIdeal.Own.ST
    pointwise [k0_pay111]
  | n + 1, h, d, e => by
    have hn : n < k0_t1_loop.trips := by rw [trips32]; exact h
    rw [St_succ _ _ _ _ _ _ _ _ n hn]
    refine (stepS_at x2 x3 x4 x5 x6 x7 x8 x9 ⟨n, hn⟩ _ d e).trans ?_
    rw [St_at n (Nat.le_of_succ_le h) d e]
    exact (ST_succ (LB x6 x7 x8 d) (fun r => x3 (ix3 0 r d)) (fun r => x4 (ix3 0 r e)) ⟨n, h⟩).symm

end

variable (m : (ℓ : Loc nD τ sig) → Buf (Elt Ideal) ℓ)

/-! ### The padded arrays -/

/-- The gates' inputs, padded to 128 columns. -/
theorem V_l (c : Dev nD) : V m c main_v0 = pad S4x2048x128 ![0, 0, 0] ![0, 0, 112] ![0, 0, 0] (m ((c.tc : Thread nD τ).loc main_arg1)) (sitofp (F := Ideal) .f32 (constantI S_ 32 0#32)) pads_S4x2048x16_S4x2048x128_000_000_01120 h_S_ := by
  unfold V
  simp only [List.flatten_cons, List.flatten_nil, List.append_nil, List.cons_append, List.nil_append]
  entry_read
  rfl

/-- The gates' weights, padded to 128 rows. -/
theorem V_w (c : Dev nD) : V m c main_v1 = pad S128x1024 ![0, 0] ![112, 0] ![0, 0] (m ((c.tc : Thread nD τ).loc main_arg2)) (sitofp (F := Ideal) .f32 (constantI S_ 32 0#32)) pads_S16x1024_S128x1024_01120_000 h_S_ := by
  unfold V
  simp only [List.flatten_cons, List.flatten_nil, List.append_nil, List.cons_append, List.nil_append]
  entry_read
  rfl

/-- The gates' bias, as a row. -/
theorem V_g (c : Dev nD) (e : Fin 1024) : V m c main_v2 (ix2 0 e) = (m ((c.tc : Thread nD τ).loc main_arg3)) (ix1 e) := by
  unfold V
  simp only [List.flatten_cons, List.flatten_nil, List.append_nil, List.cons_append, List.nil_append]
  entry_read
  pointwise []

/-- What the padding holds is zero. -/
theorem fill : (((0#32 : BitVec 32).toInt : ℝ) : EReal) = 0 :=
  congrArg (fun x : ℝ => (x : EReal)) (by norm_num : (((0#32 : BitVec 32).toInt : ℤ) : ℝ) = 0)

/-- A padded row of the gates' inputs. -/
theorem V_lrow (c : Dev nD) (b : Fin 4) (r : Fin 2048) (j : Fin 128) :
    V m c main_v0 (ix3 b r j) = if h : j.val < 16 then (m ((c.tc : Thread nD τ).loc main_arg1)) (ix3 b r ⟨j.val, h⟩) else (0 : EReal) := by
  rw [V_l]
  pointwise []
  by_cases hj : j.val < 16
  · rw [dif_pos hj, dif_pos]
    intro a
    match a with
    | ⟨0, _⟩ => exact ⟨Nat.zero_le _, Nat.mod_one _, by show (b.val - 0) / (0 + 1) < 4; omega⟩
    | ⟨1, _⟩ => exact ⟨Nat.zero_le _, Nat.mod_one _, by show (r.val - 0) / (0 + 1) < 2048; omega⟩
    | ⟨2, _⟩ => exact ⟨Nat.zero_le _, Nat.mod_one _, by show (j.val - 0) / (0 + 1) < 16; omega⟩
  · rw [dif_neg hj, dif_neg]
    · exact fill
    · intro h
      have h1 : (j.val - 0) / (0 + 1) < 16 := (h (2 : Fin 3)).2.2
      omega

/-- A padded column of the gates' weights. -/
theorem V_wcol (c : Dev nD) (j : Fin 128) (e : Fin 1024) :
    V m c main_v1 (ix2 j e) = if h : j.val < 16 then (m ((c.tc : Thread nD τ).loc main_arg2)) (ix2 ⟨j.val, h⟩ e) else (0 : EReal) := by
  rw [V_w]
  pointwise []
  by_cases hj : j.val < 16
  · rw [dif_pos hj, dif_pos]
    intro a
    match a with
    | ⟨0, _⟩ => exact ⟨Nat.zero_le _, Nat.mod_one _, by show (j.val - 0) / (0 + 1) < 16; omega⟩
    | ⟨1, _⟩ => exact ⟨Nat.zero_le _, Nat.mod_one _, by show (e.val - 0) / (0 + 1) < 1024; omega⟩
  · rw [dif_neg hj, dif_neg]
    · exact fill
    · intro h
      have h1 : (j.val - 0) / (0 + 1) < 16 := (h (0 : Fin 2)).2.2
      omega

/-! ### The blocks -/

/-- The block of keys. -/
theorem blk1 (c : Dev nD) (t : Fin cfg0.N) (r : Fin 2048) (x : Fin 256) : iblk m c 1 t (ix3 0 r x) = KP (m ((c.tc : Thread nD τ).loc main_arg0)) (bt t) (ht t) x r := by
  obtain ⟨e1, _⟩ := idx t
  unfold KP
  rw [← V_main_arg0 m c]
  blk_point [iblk, e1, bt, ht]

/-- The block of values. -/
theorem blk2 (c : Dev nD) (t : Fin cfg0.N) (r : Fin 2048) (x : Fin 512) : iblk m c 2 t (ix3 0 r x) = VP (m ((c.tc : Thread nD τ).loc main_arg0)) (bt t) (ht t) x r := by
  obtain ⟨_, e2, _⟩ := idx t
  unfold VP
  rw [← V_main_arg0 m c]
  blk_point [iblk, e2, bt, ht]

/-- The block of the gates' inputs. -/
theorem blk4 (c : Dev nD) (t : Fin cfg0.N) (r : Fin 2048) (x : Fin 128) : iblk m c 4 t (ix3 0 r x) = V m c main_v0 (ix3 (bt t) r x) := by
  obtain ⟨_, _, e4, _⟩ := idx t
  blk_point [iblk, e4, bt]

/-- The block of the gates' weights. -/
theorem blk5 (c : Dev nD) (t : Fin cfg0.N) (j : Fin 128) (x : Fin 256) :
    iblk m c 5 t (ix2 j x) = V m c main_v1 (ix2 j ⟨(ht t).val * 256 + x.val, by omega⟩) := by
  obtain ⟨_, _, _, e5, _⟩ := idx t
  blk_point [iblk, e5, ht]

/-- The block of the gates' bias. -/
theorem blk6 (c : Dev nD) (t : Fin cfg0.N) (x : Fin 256) :
    iblk m c 6 t (ix2 0 x) = V m c main_v2 (ix2 0 ⟨(ht t).val * 256 + x.val, by omega⟩) := by
  obtain ⟨_, _, _, _, e6, _⟩ := idx t
  blk_point [iblk, e6, ht]

/-- A sum of 128 terms, all but the first sixteen zero. -/
theorem first16 (f : Fin 128 → EReal) (h : ∀ n : Fin 128, ¬ n.val < 16 → f n = 0) : ∑ n : Fin 128, f n = ∑ n : Fin 16, f ⟨n.val, by omega⟩ := by
  refine (Fin.sum_univ_add (a := 16) (b := 112) f).trans ?_
  rw [Finset.sum_eq_zero (fun (i : Fin 112) _ => h (Fin.natAdd 16 i) (by simp [Fin.natAdd])), add_zero]
  rfl

/-- A point's log decays are the reference's. -/
theorem LB_eq (c : Dev nD) (t : Fin cfg0.N) (d : Fin 256) : LB (iblk m c 4 t) (iblk m c 5 t) (iblk m c 6 t) d = LA (m ((c.tc : Thread nD τ).loc main_arg1)) (m ((c.tc : Thread nD τ).loc main_arg2)) (m ((c.tc : Thread nD τ).loc main_arg3)) (bt t) (ht t) d := by
  funext r
  unfold LB LA PRE
  refine congrArg DEC ?_
  rw [blk6, V_g, first16]
  · refine congrArg (· + _) (Finset.sum_congr rfl fun j _ => ?_)
    rw [blk4, blk5, V_lrow, V_wcol, dif_pos j.isLt, dif_pos j.isLt]
  · intro j hj
    rw [blk5, V_wcol, dif_neg hj, mul_zero]

/-- The state a point leaves, entry by entry. -/
theorem outS_at (c : Dev nD) (t : Fin cfg0.N) (d : Fin 256) (e : Fin 512) : outS m c t (ix4 0 0 d e) = SN (m ((c.tc : Thread nD τ).loc main_arg0)) (m ((c.tc : Thread nD τ).loc main_arg1)) (m ((c.tc : Thread nD τ).loc main_arg2)) (m ((c.tc : Thread nD τ).loc main_arg3)) 32 (ix4 (bt t) (ht t) d e) := by
  unfold outS
  rw [St_at _ _ _ _ _ _ _ _ 32 (le_refl _), LB_eq m c t]
  exact congrArg₂ (fun k v => Cert.StatePRefIdeal.Own.ST _ k v 32) (funext fun r => blk1 m c t r d) (funext fun r => blk2 m c t r e)

/-- The array the run leaves. -/
theorem final (c : Dev nD) : (dats m 0 c).arrAt 9 cfg0.N = SN (m ((c.tc : Thread nD τ).loc main_arg0)) (m ((c.tc : Thread nD τ).loc main_arg1)) (m ((c.tc : Thread nD τ).loc main_arg2)) (m ((c.tc : Thread nD τ).loc main_arg3)) 32 := by
  refine (dats m 0 c).arrAt_eq_of_covers 9 _ (by decide +kernel) fun t _ y => ?_
  blk_simp
  rw [after0_9]
  revert y
  show ∀ y : S1x1x256x512.Idx, _
  intro y
  obtain ⟨_, _, _, _, _, e9⟩ := idx t
  idx_vars y
  have h0 : ((win0_9.blk t).view.emb (ix4 y0 y1 y2 y3) 0).val = win0_9.index t (0 : Fin 4) * 1 + 1 * y0.val := rfl
  have h1 : ((win0_9.blk t).view.emb (ix4 y0 y1 y2 y3) 1).val = win0_9.index t (1 : Fin 4) * 1 + 1 * y1.val := rfl
  have h2 : ((win0_9.blk t).view.emb (ix4 y0 y1 y2 y3) 2).val = win0_9.index t (2 : Fin 4) * 256 + 1 * y2.val := rfl
  have h3 : ((win0_9.blk t).view.emb (ix4 y0 y1 y2 y3) 3).val = win0_9.index t (3 : Fin 4) * 512 + 1 * y3.val := rfl
  rw [e9] at h0 h1 h2 h3
  simp only [Matrix.cons_val_zero, Matrix.cons_val_one, Matrix.cons_val] at h0 h1 h2 h3
  obtain rfl : y0 = 0 := Subsingleton.elim _ _
  obtain rfl : y1 = 0 := Subsingleton.elim _ _
  refine (outS_at m c t y2 y3).trans (congrArg (SN _ _ _ _ 32) (funext fun a => Fin.ext ?_))
  match a with
  | ⟨0, _⟩ => exact (h0.trans (by show t.val / 4 * 1 + 1 * 0 = t.val / 4; omega)).symm
  | ⟨1, _⟩ => exact (h1.trans (by show t.val % 4 * 1 + 1 * 0 = t.val % 4; omega)).symm
  | ⟨2, _⟩ => exact (h2.trans (by show 0 * 256 + 1 * y2.val = y2.val; omega)).symm
  | ⟨3, _⟩ => exact (h3.trans (by show 0 * 512 + 1 * y3.val = y3.val; omega)).symm

/-- The kernel's run leaves the states after the last chunk, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v4_1) = SN (m ((c.tc : Thread nD τ).loc main_arg0)) (m ((c.tc : Thread nD τ).loc main_arg1)) (m ((c.tc : Thread nD τ).loc main_arg2)) (m ((c.tc : Thread nD τ).loc main_arg3)) 32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (final m c), (h c).2⟩) (run_arrays m ρ)

end Cert.StatePIdeal.Own

end
-- ==== Proof.RetBodyI.lean ====
module

public import proofs.«01_k».proof.Proof.Gen.KernelIdeal.Frame.Runs
public import Idealize.ShloMosaic.Lib.VecWindow

@[expose] public section

set_option maxRecDepth 16384

noncomputable section

/-! What one grid point of the retention leaves in its two output blocks, as functions of the blocks it reads. -/

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Chunk `k`'s rows of a rotary table. -/
def tabAt (x : Vec F S2048x128 .f32) (k : Fin k0_t1_loop.trips) : Vec F S128x128 .f32 :=
  fun j => x ((Rect.unit (s := S2048x128) (k0_off2 k) S128x128.size (k0_off2_inb k)).emb j)

/-- Chunk `k`'s rows of the queries or keys. -/
def qkAt (x : Vec F S1x2048x256 .f32) (k : Fin k0_t1_loop.trips) : Vec F S1x128x256 .f32 :=
  fun j => x ((Rect.unit (s := S1x2048x256) (k0_off3 k) S1x128x256.size (k0_off3_inb k)).emb j)

/-- Chunk `k`'s rows of the values or gates. -/
def vAt (x : Vec F S1x2048x512 .f32) (k : Fin k0_t1_loop.trips) : Vec F S1x128x512 .f32 :=
  fun j => x ((Rect.unit (s := S1x2048x512) (k0_off4 k) S1x128x512.size (k0_off4_inb k)).emb j)

/-- The state after chunk `k`, from the state before it. -/
def stepS (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) (k : Fin k0_t1_loop.trips) (s : Vec F S1x1x256x512 .f32) : Vec F S1x1x256x512 .f32 :=
  k0_pay16 (k0_pay5 v) (k0_pay6 v) (k0_pay12 (tabAt x5 k) (tabAt x6 k) (qkAt x2 k)) (k0_pay13 (vAt x3 k)) (k0_pay14 s)

/-- The output rows of chunk `k`, from the state before it. -/
def stepY (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) (k : Fin k0_t1_loop.trips) (s : Vec F S1x1x256x512 .f32) : Vec F S1x128x512 .bf16 :=
  k0_pay8 (k0_pay17 (k0_pay4 v) (k0_pay7 x7) (k0_pay11 (tabAt x5 k) (tabAt x6 k) (qkAt x1 k)) (k0_pay13 (vAt x3 k)) (k0_pay14 s)
      (k0_pay15 (k0_pay2 v) (tabAt x5 k) (tabAt x6 k) (qkAt x1 k) (qkAt x2 k)))
    (k0_pay18 (vAt x4 k)) (k0_pay19 (vAt x4 k))

/-- The state before chunk `n`. -/
def St (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) : ℕ → Vec F S1x1x256x512 .f32
  | 0 => k0_pay1
  | n + 1 => if h : n < k0_t1_loop.trips then stepS v x1 x2 x3 x4 x5 x6 x7 ⟨n, h⟩ (St v x1 x2 x3 x4 x5 x6 x7 n) else St v x1 x2 x3 x4 x5 x6 x7 n

/-- The state after chunk `n` comes from the state before it. -/
theorem St_succ (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) (n : ℕ) (h : n < k0_t1_loop.trips) : St v x1 x2 x3 x4 x5 x6 x7 (n + 1) = stepS v x1 x2 x3 x4 x5 x6 x7 ⟨n, h⟩ (St v x1 x2 x3 x4 x5 x6 x7 n) := by
  rw [St]
  simp only [h, dite_true]

/-- There are sixteen chunks. -/
theorem trips16 : k0_t1_loop.trips = 16 := by decide +kernel

/-- Chunk `k` starts at row `128 k`. -/
theorem off4 : ∀ k : Fin k0_t1_loop.trips, k0_off4 k = ![0, 128 * k.val, 0] := by decide +kernel

/-- The chunk a row belongs to. -/
def chunkOf (r : Fin 2048) : Fin k0_t1_loop.trips := ⟨r.val / 128, by rw [trips16]; omega⟩

/-- The output block. -/
def OUT_Y (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) : Vec F S1x2048x512 .bf16 := fun y =>
  stepY v x1 x2 x3 x4 x5 x6 x7 (chunkOf (y 1)) (St v x1 x2 x3 x4 x5 x6 x7 (chunkOf (y 1)).val) (fun a => match a with
    | ⟨0, _⟩ => ⟨0, Nat.one_pos⟩
    | ⟨1, _⟩ => ⟨(y 1).val % 128, Nat.mod_lt _ (by decide)⟩
    | ⟨2, _⟩ => y 2)

variable (c : Dev nD) (i : grid0.Coords) (arg2 : Memref sig .tc .smem S8 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x512 .f32) (harg9 : arg9.IsWhole) (arg10 : Memref sig .tc .vmem S1x2048x512 .bf16) (harg10 : arg10.IsWhole) (arg11 : Memref sig .tc .vmem S1x1x256x512 .f32) (harg11 : arg11.IsWhole)
  (v : Elt F .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32)

/-- What a trip stores in the output block. -/
theorem trip_Y (k : Fin k0_t1_loop.trips) (f : BufTy.Contents (Elt F) arg10.view.ty) (g : BufTy.Contents (Elt F) arg11.view.ty) :
    (trip_k0_t1 (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) k).1 f g
      = [⟨Rect.unit (s := S1x2048x512) (k0_off4 k) S1x128x512.size (k0_off4_inb k), stepY v x1 x2 x3 x4 x5 x6 x7 k (arg11.view.read (Elt F) g)⟩] := by
  have e3 : arg3.view.readAt (Elt F) (Rect.unit (s := S1x2048x256) (k0_off3 k) S1x128x256.size (k0_off3_inb k)).toLoadRect (harg3.unread x1) = qkAt x1 k := by
    funext j; exact congrFun (harg3.read_unread x1) _
  have e4 : arg4.view.readAt (Elt F) (Rect.unit (s := S1x2048x256) (k0_off3 k) S1x128x256.size (k0_off3_inb k)).toLoadRect (harg4.unread x2) = qkAt x2 k := by
    funext j; exact congrFun (harg4.read_unread x2) _
  have e5 : arg5.view.readAt (Elt F) (Rect.unit (s := S1x2048x512) (k0_off4 k) S1x128x512.size (k0_off4_inb k)).toLoadRect (harg5.unread x3) = vAt x3 k := by
    funext j; exact congrFun (harg5.read_unread x3) _
  have e6 : arg6.view.readAt (Elt F) (Rect.unit (s := S1x2048x512) (k0_off4 k) S1x128x512.size (k0_off4_inb k)).toLoadRect (harg6.unread x4) = vAt x4 k := by
    funext j; exact congrFun (harg6.read_unread x4) _
  have e7 : arg7.view.readAt (Elt F) (Rect.unit (s := S2048x128) (k0_off2 k) S128x128.size (k0_off2_inb k)).toLoadRect (harg7.unread x5) = tabAt x5 k := by
    funext j; exact congrFun (harg7.read_unread x5) _
  have e8 : arg8.view.readAt (Elt F) (Rect.unit (s := S2048x128) (k0_off2 k) S128x128.size (k0_off2_inb k)).toLoadRect (harg8.unread x6) = tabAt x6 k := by
    funext j; exact congrFun (harg8.read_unread x6) _
  have e11 : arg11.view.readAt (Elt F) (Rect.unit (s := S1x1x256x512) ![0, 0, 0, 0] S1x1x256x512.size inb_S1x1x256x512_S1x1x256x512_0_0_0_0).toLoadRect g
      = arg11.view.read (Elt F) g := View.readAt_full _ _ _
  unfold trip_k0_t1 stepY
  rw [← e3, ← e4, ← e5, ← e6, ← e7, ← e8, ← e11]
  rfl

/-- What a trip stores in the state block. -/
theorem trip_S (k : Fin k0_t1_loop.trips) (f : BufTy.Contents (Elt F) arg10.view.ty) (g : BufTy.Contents (Elt F) arg11.view.ty) :
    (trip_k0_t1 (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) k).2.1 f g
      = [⟨Rect.unit (s := S1x1x256x512) ![0, 0, 0, 0] S1x1x256x512.size inb_S1x1x256x512_S1x1x256x512_0_0_0_0, stepS v x1 x2 x3 x4 x5 x6 x7 k (arg11.view.read (Elt F) g)⟩] := by
  have e4 : arg4.view.readAt (Elt F) (Rect.unit (s := S1x2048x256) (k0_off3 k) S1x128x256.size (k0_off3_inb k)).toLoadRect (harg4.unread x2) = qkAt x2 k := by
    funext j; exact congrFun (harg4.read_unread x2) _
  have e5 : arg5.view.readAt (Elt F) (Rect.unit (s := S1x2048x512) (k0_off4 k) S1x128x512.size (k0_off4_inb k)).toLoadRect (harg5.unread x3) = vAt x3 k := by
    funext j; exact congrFun (harg5.read_unread x3) _
  have e7 : arg7.view.readAt (Elt F) (Rect.unit (s := S2048x128) (k0_off2 k) S128x128.size (k0_off2_inb k)).toLoadRect (harg7.unread x5) = tabAt x5 k := by
    funext j; exact congrFun (harg7.read_unread x5) _
  have e8 : arg8.view.readAt (Elt F) (Rect.unit (s := S2048x128) (k0_off2 k) S128x128.size (k0_off2_inb k)).toLoadRect (harg8.unread x6) = tabAt x6 k := by
    funext j; exact congrFun (harg8.read_unread x6) _
  have e11 : arg11.view.readAt (Elt F) (Rect.unit (s := S1x1x256x512) ![0, 0, 0, 0] S1x1x256x512.size inb_S1x1x256x512_S1x1x256x512_0_0_0_0).toLoadRect g
      = arg11.view.read (Elt F) g := View.readAt_full _ _ _
  unfold trip_k0_t1 stepS
  rw [← e4, ← e5, ← e7, ← e8, ← e11]
  rfl

variable (G10 : BufTy.Contents (Elt F) arg10.view.ty) (G11 : BufTy.Contents (Elt F) arg11.view.ty)

/-- The state block before trip `n` of the loop. -/
theorem pb_S (hG : arg11.view.read (Elt F) G11 = k0_pay1) : ∀ n : ℕ, n ≤ k0_t1_loop.trips →
    arg11.view.read (Elt F) (arg11.view.writes (Elt F) G11 (pb_k0_t1 (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) G10 G11 n).2) = St v x1 x2 x3 x4 x5 x6 x7 n
  | 0, _ => by rw [pb_k0_t1.eq_1]; exact hG
  | n + 1, h => by
    have ih := pb_S hG n (Nat.le_of_succ_le h)
    rw [pb_k0_t1_succ (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) G10 G11 ⟨n, h⟩]
    dsimp only [tripL_k0_t1]
    rw [trip_S, List.singleton_append, View.read_writes_full, ih]
    exact (St_succ v x1 x2 x3 x4 x5 x6 x7 n h).symm

/-- The rows of the output block written before trip `n` of the loop. -/
theorem pb_Y (hG : arg11.view.read (Elt F) G11 = k0_pay1) : ∀ n : ℕ, n ≤ k0_t1_loop.trips → ∀ y : S1x2048x512.Idx, (y 1).val < 128 * n →
    arg10.view.read (Elt F) (arg10.view.writes (Elt F) G10 (pb_k0_t1 (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) G10 G11 n).1) y = OUT_Y v x1 x2 x3 x4 x5 x6 x7 y
  | 0, _, y, hy => absurd hy (by omega)
  | n + 1, h, y, hy => by
    have ih := pb_Y hG n (Nat.le_of_succ_le h) y
    have hs := pb_S c i arg2 harg2 arg3 harg3 arg4 harg4 arg5 harg5 arg6 harg6 arg7 harg7 arg8 harg8 arg9 harg9 arg10 harg10 arg11 harg11 v x1 x2 x3 x4 x5 x6 x7 G10 G11 hG n (Nat.le_of_succ_le h)
    rw [pb_k0_t1_succ (F := F) Variants.none c none i arg2 harg2 arg3 harg3 arg4 harg4 arg5 harg5 arg6 harg6 arg7 harg7 arg8 harg8 arg9 harg9 arg10 harg10 arg11 harg11 v x7 (harg3.unread x1) (harg4.unread x2) (harg5.unread x3) (harg6.unread x4) (harg7.unread x5) (harg8.unread x6) G10 G11 ⟨n, h⟩]
    dsimp only [tripL_k0_t1]
    rw [trip_Y, List.singleton_append, hs]
    by_cases hn : (y 1).val < 128 * n
    · rw [View.read_writes_cons_miss_of_axis _ _ _ _ y 1 (128 * n) 128 (congrFun (off4 ⟨n, h⟩) 1) rfl rfl (Or.inl hn)]
      exact ih hn
    · have hc : chunkOf (y 1) = ⟨n, h⟩ := Fin.ext (by show (y 1).val / 128 = n; omega)
      unfold OUT_Y
      rw [hc]
      refine View.read_writes_cons_hit_of_coords _ _ _ _ _ _ y ?_
      intro a
      have ho := congrFun (off4 ⟨n, h⟩) a
      show (y a).val = k0_off4 ⟨n, h⟩ a + 1 * _
      rw [ho]
      match a with
      | ⟨0, _⟩ => have : (y 0).val < 1 := (y 0).isLt; show (y 0).val = 0 + 1 * 0; omega
      | ⟨1, _⟩ => show (y 1).val = 128 * n + 1 * ((y 1).val % 128); omega
      | ⟨2, _⟩ => show (y 2).val = 0 + 1 * (y 2).val; omega

end Cert.KernelIdeal.Own

end
-- ==== Proof.RetWpI.lean ====
module

public import proofs.«01_k».proof.Proof.RetBodyI
public import Idealize.ShloMosaic.Lib.Claim

@[expose] public section

set_option maxRecDepth 16384

open Idealize.ShloMosaic.Pipeline (Dat Cfg Window BodyObligation cellOf)

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The head's decay rate, read from the table of eight. -/
def lgAt (i : grid0.Coords) (x0 : Vec F S8 .f32) : Elt F .f32 := x0 (fun a => match a with | ⟨0, _⟩ => i 1)

/-- The table is read at the point's head. -/
theorem off1 : ∀ i : grid0.Coords, k0_off1 i 0 = (i 1).val := by decide +kernel

/-- The body at a grid point leaves the output block and the state block at the values stated for them, whatever they held. -/
theorem body_wp (c : Dev nD) (i : grid0.Coords) (arg2 : Memref sig .tc .smem S8 .f32) (harg2 : arg2.IsWhole) (arg3 : Memref sig .tc .vmem S1x2048x256 .f32) (harg3 : arg3.IsWhole) (arg4 : Memref sig .tc .vmem S1x2048x256 .f32) (harg4 : arg4.IsWhole) (arg5 : Memref sig .tc .vmem S1x2048x512 .f32) (harg5 : arg5.IsWhole) (arg6 : Memref sig .tc .vmem S1x2048x512 .f32) (harg6 : arg6.IsWhole) (arg7 : Memref sig .tc .vmem S2048x128 .f32) (harg7 : arg7.IsWhole) (arg8 : Memref sig .tc .vmem S2048x128 .f32) (harg8 : arg8.IsWhole) (arg9 : Memref sig .tc .vmem S1x1x512 .f32) (harg9 : arg9.IsWhole) (arg10 : Memref sig .tc .vmem S1x2048x512 .bf16) (harg10 : arg10.IsWhole) (arg11 : Memref sig .tc .vmem S1x1x256x512 .f32) (harg11 : arg11.IsWhole)
    (x0 : Vec F S8 .f32) (x1 : Vec F S1x2048x256 .f32) (x2 : Vec F S1x2048x256 .f32) (x3 : Vec F S1x2048x512 .f32) (x4 : Vec F S1x2048x512 .f32) (x5 : Vec F S2048x128 .f32) (x6 : Vec F S2048x128 .f32) (x7 : Vec F S1x1x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (OUT_Y (lgAt i x0) x1 x2 x3 x4 x5 x6 x7)
            ∗ owns (c : Thread nD τ) arg11 fullShare (St (lgAt i x0) x1 x2 x3 x4 x5 x6 x7 16)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11) K := by
  simp only [cc0_retention_eq_skeleton]; unfold cc0_retention_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap
    · iexact H8
    ipureintro
    have e1 : body_wp.sl.r c i arg2 harg2 x0 = lgAt i x0 := by
      unfold body_wp.sl.r
      refine (congrFun (harg2.read_unread x0) _).trans ?_
      unfold lgAt
      congr 1
      funext a
      match a with
      | ⟨0, _⟩ => exact Fin.ext (by show k0_off1 i 0 + 1 * 0 = (i 1).val; rw [off1]; rfl)
    have e2 : arg9.view.readAt (Elt F) (Rect.unit (s := S1x1x512) ![0, 0, 0] S1x1x512.size inb_S1x1x512_S1x1x512_0_0_0).toLoadRect (harg9.unread x7) = x7 :=
      (View.readAt_full _ _ _).trans (harg9.read_unread x7)
    have e3 : arg11.view.read (Elt F) (arg11.view.writes (Elt F) arg11.view.junk body_wp.sl.H9_1) = k0_pay1 (F := F) :=
      View.read_writes_full _ _ _ _ _
    rw [e1, e2]
    funext y
    exact pb_Y c i arg2 harg2 arg3 harg3 arg4 harg4 arg5 harg5 arg6 harg6 arg7 harg7 arg8 harg8 arg9 harg9 arg10 harg10 arg11 harg11 (lgAt i x0) x1 x2 x3 x4 x5 x6 x7 f8 _ e3 16 (le_of_eq trips16.symm) y (y 1).isLt
  · iexists _; isplitr; swap
    · iexact H9
    ipureintro
    have e1 : body_wp.sl.r c i arg2 harg2 x0 = lgAt i x0 := by
      unfold body_wp.sl.r
      refine (congrFun (harg2.read_unread x0) _).trans ?_
      unfold lgAt
      congr 1
      funext a
      match a with
      | ⟨0, _⟩ => exact Fin.ext (by show k0_off1 i 0 + 1 * 0 = (i 1).val; rw [off1]; rfl)
    have e2 : arg9.view.readAt (Elt F) (Rect.unit (s := S1x1x512) ![0, 0, 0] S1x1x512.size inb_S1x1x512_S1x1x512_0_0_0).toLoadRect (harg9.unread x7) = x7 :=
      (View.readAt_full _ _ _).trans (harg9.read_unread x7)
    have e3 : arg11.view.read (Elt F) (arg11.view.writes (Elt F) arg11.view.junk body_wp.sl.H9_1) = k0_pay1 (F := F) :=
      View.read_writes_full _ _ _ _ _
    rw [e1, e2, View.writes_append]
    exact pb_S c i arg2 harg2 arg3 harg3 arg4 harg4 arg5 harg5 arg6 harg6 arg7 harg7 arg8 harg8 arg9 harg9 arg10 harg10 arg11 harg11 (lgAt i x0) x1 x2 x3 x4 x5 x6 x7 f8 _ e3 16 (le_of_eq trips16.symm)

variable (m : (ℓ : Loc nD τ sig) → Buf (Elt F) ℓ) (ρ : Dev nD → PrngReg)

/-- What the retention leaves in its output block at grid point `t`. -/
def outY (c : Dev nD) (t : Fin cfg0.N) : Vec F S1x2048x512 .bf16 := OUT_Y (lgAt (grid0.coords t) (iblk m c 0 t)) (iblk m c 1 t) (iblk m c 2 t) (iblk m c 3 t) (iblk m c 4 t) (iblk m c 5 t) (iblk m c 6 t) (iblk m c 7 t)

/-- What the retention leaves in its state block at grid point `t`. -/
def outS (c : Dev nD) (t : Fin cfg0.N) : Vec F S1x1x256x512 .f32 := St (lgAt (grid0.coords t) (iblk m c 0 t)) (iblk m c 1 t) (iblk m c 2 t) (iblk m c 3 t) (iblk m c 4 t) (iblk m c 5 t) (iblk m c 6 t) (iblk m c 7 t) 16

/-- The pipeline on core `c`: its arrays as the region finds them, the blocks read left in place, the two outputs at the stated values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY m c t
    | ⟨9, _⟩ => outS m c t
  Φ _ := Pipeline.ΦA spec0 c
  q w := Pipeline.shareOf spec0 w
  owed _ := 0

/-- The arrays are those the region finds. -/
theorem A_eq (c : Dev nD) (w : Fin cfg0.W) : (dats m 0 c).A w = V m c (Pipeline.arrRef spec0 w) := by dsimp only [dats]

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- Window 7 after the body. -/
theorem after0_7 (c : Dev nD) (t : Fin cfg0.N) : (dats m 0 c).after 7 t = iblk m c 7 t := by dsimp only [dats]
/-- Window 8 after the body. -/
theorem after0_8 (c : Dev nD) (t : Fin cfg0.N) : (dats m 0 c).after 8 t = outY m c t := by dsimp only [dats]
/-- Window 9 after the body. -/
theorem after0_9 (c : Dev nD) (t : Fin cfg0.N) : (dats m 0 c).after 9 t = outS m c t := by dsimp only [dats]

/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d
/-- Window 7 before the body. -/
theorem before0_7 (c : Dev nD) (t : Fin cfg0.N) (d) : (dats m 0 c).before 7 t d = iblk m c 7 t :=
  before0_7_of m (dats m 0 c) (A_eq m c 7) (after0_7 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- The body at any point of the grid. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  unfold outY outS
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_wp c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body there. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the pipeline's data say, and the counters end at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The run, with the two result arrays named. -/
theorem run_arrays : θ_run defs (onTc (τ := τ) (main (F := F))) ⟨m, fun _ => 0, ρ⟩ fun r => ∀ c : Dev nD,
      r.2.mem ((c.tc : Thread nD τ).loc main_v24_0) = (dats m 0 c).arrAt 8 cfg0.N
      ∧ r.2.mem ((c.tc : Thread nD τ).loc main_v24_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h.1 c).1 8, (h.1 c).1 9,
      ((h.1 c).1 4).trans (((dats m 0 c).arrAt_in 4 rfl _).trans ((A_eq m c 4).trans (V_main_arg0 m c))),
      ((h.1 c).2 main_arg1 (Pipeline.mem_restRefs_of main_arg1 (by decide) (by decide))).trans (V_main_arg1 m c)⟩)
    (run_main_quiescent m ρ)

end Cert.KernelIdeal.Own

end
-- ==== Proof.RetKer.lean ====
module

public import proofs.«01_k».proof.Proof.RetBodyI
public import proofs.«01_k».proof.Proof.RetSpec

@[expose] public section

set_option maxRecDepth 16384

noncomputable section

/-! One grid point of the kernel over extended reals is the retention of `RetSpec` for its head. -/

namespace Cert.KernelIdeal.Own

open Cert.KernelIdeal Cert.KernelIdeal.Gen Cert.RetSpec
open Idealize.ShloMosaic Idealize.ShloMosaic.TcCoe

/-- A chunk number of the kernel's loop, as one of sixteen. -/
def k16 (k : Fin k0_t1_loop.trips) : Fin 16 := ⟨k.val, lt_of_lt_of_eq k.isLt trips16⟩

/-- Chunk `k` of a table starts at its first row. -/
theorem off2 (k : Fin k0_t1_loop.trips) : k0_off2 k = ![128 * k.val, 0] := by
  revert k; decide +kernel
theorem off3 (k : Fin k0_t1_loop.trips) : k0_off3 k = ![0, 128 * k.val, 0] := by
  revert k; decide +kernel

/-- A table's chunk at a row. -/
theorem tab_at (x : FVec Ideal S2048x128 .f32) (k : Fin k0_t1_loop.trips) (r : Fin 128) (d : Fin 128) :
    tabAt (F := Ideal) x k (ix2 r d) = x (ix2 (row (k16 k) r) d) := by
  unfold tabAt
  congr 1
  funext a
  refine Fin.ext ?_
  show k0_off2 k a + 1 * (ix2 r d a).val = _
  rw [off2]
  match a with
  | ⟨0, _⟩ => show 128 * k.val + 1 * r.val = k.val * 128 + r.val; omega
  | ⟨1, _⟩ => show 0 + 1 * d.val = d.val; omega

/-- The queries' or keys' chunk at a row. -/
theorem qk_at (x : FVec Ideal S1x2048x256 .f32) (k : Fin k0_t1_loop.trips) (r : Fin 128) (d : Fin 256) :
    qkAt (F := Ideal) x k (ix3 0 r d) = x (ix3 0 (row (k16 k) r) d) := by
  unfold qkAt
  congr 1
  funext a
  refine Fin.ext ?_
  show k0_off3 k a + 1 * (ix3 0 r d a).val = _
  rw [off3]
  match a with
  | ⟨0, _⟩ => rfl
  | ⟨1, _⟩ => show 128 * k.val + 1 * r.val = k.val * 128 + r.val; omega
  | ⟨2, _⟩ => show 0 + 1 * d.val = d.val; omega

/-- The values' or gates' chunk at a row. -/
theorem val_at (x : FVec Ideal S1x2048x512 .f32) (k : Fin k0_t1_loop.trips) (r : Fin 128) (d : Fin 512) :
    vAt (F := Ideal) x k (ix3 0 r d) = x (ix3 0 (row (k16 k) r) d) := by
  unfold vAt
  congr 1
  funext a
  refine Fin.ext ?_
  show k0_off4 k a + 1 * (ix3 0 r d a).val = _
  rw [off4]
  match a with
  | ⟨0, _⟩ => rfl
  | ⟨1, _⟩ => show 128 * k.val + 1 * r.val = k.val * 128 + r.val; omega
  | ⟨2, _⟩ => show 0 + 1 * d.val = d.val; omega

/-- The block's rows of queries, rotated. -/
def QB (x1 : FVec Ideal S1x2048x256 .f32) (x5 x6 : FVec Ideal S2048x128 .f32) (r : Fin 2048) : Fin 256 → EReal :=
  ROT (fun x => x1 (ix3 0 r x)) (fun d => x5 (ix2 r d)) (fun d => x6 (ix2 r d))

/-- The block's rows of keys, rotated and scaled. -/
def KB (x2 : FVec Ideal S1x2048x256 .f32) (x5 x6 : FVec Ideal S2048x128 .f32) (r : Fin 2048) (d : Fin 256) : EReal :=
  ROT (fun x => x2 (ix3 0 r x)) (fun d => x5 (ix2 r d)) (fun d => x6 (ix2 r d)) d * Ideal.ofBits FTy.f32 0x3D800000#32

/-- The block's rows of values. -/
def VB (x3 : FVec Ideal S1x2048x512 .f32) (r : Fin 2048) (e : Fin 512) : EReal := x3 (ix3 0 r e)

/-- The rotated queries of a chunk. -/
theorem pay11_at (x1 : FVec Ideal S1x2048x256 .f32) (x5 x6 : FVec Ideal S2048x128 .f32) (k : Fin k0_t1_loop.trips) (r : Fin 128) (d : Fin 256) :
    k0_pay11 (F := Ideal) (tabAt x5 k) (tabAt x6 k) (qkAt x1 k) (ix2 r d) = QB x1 x5 x6 (row (k16 k) r) d := by
  pointwise [k0_pay11, k0_pay9, k0_pay10, tab_at, qk_at, QB, ROT]

/-- The rotated and scaled keys of a chunk. -/
theorem pay12_at (x2 : FVec Ideal S1x2048x256 .f32) (x5 x6 : FVec Ideal S2048x128 .f32) (k : Fin k0_t1_loop.trips) (r : Fin 128) (d : Fin 256) :
    k0_pay12 (F := Ideal) (tabAt x5 k) (tabAt x6 k) (qkAt x2 k) (ix2 r d) = KB x2 x5 x6 (row (k16 k) r) d := by
  pointwise [k0_pay12, k0_pay9, k0_pay10, tab_at, qk_at, KB, ROT]

/-- The state's step. -/
theorem stepS_at (v : EReal) (x1 x2 : FVec Ideal S1x2048x256 .f32) (x3 x4 : FVec Ideal S1x2048x512 .f32) (x5 x6 : FVec Ideal S2048x128 .f32) (x7 : FVec Ideal S1x1x512 .f32)
    (k : Fin k0_t1_loop.trips) (s : FVec Ideal S1x1x256x512 .f32) (d : Fin 256) (e : Fin 512) :
    stepS (F := Ideal) v x1 x2 x3 x4 x5 x6 x7 k s (ix4 0 0 d e)
      = STEP v (fun r => KB x2 x5 x6 (row (k16 k) r)) (fun r => VB x3 (row (k16 k) r)) (fun d e => s (ix4 0 0 d e)) d e := by
  pointwise [stepS, k0_pay16, k0_pay5, k0_pay3, k0_pay6, k0_pay13, k0_pay14, pay12_at, val_at, STEP, VB, NUM]

/-- The state before a chunk. -/
theorem St_at (v : EReal) (x1 x2 : FVec Ideal S1x2048x256 .f32) (x3 x4 : FVec Ideal S1x2048x512 .f32) (x5 x6 : FVec Ideal S2048x128 .f32) (x7 : FVec Ideal S1x1x512 .f32) :
    ∀ (n : ℕ), n ≤ 16 → ∀ (d : Fin 256) (e : Fin 512),
    St (F := Ideal) v x1 x2 x3 x4 x5 x6 x7 n (ix4 0 0 d e) = ST v (KB x2 x5 x6) (VB x3) n d e
  | 0, _, d, e => by
    show k0_pay1 (F := Ideal) (ix4 0 0 d e) = 0
    pointwise [k0_pay1]
  | n + 1, hn, d, e => by
    have h : n < k0_t1_loop.trips := by rw [trips16]; omega
    refine (congrFun (St_succ (F := Ideal) v x1 x2 x3 x4 x5 x6 x7 n h) _).trans ?_
    rw [stepS_at, ST_succ _ _ _ n (by omega)]
    congr 1
    funext d e
    exact St_at v x1 x2 x3 x4 x5 x6 x7 n (by omega) d e

/-- The decay between two rows of a chunk. -/
theorem dec_at (v : EReal) (r c : Fin 128) : k0_pay2 (F := Ideal) v (ix2 r c) = DEC v r c := by
  pointwise [k0_pay2, NUM_sub, DEC]

/-- The scores of a chunk, decayed. -/
theorem score_at (v : EReal) (x1 x2 : FVec Ideal S1x2048x256 .f32) (x5 x6 : FVec Ideal S2048x128 .f32) (k : Fin k0_t1_loop.trips) (r c : Fin 128) :
    k0_pay15 (F := Ideal) (k0_pay2 v) (tabAt x5 k) (tabAt x6 k) (qkAt x1 k) (qkAt x2 k) (ix2 r c)
      = (∑ d : Fin 256, QB x1 x5 x6 (row (k16 k) r) d * KB x2 x5 x6 (row (k16 k) c) d) * DEC v r c := by
  pointwise [k0_pay15, pay11_at, pay12_at, dec_at]

/-- A chunk's outputs, normed and gated, from the state before it. -/
theorem stepY_at (v : EReal) (x1 x2 : FVec Ideal S1x2048x256 .f32) (x3 x4 : FVec Ideal S1x2048x512 .f32) (x5 x6 : FVec Ideal S2048x128 .f32) (x7 : FVec Ideal S1x1x512 .f32)
    (k : Fin k0_t1_loop.trips) (s : FVec Ideal S1x1x256x512 .f32) (r : Fin 128) (e : Fin 512) :
    stepY (F := Ideal) v x1 x2 x3 x4 x5 x6 x7 k s (ix3 0 r e)
      = NORM (OUT v (fun r => QB x1 x5 x6 (row (k16 k) r)) (fun r => KB x2 x5 x6 (row (k16 k) r)) (fun r => VB x3 (row (k16 k) r)) (fun d e => s (ix4 0 0 d e)) r)
          (fun e => x7 (ix3 0 0 e)) e * GATE (x4 (ix3 0 (row (k16 k) r) e)) := by
  rw [← gate_eq]
  pointwise [stepY, k0_pay8, k0_pay17, k0_pay4, k0_pay3, k0_pay7, k0_pay13, k0_pay14, k0_pay18, k0_pay19, pay11_at, score_at, val_at, NORM, OUT, VB, NUM]

end Cert.KernelIdeal.Own

end
-- ==== Proof.RefRun.lean ====
/- The reference's loop over the chunks, as the iteration of one function of the carried arrays: the run of the
   reference terminates with its two results read off the sixteenth state. -/
module

public import proofs.«01_k».proof.Proof.Gen.ReferenceIdeal.Run
public import proofs.«01_k».proof.Proof.Gen.ReferenceIdeal.Step

@[expose] public section

set_option maxRecDepth 16384

noncomputable section

namespace Cert.ReferenceIdeal.Chunks

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- The carried arrays as the loop's buffers hold them. -/
def ofVal (V0 : Valuation τ sig (Elt F)) : Step.State F :=
  { main_v77_4 := V0 (Proc.devRef .tc main_v77_4), main_v77_5 := V0 (Proc.devRef .tc main_v77_5),
    main_v77_0 := V0 (Proc.devRef .tc main_v77_0), main_v77_1 := V0 (Proc.devRef .tc main_v77_1),
    main_v77_2 := V0 (Proc.devRef .tc main_v77_2) }

/-- The loop's buffers hold state `s` and the trip number `j`. -/
structure Carries (V0 : Valuation τ sig (Elt F)) (s : Step.State F) (j : ℕ) : Prop where
  f_4 : V0 (Proc.devRef .tc main_v77_4) = s.main_v77_4
  f_5 : V0 (Proc.devRef .tc main_v77_5) = s.main_v77_5
  f_0 : V0 (Proc.devRef .tc main_v77_0) = s.main_v77_0
  f_1 : V0 (Proc.devRef .tc main_v77_1) = s.main_v77_1
  f_2 : V0 (Proc.devRef .tc main_v77_2) = s.main_v77_2
  n_3 : V0 (Proc.devRef .tc main_v77_3) = constantI S_ 32 (BitVec.ofNat 32 j)

/-- Buffers that hold a state hold exactly that state. -/
theorem Carries.eq_ofVal {V0 : Valuation τ sig (Elt F)} {s : Step.State F} {j : ℕ} (h : Carries V0 s j) : s = ofVal V0 := by
  obtain ⟨h4, h5, h0, h1, h2, _⟩ := h
  cases s
  subst h4 h5 h0 h1 h2
  rfl

/-- The sequence of states from the arguments on. -/
def states (x : (⟨S4x2048x12288, .f32⟩ : BufTy).Contents (Elt F)) : ℕ → Step.State F
  | 0 => Step.init x
  | n + 1 => Step.step n (states x n)

variable {V0 : Valuation τ sig (Elt F)} {j : ℕ}

/-- One trip's new state array. -/
theorem state_step (hn : V0 (Proc.devRef .tc main_v77_3) = constantI S_ 32 (BitVec.ofNat 32 j)) :
    step_main_v77_4 V0 = Step.b92 j (ofVal V0) := by
  unfold step_main_v77_4 res_main_while0b_v107 res_main_while0b_v108
  rw [hn]
  rfl

/-- One trip's update of the stacked outputs. -/
theorem stack_step (hn : V0 (Proc.devRef .tc main_v77_3) = constantI S_ 32 (BitVec.ofNat 32 j)) :
    step_main_v77_5 V0 = Step.b99 j (ofVal V0) := by
  unfold step_main_v77_5 res_main_while0b_v106 res_main_while0b_v107 res_main_while0b_v108
  rw [hn]
  rfl

/-- The trip number goes up by one. -/
theorem count_step (hn : V0 (Proc.devRef .tc main_v77_3) = constantI S_ 32 (BitVec.ofNat 32 j)) :
    step_main_v77_3 V0 = constantI S_ 32 (BitVec.ofNat 32 (j + 1)) := by
  unfold step_main_v77_3
  rw [hn]
  funext i
  show BitVec.ofNat 32 j + 1#32 = BitVec.ofNat 32 (j + 1)
  rw [BitVec.ofNat_add]

/-- The new state array of a trip. -/
theorem next_4 {s : Step.State F} (h : Carries V0 s j) : STEP V0 (Proc.devRef .tc main_v77_4) = Step.b92 j s :=
  (STEP_main_v77_4 V0).trans ((state_step h.n_3).trans (congrArg (Step.b92 j) h.eq_ofVal.symm))

/-- The stacked outputs after a trip. -/
theorem next_5 {s : Step.State F} (h : Carries V0 s j) : STEP V0 (Proc.devRef .tc main_v77_5) = Step.b99 j s :=
  (STEP_main_v77_5 V0).trans ((stack_step h.n_3).trans (congrArg (Step.b99 j) h.eq_ofVal.symm))

/-- One trip takes state `s` to `step j s`. -/
theorem carries_step {s : Step.State F} (h : Carries V0 s j) : Carries (STEP V0) (Step.step j s) (j + 1) where
  f_4 := next_4 h
  f_5 := next_5 h
  f_0 := (STEP_main_v77_0 V0).trans h.f_0
  f_1 := (STEP_main_v77_1 V0).trans h.f_1
  f_2 := (STEP_main_v77_2 V0).trans h.f_2
  n_3 := (STEP_main_v77_3 V0).trans (count_step h.n_3)

variable (m : (ℓ : Loc nD τ sig) → Buf (Elt F) ℓ) (c : Dev nD)

set_option maxRecDepth 65536 in
set_option maxHeartbeats 4000000 in
/-- The operations before the loop leave the initial state and the number 0. -/
theorem carries_entry : Carries (entryContents preI m c) (Step.init (m ((c.tc : Thread nD τ).loc main_arg0))) 0 where
  f_4 := by
    (simp only [entryContents, afterL_cons, afterL_nil]; after_reads_simp) <;> rfl
  f_5 := by
    (simp only [entryContents, afterL_cons, afterL_nil]; after_reads_simp) <;> rfl
  f_0 := by
    (simp only [entryContents, afterL_cons, afterL_nil]; after_reads_simp) <;> rfl
  f_1 := by
    (simp only [entryContents, afterL_cons, afterL_nil]; after_reads_simp) <;> rfl
  f_2 := by
    (simp only [entryContents, afterL_cons, afterL_nil]; after_reads_simp) <;> rfl
  n_3 := by
    (simp only [entryContents, afterL_cons, afterL_nil]; after_reads_simp) <;> rfl

/-- Before the `k`-th condition the loop's buffers hold the `k`-th state. -/
theorem carries_iter : ∀ k, Carries (STEP^[k] (entryContents preI m c)) (states (m ((c.tc : Thread nD τ).loc main_arg0)) k) k
  | 0 => carries_entry m c
  | k + 1 => by
    rw [Function.iterate_succ_apply']
    exact carries_step (carries_iter k)

/-- The first result, read off the state the loop leaves. -/
theorem out_holds {V0 : Valuation τ sig (Elt F)} {s : Step.State F} {j : ℕ} (h : Carries V0 s j) {x : (⟨S4x2048x12288, .f32⟩ : BufTy).Contents (Elt F)} {g : (⟨S8x512, .f32⟩ : BufTy).Contents (Elt F)}
    (h0 : V0 (Proc.devRef .tc main_arg0) = x) (h1 : V0 (Proc.devRef .tc main_arg1) = g) :
    out_main_v105 V0 = Step.R_main_v105 s x g := by
  rw [h.eq_ofVal]
  unfold out_main_v105
  rw [h0, h1]
  rfl

/-- The reference's run: its two results are read off the sixteenth state, its arguments are unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v105) = Step.R_main_v105 (states (m ((c.tc : Thread nD τ).loc main_arg0)) 16) (m ((c.tc : Thread nD τ).loc main_arg0)) (m ((c.tc : Thread nD τ).loc main_arg1))
      ∧ r.2.mem ((c.tc : Thread nD τ).loc main_v77_4) = (states (m ((c.tc : Thread nD τ).loc main_arg0)) 16).main_v77_4
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    have hk := carries_iter m c 16
    ⟨(h c).1.trans (out_holds hk (iter_main_arg0 m c 16) (iter_main_arg1 m c 16)), (h c).2.1.trans hk.f_4, (h c).2.2.1, (h c).2.2.2⟩) (Value.run m ρ)

end Cert.ReferenceIdeal.Chunks

end
-- ==== Proof.RetRef.lean ====
module

public import proofs.«01_k».proof.Proof.RefRun
public import proofs.«01_k».proof.Proof.RetSpec

@[expose] public section

set_option maxRecDepth 65536

noncomputable section

/-! The reference's two results over extended reals are the retention of `RetSpec`. -/

namespace Cert.ReferenceIdeal.Chunks

open Idealize.ShloMosaic Idealize.ShloMosaic.TcCoe
open Cert.ReferenceIdeal Cert.ReferenceIdeal.Gen Cert.RetSpec

/-- The cosines of the rotary angles. -/
def COS (r : Fin 2048) (d : Fin 128) : EReal := Step.K_main_v16 (F := Ideal) (ix2 r d)

/-- The sines of the rotary angles. -/
def SIN (r : Fin 2048) (d : Fin 128) : EReal := Step.K_main_v18 (F := Ideal) (ix2 r d)

/-- The heads' log decays. -/
def LGV : FVec Ideal S8 .f32 :=
  Host.log (subf (broadcastInDim S8 ![] bcast_S_S8 (constant S_ .f32 0x3F800000#32)) (Host.powf (broadcastInDim S8 ![] bcast_S_S8 (constant S_ .f32 0x40000000#32)) (subf (broadcastInDim S8 ![] bcast_S_S8 (constant S_ .f32 0xC0A00000#32)) (sitofp .f32 (iotaInDim S8 32 0)))))

/-- A head's log decay. -/
def LG (h : Fin 8) : EReal := LGV (ix1 h)

/-- The argument by its coordinates. -/
def ZF (z : FVec Ideal S4x2048x12288 .f32) (b : Fin 4) (r : Fin 2048) (e : Fin 12288) : EReal := z (ix3 b r e)

/-- The norm's weights by their coordinates. -/
def GF (g : FVec Ideal S8x512 .f32) (h : Fin 8) (e : Fin 512) : EReal := g (ix2 h e)

theorem b28_eq (j : ℕ) (s : Step.State Ideal) : Step.b28 j s = LGV := rfl

/-! ### What the loop slices -/

/-- The first halves of the rotated queries. -/
theorem qlo (z : FVec Ideal S4x2048x12288 .f32) (b : Fin 4) (r : Fin 2048) (h : Fin 8) (e : Fin 128) :
    Step.A_main_v26 (F := Ideal) z (ix4 b r h e)
      = z (ix3 b r ⟨h.val * 256 + e.val, by omega⟩) * COS r e - z (ix3 b r ⟨h.val * 256 + (128 + e.val), by omega⟩) * SIN r e := by
  pointwise [Step.A_main_v26, Step.A_main_v23, Step.A_main_v20, Step.A_main_v25, Step.A_main_v21, Step.A_main_v3, Step.A_main_v2, Step.K_main_v22, Step.K_main_v17, Step.K_main_v24, Step.K_main_v19, COS, SIN]

/-- The second halves of the rotated queries. -/
theorem qhi (z : FVec Ideal S4x2048x12288 .f32) (b : Fin 4) (r : Fin 2048) (h : Fin 8) (e : Fin 128) :
    Step.A_main_v31 (F := Ideal) z (ix4 b r h e)
      = z (ix3 b r ⟨h.val * 256 + e.val, by omega⟩) * SIN r e + z (ix3 b r ⟨h.val * 256 + (128 + e.val), by omega⟩) * COS r e := by
  pointwise [Step.A_main_v31, Step.A_main_v28, Step.A_main_v20, Step.A_main_v30, Step.A_main_v21, Step.A_main_v3, Step.A_main_v2, Step.K_main_v27, Step.K_main_v17, Step.K_main_v29, Step.K_main_v19, COS, SIN]

theorem cos_k : Step.K_main_v48 (F := Ideal) = Step.K_main_v16 := rfl
theorem sin_k : Step.K_main_v50 (F := Ideal) = Step.K_main_v18 := rfl

/-- The first halves of the rotated keys. -/
theorem klo (z : FVec Ideal S4x2048x12288 .f32) (b : Fin 4) (r : Fin 2048) (h : Fin 8) (e : Fin 128) :
    Step.A_main_v58 (F := Ideal) z (ix4 b r h e)
      = z (ix3 b r ⟨2048 + (h.val * 256 + e.val), by omega⟩) * COS r e - z (ix3 b r ⟨2048 + (h.val * 256 + (128 + e.val)), by omega⟩) * SIN r e := by
  pointwise [Step.A_main_v58, Step.A_main_v55, Step.A_main_v52, Step.A_main_v57, Step.A_main_v53, Step.A_main_v35, Step.A_main_v34, Step.K_main_v54, Step.K_main_v49, Step.K_main_v56, Step.K_main_v51, COS, SIN, cos_k, sin_k]

/-- The second halves of the rotated keys. -/
theorem khi (z : FVec Ideal S4x2048x12288 .f32) (b : Fin 4) (r : Fin 2048) (h : Fin 8) (e : Fin 128) :
    Step.A_main_v63 (F := Ideal) z (ix4 b r h e)
      = z (ix3 b r ⟨2048 + (h.val * 256 + e.val), by omega⟩) * SIN r e + z (ix3 b r ⟨2048 + (h.val * 256 + (128 + e.val)), by omega⟩) * COS r e := by
  pointwise [Step.A_main_v63, Step.A_main_v60, Step.A_main_v52, Step.A_main_v62, Step.A_main_v53, Step.A_main_v35, Step.A_main_v34, Step.K_main_v59, Step.K_main_v49, Step.K_main_v61, Step.K_main_v51, COS, SIN, cos_k, sin_k]

/-- The rotated queries. -/
theorem q_row (z : FVec Ideal S4x2048x12288 .f32) (b : Fin 4) (r : Fin 2048) (h : Fin 8) (e : Fin 256) :
    Step.A_main_v33 (F := Ideal) z (ix4 b r h e) = Qr (ZF z) COS SIN b h r e := by
  pointwise [Step.A_main_v33]
  unfold Qr ROT
  by_cases he : e.val < 128
  · rw [dif_pos he, dif_pos he]
    exact qlo z b r h ⟨e.val, he⟩
  · have h2 : e.val - 128 < 128 := by omega
    rw [dif_neg he, dif_neg he, dif_pos h2]
    exact qhi z b r h ⟨e.val - 128, h2⟩

/-- The rotated and scaled keys. -/
theorem k_row (z : FVec Ideal S4x2048x12288 .f32) (b : Fin 4) (r : Fin 2048) (h : Fin 8) (e : Fin 256) :
    Step.A_main_v67 (F := Ideal) z (ix4 b r h e) = Kr (ZF z) COS SIN b h r e := by
  pointwise [Step.A_main_v67, Step.A_main_v65, Step.K_main_v66, Step.K_main_cst_4]
  unfold Kr ROT
  refine Ideal.mul_congr ?_ rfl
  by_cases he : e.val < 128
  · rw [dif_pos he, dif_pos he]
    exact klo z b r h ⟨e.val, he⟩
  · have h2 : e.val - 128 < 128 := by omega
    rw [dif_neg he, dif_neg he, dif_pos h2]
    exact khi z b r h ⟨e.val - 128, h2⟩

/-- The rows of 256 numbers split into chunks, the chunks first. -/
theorem chunk256 (X : FVec Ideal S4x2048x8x256 .f32) (k : Fin 16) (b : Fin 4) (r : Fin 128) (h : Fin 8) (e : Fin 256) :
    transpose S16x4x128x8x256 [1, 0, 2, 3, 4] (shapeCast S4x16x128x8x256 X shapeCasts_S4x2048x8x256_S4x16x128x8x256) transposes_S4x16x128x8x256_S16x4x128x8x256_1_0_2_3_4 (ix5 k b r h e)
      = X (ix4 b (row k r) h e) := by
  pointwise [row]

/-- A chunk's queries. -/
theorem q_at (z : FVec Ideal S4x2048x12288 .f32) (k : Fin 16) (b : Fin 4) (r : Fin 128) (h : Fin 8) (e : Fin 256) :
    Step.A_main_v71 (F := Ideal) z (ix5 k b r h e) = Qr (ZF z) COS SIN b h (row k r) e := by
  unfold Step.A_main_v71 Step.A_main_v70
  exact (chunk256 (Step.A_main_v33 (F := Ideal) z) k b r h e).trans (q_row z b (row k r) h e)

/-- A chunk's keys. -/
theorem k_at (z : FVec Ideal S4x2048x12288 .f32) (k : Fin 16) (b : Fin 4) (r : Fin 128) (h : Fin 8) (e : Fin 256) :
    Step.A_main_v73 (F := Ideal) z (ix5 k b r h e) = Kr (ZF z) COS SIN b h (row k r) e := by
  unfold Step.A_main_v73 Step.A_main_v72
  exact (chunk256 (Step.A_main_v67 (F := Ideal) z) k b r h e).trans (k_row z b (row k r) h e)

/-- A chunk's values. -/
theorem v_at (z : FVec Ideal S4x2048x12288 .f32) (k : Fin 16) (b : Fin 4) (r : Fin 128) (h : Fin 8) (e : Fin 512) :
    Step.A_main_v75 (F := Ideal) z (ix5 k b r h e) = Vr (ZF z) b h (row k r) e := by
  pointwise [Step.A_main_v75, Step.A_main_v74, Step.A_main_v69, Step.A_main_v68]
  rfl

/-! ### One trip -/

/-- The trip's number read back. -/
theorem ofNat_toInt : ∀ j : Fin 16, (BitVec.ofNat 32 j.val).toInt = (j.val : ℤ) := by decide +kernel

/-- Chunk `j` sliced out of the queries or keys. -/
theorem slice256 (x : FVec Ideal S16x4x128x8x256 .f32) (st : Fin 5 → Int) (j : Fin 16) (h0 : st 0 = (j.val : ℤ)) (h1 : st 1 = 0) (h2 : st 2 = 0) (h3 : st 3 = 0) (h4 : st 4 = 0)
    (b : Fin 4) (r : Fin 128) (h : Fin 8) (e : Fin 256) :
    shapeCast S4x128x8x256 (Host.dynamicSlice S1x4x128x8x256 x st sliceFits_S16x4x128x8x256_S1x4x128x8x256) shapeCasts_S1x4x128x8x256_S4x128x8x256 (ix4 b r h e) = x (ix5 j b r h e) := by
  have c0 : ∀ g, Host.clampedStart S16x4x128x8x256 S1x4x128x8x256 g st 0 = j.val := fun g => Host.clampedStart_of_le g _ _ _ h0 (show j.val + 1 ≤ 16 by omega)
  have c1 : ∀ g, Host.clampedStart S16x4x128x8x256 S1x4x128x8x256 g st 1 = 0 := fun g => Host.clampedStart_of_le g _ _ 0 h1 (show 0 + 4 ≤ 4 by omega)
  have c2 : ∀ g, Host.clampedStart S16x4x128x8x256 S1x4x128x8x256 g st 2 = 0 := fun g => Host.clampedStart_of_le g _ _ 0 h2 (show 0 + 128 ≤ 128 by omega)
  have c3 : ∀ g, Host.clampedStart S16x4x128x8x256 S1x4x128x8x256 g st 3 = 0 := fun g => Host.clampedStart_of_le g _ _ 0 h3 (show 0 + 8 ≤ 8 by omega)
  have c4 : ∀ g, Host.clampedStart S16x4x128x8x256 S1x4x128x8x256 g st 4 = 0 := fun g => Host.clampedStart_of_le g _ _ 0 h4 (show 0 + 256 ≤ 256 by omega)
  pointwise [c0, c1, c2, c3, c4]

/-- Chunk `j` sliced out of the values. -/
theorem slice512 (x : FVec Ideal S16x4x128x8x512 .f32) (st : Fin 5 → Int) (j : Fin 16) (h0 : st 0 = (j.val : ℤ)) (h1 : st 1 = 0) (h2 : st 2 = 0) (h3 : st 3 = 0) (h4 : st 4 = 0)
    (b : Fin 4) (r : Fin 128) (h : Fin 8) (e : Fin 512) :
    shapeCast S4x128x8x512 (Host.dynamicSlice S1x4x128x8x512 x st sliceFits_S16x4x128x8x512_S1x4x128x8x512) shapeCasts_S1x4x128x8x512_S4x128x8x512 (ix4 b r h e) = x (ix5 j b r h e) := by
  have c0 : ∀ g, Host.clampedStart S16x4x128x8x512 S1x4x128x8x512 g st 0 = j.val := fun g => Host.clampedStart_of_le g _ _ _ h0 (show j.val + 1 ≤ 16 by omega)
  have c1 : ∀ g, Host.clampedStart S16x4x128x8x512 S1x4x128x8x512 g st 1 = 0 := fun g => Host.clampedStart_of_le g _ _ 0 h1 (show 0 + 4 ≤ 4 by omega)
  have c2 : ∀ g, Host.clampedStart S16x4x128x8x512 S1x4x128x8x512 g st 2 = 0 := fun g => Host.clampedStart_of_le g _ _ 0 h2 (show 0 + 128 ≤ 128 by omega)
  have c3 : ∀ g, Host.clampedStart S16x4x128x8x512 S1x4x128x8x512 g st 3 = 0 := fun g => Host.clampedStart_of_le g _ _ 0 h3 (show 0 + 8 ≤ 8 by omega)
  have c4 : ∀ g, Host.clampedStart S16x4x128x8x512 S1x4x128x8x512 g st 4 = 0 := fun g => Host.clampedStart_of_le g _ _ 0 h4 (show 0 + 512 ≤ 512 by omega)
  pointwise [c0, c1, c2, c3, c4]

/-- The stacked outputs after chunk `j` is written. -/
theorem update512 (x : FVec Ideal S16x4x128x8x512 .f32) (y : FVec Ideal S4x128x8x512 .f32) (st : Fin 5 → Int) (j : Fin 16) (h0 : st 0 = (j.val : ℤ)) (h1 : st 1 = 0) (h2 : st 2 = 0) (h3 : st 3 = 0) (h4 : st 4 = 0)
    (k : Fin 16) (b : Fin 4) (r : Fin 128) (h : Fin 8) (e : Fin 512) :
    Host.dynamicUpdateSlice x (broadcastInDim S1x4x128x8x512 ![1, 2, 3, 4] bcast_S4x128x8x512_S1x4x128x8x512_1_2_3_4 y) st updateFits_S16x4x128x8x512_S1x4x128x8x512 (ix5 k b r h e)
      = if k = j then y (ix4 b r h e) else x (ix5 k b r h e) := by
  have c0 : ∀ g, Host.clampedStart S16x4x128x8x512 S1x4x128x8x512 g st 0 = j.val := fun g => Host.clampedStart_of_le g _ _ _ h0 (show j.val + 1 ≤ 16 by omega)
  have c1 : ∀ g, Host.clampedStart S16x4x128x8x512 S1x4x128x8x512 g st 1 = 0 := fun g => Host.clampedStart_of_le g _ _ 0 h1 (show 0 + 4 ≤ 4 by omega)
  have c2 : ∀ g, Host.clampedStart S16x4x128x8x512 S1x4x128x8x512 g st 2 = 0 := fun g => Host.clampedStart_of_le g _ _ 0 h2 (show 0 + 128 ≤ 128 by omega)
  have c3 : ∀ g, Host.clampedStart S16x4x128x8x512 S1x4x128x8x512 g st 3 = 0 := fun g => Host.clampedStart_of_le g _ _ 0 h3 (show 0 + 8 ≤ 8 by omega)
  have c4 : ∀ g, Host.clampedStart S16x4x128x8x512 S1x4x128x8x512 g st 4 = 0 := fun g => Host.clampedStart_of_le g _ _ 0 h4 (show 0 + 512 ≤ 512 by omega)
  pointwise [c0, c1, c2, c3, c4]
  by_cases hk : k = j
  · subst hk
    rw [dif_pos (by omega), if_pos rfl]
  · have hv : k.val ≠ j.val := fun hh => hk (Fin.ext hh)
    rw [dif_neg (by omega), if_neg hk]

/-- A trip's queries. -/
theorem b5_at (j : Fin 16) (s : Step.State Ideal) (b : Fin 4) (r : Fin 128) (h : Fin 8) (e : Fin 256) :
    Step.b5 j.val s (ix4 b r h e) = s.main_v77_0 (ix5 j b r h e) :=
  slice256 s.main_v77_0 _ j (ofNat_toInt j) rfl rfl rfl rfl b r h e

/-- A trip's keys. -/
theorem b11_at (j : Fin 16) (s : Step.State Ideal) (b : Fin 4) (r : Fin 128) (h : Fin 8) (e : Fin 256) :
    Step.b11 j.val s (ix4 b r h e) = s.main_v77_1 (ix5 j b r h e) :=
  slice256 s.main_v77_1 _ j (ofNat_toInt j) rfl rfl rfl rfl b r h e

/-- A trip's values. -/
theorem b17_at (j : Fin 16) (s : Step.State Ideal) (b : Fin 4) (r : Fin 128) (h : Fin 8) (e : Fin 512) :
    Step.b17 j.val s (ix4 b r h e) = s.main_v77_2 (ix5 j b r h e) :=
  slice512 s.main_v77_2 _ j (ofNat_toInt j) rfl rfl rfl rfl b r h e

/-- A trip's new state. -/
theorem b92_at (j : Fin 16) (s : Step.State Ideal) (b : Fin 4) (h : Fin 8) (d : Fin 256) (e : Fin 512) :
    Step.b92 j.val s (ix4 b h d e)
      = STEP (LG h) (fun r d => s.main_v77_1 (ix5 j b r h d)) (fun r e => s.main_v77_2 (ix5 j b r h e)) (fun d e => s.main_v77_4 (ix4 b h d e)) d e := by
  pointwise [Step.b92, Step.b91, Step.b90, Step.b89, Step.b88, Step.b87, Step.b86, Step.b85, Step.b84, Step.b83, Step.b82, Step.b81, Step.b80, Step.b79, Step.b78, Step.b77, Step.b76, Step.b75, Step.b74, Step.b73, Step.b72, Step.b29, b28_eq, b11_at, b17_at, STEP, LG, NUM]

/-- A trip's outputs. -/
theorem b93_at (j : Fin 16) (s : Step.State Ideal) (b : Fin 4) (h : Fin 8) (r : Fin 128) (e : Fin 512) :
    Step.b93 j.val s (ix4 b r h e)
      = OUT (LG h) (fun r d => s.main_v77_0 (ix5 j b r h d)) (fun r d => s.main_v77_1 (ix5 j b r h d)) (fun r e => s.main_v77_2 (ix5 j b r h e)) (fun d e => s.main_v77_4 (ix4 b h d e)) r e := by
  pointwise [Step.b93, Step.b71, Step.b70, Step.b69, Step.b68, Step.b67, Step.b66, Step.b65, Step.b64, Step.b63, Step.b62, Step.b61, Step.b60, Step.b59, Step.b58, Step.b57, Step.b56, Step.b55, Step.b54, Step.b53, Step.b52, Step.b51, Step.b50, Step.b49, Step.b48, Step.b47, Step.b46, Step.b45, Step.b44, Step.b43, Step.b42, Step.b41, Step.b40, Step.b39, Step.b38, Step.b37, Step.b36, Step.b35, Step.b34, Step.b33, Step.b32, Step.b31, Step.b30, Step.b29, b28_eq, b5_at, b11_at, b17_at, OUT, DEC, LG, NUM]
  refine congrArg₂ (· + ·) (Finset.sum_congr rfl fun c _ => mul_comm _ _) ?_
  exact congrArg₂ (· * ·) (Finset.sum_congr rfl fun c _ => mul_comm _ _) rfl

/-- A trip's stacked outputs. -/
theorem b99_at (j : Fin 16) (s : Step.State Ideal) (k : Fin 16) (b : Fin 4) (h : Fin 8) (r : Fin 128) (e : Fin 512) :
    Step.b99 j.val s (ix5 k b r h e) = if k = j then Step.b93 j.val s (ix4 b r h e) else s.main_v77_5 (ix5 k b r h e) :=
  update512 s.main_v77_5 (Step.b93 j.val s) _ j (ofNat_toInt j) rfl rfl rfl rfl k b r h e

/-! ### The loop -/

variable (z : FVec Ideal S4x2048x12288 .f32)

/-- The sliced arrays stay what they are. -/
theorem states_0 : ∀ n, (states (F := Ideal) z n).main_v77_0 = Step.A_main_v71 z
  | 0 => rfl
  | n + 1 => states_0 n
theorem states_1 : ∀ n, (states (F := Ideal) z n).main_v77_1 = Step.A_main_v73 z
  | 0 => rfl
  | n + 1 => states_1 n
theorem states_2 : ∀ n, (states (F := Ideal) z n).main_v77_2 = Step.A_main_v75 z
  | 0 => rfl
  | n + 1 => states_2 n

/-- The state before trip `n`. -/
theorem state_at : ∀ n, n ≤ 16 → ∀ (b : Fin 4) (h : Fin 8) (d : Fin 256) (e : Fin 512),
    (states (F := Ideal) z n).main_v77_4 (ix4 b h d e) = ST (LG h) (Kr (ZF z) COS SIN b h) (Vr (ZF z) b h) n d e
  | 0, _, b, h, d, e => by
    show Step.K_main_v1 (F := Ideal) (ix4 b h d e) = 0
    pointwise [Step.K_main_v1, Step.K_main_cst]
  | n + 1, hn, b, h, d, e => by
    refine (congrFun (Step.step_main_v77_4 (F := Ideal) n (states (F := Ideal) z n)) (ix4 b h d e)).trans ((b92_at ⟨n, by omega⟩ (states z n) b h d e).trans ?_)
    rw [ST_succ _ _ _ n (by omega), states_1, states_2]
    refine congr (congr (congr (congr (congrArg _ ?_) ?_) ?_) rfl) rfl
    · funext r d; exact k_at z _ b r h d
    · funext r d; exact v_at z _ b r h d
    · funext d e; exact state_at n (by omega) b h d e

/-- A trip's outputs are the retention's. -/
theorem out_at (n : Fin 16) (b : Fin 4) (h : Fin 8) (r : Fin 128) (e : Fin 512) :
    Step.b93 n.val (states (F := Ideal) z n.val) (ix4 b r h e) = OC (LG h) (Qr (ZF z) COS SIN b h) (Kr (ZF z) COS SIN b h) (Vr (ZF z) b h) n r e := by
  rw [b93_at, states_0, states_1, states_2]
  unfold OC
  refine congr (congr (congr (congr (congr (congrArg _ ?_) ?_) ?_) ?_) rfl) rfl
  · funext r d; exact q_at z _ b r h d
  · funext r d; exact k_at z _ b r h d
  · funext r d; exact v_at z _ b r h d
  · funext d e; exact state_at z n.val (by omega) b h d e

/-- The stacked outputs before trip `n`: the chunks before it are done. -/
theorem stack_at : ∀ n, n ≤ 16 → ∀ (k : Fin 16), k.val < n → ∀ (b : Fin 4) (h : Fin 8) (r : Fin 128) (e : Fin 512),
    (states (F := Ideal) z n).main_v77_5 (ix5 k b r h e) = OC (LG h) (Qr (ZF z) COS SIN b h) (Kr (ZF z) COS SIN b h) (Vr (ZF z) b h) k r e
  | 0, _, k, hk, b, h, r, e => absurd hk (Nat.not_lt_zero _)
  | n + 1, hn, k, hk, b, h, r, e => by
    refine (congrFun (Step.step_main_v77_5 (F := Ideal) n (states (F := Ideal) z n)) (ix5 k b r h e)).trans ((b99_at ⟨n, by omega⟩ (states z n) k b h r e).trans ?_)
    by_cases hkn : k = ⟨n, by omega⟩
    · rw [if_pos hkn, hkn]
      exact out_at z ⟨n, by omega⟩ b h r e
    · rw [if_neg hkn]
      have hv : k.val ≠ n := fun hh => hkn (Fin.ext hh)
      exact stack_at n (by omega) k (by omega) b h r e

/-- The second result: the state the layer leaves. -/
theorem ref_state (b : Fin 4) (h : Fin 8) (d : Fin 256) (e : Fin 512) :
    (states (F := Ideal) z 16).main_v77_4 (ix4 b h d e) = SR (ZF z) COS SIN LG b h d e :=
  state_at z 16 (le_refl _) b h d e

/-- The operations after the loop, at row `row k r`, lane `e` of head `h`. -/
theorem tail_at (s : Step.State Ideal) (g : FVec Ideal S8x512 .f32) (b : Fin 4) (h : Fin 8) (k : Fin 16) (r : Fin 128) (e : Fin 512) :
    Step.R_main_v105 (F := Ideal) s z g (ix3 b (row k r) ⟨h.val * 512 + e.val, by omega⟩)
      = NORM (fun x => s.main_v77_5 (ix5 k b r h x)) (GF g h) e * GATE (Gr (ZF z) b h (row k r) e) := by
  have h3 : ∀ p, (⟨(row k r).val / 128, p⟩ : Fin 16) = k := fun p => Fin.ext (by show (k.val * 128 + r.val) / 128 = k.val; omega)
  have h4 : ∀ p, (⟨(row k r).val % 128, p⟩ : Fin 128) = r := fun p => Fin.ext (by show (k.val * 128 + r.val) % 128 = r.val; omega)
  pointwise [Step.R_main_v105]
  simp only [h3, h4]
  rfl

/-- The first result at row `row k r`, lane `e` of head `h`. -/
theorem ref_out (g : FVec Ideal S8x512 .f32) (b : Fin 4) (h : Fin 8) (k : Fin 16) (r : Fin 128) (e : Fin 512) :
    Step.R_main_v105 (F := Ideal) (states z 16) z g (ix3 b (row k r) ⟨h.val * 512 + e.val, by omega⟩) = YR (ZF z) COS SIN LG (GF g) b h k r e := by
  rw [tail_at]
  unfold YR
  refine congrArg₂ (· * ·) ?_ rfl
  refine congr (congr (congrArg _ ?_) rfl) rfl
  funext x
  exact stack_at z 16 (le_refl _) k k.isLt b h r x

end Cert.ReferenceIdeal.Chunks

end
-- ==== Proof.RetVal.lean ====
module

public import proofs.«01_k».proof.Proof.RetWpI
public import proofs.«01_k».proof.Proof.RetKer
public import proofs.«01_k».proof.Proof.RetRef
public import Idealize.ShloMosaic.Lib.Pipeline.ValueKit

@[expose] public section

set_option maxRecDepth 16384

noncomputable section

/-! The arrays the kernel leaves, and the reference's: the retention of `RetSpec`, whole. -/

namespace Cert.RetSpec

open Idealize.ShloMosaic Cert.ReferenceIdeal Cert.ReferenceIdeal.Chunks

/-- The layer's output, every sequence, row and head. -/
def YG (z : FVec Ideal S4x2048x12288 .f32) (g : FVec Ideal S8x512 .f32) : FVec Ideal S4x2048x4096 .bf16 := fun i =>
  YR (ZF z) COS SIN LG (GF g) (i 0) ⟨(i 2).val / 512, by have : (i 2).val < 4096 := (i 2).isLt; omega⟩
    ⟨(i 1).val / 128, by have : (i 1).val < 2048 := (i 1).isLt; omega⟩ ⟨(i 1).val % 128, by omega⟩ ⟨(i 2).val % 512, by omega⟩

/-- The states the layer leaves. -/
def SG (z : FVec Ideal S4x2048x12288 .f32) : FVec Ideal S4x8x256x512 .f32 := fun i =>
  SR (ZF z) COS SIN LG (i 0) (i 1) (i 2) (i 3)

/-- The reference's first result. -/
theorem ref_YG (z : FVec Ideal S4x2048x12288 .f32) (g : FVec Ideal S8x512 .f32) :
    Step.R_main_v105 (F := Ideal) (states z 16) z g = YG z g := by
  funext i
  idx_vars i
  refine Eq.trans ?_ (ref_out z g i0 ⟨i2.val / 512, by omega⟩ ⟨i1.val / 128, by omega⟩ ⟨i1.val % 128, by omega⟩ ⟨i2.val % 512, by omega⟩)
  have h1 : row ⟨i1.val / 128, by omega⟩ ⟨i1.val % 128, by omega⟩ = i1 := Fin.ext (by show i1.val / 128 * 128 + i1.val % 128 = i1.val; omega)
  have h2 : (⟨i2.val / 512 * 512 + i2.val % 512, by omega⟩ : Fin 4096) = i2 := Fin.ext (by show i2.val / 512 * 512 + i2.val % 512 = i2.val; omega)
  exact congrArg _ (congrArg₂ (fun a b => ix3 i0 a b) h1.symm h2.symm)

/-- The reference's second result. -/
theorem ref_SG (z : FVec Ideal S4x2048x12288 .f32) : (states (F := Ideal) z 16).main_v77_4 = SG z := by
  funext i
  idx_vars i
  exact ref_state z i0 i1 i2 i3

end Cert.RetSpec

namespace Cert.KernelIdeal.Own

open Cert.KernelIdeal Cert.KernelIdeal.Gen Cert.RetSpec Idealize.ShloMosaic Idealize.ShloMosaic.TcCoe Idealize.SL.Sem
open Cert.ReferenceIdeal.Chunks (COS SIN LG ZF GF)

/-- The grid's points: `t` is head `t % 8` of sequence `t / 8`. -/
theorem idx : ∀ t : Fin cfg0.N, win0_0.index t = ![0] ∧ win0_1.index t = ![t.val / 8, 0, t.val % 8] ∧ win0_2.index t = ![t.val / 8, 0, 8 + t.val % 8]
    ∧ win0_3.index t = ![t.val / 8, 0, 8 + t.val % 8] ∧ win0_4.index t = ![t.val / 8, 0, 16 + t.val % 8] ∧ win0_5.index t = ![0, 0] ∧ win0_6.index t = ![0, 0]
    ∧ win0_7.index t = ![t.val % 8, 0, 0] ∧ win0_8.index t = ![t.val / 8, 0, t.val % 8] ∧ win0_9.index t = ![t.val / 8, t.val % 8, 0, 0] :=
  (by decide +kernel : ∀ t : Fin grid0.N, _)

/-- The second grid coordinate is the head. -/
theorem coord1 : ∀ t : Fin cfg0.N, (grid0.coords t 1).val = t.val % 8 := (by decide +kernel : ∀ t : Fin grid0.N, _)

/-- There are 32 points. -/
theorem points (t : Fin cfg0.N) : t.val < 32 := t.isLt

/-- Point `t`'s sequence. -/
def bt (t : Fin cfg0.N) : Fin 4 := ⟨t.val / 8, by have := points t; omega⟩

/-- Point `t`'s head. -/
def ht (t : Fin cfg0.N) : Fin 8 := ⟨t.val % 8, by omega⟩

variable (m : (ℓ : Loc nD τ sig) → Buf (Elt Ideal) ℓ)

/-! ### What the calls' host operations hold -/

theorem V_cos (c : Dev nD) (r : Fin 2048) (d : Fin 128) : V m c main_v13 (ix2 r d) = COS r d := by
  entry_read
  rfl

theorem V_sin (c : Dev nD) (r : Fin 2048) (d : Fin 128) : V m c main_v14 (ix2 r d) = SIN r d := by
  entry_read
  rfl

theorem V_lg (c : Dev nD) (h : Fin 8) : V m c main_v22 (ix1 h) = LG h := by
  entry_read
  rfl

theorem V_gn (c : Dev nD) (h : Fin 8) (e : Fin 512) : V m c main_v23 (ix3 h 0 e) = V m c main_arg1 (ix2 h e) := by
  rw [V_main_arg1]
  entry_read
  pointwise []

/-! ### The blocks -/

theorem blk0 (c : Dev nD) (t : Fin cfg0.N) : lgAt (F := Ideal) (grid0.coords t) (iblk m c 0 t) = LG (ht t) := by
  rw [← V_lg m c]
  obtain ⟨e0, _⟩ := idx t
  have h : (fun a => match a with | ⟨0, _⟩ => grid0.coords t 1 : S8.Idx) = ix1 (ht t) := by
    funext a
    match a with
    | ⟨0, _⟩ => exact Fin.ext (coord1 t)
  unfold lgAt
  refine (congrArg (iblk m c 0 t) h).trans ?_
  blk_point [iblk, e0]

theorem blk1 (c : Dev nD) (t : Fin cfg0.N) (r : Fin 2048) (x : Fin 256) :
    iblk m c 1 t (ix3 0 r x) = V m c main_arg0 (ix3 (bt t) r ⟨(ht t).val * 256 + x.val, by omega⟩) := by
  obtain ⟨_, e1, _⟩ := idx t
  blk_point [iblk, e1, bt, ht]

theorem blk2 (c : Dev nD) (t : Fin cfg0.N) (r : Fin 2048) (x : Fin 256) :
    iblk m c 2 t (ix3 0 r x) = V m c main_arg0 (ix3 (bt t) r ⟨2048 + ((ht t).val * 256 + x.val), by omega⟩) := by
  obtain ⟨_, _, e2, _⟩ := idx t
  blk_point [iblk, e2, bt, ht]

theorem blk3 (c : Dev nD) (t : Fin cfg0.N) (r : Fin 2048) (x : Fin 512) :
    iblk m c 3 t (ix3 0 r x) = V m c main_arg0 (ix3 (bt t) r ⟨4096 + ((ht t).val * 512 + x.val), by omega⟩) := by
  obtain ⟨_, _, _, e3, _⟩ := idx t
  blk_point [iblk, e3, bt, ht]

theorem blk4 (c : Dev nD) (t : Fin cfg0.N) (r : Fin 2048) (x : Fin 512) :
    iblk m c 4 t (ix3 0 r x) = V m c main_arg0 (ix3 (bt t) r ⟨8192 + ((ht t).val * 512 + x.val), by omega⟩) := by
  obtain ⟨_, _, _, _, e4, _⟩ := idx t
  blk_point [iblk, e4, bt, ht]

theorem blk5 (c : Dev nD) (t : Fin cfg0.N) (r : Fin 2048) (x : Fin 128) : iblk m c 5 t (ix2 r x) = COS r x := by
  obtain ⟨_, _, _, _, _, e5, _⟩ := idx t
  rw [← V_cos m c]
  blk_point [iblk, e5]

theorem blk6 (c : Dev nD) (t : Fin cfg0.N) (r : Fin 2048) (x : Fin 128) : iblk m c 6 t (ix2 r x) = SIN r x := by
  obtain ⟨_, _, _, _, _, _, e6, _⟩ := idx t
  rw [← V_sin m c]
  blk_point [iblk, e6]

theorem blk7 (c : Dev nD) (t : Fin cfg0.N) (e : Fin 512) : iblk m c 7 t (ix3 0 0 e) = V m c main_arg1 (ix2 (ht t) e) := by
  obtain ⟨_, _, _, _, _, _, _, e7, _⟩ := idx t
  rw [← V_gn m c]
  blk_point [iblk, e7, ht]

/-! ### What a point leaves -/

theorem QB_eq (c : Dev nD) (t : Fin cfg0.N) : QB (iblk m c 1 t) (iblk m c 5 t) (iblk m c 6 t) = Qr (ZF (V m c main_arg0)) COS SIN (bt t) (ht t) := by
  funext r
  unfold QB Qr
  exact congr (congr (congrArg _ (funext fun x => blk1 m c t r x)) (funext fun x => blk5 m c t r x)) (funext fun x => blk6 m c t r x)

theorem KB_eq (c : Dev nD) (t : Fin cfg0.N) : KB (iblk m c 2 t) (iblk m c 5 t) (iblk m c 6 t) = Kr (ZF (V m c main_arg0)) COS SIN (bt t) (ht t) := by
  funext r d
  unfold KB Kr
  refine congrArg₂ (· * ·) ?_ rfl
  exact congrFun (congr (congr (congrArg _ (funext fun x => blk2 m c t r x)) (funext fun x => blk5 m c t r x)) (funext fun x => blk6 m c t r x)) d

theorem VB_eq (c : Dev nD) (t : Fin cfg0.N) : VB (iblk m c 3 t) = Vr (ZF (V m c main_arg0)) (bt t) (ht t) := by
  funext r e
  exact blk3 m c t r e

/-- The state a point leaves. -/
theorem outS_at (c : Dev nD) (t : Fin cfg0.N) (d : Fin 256) (e : Fin 512) :
    outS m c t (ix4 0 0 d e) = SR (ZF (V m c main_arg0)) COS SIN LG (bt t) (ht t) d e := by
  unfold outS SR
  rw [St_at _ _ _ _ _ _ _ _ 16 (le_refl _), KB_eq m c t, VB_eq m c t, blk0 m c t]

/-- The rows a point leaves. -/
theorem outY_at (c : Dev nD) (t : Fin cfg0.N) (r : Fin 2048) (e : Fin 512) :
    outY m c t (ix3 0 r e) = YR (ZF (V m c main_arg0)) COS SIN LG (GF (V m c main_arg1)) (bt t) (ht t) ⟨r.val / 128, by omega⟩ ⟨r.val % 128, by omega⟩ e := by
  unfold outY OUT_Y YR OC
  refine (stepY_at _ _ _ _ _ _ _ _ (chunkOf r) _ ⟨r.val % 128, by omega⟩ e).trans ?_
  have hk : k16 (chunkOf r) = ⟨r.val / 128, by omega⟩ := rfl
  have hs : (fun (d : Fin 256) (e : Fin 512) => St (F := Ideal) (lgAt (grid0.coords t) (iblk m c 0 t)) (iblk m c 1 t) (iblk m c 2 t) (iblk m c 3 t) (iblk m c 4 t) (iblk m c 5 t) (iblk m c 6 t) (iblk m c 7 t) (chunkOf r).val (ix4 0 0 d e))
      = ST (LG (ht t)) (Kr (ZF (V m c main_arg0)) COS SIN (bt t) (ht t)) (Vr (ZF (V m c main_arg0)) (bt t) (ht t)) (r.val / 128) := by
    funext d e
    rw [St_at _ _ _ _ _ _ _ _ (chunkOf r).val (by show r.val / 128 ≤ 16; omega), KB_eq m c t, VB_eq m c t, blk0 m c t]
    rfl
  refine congrArg₂ (· * ·) ?_ (congrArg GATE (blk4 m c t _ e))
  refine congrFun (congr (congrArg NORM ?_) (funext fun x => blk7 m c t x)) e
  refine (congrArg (fun S => OUT _ _ _ _ S _) hs).trans ?_
  rw [KB_eq m c t, VB_eq m c t, QB_eq m c t, blk0 m c t]
  rfl

/-- The first result array. -/
theorem final_Y (c : Dev nD) : (dats m 0 c).arrAt 8 cfg0.N = YG (V m c main_arg0) (V m c main_arg1) := by
  refine (dats m 0 c).arrAt_eq_of_covers 8 _ (by decide +kernel) fun t _ y => ?_
  blk_simp
  rw [after0_8]
  revert y
  show ∀ y : S1x2048x512.Idx, _
  intro y
  obtain ⟨_, _, _, _, _, _, _, _, e8, _⟩ := idx t
  idx_vars y
  have h0 : ((win0_8.blk t).view.emb (ix3 y0 y1 y2) 0).val = win0_8.index t (0 : Fin 3) * 1 + 1 * y0.val := rfl
  have h1 : ((win0_8.blk t).view.emb (ix3 y0 y1 y2) 1).val = win0_8.index t (1 : Fin 3) * 2048 + 1 * y1.val := rfl
  have h2 : ((win0_8.blk t).view.emb (ix3 y0 y1 y2) 2).val = win0_8.index t (2 : Fin 3) * 512 + 1 * y2.val := rfl
  rw [e8] at h0 h1 h2
  simp only [Matrix.cons_val_zero, Matrix.cons_val_one, Matrix.cons_val] at h0 h1 h2
  obtain rfl : y0 = 0 := Subsingleton.elim _ _
  refine (outY_at m c t y1 y2).trans ?_
  unfold YG
  congr 1
  · exact Fin.ext (by show t.val / 8 = _; rw [h0]; simp)
  · exact Fin.ext (by show t.val % 8 = _ / 512; rw [h2]; omega)
  · exact Fin.ext (by show y1.val / 128 = _ / 128; rw [h1]; congr 1; omega)
  · exact Fin.ext (by show y1.val % 128 = _ % 128; rw [h1]; congr 1; omega)
  · exact Fin.ext (by show y2.val = _ % 512; rw [h2]; omega)

/-- The second result array. -/
theorem final_S (c : Dev nD) : (dats m 0 c).arrAt 9 cfg0.N = SG (V m c main_arg0) := by
  refine (dats m 0 c).arrAt_eq_of_covers 9 _ (by decide +kernel) fun t _ y => ?_
  blk_simp
  rw [after0_9]
  revert y
  show ∀ y : S1x1x256x512.Idx, _
  intro y
  obtain ⟨_, _, _, _, _, _, _, _, _, e9⟩ := idx t
  idx_vars y
  have h0 : ((win0_9.blk t).view.emb (ix4 y0 y1 y2 y3) 0).val = win0_9.index t (0 : Fin 4) * 1 + 1 * y0.val := rfl
  have h1 : ((win0_9.blk t).view.emb (ix4 y0 y1 y2 y3) 1).val = win0_9.index t (1 : Fin 4) * 1 + 1 * y1.val := rfl
  have h2 : ((win0_9.blk t).view.emb (ix4 y0 y1 y2 y3) 2).val = win0_9.index t (2 : Fin 4) * 256 + 1 * y2.val := rfl
  have h3 : ((win0_9.blk t).view.emb (ix4 y0 y1 y2 y3) 3).val = win0_9.index t (3 : Fin 4) * 512 + 1 * y3.val := rfl
  rw [e9] at h0 h1 h2 h3
  simp only [Matrix.cons_val_zero, Matrix.cons_val_one, Matrix.cons_val] at h0 h1 h2 h3
  obtain rfl : y0 = 0 := Subsingleton.elim _ _
  obtain rfl : y1 = 0 := Subsingleton.elim _ _
  refine (outS_at m c t y2 y3).trans ?_
  unfold SG
  congr 1
  · exact Fin.ext (by show t.val / 8 = _; rw [h0]; simp)
  · exact Fin.ext (by show t.val % 8 = _; rw [h1]; simp)
  · exact Fin.ext (by show y2.val = _; rw [h2]; omega)
  · exact Fin.ext (by show y3.val = _; rw [h3]; omega)

/-- The kernel's run leaves the retention's outputs and states, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v24_0) = YG (m ((c.tc : Thread nD τ).loc main_arg0)) (m ((c.tc : Thread nD τ).loc main_arg1))
      ∧ r.2.mem ((c.tc : Thread nD τ).loc main_v24_1) = SG (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (by rw [final_Y m c, V_main_arg0, V_main_arg1]), (h c).2.1.trans (by rw [final_S m c, V_main_arg0]), (h c).2.2⟩)
    (run_arrays m ρ)

end Cert.KernelIdeal.Own

namespace Cert.ReferenceIdeal.Own

open Cert.ReferenceIdeal Cert.ReferenceIdeal.Gen Cert.RetSpec Idealize.ShloMosaic Idealize.ShloMosaic.TcCoe Idealize.SL.Sem

/-- The reference's run leaves the retention's outputs and states, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v105) = YG (m ((c.tc : Thread nD τ).loc main_arg0)) (m ((c.tc : Thread nD τ).loc main_arg1))
      ∧ r.2.mem ((c.tc : Thread nD τ).loc main_v77_4) = SG (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (ref_YG _ _), (h c).2.1.trans (ref_SG _), (h c).2.2⟩)
    (Chunks.run m ρ)

end Cert.ReferenceIdeal.Own

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.Kernel.Frame.Runs
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.NormS.Frame
public import proofs.«01_k».proof.Proof.Gen.NormSIdeal.Value
public import proofs.«01_k».proof.Proof.Gen.NormSRefIdeal.Run
public import proofs.«01_k».proof.Proof.Gen.NormSRefIdeal.Read
public import proofs.«01_k».proof.Proof.Gen.NormSRefIdeal
public import proofs.«01_k».proof.Proof.Gen.ProjA.Frame
public import proofs.«01_k».proof.Proof.Gen.ProjAIdeal.Value
public import proofs.«01_k».proof.Proof.Gen.ProjARefIdeal.Run
public import proofs.«01_k».proof.Proof.Gen.ProjARefIdeal.Read
public import proofs.«01_k».proof.Proof.Gen.ProjARefIdeal
public import proofs.«01_k».proof.Proof.Gen.ProjB.Frame
public import proofs.«01_k».proof.Proof.Gen.ProjBIdeal.Value
public import proofs.«01_k».proof.Proof.Gen.ProjBRefIdeal.Run
public import proofs.«01_k».proof.Proof.Gen.ProjBRefIdeal.Read
public import proofs.«01_k».proof.Proof.Gen.ProjBRefIdeal
public import proofs.«01_k».proof.Proof.Gen.ProjC.Frame
public import proofs.«01_k».proof.Proof.Gen.ProjCIdeal.Value
public import proofs.«01_k».proof.Proof.Gen.ProjCRefIdeal.Run
public import proofs.«01_k».proof.Proof.Gen.ProjCRefIdeal.Read
public import proofs.«01_k».proof.Proof.Gen.ProjCRefIdeal
public import proofs.«01_k».proof.Proof.Gen.OutA.Frame
public import proofs.«01_k».proof.Proof.Gen.OutAIdeal.Value
public import proofs.«01_k».proof.Proof.Gen.OutARefIdeal.Run
public import proofs.«01_k».proof.Proof.Gen.OutARefIdeal.Read
public import proofs.«01_k».proof.Proof.Gen.OutARefIdeal
public import proofs.«01_k».proof.Proof.Gen.OutB.Frame
public import proofs.«01_k».proof.Proof.Gen.OutBIdeal.Value
public import proofs.«01_k».proof.Proof.Gen.OutBRefIdeal.Run
public import proofs.«01_k».proof.Proof.Gen.OutBRefIdeal.Read
public import proofs.«01_k».proof.Proof.Gen.OutBRefIdeal
public import proofs.«01_k».proof.Proof.Gen.OutC.Frame
public import proofs.«01_k».proof.Proof.Gen.OutCIdeal.Value
public import proofs.«01_k».proof.Proof.Gen.OutCRefIdeal.Run
public import proofs.«01_k».proof.Proof.Gen.OutCRefIdeal.Read
public import proofs.«01_k».proof.Proof.Gen.OutCRefIdeal
public import proofs.«01_k».proof.Proof.Gen.NormP.Frame
public import proofs.«01_k».proof.Proof.Gen.NormPIdeal.Value
public import proofs.«01_k».proof.Proof.Gen.NormPRefIdeal.Run
public import proofs.«01_k».proof.Proof.Gen.NormPRefIdeal.Read
public import proofs.«01_k».proof.Proof.Gen.NormPRefIdeal
public import proofs.«01_k».proof.Proof.Gen.KvRows.Frame
public import proofs.«01_k».proof.Proof.Gen.KvRowsIdeal.Value
public import proofs.«01_k».proof.Proof.Gen.KvRowsRefIdeal.Run
public import proofs.«01_k».proof.Proof.Gen.KvRowsRefIdeal.Read
public import proofs.«01_k».proof.Proof.Gen.KvRowsRefIdeal
public import proofs.«01_k».proof.Proof.Gen.StateS.Frame
public import proofs.«01_k».proof.Proof.Gen.StateSIdeal.Value
public import proofs.«01_k».proof.Proof.Gen.StateSRefIdeal.Run
public import proofs.«01_k».proof.Proof.Gen.StateSRefIdeal.Read
public import proofs.«01_k».proof.Proof.Gen.StateSRefIdeal
public import proofs.«01_k».proof.Proof.Gen.StateC.Frame
public import proofs.«01_k».proof.Proof.Gen.StateCIdeal.Value
public import proofs.«01_k».proof.Proof.Gen.StateCRefIdeal.Run
public import proofs.«01_k».proof.Proof.Gen.StateCRefIdeal.Read
public import proofs.«01_k».proof.Proof.Gen.StateCRefIdeal
public import proofs.«01_k».proof.Proof.Gen.StateP
public import proofs.«01_k».proof.Proof.Gen.StatePIdeal
public import proofs.«01_k».proof.Proof.Gen.StatePIdeal.Frame.Runs
public import proofs.«01_k».proof.Proof.Gen.StateP.Frame.Runs
public import proofs.«01_k».proof.Proof.Gen.StatePRefIdeal
public import proofs.«01_k».proof.Proof.Gen.StatePRefIdeal.Run
public import proofs.«01_k».proof.Proof.ProjA
public import proofs.«01_k».proof.Proof.ProjB
public import proofs.«01_k».proof.Proof.ProjC
public import proofs.«01_k».proof.Proof.OutA
public import proofs.«01_k».proof.Proof.OutB
public import proofs.«01_k».proof.Proof.OutC
public import proofs.«01_k».proof.Proof.NormP
public import proofs.«01_k».proof.Proof.NormS
public import proofs.«01_k».proof.Proof.KvRef
public import proofs.«01_k».proof.Proof.KvRows
public import proofs.«01_k».proof.Proof.StateS
public import proofs.«01_k».proof.Proof.StateCRef
public import proofs.«01_k».proof.Proof.StateCKer
public import proofs.«01_k».proof.Proof.StatePRef
public import proofs.«01_k».proof.Proof.StatePWpK
public import proofs.«01_k».proof.Proof.StatePKer
public import proofs.«01_k».proof.Proof.RetWpK
public import proofs.«01_k».proof.Proof.RetVal
public import Idealize.ShloMosaic.Adequacy
public import Idealize.ShloMosaic.Lib.Quiescent
public import Idealize.ShloMosaic.Init

@[expose] public section

noncomputable section

namespace Cert.Proof

open Idealize.ShloMosaic Idealize.SL.Sem

/-- The retention's reference runs, its arguments unchanged and every counter at rest. -/
theorem ref_Ret : Cert.quiescent_ReferenceIdeal := fun m ρ _ =>
  (θ_run (Cert.ReferenceIdeal.defs (F := Ideal)) _ _).mono (fun r h => ⟨fun c => (h c).2.2, sem_eq_zero_of_no_sems (by decide) r.2⟩) (Cert.ReferenceIdeal.Own.run m ρ)

/-- The retention and its reference leave the same outputs and states from the same arguments. -/
theorem eq_Ret : Cert.algebraic_KernelIdeal_ReferenceIdeal := fun m ρ m' ρ' _ hag =>
  ⟨_, _, Cert.KernelIdeal.Own.run m ρ, (θ_run (Cert.ReferenceIdeal.defs (F := Ideal)) _ _).mono
    (fun r h c => ⟨(h c).1.trans (by rw [(hag c).1, (hag c).2]), (h c).2.1.trans (by rw [(hag c).1]), (h c).2.2⟩) (Cert.ReferenceIdeal.Own.run m' ρ')⟩

/-- The reference of `ProjA` runs, its arguments unchanged and every counter at rest. -/
theorem ref_ProjA : Cert.quiescent_ProjARefIdeal := fun m ρ _ =>
  (θ_run (Cert.ProjARefIdeal.defs (F := Ideal)) _ _).mono (fun r h => ⟨fun c => (h c).2, sem_eq_zero_of_no_sems (by decide) r.2⟩) (Cert.ProjARefIdeal.Own.run m ρ)

/-- `ProjA` and its reference leave the same array from the same arguments. -/
theorem eq_ProjA : Cert.algebraic_ProjAIdeal_ProjARefIdeal := fun m ρ m' ρ' _ hag =>
  ⟨_, Cert.ProjAIdeal.Own.run m ρ, (θ_run (Cert.ProjARefIdeal.defs (F := Ideal)) _ _).mono
    (fun r h c => ⟨(h c).1.trans (by rw [(hag c).1, (hag c).2.1, (hag c).2.2]), (h c).2⟩) (Cert.ProjARefIdeal.Own.run m' ρ')⟩

/-- The reference of `ProjB` runs, its arguments unchanged and every counter at rest. -/
theorem ref_ProjB : Cert.quiescent_ProjBRefIdeal := fun m ρ _ =>
  (θ_run (Cert.ProjBRefIdeal.defs (F := Ideal)) _ _).mono (fun r h => ⟨fun c => (h c).2, sem_eq_zero_of_no_sems (by decide) r.2⟩) (Cert.ProjBRefIdeal.Own.run m ρ)

/-- `ProjB` and its reference leave the same array from the same arguments. -/
theorem eq_ProjB : Cert.algebraic_ProjBIdeal_ProjBRefIdeal := fun m ρ m' ρ' _ hag =>
  ⟨_, Cert.ProjBIdeal.Own.run m ρ, (θ_run (Cert.ProjBRefIdeal.defs (F := Ideal)) _ _).mono
    (fun r h c => ⟨(h c).1.trans (by rw [(hag c).1, (hag c).2.1, (hag c).2.2]), (h c).2⟩) (Cert.ProjBRefIdeal.Own.run m' ρ')⟩

/-- The reference of `ProjC` runs, its arguments unchanged and every counter at rest. -/
theorem ref_ProjC : Cert.quiescent_ProjCRefIdeal := fun m ρ _ =>
  (θ_run (Cert.ProjCRefIdeal.defs (F := Ideal)) _ _).mono (fun r h => ⟨fun c => (h c).2, sem_eq_zero_of_no_sems (by decide) r.2⟩) (Cert.ProjCRefIdeal.Own.run m ρ)

/-- `ProjC` and its reference leave the same array from the same arguments. -/
theorem eq_ProjC : Cert.algebraic_ProjCIdeal_ProjCRefIdeal := fun m ρ m' ρ' _ hag =>
  ⟨_, Cert.ProjCIdeal.Own.run m ρ, (θ_run (Cert.ProjCRefIdeal.defs (F := Ideal)) _ _).mono
    (fun r h c => ⟨(h c).1.trans (by rw [(hag c).1, (hag c).2.1, (hag c).2.2]), (h c).2⟩) (Cert.ProjCRefIdeal.Own.run m' ρ')⟩

/-- The reference of `OutA` runs, its arguments unchanged and every counter at rest. -/
theorem ref_OutA : Cert.quiescent_OutARefIdeal := fun m ρ _ =>
  (θ_run (Cert.OutARefIdeal.defs (F := Ideal)) _ _).mono (fun r h => ⟨fun c => (h c).2, sem_eq_zero_of_no_sems (by decide) r.2⟩) (Cert.OutARefIdeal.Own.run m ρ)

/-- `OutA` and its reference leave the same array from the same arguments. -/
theorem eq_OutA : Cert.algebraic_OutAIdeal_OutARefIdeal := fun m ρ m' ρ' _ hag =>
  ⟨_, Cert.OutAIdeal.Own.run m ρ, (θ_run (Cert.OutARefIdeal.defs (F := Ideal)) _ _).mono
    (fun r h c => ⟨(h c).1.trans (by rw [(hag c).1, (hag c).2.1, (hag c).2.2]), (h c).2⟩) (Cert.OutARefIdeal.Own.run m' ρ')⟩

/-- The reference of `OutB` runs, its arguments unchanged and every counter at rest. -/
theorem ref_OutB : Cert.quiescent_OutBRefIdeal := fun m ρ _ =>
  (θ_run (Cert.OutBRefIdeal.defs (F := Ideal)) _ _).mono (fun r h => ⟨fun c => (h c).2, sem_eq_zero_of_no_sems (by decide) r.2⟩) (Cert.OutBRefIdeal.Own.run m ρ)

/-- `OutB` and its reference leave the same array from the same arguments. -/
theorem eq_OutB : Cert.algebraic_OutBIdeal_OutBRefIdeal := fun m ρ m' ρ' _ hag =>
  ⟨_, Cert.OutBIdeal.Own.run m ρ, (θ_run (Cert.OutBRefIdeal.defs (F := Ideal)) _ _).mono
    (fun r h c => ⟨(h c).1.trans (by rw [(hag c).1, (hag c).2.1, (hag c).2.2]), (h c).2⟩) (Cert.OutBRefIdeal.Own.run m' ρ')⟩

/-- The reference of `OutC` runs, its arguments unchanged and every counter at rest. -/
theorem ref_OutC : Cert.quiescent_OutCRefIdeal := fun m ρ _ =>
  (θ_run (Cert.OutCRefIdeal.defs (F := Ideal)) _ _).mono (fun r h => ⟨fun c => (h c).2, sem_eq_zero_of_no_sems (by decide) r.2⟩) (Cert.OutCRefIdeal.Own.run m ρ)

/-- `OutC` and its reference leave the same array from the same arguments. -/
theorem eq_OutC : Cert.algebraic_OutCIdeal_OutCRefIdeal := fun m ρ m' ρ' _ hag =>
  ⟨_, Cert.OutCIdeal.Own.run m ρ, (θ_run (Cert.OutCRefIdeal.defs (F := Ideal)) _ _).mono
    (fun r h c => ⟨(h c).1.trans (by rw [(hag c).1, (hag c).2.1, (hag c).2.2]), (h c).2⟩) (Cert.OutCRefIdeal.Own.run m' ρ')⟩

/-- The reference of `NormP` runs, its arguments unchanged and every counter at rest. -/
theorem ref_NormP : Cert.quiescent_NormPRefIdeal := fun m ρ _ =>
  (θ_run (Cert.NormPRefIdeal.defs (F := Ideal)) _ _).mono (fun r h => ⟨fun c => (h c).2, sem_eq_zero_of_no_sems (by decide) r.2⟩) (Cert.NormPRefIdeal.Own.run m ρ)

/-- `NormP` and its reference leave the same array from the same arguments. -/
theorem eq_NormP : Cert.algebraic_NormPIdeal_NormPRefIdeal := fun m ρ m' ρ' _ hag =>
  ⟨_, Cert.NormPIdeal.Own.run m ρ, (θ_run (Cert.NormPRefIdeal.defs (F := Ideal)) _ _).mono
    (fun r h c => ⟨(h c).1.trans (by rw [(hag c).1, (hag c).2]), (h c).2⟩) (Cert.NormPRefIdeal.Own.run m' ρ')⟩

/-- The reference of `NormS` runs, its arguments unchanged and every counter at rest. -/
theorem ref_NormS : Cert.quiescent_NormSRefIdeal := fun m ρ _ =>
  (θ_run (Cert.NormSRefIdeal.defs (F := Ideal)) _ _).mono (fun r h => ⟨fun c => (h c).2, sem_eq_zero_of_no_sems (by decide) r.2⟩) (Cert.NormSRefIdeal.Own.run m ρ)

/-- `NormS` and its reference leave the same array from the same arguments. -/
theorem eq_NormS : Cert.algebraic_NormSIdeal_NormSRefIdeal := fun m ρ m' ρ' _ hag =>
  ⟨_, Cert.NormSIdeal.Own.run m ρ, (θ_run (Cert.NormSRefIdeal.defs (F := Ideal)) _ _).mono
    (fun r h c => ⟨(h c).1.trans (by rw [(hag c).1, (hag c).2]), (h c).2⟩) (Cert.NormSRefIdeal.Own.run m' ρ')⟩

/-- The reference of `KvRows` runs, its arguments unchanged and every counter at rest. -/
theorem ref_KvRows : Cert.quiescent_KvRowsRefIdeal := fun m ρ _ =>
  (θ_run (Cert.KvRowsRefIdeal.defs (F := Ideal)) _ _).mono (fun r h => ⟨fun c => (h c).2.2.2.2.2.2, sem_eq_zero_of_no_sems (by decide) r.2⟩) (Cert.KvRowsRefIdeal.Own.run m ρ)

/-- `KvRows` and its reference leave the same keys and values from the same arguments. -/
theorem eq_KvRows : Cert.algebraic_KvRowsIdeal_KvRowsRefIdeal := fun m ρ m' ρ' _ hag =>
  ⟨_, _, _, _, _, _, Cert.KvRowsIdeal.Own.run m ρ, (θ_run (Cert.KvRowsRefIdeal.defs (F := Ideal)) _ _).mono
    (fun r h c => ⟨(h c).1.trans (by rw [(hag c).1]), (h c).2.1.trans (by rw [(hag c).1]), (h c).2.2.1.trans (by rw [(hag c).1]),
      (h c).2.2.2.1.trans (by rw [(hag c).1]), (h c).2.2.2.2.1.trans (by rw [(hag c).1]), (h c).2.2.2.2.2.1.trans (by rw [(hag c).1]),
      (h c).2.2.2.2.2.2⟩) (Cert.KvRowsRefIdeal.Own.run m' ρ')⟩

/-- The reference of `StateS` runs, its arguments unchanged and every counter at rest. -/
theorem ref_StateS : Cert.quiescent_StateSRefIdeal := fun m ρ _ =>
  (θ_run (Cert.StateSRefIdeal.defs (F := Ideal)) _ _).mono (fun r h => ⟨fun c => (h c).2, sem_eq_zero_of_no_sems (by decide) r.2⟩) (Cert.StateSRefIdeal.Own.run m ρ)

/-- `StateS` and its reference leave the same states from the same arguments. -/
theorem eq_StateS : Cert.algebraic_StateSIdeal_StateSRefIdeal := fun m ρ m' ρ' _ hag =>
  ⟨_, Cert.StateSIdeal.Own.run m ρ, (θ_run (Cert.StateSRefIdeal.defs (F := Ideal)) _ _).mono
    (fun r h c => ⟨(h c).1.trans (by rw [(hag c).1, (hag c).2.2]), (h c).2⟩) (Cert.StateSRefIdeal.Own.run m' ρ')⟩

/-- The reference of `StateC` runs, its arguments unchanged and every counter at rest. -/
theorem ref_StateC : Cert.quiescent_StateCRefIdeal := fun m ρ _ =>
  (θ_run (Cert.StateCRefIdeal.defs (F := Ideal)) _ _).mono (fun r h => ⟨fun c => (h c).2, sem_eq_zero_of_no_sems (by decide) r.2⟩) (Cert.StateCRefIdeal.Own.run m ρ)

/-- `StateC` and its reference leave the same states from the same arguments. -/
theorem eq_StateC : Cert.algebraic_StateCIdeal_StateCRefIdeal := fun m ρ m' ρ' _ hag =>
  ⟨_, Cert.StateCIdeal.Own.run m ρ, (θ_run (Cert.StateCRefIdeal.defs (F := Ideal)) _ _).mono
    (fun r h c => ⟨(h c).1.trans (by rw [(hag c).1, (hag c).2.1, (hag c).2.2.1, (hag c).2.2.2.1, (hag c).2.2.2.2.2]), (h c).2⟩) (Cert.StateCRefIdeal.Own.run m' ρ')⟩

/-- The reference of `StateP` runs, its arguments unchanged and every counter at rest. -/
theorem ref_StateP : Cert.quiescent_StatePRefIdeal := fun m ρ _ =>
  (θ_run (Cert.StatePRefIdeal.defs (F := Ideal)) _ _).mono (fun r h => ⟨fun c => (h c).2, sem_eq_zero_of_no_sems (by decide) r.2⟩) (Cert.StatePRefIdeal.Own.run m ρ)

/-- `StateP` and its reference leave the same states from the same arguments. -/
theorem eq_StateP : Cert.algebraic_StatePIdeal_StatePRefIdeal := fun m ρ m' ρ' _ hag =>
  ⟨_, Cert.StatePIdeal.Own.run m ρ, (θ_run (Cert.StatePRefIdeal.defs (F := Ideal)) _ _).mono
    (fun r h c => ⟨(h c).1.trans (by rw [(hag c).1, (hag c).2.1, (hag c).2.2.1, (hag c).2.2.2.1]), (h c).2⟩) (Cert.StatePRefIdeal.Own.run m' ρ')⟩

/-- Every claim together. -/
theorem claim : Cert.Claim := ⟨Cert.Kernel.Gen.facts,
  Cert.KernelIdeal.Gen.facts,
  Cert.ReferenceIdeal.Gen.facts,
  Cert.ProjA.Gen.facts,
  Cert.ProjAIdeal.Gen.facts,
  Cert.ProjARefIdeal.Gen.facts,
  Cert.ProjB.Gen.facts,
  Cert.ProjBIdeal.Gen.facts,
  Cert.ProjBRefIdeal.Gen.facts,
  Cert.ProjC.Gen.facts,
  Cert.ProjCIdeal.Gen.facts,
  Cert.ProjCRefIdeal.Gen.facts,
  Cert.OutA.Gen.facts,
  Cert.OutAIdeal.Gen.facts,
  Cert.OutARefIdeal.Gen.facts,
  Cert.OutB.Gen.facts,
  Cert.OutBIdeal.Gen.facts,
  Cert.OutBRefIdeal.Gen.facts,
  Cert.OutC.Gen.facts,
  Cert.OutCIdeal.Gen.facts,
  Cert.OutCRefIdeal.Gen.facts,
  Cert.NormP.Gen.facts,
  Cert.NormPIdeal.Gen.facts,
  Cert.NormPRefIdeal.Gen.facts,
  Cert.NormS.Gen.facts,
  Cert.NormSIdeal.Gen.facts,
  Cert.NormSRefIdeal.Gen.facts,
  Cert.KvRows.Gen.facts,
  Cert.KvRowsIdeal.Gen.facts,
  Cert.KvRowsRefIdeal.Gen.facts,
  Cert.StateS.Gen.facts,
  Cert.StateSIdeal.Gen.facts,
  Cert.StateSRefIdeal.Gen.facts,
  Cert.StateC.Gen.facts,
  Cert.StateCIdeal.Gen.facts,
  Cert.StateCRefIdeal.Gen.facts,
  Cert.StateP.Gen.facts,
  Cert.StatePIdeal.Gen.facts,
  Cert.StatePRefIdeal.Gen.facts,
  fun m ρ _ => Cert.Kernel.Own.frame m ρ,
  fun m ρ _ => Cert.KernelIdeal.Own.frame m ρ,
  ref_Ret,
  fun m ρ _ => Cert.ProjA.Gen.frame m ρ,
  fun m ρ _ => Cert.ProjAIdeal.Gen.frame m ρ,
  ref_ProjA,
  fun m ρ _ => Cert.ProjB.Gen.frame m ρ,
  fun m ρ _ => Cert.ProjBIdeal.Gen.frame m ρ,
  ref_ProjB,
  fun m ρ _ => Cert.ProjC.Gen.frame m ρ,
  fun m ρ _ => Cert.ProjCIdeal.Gen.frame m ρ,
  ref_ProjC,
  fun m ρ _ => Cert.OutA.Gen.frame m ρ,
  fun m ρ _ => Cert.OutAIdeal.Gen.frame m ρ,
  ref_OutA,
  fun m ρ _ => Cert.OutB.Gen.frame m ρ,
  fun m ρ _ => Cert.OutBIdeal.Gen.frame m ρ,
  ref_OutB,
  fun m ρ _ => Cert.OutC.Gen.frame m ρ,
  fun m ρ _ => Cert.OutCIdeal.Gen.frame m ρ,
  ref_OutC,
  fun m ρ _ => Cert.NormP.Gen.frame m ρ,
  fun m ρ _ => Cert.NormPIdeal.Gen.frame m ρ,
  ref_NormP,
  fun m ρ _ => Cert.NormS.Gen.frame m ρ,
  fun m ρ _ => Cert.NormSIdeal.Gen.frame m ρ,
  ref_NormS,
  fun m ρ _ => Cert.KvRows.Gen.frame m ρ,
  fun m ρ _ => Cert.KvRowsIdeal.Gen.frame m ρ,
  ref_KvRows,
  fun m ρ _ => Cert.StateS.Gen.frame m ρ,
  fun m ρ _ => Cert.StateSIdeal.Gen.frame m ρ,
  ref_StateS,
  fun m ρ _ => Cert.StateC.Gen.frame m ρ,
  fun m ρ _ => Cert.StateCIdeal.Gen.frame m ρ,
  ref_StateC,
  fun m ρ _ => Cert.StateP.Own.frame m ρ,
  fun m ρ _ => Cert.StatePIdeal.Own.frame m ρ,
  ref_StateP,
  trivial,
  eq_Ret,
  trivial,
  eq_ProjA,
  trivial,
  eq_ProjB,
  trivial,
  eq_ProjC,
  trivial,
  eq_OutA,
  trivial,
  eq_OutB,
  trivial,
  eq_OutC,
  trivial,
  eq_NormP,
  trivial,
  eq_NormS,
  trivial,
  eq_KvRows,
  trivial,
  eq_StateS,
  trivial,
  eq_StateC,
  trivial,
  eq_StateP⟩

end Cert.Proof

end
